-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ffn_finite [hPre_ffn_finite : Cert.Pre_ffn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ffn_finite [hPre_ffn_finite : Cert.Pre_ffn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_up_finite [hPre_up_finite : Cert.Pre_up_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_up_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_up_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_up_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_up_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_up_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_up_finite [hPre_up_finite : Cert.Pre_up_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_up_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_up_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_up_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_up_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_up_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ple_finite [hPre_ple_finite : Cert.Pre_ple_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.2.1 = (fun _ => 1#1)
    ∧ (Cert.Pre_ple_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ple_finite [hPre_ple_finite : Cert.Pre_ple_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.2.1 = (fun _ => 1#1)
    ∧ (Cert.Pre_ple_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_in_finite [hPre_in_finite : Cert.Pre_in_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 = (fun _ => 1#1)
    ∧ (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.1 = (fun _ => 1#1)
    ∧ (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.1 = (fun _ => 1#1)
    ∧ (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.1 = (fun _ => 1#1)
    ∧ (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.1 = (fun _ => 1#1)
    ∧ (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.2.1 = (fun _ => 1#1)
    ∧ (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.2.2.1 = (fun _ => 1#1)
    ∧ (Cert.Pre_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_in_finite [hPre_in_finite : Cert.Pre_in_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.1 = (fun _ => 1#1)
    ∧ (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.1 = (fun _ => 1#1)
    ∧ (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.1 = (fun _ => 1#1)
    ∧ (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2.1 = (fun _ => 1#1)
    ∧ (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2.2.1 = (fun _ => 1#1)
    ∧ (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2.2.2.1 = (fun _ => 1#1)
    ∧ (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2.2.2.2.1 = (fun _ => 1#1)
    ∧ (Cert.Pre_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ffn_finite [hKernelIdeal : Cert.KernelIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ffn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ffn_finite [hReferenceIdeal : Cert.ReferenceIdeal.Facts] [hPre_ffn_finite : Cert.Pre_ffn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ffn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_up_finite [hKernel2Ideal : Cert.Kernel2Ideal.Facts] [hPre_up_finite : Cert.Pre_up_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_up_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_up_finite [hReference2Ideal : Cert.Reference2Ideal.Facts] [hPre_up_finite : Cert.Pre_up_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_up_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_ple_finite [hKernel5Ideal : Cert.Kernel5Ideal.Facts] [hPre_ple_finite : Cert.Pre_ple_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ple_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_ple_finite [hReference5Ideal : Cert.Reference5Ideal.Facts] [hPre_ple_finite : Cert.Pre_ple_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ple_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_in_finite [hKernel6Ideal : Cert.Kernel6Ideal.Facts] [hPre_in_finite : Cert.Pre_in_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_in_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_in_finite [hReference6Ideal : Cert.Reference6Ideal.Facts] [hPre_in_finite : Cert.Pre_in_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_in_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def preserves_Kernel_KernelIdeal : Prop :=
  True

def algebraic_KernelIdeal_ReferenceIdeal_pre_ffn_finite [hKernelIdeal : Cert.KernelIdeal.Facts] [hReferenceIdeal : Cert.ReferenceIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ffn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_up_finite [hKernel2Ideal : Cert.Kernel2Ideal.Facts] [hReference2Ideal : Cert.Reference2Ideal.Facts] [hPre_up_finite : Cert.Pre_up_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_up_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_ple_finite [hKernel5Ideal : Cert.Kernel5Ideal.Facts] [hReference5Ideal : Cert.Reference5Ideal.Facts] [hPre_ple_finite : Cert.Pre_ple_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ple_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)) (v5 : (c : Dev Cert.Kernel5Ideal.nD) → Buf (Elt Ideal) ((c.tc : Thread Cert.Kernel5Ideal.nD Cert.Kernel5Ideal.τ).loc Cert.Kernel5Ideal.main_v4_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_v4_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v72) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_v69) = v4 c
          ∧ r.2.mem ((c.tc : Thread Cert.Reference5Ideal.nD Cert.Reference5Ideal.τ).loc Cert.Reference5Ideal.main_v52) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_in_finite [hKernel6Ideal : Cert.Kernel6Ideal.Facts] [hReference6Ideal : Cert.Reference6Ideal.Facts] [hPre_in_finite : Cert.Pre_in_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_in_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v32) = v0 c
          ∧ r.2.mem ((c.tc : Thread Cert.Reference13Ideal.nD Cert.Reference13Ideal.τ).loc Cert.Reference13Ideal.main_v33) = v1 c
          ∧ r.2.mem ((c.tc : Thread Cert.Reference13Ideal.nD Cert.Reference13Ideal.τ).loc Cert.Reference13Ideal.main_v36) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v9) = v2 c
          ∧ r.2.mem ((c.tc : Thread Cert.Reference16Ideal.nD Cert.Reference16Ideal.τ).loc Cert.Reference16Ideal.main_v15) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v28) = v1 c
          ∧ r.2.mem ((c.tc : Thread Cert.Reference17Ideal.nD Cert.Reference17Ideal.τ).loc Cert.Reference17Ideal.main_v9) = v2 c
          ∧ r.2.mem ((c.tc : Thread Cert.Reference17Ideal.nD Cert.Reference17Ideal.τ).loc Cert.Reference17Ideal.main_v15) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v9) = v2 c
          ∧ r.2.mem ((c.tc : Thread Cert.Reference18Ideal.nD Cert.Reference18Ideal.τ).loc Cert.Reference18Ideal.main_v15) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_ffn_finite : Cert.Pre_ffn_finite.Facts) (hPre_up_finite : Cert.Pre_up_finite.Facts) (hPre_ple_finite : Cert.Pre_ple_finite.Facts) (hPre_in_finite : Cert.Pre_in_finite.Facts),
    quiescent_Kernel (hKernel := hKernel)
    ∧ quiescent_KernelIdeal (hKernelIdeal := hKernelIdeal)
    ∧ quiescent_KernelIdeal_pre_ffn_finite (hKernelIdeal := hKernelIdeal) (hPre_ffn_finite := hPre_ffn_finite)
    ∧ quiescent_ReferenceIdeal (hReferenceIdeal := hReferenceIdeal)
    ∧ quiescent_ReferenceIdeal_pre_ffn_finite (hReferenceIdeal := hReferenceIdeal) (hPre_ffn_finite := hPre_ffn_finite)
    ∧ quiescent_Kernel2 (hKernel2 := hKernel2)
    ∧ quiescent_Kernel2Ideal (hKernel2Ideal := hKernel2Ideal)
    ∧ quiescent_Kernel2Ideal_pre_up_finite (hKernel2Ideal := hKernel2Ideal) (hPre_up_finite := hPre_up_finite)
    ∧ quiescent_Reference2Ideal (hReference2Ideal := hReference2Ideal)
    ∧ quiescent_Reference2Ideal_pre_up_finite (hReference2Ideal := hReference2Ideal) (hPre_up_finite := hPre_up_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_ple_finite (hKernel5Ideal := hKernel5Ideal) (hPre_ple_finite := hPre_ple_finite)
    ∧ quiescent_Reference5Ideal (hReference5Ideal := hReference5Ideal)
    ∧ quiescent_Reference5Ideal_pre_ple_finite (hReference5Ideal := hReference5Ideal) (hPre_ple_finite := hPre_ple_finite)
    ∧ quiescent_Kernel6 (hKernel6 := hKernel6)
    ∧ quiescent_Kernel6Ideal (hKernel6Ideal := hKernel6Ideal)
    ∧ quiescent_Kernel6Ideal_pre_in_finite (hKernel6Ideal := hKernel6Ideal) (hPre_in_finite := hPre_in_finite)
    ∧ quiescent_Reference6Ideal (hReference6Ideal := hReference6Ideal)
    ∧ quiescent_Reference6Ideal_pre_in_finite (hReference6Ideal := hReference6Ideal) (hPre_in_finite := hPre_in_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_ffn_finite (hKernelIdeal := hKernelIdeal) (hReferenceIdeal := hReferenceIdeal) (hPre_ffn_finite := hPre_ffn_finite)
    ∧ preserves_Kernel2_Kernel2Ideal
    ∧ algebraic_Kernel2Ideal_Reference2Ideal_pre_up_finite (hKernel2Ideal := hKernel2Ideal) (hReference2Ideal := hReference2Ideal) (hPre_up_finite := hPre_up_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_ple_finite (hKernel5Ideal := hKernel5Ideal) (hReference5Ideal := hReference5Ideal) (hPre_ple_finite := hPre_ple_finite)
    ∧ preserves_Kernel6_Kernel6Ideal
    ∧ algebraic_Kernel6Ideal_Reference6Ideal_pre_in_finite (hKernel6Ideal := hKernel6Ideal) (hReference6Ideal := hReference6Ideal) (hPre_in_finite := hPre_in_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_ffn_finite.lean ====
abbrev S8192x1024 : Shape := ⟨2, ![8192, 1024]⟩
abbrev S2x8192x2816 : Shape := ⟨3, ![2, 8192, 2816]⟩
abbrev S3x2x1x2816 : Shape := ⟨4, ![3, 2, 1, 2816]⟩
abbrev S2x1x2816 : Shape := ⟨3, ![2, 1, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2x8192x2816 : S_.BroadcastsInDim S2x8192x2816 (![] : Fin 0 → Fin S2x8192x2816.rank)
  bcast_S_S3x2x1x2816 : S_.BroadcastsInDim S3x2x1x2816 (![] : Fin 0 → Fin S3x2x1x2816.rank)
  bcast_S_S2x1x2816 : S_.BroadcastsInDim S2x1x2816 (![] : Fin 0 → Fin S2x1x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S2x8192x2816 .bf16) (main_arg2 : FVec F S3x2x1x2816 .f32) (main_arg3 : FVec F S2x1x2816 .f32) (main_arg4 : FVec F S2816x1024 .f32) : IVec S8192x1024 1 × IVec S2x8192x2816 1 × IVec S3x2x1x2816 1 × IVec S2x1x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2x8192x2816 .f32 := (extf .f32 · bitsLt_bf16_f32) main_arg1
  let main_v4 : FVec F S2x8192x2816 .f32 := Host.absf main_v3
  let main_cst_0 : FVec F S_ .f32 := constant S_ .f32 0x7F800000#32
  let main_v5 : FVec F S2x8192x2816 .f32 := broadcastInDim S2x8192x2816 ![] bcast_S_S2x8192x2816 main_cst_0
  let main_v6 : IVec S2x8192x2816 1 := cmpf .olt main_v4 main_v5
  let main_v7 : FVec F S3x2x1x2816 .f32 := Host.absf main_arg2
  let main_cst_1 : FVec F S_ .f32 := constant S_ .f32 0x7F800000#32
  let main_v8 : FVec F S3x2x1x2816 .f32 := broadcastInDim S3x2x1x2816 ![] bcast_S_S3x2x1x2816 main_cst_1
  let main_v9 : IVec S3x2x1x2816 1 := cmpf .olt main_v7 main_v8
  let main_v10 : FVec F S2x1x2816 .f32 := Host.absf main_arg3
  let main_cst_2 : FVec F S_ .f32 := constant S_ .f32 0x7F800000#32
  let main_v11 : FVec F S2x1x2816 .f32 := broadcastInDim S2x1x2816 ![] bcast_S_S2x1x2816 main_cst_2
  let main_v12 : IVec S2x1x2816 1 := cmpf .olt main_v10 main_v11
  let main_v13 : FVec F S2816x1024 .f32 := Host.absf main_arg4
  let main_cst_3 : FVec F S_ .f32 := constant S_ .f32 0x7F800000#32
  let main_v14 : FVec F S2816x1024 .f32 := broadcastInDim S2816x1024 ![] bcast_S_S2816x1024 main_cst_3
  let main_v15 : IVec S2816x1024 1 := cmpf .olt main_v13 main_v14
  (main_v2, main_v6, main_v9, main_v12, main_v15)
-- ==== Pre_in_finite.lean ====
abbrev S8192x1024 : Shape := ⟨2, ![8192, 1024]⟩
abbrev S8192x512 : Shape := ⟨2, ![8192, 512]⟩
abbrev S8192x128 : Shape := ⟨2, ![8192, 128]⟩
abbrev S1024x3600 : Shape := ⟨2, ![1024, 3600]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8192x128 : S_.BroadcastsInDim S8192x128 (![] : Fin 0 → Fin S8192x128.rank)
  bcast_S_S1024x3600 : S_.BroadcastsInDim S1024x3600 (![] : Fin 0 → Fin S1024x3600.rank)
  bcast_S_S1x1024 : S_.BroadcastsInDim S1x1024 (![] : Fin 0 → Fin S1x1024.rank)

variable [Facts]

def fn_part1 {F : FTy → Type} [FloatOps F] (main_arg5 : FVec F S1024x3600 .f32) (main_arg6 : FVec F S8192x1024 .f32) (main_arg7 : FVec F S1x1024 .f32) (main_arg8 : FVec F S8192x1024 .f32) (main_v3 : IVec S8192x1024 1) (main_v7 : IVec S8192x1024 1) (main_v11 : IVec S8192x1024 1) (main_v15 : IVec S8192x512 1) (main_v17 : FVec F S8192x128 .f32) (main_v18 : FVec F S8192x128 .f32) : IVec S8192x1024 1 × IVec S8192x1024 1 × IVec S8192x1024 1 × IVec S8192x512 1 × IVec S8192x128 1 × IVec S1024x3600 1 × IVec S8192x1024 1 × IVec S1x1024 1 × IVec S8192x1024 1 :=
  let main_v19 : IVec S8192x128 1 := cmpf .olt main_v17 main_v18
  let main_v20 : FVec F S1024x3600 .f32 := Host.absf main_arg5
  let main_cst_4 : FVec F S_ .f32 := constant S_ .f32 0x7F800000#32
  let main_v21 : FVec F S1024x3600 .f32 := broadcastInDim S1024x3600 ![] bcast_S_S1024x3600 main_cst_4
  let main_v22 : IVec S1024x3600 1 := cmpf .olt main_v20 main_v21
  let main_v23 : FVec F S8192x1024 .f32 := Host.absf main_arg6
  let main_cst_5 : FVec F S_ .f32 := constant S_ .f32 0x7F800000#32
  let main_v24 : FVec F S8192x1024 .f32 := broadcastInDim S8192x1024 ![] bcast_S_S8192x1024 main_cst_5
  let main_v25 : IVec S8192x1024 1 := cmpf .olt main_v23 main_v24
  let main_v26 : FVec F S1x1024 .f32 := Host.absf main_arg7
  let main_cst_6 : FVec F S_ .f32 := constant S_ .f32 0x7F800000#32
  let main_v27 : FVec F S1x1024 .f32 := broadcastInDim S1x1024 ![] bcast_S_S1x1024 main_cst_6
  let main_v28 : IVec S1x1024 1 := cmpf .olt main_v26 main_v27
  let main_v29 : FVec F S8192x1024 .f32 := Host.absf main_arg8
  let main_cst_7 : FVec F S_ .f32 := constant S_ .f32 0x7F800000#32
  let main_v30 : FVec F S8192x1024 .f32 := broadcastInDim S8192x1024 ![] bcast_S_S8192x1024 main_cst_7
  let main_v31 : IVec S8192x1024 1 := cmpf .olt main_v29 main_v30
  (main_v3, main_v7, main_v11, main_v15, main_v19, main_v22, main_v25, main_v28, main_v31)

def fn {F : FTy → Type} [FloatOps F] (main_arg0 : FVec F S8192x1024 .bf16) (main_arg1 : FVec F S8192x1024 .bf16) (main_arg2 : FVec F S8192x1024 .bf16) (main_arg3 : FVec F S8192x512 .bf16) (main_arg4 : FVec F S8192x128 .bf16) (main_arg5 : FVec F S1024x3600 .f32) (main_arg6 : FVec F S8192x1024 .f32) (main_arg7 : FVec F S1x1024 .f32) (main_arg8 : FVec F S8192x1024 .f32) : IVec S8192x1024 1 × IVec S8192x1024 1 × IVec S8192x1024 1 × IVec S8192x512 1 × IVec S8192x128 1 × IVec S1024x3600 1 × IVec S8192x1024 1 × IVec S1x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_v16 : FVec F S8192x128 .f32 := (extf .f32 · bitsLt_bf16_f32) main_arg4
  let main_v17 : FVec F S8192x128 .f32 := Host.absf main_v16
  let main_cst_3 : FVec F S_ .f32 := constant S_ .f32 0x7F800000#32
  let main_v18 : FVec F S8192x128 .f32 := broadcastInDim S8192x128 ![] bcast_S_S8192x128 main_cst_3
  fn_part1 (F := F) main_arg5 main_arg6 main_arg7 main_arg8 main_v3 main_v7 main_v11 main_v15 main_v17 main_v18
-- ==== Pre_ple_finite.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S8192x256 : S_.BroadcastsInDim S8192x256 (![] : Fin 0 → Fin S8192x256.rank)
  bcast_S_S256x1024 : S_.BroadcastsInDim S256x1024 (![] : Fin 0 → Fin S256x1024.rank)

variable [Facts]

def fn_part1 {F : FTy → Type} [FloatOps F] (main_arg6 : FVec F S256x1024 .f32) (main_arg7 : FVec F S8192x1024 .f32) (main_v2 : IVec S8192x1024 1) (main_v6 : IVec S8192x2816 1) (main_v9 : IVec S2816x1024 1) (main_v12 : IVec S1x1024 1) (main_v15 : IVec S1024x1024 1) (main_v16 : FVec F S8192x256 .f32) (main_v17 : FVec F S8192x256 .f32) : IVec S8192x1024 1 × IVec S8192x2816 1 × IVec S2816x1024 1 × IVec S1x1024 1 × IVec S1024x1024 1 × IVec S8192x256 1 × IVec S256x1024 1 × IVec S8192x1024 1 :=
  let main_v18 : IVec S8192x256 1 := cmpf .olt main_v16 main_v17
  let main_v19 : FVec F S256x1024 .f32 := Host.absf main_arg6
  let main_cst_5 : FVec F S_ .f32 := constant S_ .f32 0x7F800000#32
  let main_v20 : FVec F S256x1024 .f32 := broadcastInDim S256x1024 ![] bcast_S_S256x1024 main_cst_5
  let main_v21 : IVec S256x1024 1 := cmpf .olt main_v19 main_v20
  let main_v22 : FVec F S8192x1024 .f32 := Host.absf main_arg7
  let main_cst_6 : FVec F S_ .f32 := constant S_ .f32 0x7F800000#32
  let main_v23 : FVec F S8192x1024 .f32 := broadcastInDim S8192x1024 ![] bcast_S_S8192x1024 main_cst_6
  let main_v24 : IVec S8192x1024 1 := cmpf .olt main_v22 main_v23
  (main_v2, main_v6, main_v9, main_v12, main_v15, main_v18, main_v21, main_v24)

def fn {F : FTy → Type} [FloatOps F] (main_arg0 : FVec F S8192x1024 .f32) (main_arg1 : FVec F S8192x2816 .bf16) (main_arg2 : FVec F S2816x1024 .f32) (main_arg3 : FVec F S1x1024 .f32) (main_arg4 : FVec F S1024x1024 .f32) (main_arg5 : FVec F S8192x256 .f32) (main_arg6 : FVec F S256x1024 .f32) (main_arg7 : FVec F S8192x1024 .f32) : IVec S8192x1024 1 × IVec S8192x2816 1 × IVec S2816x1024 1 × IVec S1x1024 1 × IVec S1024x1024 1 × IVec S8192x256 1 × IVec S256x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x2816 .f32 := (extf .f32 · bitsLt_bf16_f32) main_arg1
  let main_v4 : FVec F S8192x2816 .f32 := Host.absf main_v3
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_v7 : FVec F S2816x1024 .f32 := Host.absf main_arg2
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1024x1024 .f32 := Host.absf main_arg4
  let main_cst_3 : FVec F S_ .f32 := constant S_ .f32 0x7F800000#32
  let main_v14 : FVec F S1024x1024 .f32 := broadcastInDim S1024x1024 ![] bcast_S_S1024x1024 main_cst_3
  let main_v15 : IVec S1024x1024 1 := cmpf .olt main_v13 main_v14
  let main_v16 : FVec F S8192x256 .f32 := Host.absf main_arg5
  let main_cst_4 : FVec F S_ .f32 := constant S_ .f32 0x7F800000#32
  let main_v17 : FVec F S8192x256 .f32 := broadcastInDim S8192x256 ![] bcast_S_S8192x256 main_cst_4
  fn_part1 (F := F) main_arg6 main_arg7 main_v2 main_v6 main_v9 main_v12 main_v15 main_v16 main_v17
-- ==== Pre_up_finite.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S2x8192x2816 : S_.BroadcastsInDim S2x8192x2816 (![] : Fin 0 → Fin S2x8192x2816.rank)
  bcast_S_S1024x5632 : S_.BroadcastsInDim S1024x5632 (![] : Fin 0 → Fin S1024x5632.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S2x8192x2816 .bf16) (main_arg1 : FVec F S1024x5632 .f32) (main_arg2 : FVec F S8192x1024 .f32) (main_arg3 : FVec F S1x1024 .f32) (main_arg4 : FVec F S8192x1024 .f32) : IVec S2x8192x2816 1 × IVec S1024x5632 1 × IVec S8192x1024 1 × IVec S1x1024 1 × IVec S8192x1024 1 :=
  let main_v0 : FVec F S2x8192x2816 .f32 := (extf .f32 · bitsLt_bf16_f32) main_arg0
  let main_v1 : FVec F S2x8192x2816 .f32 := Host.absf main_v0
  let main_cst : FVec F S_ .f32 := constant S_ .f32 0x7F800000#32
  let main_v2 : FVec F S2x8192x2816 .f32 := broadcastInDim S2x8192x2816 ![] bcast_S_S2x8192x2816 main_cst
  let main_v3 : IVec S2x8192x2816 1 := cmpf .olt main_v1 main_v2
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S8192x1024 .f32 := Host.absf main_arg4
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  (main_v3, main_v6, main_v9, main_v12, main_v15)
-- ==== Kernel.lean ====
abbrev S8192x1024 : Shape := ⟨2, ![8192, 1024]⟩
abbrev S2x8192x2816 : Shape := ⟨3, ![2, 8192, 2816]⟩
abbrev S3x2x1x2816 : Shape := ⟨4, ![3, 2, 1, 2816]⟩
abbrev S2x1x2816 : Shape := ⟨3, ![2, 1, 2816]⟩
abbrev S2816x1024 : Shape := ⟨2, ![2816, 1024]⟩
abbrev S_ : Shape := ⟨0, ![]⟩
abbrev S2x2x2816 : Shape := ⟨3, ![2, 2, 2816]⟩
abbrev S2x8194x2816 : Shape := ⟨3, ![2, 8194, 2816]⟩
abbrev S1x2x1x2816 : Shape := ⟨4, ![1, 2, 1, 2816]⟩
abbrev S512x1024 : Shape := ⟨2, ![512, 1024]⟩
abbrev S1408x1024 : Shape := ⟨2, ![1408, 1024]⟩
abbrev S2x512x1408 : Shape := ⟨3, ![2, 512, 1408]⟩
abbrev S3x2x1x1408 : Shape := ⟨4, ![3, 2, 1, 1408]⟩
abbrev S2x1x1408 : Shape := ⟨3, ![2, 1, 1408]⟩
abbrev S2x8x1408 : Shape := ⟨3, ![2, 8, 1408]⟩
abbrev S512x1408 : Shape := ⟨2, ![512, 1408]⟩
abbrev S1x512x1408 : Shape := ⟨3, ![1, 512, 1408]⟩
abbrev S1x1x1408 : Shape := ⟨3, ![1, 1, 1408]⟩
abbrev S1x1408 : Shape := ⟨2, ![1, 1408]⟩
abbrev S1408 : Shape := ⟨1, ![1408]⟩
abbrev S1x8x1408 : Shape := ⟨3, ![1, 8, 1408]⟩
abbrev S8x1408 : Shape := ⟨2, ![8, 1408]⟩
abbrev S1x1x1x1408 : Shape := ⟨4, ![1, 1, 1, 1408]⟩
abbrev S504x1408 : Shape := ⟨2, ![504, 1408]⟩

abbrev nBuf : Space → Nat
  | .hbm => 33
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .bf16⟩
  | .hbm, ⟨2, _⟩ => ⟨S3x2x1x2816, .f32⟩
  | .hbm, ⟨3, _⟩ => ⟨S2x1x2816, .f32⟩
  | .hbm, ⟨4, _⟩ => ⟨S2816x1024, .f32⟩
  | .hbm, ⟨5, _⟩ => ⟨S2x8192x2816, .f32⟩
  | .hbm, ⟨6, _⟩ => ⟨S_, .f32⟩
  | .hbm, ⟨7, _⟩ => ⟨S2x2x2816, .f32⟩
  | .hbm, ⟨8, _⟩ => ⟨S2x8194x2816, .f32⟩
  | .hbm, ⟨9, _⟩ => ⟨S1x2x1x2816, .f32⟩
  | .hbm, ⟨10, _⟩ => ⟨S2x1x2816, .f32⟩
  | .hbm, ⟨11, _⟩ => ⟨S2x8192x2816, .f32⟩
  | .hbm, ⟨12, _⟩ => ⟨S2x8192x2816, .f32⟩
  | .hbm, ⟨13, _⟩ => ⟨S2x8192x2816, .f32⟩
  | .hbm, ⟨14, _⟩ => ⟨S1x2x1x2816, .f32⟩
  | .hbm, ⟨15, _⟩ => ⟨S2x1x2816, .f32⟩
  | .hbm, ⟨16, _⟩ => ⟨S2x8192x2816, .f32⟩
  | .hbm, ⟨17, _⟩ => ⟨S2x8192x2816, .f32⟩
  | .hbm, ⟨18, _⟩ => ⟨S2x8192x2816, .f32⟩
  | .hbm, ⟨19, _⟩ => ⟨S2x8192x2816, .f32⟩
  | .hbm, ⟨20, _⟩ => ⟨S1x2x1x2816, .f32⟩
  | .hbm, ⟨21, _⟩ => ⟨S2x1x2816, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S2x8192x2816, .bf16⟩
  | .hbm, ⟨29, _⟩ => ⟨S2816x1024, .bf16⟩
  | .hbm, ⟨30, _⟩ => ⟨S2x8192x2816, .bf16⟩
  | .hbm, ⟨31, _⟩ => ⟨S3x2x1x2816, .f32⟩
  | .hbm, ⟨32, _⟩ => ⟨S2x1x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S3x2x1x1408, .f32⟩
  | .local _ .vmem, ⟨9, _⟩ => ⟨S3x2x1x1408, .f32⟩
  | .local _ .vmem, ⟨10, _⟩ => ⟨S2x512x1408, .bf16⟩
  | .local _ .vmem, ⟨11, _⟩ => ⟨S2x512x1408, .bf16⟩
  | .local _ .vmem, ⟨12, _⟩ => ⟨S3x2x1x1408, .f32⟩
  | .local _ .vmem, ⟨13, _⟩ => ⟨S3x2x1x1408, .f32⟩
  | .local _ .vmem, ⟨14, _⟩ => ⟨S2x1x1408, .f32⟩
  | .local _ .vmem, ⟨15, _⟩ => ⟨S2x1x1408, .f32⟩
  | .local _ .vmem, ⟨16, _⟩ => ⟨S2x8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v24_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x2x1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2x1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x1024 : Shape := ⟨2, ![8192, 1024]⟩
abbrev S2x8192x2816 : Shape := ⟨3, ![2, 8192, 2816]⟩
abbrev S3x2x1x2816 : Shape := ⟨4, ![3, 2, 1, 2816]⟩
abbrev S2x1x2816 : Shape := ⟨3, ![2, 1, 2816]⟩
abbrev S2816x1024 : Shape := ⟨2, ![2816, 1024]⟩
abbrev S_ : Shape := ⟨0, ![]⟩
abbrev S2x2x2816 : Shape := ⟨3, ![2, 2, 2816]⟩
abbrev S2x8194x2816 : Shape := ⟨3, ![2, 8194, 2816]⟩
abbrev S1x2x1x2816 : Shape := ⟨4, ![1, 2, 1, 2816]⟩
abbrev S1x8192x2816 : Shape := ⟨3, ![1, 8192, 2816]⟩
abbrev S8192x2816 : Shape := ⟨2, ![8192, 2816]⟩
abbrev S2x2816 : Shape := ⟨2, ![2, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x2816, .bf16⟩
  | .hbm, ⟨2, _⟩ => ⟨S3x2x1x2816, .f32⟩
  | .hbm, ⟨3, _⟩ => ⟨S2x1x2816, .f32⟩
  | .hbm, ⟨4, _⟩ => ⟨S2816x1024, .f32⟩
  | .hbm, ⟨5, _⟩ => ⟨S2x8192x2816, .f32⟩
  | .hbm, ⟨6, _⟩ => ⟨S_, .f32⟩
  | .hbm, ⟨7, _⟩ => ⟨S2x2x2816, .f32⟩
  | .hbm, ⟨8, _⟩ => ⟨S2x8194x2816, .f32⟩
  | .hbm, ⟨9, _⟩ => ⟨S_, .f32⟩
  | .hbm, ⟨10, _⟩ => ⟨S2x2x2816, .f32⟩
  | .hbm, ⟨11, _⟩ => ⟨S1x2x1x2816, .f32⟩
  | .hbm, ⟨12, _⟩ => ⟨S2x1x2816, .f32⟩
  | .hbm, ⟨13, _⟩ => ⟨S2x8192x2816, .f32⟩
  | .hbm, ⟨14, _⟩ => ⟨S2x8192x2816, .f32⟩
  | .hbm, ⟨15, _⟩ => ⟨S2x8192x2816, .f32⟩
  | .hbm, ⟨16, _⟩ => ⟨S1x2x1x2816, .f32⟩
  | .hbm, ⟨17, _⟩ => ⟨S2x1x2816, .f32⟩
  | .hbm, ⟨18, _⟩ => ⟨S2x8192x2816, .f32⟩
  | .hbm, ⟨19, _⟩ => ⟨S2x8192x2816, .f32⟩
  | .hbm, ⟨20, _⟩ => ⟨S2x8192x2816, .f32⟩
  | .hbm, ⟨21, _⟩ => ⟨S2x8192x2816, .f32⟩
  | .hbm, ⟨22, _⟩ => ⟨S1x2x1x2816, .f32⟩
  | .hbm, ⟨23, _⟩ => ⟨S2x1x2816, .f32⟩
  | .hbm, ⟨24, _⟩ => ⟨S2x8192x2816, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S2x8192x2816, .f32⟩
  | .hbm, ⟨29, _⟩ => ⟨S2x8192x2816, .f32⟩
  | .hbm, ⟨30, _⟩ => ⟨S1x8192x2816, .f32⟩
  | .hbm, ⟨31, _⟩ => ⟨S8192x2816, .f32⟩
  | .hbm, ⟨32, _⟩ => ⟨S1x8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x1024, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S1x8192x2816, .f32⟩
  | .hbm, ⟨57, _⟩ => ⟨S1x8192x2816, .f32⟩
  | .hbm, ⟨58, _⟩ => ⟨S2x8192x2816, .f32⟩
  | .hbm, ⟨59, _⟩ => ⟨S_, .f32⟩
  | .hbm, ⟨60, _⟩ => ⟨S2x2816, .f32⟩
  | .hbm, ⟨61, _⟩ => ⟨S2x1x2816, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x2816, .f32⟩
  | .hbm, ⟨67, _⟩ => ⟨S2x1x2816, .f32⟩
  | .hbm, ⟨68, _⟩ => ⟨S_, .f32⟩
  | .hbm, ⟨69, _⟩ => ⟨S2x8194x2816, .f32⟩
  | .hbm, ⟨70, _⟩ => ⟨S1x2x1x2816, .f32⟩
  | .hbm, ⟨71, _⟩ => ⟨S_, .f32⟩
  | .hbm, ⟨72, _⟩ => ⟨S3x2x1x2816, .f32⟩
  | .hbm, ⟨73, _⟩ => ⟨S2x8192x2816, .f32⟩
  | .hbm, ⟨74, _⟩ => ⟨S2x8192x2816, .f32⟩
  | .hbm, ⟨75, _⟩ => ⟨S2x8192x2816, .f32⟩
  | .hbm, ⟨76, _⟩ => ⟨S_, .f32⟩
  | .hbm, ⟨77, _⟩ => ⟨S2x2816, .f32⟩
  | .hbm, ⟨78, _⟩ => ⟨S2x1x2816, .f32⟩
  | .hbm, ⟨79, _⟩ => ⟨S_, .f32⟩
  | .hbm, ⟨80, _⟩ => ⟨S2x8194x2816, .f32⟩
  | .hbm, ⟨81, _⟩ => ⟨S2x8194x2816, .f32⟩
  | .hbm, ⟨82, _⟩ => ⟨S1x2x1x2816, .f32⟩
  | .hbm, ⟨83, _⟩ => ⟨S_, .f32⟩
  | .hbm, ⟨84, _⟩ => ⟨S3x2x1x2816, .f32⟩
  | .hbm, ⟨85, _⟩ => ⟨S3x2x1x2816, .f32⟩
  | .hbm, ⟨86, _⟩ => ⟨S2x8192x2816, .f32⟩
  | .hbm, ⟨87, _⟩ => ⟨S2x8192x2816, .f32⟩
  | .hbm, ⟨88, _⟩ => ⟨S2x8192x2816, .f32⟩
  | .hbm, ⟨89, _⟩ => ⟨S_, .f32⟩
  | .hbm, ⟨90, _⟩ => ⟨S2x2816, .f32⟩
  | .hbm, ⟨91, _⟩ => ⟨S2x1x2816, .f32⟩
  | .hbm, ⟨92, _⟩ => ⟨S_, .f32⟩
  | .hbm, ⟨93, _⟩ => ⟨S2x8194x2816, .f32⟩
  | .hbm, ⟨94, _⟩ => ⟨S2x8194x2816, .f32⟩
  | .hbm, ⟨95, _⟩ => ⟨S1x2x1x2816, .f32⟩
  | .hbm, ⟨96, _⟩ => ⟨S_, .f32⟩
  | .hbm, ⟨97, _⟩ => ⟨S3x2x1x2816, .f32⟩
  | .hbm, ⟨98, _⟩ => ⟨S3x2x1x2816, .f32⟩
  | .hbm, ⟨99, _⟩ => ⟨S2x2x2816, .f32⟩
  | .hbm, ⟨100, _⟩ => ⟨S2x8192x2816, .f32⟩
  | .hbm, ⟨101, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v27_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v27_1 : Ref sig .tc := ⟨.hbm, 45, rfl⟩
abbrev main_v27_0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_1 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_2 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Kernel2.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024 : Shape := ⟨2, ![1, 1024]⟩
abbrev S5632x1024 : Shape := ⟨2, ![5632, 1024]⟩
abbrev S1x512x2816 : Shape := ⟨3, ![1, 512, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S5632x1024, .f32⟩
  | .hbm, ⟨6, _⟩ => ⟨S5632x1024, .bf16⟩
  | .hbm, ⟨7, _⟩ => ⟨S8192x1024, .f32⟩
  | .hbm, ⟨8, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1x8192x2816 : Shape := ⟨3, ![1, 8192, 2816]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S1x8192x2816, .f32⟩
  | .hbm, ⟨28, _⟩ => ⟨S1x8192x2816, .f32⟩
  | .hbm, ⟨29, _⟩ => ⟨S2x8192x2816, .f32⟩
  | .hbm, ⟨30, _⟩ => ⟨S2x8192x2816, .f32⟩
  | .hbm, ⟨31, _⟩ => ⟨S1x8192x2816, .f32⟩
  | .hbm, ⟨32, _⟩ => ⟨S8192x2816, .f32⟩
  | .hbm, ⟨33, _⟩ => ⟨S1x8192x2816, .f32⟩
  | .hbm, ⟨34, _⟩ => ⟨S8192x2816, .f32⟩
  | .hbm, ⟨35, _⟩ => ⟨S8192x5632, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel3.lean ====
abbrev S2x8192x2816 : Shape := ⟨3, ![2, 8192, 2816]⟩
abbrev S8192x1024 : Shape := ⟨2, ![8192, 1024]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2x8192x2816 : Shape := ⟨3, ![2, 8192, 2816]⟩
abbrev S8192x1024 : Shape := ⟨2, ![8192, 1024]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S1x8192x2816, .f32⟩
  | .hbm, ⟨10, _⟩ => ⟨S2x8192x2816, .f32⟩
  | .hbm, ⟨11, _⟩ => ⟨S2x8192x2816, .f32⟩
  | .hbm, ⟨12, _⟩ => ⟨S1x8192x2816, .f32⟩
  | .hbm, ⟨13, _⟩ => ⟨S8192x2816, .f32⟩
  | .hbm, ⟨14, _⟩ => ⟨S1x8192x2816, .f32⟩
  | .hbm, ⟨15, _⟩ => ⟨S8192x2816, .f32⟩
  | .hbm, ⟨16, _⟩ => ⟨S8192x5632, .f32⟩
  | .hbm, ⟨17, _⟩ => ⟨S5632x1024, .f32⟩
  | .hbm, ⟨18, _⟩ => ⟨S1024x5632, .f32⟩
  | .hbm, ⟨19, _⟩ => ⟨S5632x1024, .f32⟩
  | .hbm, ⟨20, _⟩ => ⟨S5632x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S1024x256 : Shape := ⟨2, ![1024, 256]⟩
abbrev S1x128 : Shape := ⟨2, ![1, 128]⟩
abbrev S512x1024 : Shape := ⟨2, ![512, 1024]⟩
abbrev S512x2816 : Shape := ⟨2, ![512, 2816]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 18
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S1x1024, .f32⟩
  | .hbm, ⟨4, _⟩ => ⟨S1024x1024, .f32⟩
  | .hbm, ⟨5, _⟩ => ⟨S8192x256, .f32⟩
  | .hbm, ⟨6, _⟩ => ⟨S256x1024, .f32⟩
  | .hbm, ⟨7, _⟩ => ⟨S8192x1024, .f32⟩
  | .hbm, ⟨8, _⟩ => ⟨S2816x1024, .bf16⟩
  | .hbm, ⟨9, _⟩ => ⟨S1024x1024, .bf16⟩
  | .hbm, ⟨10, _⟩ => ⟨S1024x256, .f32⟩
  | .hbm, ⟨11, _⟩ => ⟨S1024x256, .bf16⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S1x128, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .bf16⟩
  | .local _ .vmem, ⟨7, _⟩ => ⟨S512x256, .f32⟩
  | .local _ .vmem, ⟨8, _⟩ => ⟨S512x256, .f32⟩
  | .local _ .vmem, ⟨9, _⟩ => ⟨S1024x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x128, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .f32⟩
  | .hbm, ⟨3, _⟩ => ⟨S1x1024, .f32⟩
  | .hbm, ⟨4, _⟩ => ⟨S1024x1024, .f32⟩
  | .hbm, ⟨5, _⟩ => ⟨S8192x256, .f32⟩
  | .hbm, ⟨6, _⟩ => ⟨S256x1024, .f32⟩
  | .hbm, ⟨7, _⟩ => ⟨S8192x1024, .f32⟩
  | .hbm, ⟨8, _⟩ => ⟨S8192x2816, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S1x128, .f32⟩
  | .hbm, ⟨97, _⟩ => ⟨S8192x1024, .f32⟩
  | .hbm, ⟨98, _⟩ => ⟨S8192x1024, .bf16⟩
  | .hbm, ⟨99, _⟩ => ⟨S8192x1024, .bf16⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S8192x1, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_cst_11 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_18 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== Kernel6.lean ====
abbrev S8192x1024 : Shape := ⟨2, ![8192, 1024]⟩
abbrev S8192x512 : Shape := ⟨2, ![8192, 512]⟩
abbrev S8192x128 : Shape := ⟨2, ![8192, 128]⟩
abbrev S1024x3600 : Shape := ⟨2, ![1024, 3600]⟩
abbrev S1x1024 : Shape := ⟨2, ![1, 1024]⟩
abbrev S3600x1024 : Shape := ⟨2, ![3600, 1024]⟩
abbrev S_ : Shape := ⟨0, ![]⟩
abbrev S240x1024 : Shape := ⟨2, ![240, 1024]⟩
abbrev S3840x1024 : Shape := ⟨2, ![3840, 1024]⟩
abbrev S512x1024 : Shape := ⟨2, ![512, 1024]⟩
abbrev S512x512 : Shape := ⟨2, ![512, 512]⟩
abbrev S512x128 : Shape := ⟨2, ![512, 128]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x128, .bf16⟩
  | .hbm, ⟨5, _⟩ => ⟨S1024x3600, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S3600x1024, .f32⟩
  | .hbm, ⟨10, _⟩ => ⟨S_, .f32⟩
  | .hbm, ⟨11, _⟩ => ⟨S240x1024, .f32⟩
  | .hbm, ⟨12, _⟩ => ⟨S3840x1024, .f32⟩
  | .hbm, ⟨13, _⟩ => ⟨S3840x1024, .bf16⟩
  | .hbm, ⟨14, _⟩ => ⟨S8192x1024, .f32⟩
  | .hbm, ⟨15, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S128x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_8 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_9 (i : grid0.Coords) : Fin 2 → Nat :=
  let arg0 : BitVec 32 := BitVec.ofNat 32 (i 0).val
  let c28_i32 : BitVec 32 := 28#32
  let c0_i32 : BitVec 32 := 0#32
  let c0_i32_0 : BitVec 32 := 0#32
  ![c28_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S8192x1024 : Shape := ⟨2, ![8192, 1024]⟩
abbrev S8192x512 : Shape := ⟨2, ![8192, 512]⟩
abbrev S8192x128 : Shape := ⟨2, ![8192, 128]⟩
abbrev S1024x3600 : Shape := ⟨2, ![1024, 3600]⟩
abbrev S1x1024 : Shape := ⟨2, ![1, 1024]⟩
abbrev S8192x16 : Shape := ⟨2, ![8192, 16]⟩
abbrev S8192x3600 : Shape := ⟨2, ![8192, 3600]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x128, .bf16⟩
  | .hbm, ⟨5, _⟩ => ⟨S1024x3600, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x16, .bf16⟩
  | .hbm, ⟨10, _⟩ => ⟨S8192x3600, .bf16⟩
  | .hbm, ⟨11, _⟩ => ⟨S8192x3600, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x3600, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Kernel7.lean ====
abbrev S8192x1024 : Shape := ⟨2, ![8192, 1024]⟩
abbrev S1536x1024 : Shape := ⟨2, ![1536, 1024]⟩
abbrev S8192x512 : Shape := ⟨2, ![8192, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S1536x1024, .bf16⟩
  | .hbm, ⟨3, _⟩ => ⟨S8192x512, .f32⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1536x1024, .bf16⟩
  | .local _ .vmem, ⟨3, _⟩ => ⟨S1024x512, .f32⟩
  | .local _ .vmem, ⟨4, _⟩ => ⟨S1024x512, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x1024 : Shape := ⟨2, ![8192, 1024]⟩
abbrev S1536x1024 : Shape := ⟨2, ![1536, 1024]⟩
abbrev S_ : Shape := ⟨0, ![]⟩
abbrev S8192x512 : Shape := ⟨2, ![8192, 512]⟩
abbrev S8192x1536 : Shape := ⟨2, ![8192, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S_, .f32⟩
  | .hbm, ⟨3, _⟩ => ⟨S8192x512, .f32⟩
  | .hbm, ⟨4, _⟩ => ⟨S_, .f32⟩
  | .hbm, ⟨5, _⟩ => ⟨S8192x1024, .f32⟩
  | .hbm, ⟨6, _⟩ => ⟨S8192x1536, .f32⟩
  | .hbm, ⟨7, _⟩ => ⟨S8192x1024, .f32⟩
  | .hbm, ⟨8, _⟩ => ⟨S8192x1536, .f32⟩
  | .hbm, ⟨9, _⟩ => ⟨S8192x512, .f32⟩
  | .hbm, ⟨10, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S8192x512 : Shape := ⟨2, ![8192, 512]⟩
abbrev S8192x1024 : Shape := ⟨2, ![8192, 1024]⟩
abbrev S1536x1024 : Shape := ⟨2, ![1536, 1024]⟩
abbrev S2048x512 : Shape := ⟨2, ![2048, 512]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x1024, .f32⟩
  | .hbm, ⟨3, _⟩ => ⟨S1536x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | .local _ .vmem, ⟨6, _⟩ => ⟨S1536x1024, .bf16⟩
  | .local _ .vmem, ⟨7, _⟩ => ⟨S1536x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference8Ideal.lean ====
abbrev S8192x512 : Shape := ⟨2, ![8192, 512]⟩
abbrev S8192x1024 : Shape := ⟨2, ![8192, 1024]⟩
abbrev S_ : Shape := ⟨0, ![]⟩
abbrev S1536x1024 : Shape := ⟨2, ![1536, 1024]⟩
abbrev S8192x1536 : Shape := ⟨2, ![8192, 1536]⟩
abbrev S1024x1536 : Shape := ⟨2, ![1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1536x1024, .f32⟩
  | .hbm, ⟨5, _⟩ => ⟨S8192x1024, .f32⟩
  | .hbm, ⟨6, _⟩ => ⟨S8192x1536, .f32⟩
  | .hbm, ⟨7, _⟩ => ⟨S8192x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v18 : BitVec 1 := Scalar.cmpi .eq arg0 c3_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference9Ideal.lean ====
abbrev S8192x1024 : Shape := ⟨2, ![8192, 1024]⟩
abbrev S_ : Shape := ⟨0, ![]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S_, .f32⟩
  | .hbm, ⟨4, _⟩ => ⟨S1024x2048, .f32⟩
  | .hbm, ⟨5, _⟩ => ⟨S8192x1024, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S8192x1024 : Shape := ⟨2, ![8192, 1024]⟩
abbrev S8192x512 : Shape := ⟨2, ![8192, 512]⟩
abbrev S8192x128 : Shape := ⟨2, ![8192, 128]⟩
abbrev S1664x1024 : Shape := ⟨2, ![1664, 1024]⟩
abbrev S2048x1024 : Shape := ⟨2, ![2048, 1024]⟩
abbrev S2048x512 : Shape := ⟨2, ![2048, 512]⟩
abbrev S2048x128 : Shape := ⟨2, ![2048, 128]⟩
abbrev S1024x1024 : Shape := ⟨2, ![1024, 1024]⟩
abbrev S512x1024 : Shape := ⟨2, ![512, 1024]⟩
abbrev S128x1024 : Shape := ⟨2, ![128, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x128, .bf16⟩
  | .hbm, ⟨3, _⟩ => ⟨S8192x1024, .bf16⟩
  | .hbm, ⟨4, _⟩ => ⟨S1664x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x128, .bf16⟩
  | .local _ .vmem, ⟨6, _⟩ => ⟨S2048x1024, .bf16⟩
  | .local _ .vmem, ⟨7, _⟩ => ⟨S2048x1024, .bf16⟩
  | .local _ .vmem, ⟨8, _⟩ => ⟨S1664x1024, .bf16⟩
  | .local _ .vmem, ⟨9, _⟩ => ⟨S1664x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v25 : BitVec 1 := Scalar.cmpi .eq arg0 c3_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1664x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S8192x1024 : Shape := ⟨2, ![8192, 1024]⟩
abbrev S8192x512 : Shape := ⟨2, ![8192, 512]⟩
abbrev S8192x128 : Shape := ⟨2, ![8192, 128]⟩
abbrev S_ : Shape := ⟨0, ![]⟩
abbrev S1024x1664 : Shape := ⟨2, ![1024, 1664]⟩
abbrev S8192x1664 : Shape := ⟨2, ![8192, 1664]⟩
abbrev S1664x1024 : Shape := ⟨2, ![1664, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x128, .bf16⟩
  | .hbm, ⟨3, _⟩ => ⟨S8192x1024, .bf16⟩
  | .hbm, ⟨4, _⟩ => ⟨S_, .f32⟩
  | .hbm, ⟨5, _⟩ => ⟨S1024x1664, .f32⟩
  | .hbm, ⟨6, _⟩ => ⟨S8192x1024, .f32⟩
  | .hbm, ⟨7, _⟩ => ⟨S8192x1664, .f32⟩
  | .hbm, ⟨8, _⟩ => ⟨S8192x1664, .bf16⟩
  | .hbm, ⟨9, _⟩ => ⟨S8192x1664, .f32⟩
  | .hbm, ⟨10, _⟩ => ⟨S1664x1024, .f32⟩
  | .hbm, ⟨11, _⟩ => ⟨S1024x1664, .f32⟩
  | .hbm, ⟨12, _⟩ => ⟨S1664x1024, .f32⟩
  | .hbm, ⟨13, _⟩ => ⟨S1664x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S8192x256 : Shape := ⟨2, ![8192, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .f32⟩
  | .local _ .vmem, ⟨3, _⟩ => ⟨S2048x256, .f32⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S8192x1024 : Shape := ⟨2, ![8192, 1024]⟩
abbrev S8192x256 : Shape := ⟨2, ![8192, 256]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S1024x5632 : Shape := ⟨2, ![1024, 5632]⟩
abbrev S3x2x1x2816 : Shape := ⟨4, ![3, 2, 1, 2816]⟩
abbrev S2x1x2816 : Shape := ⟨3, ![2, 1, 2816]⟩
abbrev S5632x1024 : Shape := ⟨2, ![5632, 1024]⟩
abbrev S2x8192x2816 : Shape := ⟨3, ![2, 8192, 2816]⟩
abbrev S8192x2816 : Shape := ⟨2, ![8192, 2816]⟩
abbrev S2048x1024 : Shape := ⟨2, ![2048, 1024]⟩
abbrev S256x1024 : Shape := ⟨2, ![256, 1024]⟩
abbrev S3x2x1x256 : Shape := ⟨4, ![3, 2, 1, 256]⟩
abbrev S2x1x256 : Shape := ⟨3, ![2, 1, 256]⟩
abbrev S2x2048x256 : Shape := ⟨3, ![2, 2048, 256]⟩
abbrev S2048x256 : Shape := ⟨2, ![2048, 256]⟩
abbrev S11x2x8x256 : Shape := ⟨4, ![11, 2, 8, 256]⟩
abbrev S2x8x256 : Shape := ⟨3, ![2, 8, 256]⟩
abbrev S1x2x8x256 : Shape := ⟨4, ![1, 2, 8, 256]⟩
abbrev S1x1x8x256 : Shape := ⟨4, ![1, 1, 8, 256]⟩
abbrev S8x256 : Shape := ⟨2, ![8, 256]⟩
abbrev S512x1024 : Shape := ⟨2, ![512, 1024]⟩
abbrev S512x256 : Shape := ⟨2, ![512, 256]⟩
abbrev S1x512x256 : Shape := ⟨3, ![1, 512, 256]⟩
abbrev S1x1x256 : Shape := ⟨3, ![1, 1, 256]⟩
abbrev S1x256 : Shape := ⟨2, ![1, 256]⟩
abbrev S1x1x1x256 : Shape := ⟨4, ![1, 1, 1, 256]⟩
abbrev S504x256 : Shape := ⟨2, ![504, 256]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S3x2x1x2816, .f32⟩
  | .hbm, ⟨3, _⟩ => ⟨S2x1x2816, .f32⟩
  | .hbm, ⟨4, _⟩ => ⟨S5632x1024, .f32⟩
  | .hbm, ⟨5, _⟩ => ⟨S5632x1024, .bf16⟩
  | .hbm, ⟨6, _⟩ => ⟨S2x8192x2816, .bf16⟩
  | .hbm, ⟨7, _⟩ => ⟨S2x8192x2816, .bf16⟩
  | .hbm, ⟨8, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x2x1x256, .f32⟩
  | .local _ .vmem, ⟨7, _⟩ => ⟨S3x2x1x256, .f32⟩
  | .local _ .vmem, ⟨8, _⟩ => ⟨S2x1x256, .f32⟩
  | .local _ .vmem, ⟨9, _⟩ => ⟨S2x1x256, .f32⟩
  | .local _ .vmem, ⟨10, _⟩ => ⟨S2x2048x256, .bf16⟩
  | .local _ .vmem, ⟨11, _⟩ => ⟨S2x2048x256, .bf16⟩
  | .local _ .vmem, ⟨12, _⟩ => ⟨S2x2048x256, .bf16⟩
  | .local _ .vmem, ⟨13, _⟩ => ⟨S2x2048x256, .bf16⟩
  | .local _ .vmem, ⟨14, _⟩ => ⟨S2048x256, .bf16⟩
  | .local _ .vmem, ⟨15, _⟩ => ⟨S2048x256, .bf16⟩
  | .local _ .vmem, ⟨16, _⟩ => ⟨S11x2x8x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg1 : BitVec 32 := BitVec.ofNat 32 (i 1).val
  let v454 : Index := Scalar.indexCast arg1
  let c0_281 : Index := 0#32
  let c0_282 : Index := 0#32
  let c0_283 : Index := 0#32
  ![v454.toNat, 0, 0, 0]
def k0_off2 (i : grid0.Coords) : Fin 4 → Nat :=
  let arg1 : BitVec 32 := BitVec.ofNat 32 (i 1).val
  let v3 : Index := Scalar.indexCast arg1
  let c0 : Index := 0#32
  let c0_1 : Index := 0#32
  let c0_2 : Index := 0#32
  ![v3.toNat, 0, 0, 0]
def k0_off3 (i : grid0.Coords) : Fin 4 → Nat :=
  let arg1 : BitVec 32 := BitVec.ofNat 32 (i 1).val
  let v6 : Index := Scalar.indexCast arg1
  let c1 : Index := 1#32
  let c0_3 : Index := 0#32
  let c0_4 : Index := 0#32
  ![v6.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x2x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S8192x1024 : Shape := ⟨2, ![8192, 1024]⟩
abbrev S1024x5632 : Shape := ⟨2, ![1024, 5632]⟩
abbrev S3x2x1x2816 : Shape := ⟨4, ![3, 2, 1, 2816]⟩
abbrev S2x1x2816 : Shape := ⟨3, ![2, 1, 2816]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩
abbrev S2x2x2816 : Shape := ⟨3, ![2, 2, 2816]⟩
abbrev S2x8194x2816 : Shape := ⟨3, ![2, 8194, 2816]⟩
abbrev S1x2x1x2816 : Shape := ⟨4, ![1, 2, 1, 2816]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S3x2x1x2816, .f32⟩
  | .hbm, ⟨3, _⟩ => ⟨S2x1x2816, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S1x8192x2816, .f32⟩
  | .hbm, ⟨10, _⟩ => ⟨S2x8192x2816, .f32⟩
  | .hbm, ⟨11, _⟩ => ⟨S_, .f32⟩
  | .hbm, ⟨12, _⟩ => ⟨S2x2x2816, .f32⟩
  | .hbm, ⟨13, _⟩ => ⟨S2x8194x2816, .f32⟩
  | .hbm, ⟨14, _⟩ => ⟨S1x2x1x2816, .f32⟩
  | .hbm, ⟨15, _⟩ => ⟨S2x1x2816, .f32⟩
  | .hbm, ⟨16, _⟩ => ⟨S2x8192x2816, .f32⟩
  | .hbm, ⟨17, _⟩ => ⟨S2x8192x2816, .f32⟩
  | .hbm, ⟨18, _⟩ => ⟨S2x8192x2816, .f32⟩
  | .hbm, ⟨19, _⟩ => ⟨S1x2x1x2816, .f32⟩
  | .hbm, ⟨20, _⟩ => ⟨S2x1x2816, .f32⟩
  | .hbm, ⟨21, _⟩ => ⟨S2x8192x2816, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S1x2x1x2816, .f32⟩
  | .hbm, ⟨26, _⟩ => ⟨S2x1x2816, .f32⟩
  | .hbm, ⟨27, _⟩ => ⟨S2x8192x2816, .f32⟩
  | .hbm, ⟨28, _⟩ => ⟨S2x8192x2816, .f32⟩
  | .hbm, ⟨29, _⟩ => ⟨S2x8192x2816, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S1x8192x2816, .f32⟩
  | .hbm, ⟨34, _⟩ => ⟨S8192x2816, .f32⟩
  | .hbm, ⟨35, _⟩ => ⟨S1x8192x2816, .f32⟩
  | .hbm, ⟨36, _⟩ => ⟨S8192x2816, .f32⟩
  | .hbm, ⟨37, _⟩ => ⟨S2x8192x2816, .bf16⟩
  | .hbm, ⟨38, _⟩ => ⟨S2x8192x2816, .bf16⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S1024x3600 : Shape := ⟨2, ![1024, 3600]⟩
abbrev S3600x1024 : Shape := ⟨2, ![3600, 1024]⟩
abbrev S_ : Shape := ⟨0, ![]⟩
abbrev S240x1024 : Shape := ⟨2, ![240, 1024]⟩
abbrev S3840x1024 : Shape := ⟨2, ![3840, 1024]⟩
abbrev S8192x3840 : Shape := ⟨2, ![8192, 3840]⟩
abbrev S512x1024 : Shape := ⟨2, ![512, 1024]⟩
abbrev S512x3840 : Shape := ⟨2, ![512, 3840]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3600, .f32⟩
  | .hbm, ⟨3, _⟩ => ⟨S3600x1024, .f32⟩
  | .hbm, ⟨4, _⟩ => ⟨S_, .f32⟩
  | .hbm, ⟨5, _⟩ => ⟨S240x1024, .f32⟩
  | .hbm, ⟨6, _⟩ => ⟨S3840x1024, .f32⟩
  | .hbm, ⟨7, _⟩ => ⟨S3840x1024, .bf16⟩
  | .hbm, ⟨8, _⟩ => ⟨S8192x3840, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S512x3840, .f32⟩
  | .local _ .vmem, ⟨5, _⟩ => ⟨S512x3840, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x3840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference14Ideal.lean ====
abbrev S8192x1024 : Shape := ⟨2, ![8192, 1024]⟩
abbrev S1x1024 : Shape := ⟨2, ![1, 1024]⟩
abbrev S1024x3600 : Shape := ⟨2, ![1024, 3600]⟩
abbrev S_ : Shape := ⟨0, ![]⟩
abbrev S8192 : Shape := ⟨1, ![8192]⟩
abbrev S8192x1 : Shape := ⟨2, ![8192, 1]⟩
abbrev S8192x3600 : Shape := ⟨2, ![8192, 3600]⟩
abbrev S8192x240 : Shape := ⟨2, ![8192, 240]⟩
abbrev S8192x3840 : Shape := ⟨2, ![8192, 3840]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3600, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3600, .f32⟩
  | .hbm, ⟨19, _⟩ => ⟨S_, .f32⟩
  | .hbm, ⟨20, _⟩ => ⟨S8192x240, .f32⟩
  | .hbm, ⟨21, _⟩ => ⟨S8192x3840, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel15.lean ====
abbrev S8192x512 : Shape := ⟨2, ![8192, 512]⟩
abbrev S8192x1024 : Shape := ⟨2, ![8192, 1024]⟩
abbrev S1536x1024 : Shape := ⟨2, ![1536, 1024]⟩
abbrev S1x1024 : Shape := ⟨2, ![1, 1024]⟩
abbrev S512x1024 : Shape := ⟨2, ![512, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S1536x1024, .f32⟩
  | .hbm, ⟨3, _⟩ => ⟨S8192x1024, .f32⟩
  | .hbm, ⟨4, _⟩ => ⟨S1x1024, .f32⟩
  | .hbm, ⟨5, _⟩ => ⟨S1536x1024, .bf16⟩
  | .hbm, ⟨6, _⟩ => ⟨S512x1024, .bf16⟩
  | .hbm, ⟨7, _⟩ => ⟨S1024x1024, .bf16⟩
  | .hbm, ⟨8, _⟩ => ⟨S8192x1024, .f32⟩
  | .hbm, ⟨9, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8192x512 : Shape := ⟨2, ![8192, 512]⟩
abbrev S8192x1024 : Shape := ⟨2, ![8192, 1024]⟩
abbrev S1536x1024 : Shape := ⟨2, ![1536, 1024]⟩
abbrev S1x1024 : Shape := ⟨2, ![1, 1024]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S1536x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1536, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel16.lean ====
abbrev S192x1024 : Shape := ⟨2, ![192, 1024]⟩
abbrev S8x192x1024 : Shape := ⟨3, ![8, 192, 1024]⟩
abbrev S192x256 : Shape := ⟨2, ![192, 256]⟩
abbrev S8x192x256 : Shape := ⟨3, ![8, 192, 256]⟩
abbrev S1x192x256 : Shape := ⟨3, ![1, 192, 256]⟩

abbrev nBuf : Space → Nat
  | .hbm => 9
  | .vmem => 18
  | .smem => 0
  | _ => 0

abbrev bufTy : (tb : Table) → Fin (tcTables nBuf tb) → BufTy
  | .hbm, ⟨0, _⟩ => ⟨S192x1024, .bf16⟩
  | .hbm, ⟨1, _⟩ => ⟨S8x192x1024, .bf16⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .hbm, ⟨8, _⟩ => ⟨S192x1024, .f32⟩
  | .local _ .vmem, ⟨0, _⟩ => ⟨S192x256, .bf16⟩
  | .local _ .vmem, ⟨1, _⟩ => ⟨S192x256, .bf16⟩
  | .local _ .vmem, ⟨2, _⟩ => ⟨S8x192x256, .bf16⟩
  | .local _ .vmem, ⟨3, _⟩ => ⟨S8x192x256, .bf16⟩
  | .local _ .vmem, ⟨4, _⟩ => ⟨S192x256, .f32⟩
  | .local _ .vmem, ⟨5, _⟩ => ⟨S192x256, .f32⟩
  | .local _ .vmem, ⟨6, _⟩ => ⟨S192x256, .f32⟩
  | .local _ .vmem, ⟨7, _⟩ => ⟨S192x256, .f32⟩
  | .local _ .vmem, ⟨8, _⟩ => ⟨S192x256, .f32⟩
  | .local _ .vmem, ⟨9, _⟩ => ⟨S192x256, .f32⟩
  | .local _ .vmem, ⟨10, _⟩ => ⟨S192x256, .f32⟩
  | .local _ .vmem, ⟨11, _⟩ => ⟨S192x256, .f32⟩
  | .local _ .vmem, ⟨12, _⟩ => ⟨S192x256, .f32⟩
  | .local _ .vmem, ⟨13, _⟩ => ⟨S192x256, .f32⟩
  | .local _ .vmem, ⟨14, _⟩ => ⟨S192x256, .f32⟩
  | .local _ .vmem, ⟨15, _⟩ => ⟨S192x256, .f32⟩
  | .local _ .vmem, ⟨16, _⟩ => ⟨S192x256, .f32⟩
  | .local _ .vmem, ⟨17, _⟩ => ⟨S192x256, .f32⟩
  | _, _ => ⟨S192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel16Ideal.lean ====
abbrev S192x1024 : Shape := ⟨2, ![192, 1024]⟩
abbrev S8x192x1024 : Shape := ⟨3, ![8, 192, 1024]⟩
abbrev S192x256 : Shape := ⟨2, ![192, 256]⟩
abbrev S8x192x256 : Shape := ⟨3, ![8, 192, 256]⟩
abbrev S1x192x256 : Shape := ⟨3, ![1, 192, 256]⟩

abbrev nBuf : Space → Nat
  | .hbm => 9
  | .vmem => 18
  | .smem => 0
  | _ => 0

abbrev bufTy : (tb : Table) → Fin (tcTables nBuf tb) → BufTy
  | .hbm, ⟨0, _⟩ => ⟨S192x1024, .bf16⟩
  | .hbm, ⟨1, _⟩ => ⟨S8x192x1024, .bf16⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .hbm, ⟨8, _⟩ => ⟨S192x1024, .f32⟩
  | .local _ .vmem, ⟨0, _⟩ => ⟨S192x256, .bf16⟩
  | .local _ .vmem, ⟨1, _⟩ => ⟨S192x256, .bf16⟩
  | .local _ .vmem, ⟨2, _⟩ => ⟨S8x192x256, .bf16⟩
  | .local _ .vmem, ⟨3, _⟩ => ⟨S8x192x256, .bf16⟩
  | .local _ .vmem, ⟨4, _⟩ => ⟨S192x256, .f32⟩
  | .local _ .vmem, ⟨5, _⟩ => ⟨S192x256, .f32⟩
  | .local _ .vmem, ⟨6, _⟩ => ⟨S192x256, .f32⟩
  | .local _ .vmem, ⟨7, _⟩ => ⟨S192x256, .f32⟩
  | .local _ .vmem, ⟨8, _⟩ => ⟨S192x256, .f32⟩
  | .local _ .vmem, ⟨9, _⟩ => ⟨S192x256, .f32⟩
  | .local _ .vmem, ⟨10, _⟩ => ⟨S192x256, .f32⟩
  | .local _ .vmem, ⟨11, _⟩ => ⟨S192x256, .f32⟩
  | .local _ .vmem, ⟨12, _⟩ => ⟨S192x256, .f32⟩
  | .local _ .vmem, ⟨13, _⟩ => ⟨S192x256, .f32⟩
  | .local _ .vmem, ⟨14, _⟩ => ⟨S192x256, .f32⟩
  | .local _ .vmem, ⟨15, _⟩ => ⟨S192x256, .f32⟩
  | .local _ .vmem, ⟨16, _⟩ => ⟨S192x256, .f32⟩
  | .local _ .vmem, ⟨17, _⟩ => ⟨S192x256, .f32⟩
  | _, _ => ⟨S192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S192x1024 : Shape := ⟨2, ![192, 1024]⟩
abbrev S8x192x1024 : Shape := ⟨3, ![8, 192, 1024]⟩
abbrev S7x192x1024 : Shape := ⟨3, ![7, 192, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S192x1024, .bf16⟩
  | .hbm, ⟨1, _⟩ => ⟨S8x192x1024, .bf16⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S7x192x1024, .bf16⟩
  | .hbm, ⟨7, _⟩ => ⟨S7x192x1024, .f32⟩
  | .hbm, ⟨8, _⟩ => ⟨S_, .f32⟩
  | .hbm, ⟨9, _⟩ => ⟨S192x1024, .f32⟩
  | .hbm, ⟨10, _⟩ => ⟨S192x1024, .f32⟩
  | .hbm, ⟨11, _⟩ => ⟨S_, .f32⟩
  | .hbm, ⟨12, _⟩ => ⟨S192x1024, .f32⟩
  | .hbm, ⟨13, _⟩ => ⟨S192x1024, .f32⟩
  | .hbm, ⟨14, _⟩ => ⟨S_, .f32⟩
  | .hbm, ⟨15, _⟩ => ⟨S192x1024, .f32⟩
  | .hbm, ⟨16, _⟩ => ⟨S192x1024, .f32⟩
  | .hbm, ⟨17, _⟩ => ⟨S192x1024, .f32⟩
  | .hbm, ⟨18, _⟩ => ⟨S_, .f32⟩
  | .hbm, ⟨19, _⟩ => ⟨S192x1024, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S192x1024, .f32⟩
  | .hbm, ⟨26, _⟩ => ⟨S_, .f32⟩
  | .hbm, ⟨27, _⟩ => ⟨S192x1024, .f32⟩
  | .hbm, ⟨28, _⟩ => ⟨S192x1024, .f32⟩
  | .hbm, ⟨29, _⟩ => ⟨S_, .f32⟩
  | .hbm, ⟨30, _⟩ => ⟨S192x1024, .f32⟩
  | .hbm, ⟨31, _⟩ => ⟨S192x1024, .f32⟩
  | .hbm, ⟨32, _⟩ => ⟨S192x1024, .f32⟩
  | .hbm, ⟨33, _⟩ => ⟨S_, .f32⟩
  | .hbm, ⟨34, _⟩ => ⟨S192x1024, .f32⟩
  | .hbm, ⟨35, _⟩ => ⟨S192x1024, .f32⟩
  | .hbm, ⟨36, _⟩ => ⟨S192x1024, .f32⟩
  | .hbm, ⟨37, _⟩ => ⟨S_, .f32⟩
  | .hbm, ⟨38, _⟩ => ⟨S192x1024, .f32⟩
  | .hbm, ⟨39, _⟩ => ⟨S192x1024, .f32⟩
  | .hbm, ⟨40, _⟩ => ⟨S192x1024, .f32⟩
  | .hbm, ⟨41, _⟩ => ⟨S_, .f32⟩
  | .hbm, ⟨42, _⟩ => ⟨S192x1024, .f32⟩
  | .hbm, ⟨43, _⟩ => ⟨S192x1024, .f32⟩
  | _, _ => ⟨S192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel17.lean ====
abbrev S352x1024 : Shape := ⟨2, ![352, 1024]⟩
abbrev S8x352x1024 : Shape := ⟨3, ![8, 352, 1024]⟩
abbrev S352x256 : Shape := ⟨2, ![352, 256]⟩
abbrev S8x352x256 : Shape := ⟨3, ![8, 352, 256]⟩
abbrev S1x352x256 : Shape := ⟨3, ![1, 352, 256]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .bf16⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S352x256, .bf16⟩
  | .local _ .vmem, ⟨1, _⟩ => ⟨S352x256, .bf16⟩
  | .local _ .vmem, ⟨2, _⟩ => ⟨S8x352x256, .bf16⟩
  | .local _ .vmem, ⟨3, _⟩ => ⟨S8x352x256, .bf16⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | .local _ .vmem, ⟨16, _⟩ => ⟨S352x256, .f32⟩
  | .local _ .vmem, ⟨17, _⟩ => ⟨S352x256, .f32⟩
  | _, _ => ⟨S352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel17Ideal.lean ====
abbrev S352x1024 : Shape := ⟨2, ![352, 1024]⟩
abbrev S8x352x1024 : Shape := ⟨3, ![8, 352, 1024]⟩
abbrev S352x256 : Shape := ⟨2, ![352, 256]⟩
abbrev S8x352x256 : Shape := ⟨3, ![8, 352, 256]⟩
abbrev S1x352x256 : Shape := ⟨3, ![1, 352, 256]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .bf16⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S352x256, .bf16⟩
  | .local _ .vmem, ⟨1, _⟩ => ⟨S352x256, .bf16⟩
  | .local _ .vmem, ⟨2, _⟩ => ⟨S8x352x256, .bf16⟩
  | .local _ .vmem, ⟨3, _⟩ => ⟨S8x352x256, .bf16⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | .local _ .vmem, ⟨16, _⟩ => ⟨S352x256, .f32⟩
  | .local _ .vmem, ⟨17, _⟩ => ⟨S352x256, .f32⟩
  | _, _ => ⟨S352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S352x1024 : Shape := ⟨2, ![352, 1024]⟩
abbrev S8x352x1024 : Shape := ⟨3, ![8, 352, 1024]⟩
abbrev S7x352x1024 : Shape := ⟨3, ![7, 352, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S352x1024, .bf16⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S7x352x1024, .bf16⟩
  | .hbm, ⟨7, _⟩ => ⟨S7x352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | _, _ => ⟨S352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel18.lean ====
abbrev S128x1024 : Shape := ⟨2, ![128, 1024]⟩
abbrev S8x128x1024 : Shape := ⟨3, ![8, 128, 1024]⟩
abbrev S128x256 : Shape := ⟨2, ![128, 256]⟩
abbrev S8x128x256 : Shape := ⟨3, ![8, 128, 256]⟩
abbrev S1x128x256 : Shape := ⟨3, ![1, 128, 256]⟩

abbrev nBuf : Space → Nat
  | .hbm => 9
  | .vmem => 18
  | .smem => 0
  | _ => 0

abbrev bufTy : (tb : Table) → Fin (tcTables nBuf tb) → BufTy
  | .hbm, ⟨0, _⟩ => ⟨S128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x256, .bf16⟩
  | .local _ .vmem, ⟨1, _⟩ => ⟨S128x256, .bf16⟩
  | .local _ .vmem, ⟨2, _⟩ => ⟨S8x128x256, .bf16⟩
  | .local _ .vmem, ⟨3, _⟩ => ⟨S8x128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S128x1024 : Shape := ⟨2, ![128, 1024]⟩
abbrev S8x128x1024 : Shape := ⟨3, ![8, 128, 1024]⟩
abbrev S7x128x1024 : Shape := ⟨3, ![7, 128, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S7x128x1024, .bf16⟩
  | .hbm, ⟨7, _⟩ => ⟨S7x128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel19.lean ====
abbrev S450x1024 : Shape := ⟨2, ![450, 1024]⟩
abbrev S8x450x1024 : Shape := ⟨3, ![8, 450, 1024]⟩
abbrev S450x256 : Shape := ⟨2, ![450, 256]⟩
abbrev S8x450x256 : Shape := ⟨3, ![8, 450, 256]⟩
abbrev S1x450x256 : Shape := ⟨3, ![1, 450, 256]⟩

abbrev nBuf : Space → Nat
  | .hbm => 3
  | .vmem => 6
  | .smem => 0
  | _ => 0

abbrev bufTy : (tb : Table) → Fin (tcTables nBuf tb) → BufTy
  | .hbm, ⟨0, _⟩ => ⟨S450x1024, .bf16⟩
  | .hbm, ⟨1, _⟩ => ⟨S8x450x1024, .bf16⟩
  | .hbm, ⟨2, _⟩ => ⟨S450x1024, .f32⟩
  | .local _ .vmem, ⟨0, _⟩ => ⟨S450x256, .bf16⟩
  | .local _ .vmem, ⟨1, _⟩ => ⟨S450x256, .bf16⟩
  | .local _ .vmem, ⟨2, _⟩ => ⟨S8x450x256, .bf16⟩
  | .local _ .vmem, ⟨3, _⟩ => ⟨S8x450x256, .bf16⟩
  | .local _ .vmem, ⟨4, _⟩ => ⟨S450x256, .f32⟩
  | .local _ .vmem, ⟨5, _⟩ => ⟨S450x256, .f32⟩
  | _, _ => ⟨S450x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S450x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x450x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S450x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel19Ideal.lean ====
abbrev S450x1024 : Shape := ⟨2, ![450, 1024]⟩
abbrev S8x450x1024 : Shape := ⟨3, ![8, 450, 1024]⟩
abbrev S450x256 : Shape := ⟨2, ![450, 256]⟩
abbrev S8x450x256 : Shape := ⟨3, ![8, 450, 256]⟩
abbrev S1x450x256 : Shape := ⟨3, ![1, 450, 256]⟩

abbrev nBuf : Space → Nat
  | .hbm => 3
  | .vmem => 6
  | .smem => 0
  | _ => 0

abbrev bufTy : (tb : Table) → Fin (tcTables nBuf tb) → BufTy
  | .hbm, ⟨0, _⟩ => ⟨S450x1024, .bf16⟩
  | .hbm, ⟨1, _⟩ => ⟨S8x450x1024, .bf16⟩
  | .hbm, ⟨2, _⟩ => ⟨S450x1024, .f32⟩
  | .local _ .vmem, ⟨0, _⟩ => ⟨S450x256, .bf16⟩
  | .local _ .vmem, ⟨1, _⟩ => ⟨S450x256, .bf16⟩
  | .local _ .vmem, ⟨2, _⟩ => ⟨S8x450x256, .bf16⟩
  | .local _ .vmem, ⟨3, _⟩ => ⟨S8x450x256, .bf16⟩
  | .local _ .vmem, ⟨4, _⟩ => ⟨S450x256, .f32⟩
  | .local _ .vmem, ⟨5, _⟩ => ⟨S450x256, .f32⟩
  | _, _ => ⟨S450x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S450x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x450x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S450x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S450x1024 : Shape := ⟨2, ![450, 1024]⟩
abbrev S8x450x1024 : Shape := ⟨3, ![8, 450, 1024]⟩
abbrev S7x450x1024 : Shape := ⟨3, ![7, 450, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S450x1024, .bf16⟩
  | .hbm, ⟨1, _⟩ => ⟨S8x450x1024, .bf16⟩
  | .hbm, ⟨2, _⟩ => ⟨S450x1024, .f32⟩
  | .hbm, ⟨3, _⟩ => ⟨S7x450x1024, .bf16⟩
  | .hbm, ⟨4, _⟩ => ⟨S7x450x1024, .f32⟩
  | .hbm, ⟨5, _⟩ => ⟨S_, .f32⟩
  | .hbm, ⟨6, _⟩ => ⟨S450x1024, .f32⟩
  | .hbm, ⟨7, _⟩ => ⟨S450x1024, .f32⟩
  | _, _ => ⟨S450x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S704x1024 : Shape := ⟨2, ![704, 1024]⟩
abbrev S8x704x1024 : Shape := ⟨3, ![8, 704, 1024]⟩
abbrev S704x256 : Shape := ⟨2, ![704, 256]⟩
abbrev S8x704x256 : Shape := ⟨3, ![8, 704, 256]⟩
abbrev S1x704x256 : Shape := ⟨3, ![1, 704, 256]⟩

abbrev nBuf : Space → Nat
  | .hbm => 3
  | .vmem => 6
  | .smem => 0
  | _ => 0

abbrev bufTy : (tb : Table) → Fin (tcTables nBuf tb) → BufTy
  | .hbm, ⟨0, _⟩ => ⟨S704x1024, .bf16⟩
  | .hbm, ⟨1, _⟩ => ⟨S8x704x1024, .bf16⟩
  | .hbm, ⟨2, _⟩ => ⟨S704x1024, .f32⟩
  | .local _ .vmem, ⟨0, _⟩ => ⟨S704x256, .bf16⟩
  | .local _ .vmem, ⟨1, _⟩ => ⟨S704x256, .bf16⟩
  | .local _ .vmem, ⟨2, _⟩ => ⟨S8x704x256, .bf16⟩
  | .local _ .vmem, ⟨3, _⟩ => ⟨S8x704x256, .bf16⟩
  | .local _ .vmem, ⟨4, _⟩ => ⟨S704x256, .f32⟩
  | .local _ .vmem, ⟨5, _⟩ => ⟨S704x256, .f32⟩
  | _, _ => ⟨S704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S704x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x704x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel20Ideal.lean ====
abbrev S704x1024 : Shape := ⟨2, ![704, 1024]⟩
abbrev S8x704x1024 : Shape := ⟨3, ![8, 704, 1024]⟩
abbrev S704x256 : Shape := ⟨2, ![704, 256]⟩
abbrev S8x704x256 : Shape := ⟨3, ![8, 704, 256]⟩
abbrev S1x704x256 : Shape := ⟨3, ![1, 704, 256]⟩

abbrev nBuf : Space → Nat
  | .hbm => 3
  | .vmem => 6
  | .smem => 0
  | _ => 0

abbrev bufTy : (tb : Table) → Fin (tcTables nBuf tb) → BufTy
  | .hbm, ⟨0, _⟩ => ⟨S704x1024, .bf16⟩
  | .hbm, ⟨1, _⟩ => ⟨S8x704x1024, .bf16⟩
  | .hbm, ⟨2, _⟩ => ⟨S704x1024, .f32⟩
  | .local _ .vmem, ⟨0, _⟩ => ⟨S704x256, .bf16⟩
  | .local _ .vmem, ⟨1, _⟩ => ⟨S704x256, .bf16⟩
  | .local _ .vmem, ⟨2, _⟩ => ⟨S8x704x256, .bf16⟩
  | .local _ .vmem, ⟨3, _⟩ => ⟨S8x704x256, .bf16⟩
  | .local _ .vmem, ⟨4, _⟩ => ⟨S704x256, .f32⟩
  | .local _ .vmem, ⟨5, _⟩ => ⟨S704x256, .f32⟩
  | _, _ => ⟨S704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S704x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x704x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S704x1024 : Shape := ⟨2, ![704, 1024]⟩
abbrev S8x704x1024 : Shape := ⟨3, ![8, 704, 1024]⟩
abbrev S7x704x1024 : Shape := ⟨3, ![7, 704, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S704x1024, .bf16⟩
  | .hbm, ⟨1, _⟩ => ⟨S8x704x1024, .bf16⟩
  | .hbm, ⟨2, _⟩ => ⟨S704x1024, .f32⟩
  | .hbm, ⟨3, _⟩ => ⟨S7x704x1024, .bf16⟩
  | .hbm, ⟨4, _⟩ => ⟨S7x704x1024, .f32⟩
  | .hbm, ⟨5, _⟩ => ⟨S_, .f32⟩
  | .hbm, ⟨6, _⟩ => ⟨S704x1024, .f32⟩
  | .hbm, ⟨7, _⟩ => ⟨S704x1024, .f32⟩
  | _, _ => ⟨S704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S128x256 : Shape := ⟨2, ![128, 256]⟩
abbrev S8x128x256 : Shape := ⟨3, ![8, 128, 256]⟩
abbrev S1x128x256 : Shape := ⟨3, ![1, 128, 256]⟩

abbrev nBuf : Space → Nat
  | .hbm => 3
  | .vmem => 3
  | .smem => 0
  | _ => 0

abbrev bufTy : (tb : Table) → Fin (tcTables nBuf tb) → BufTy
  | .hbm, ⟨0, _⟩ => ⟨S128x256, .bf16⟩
  | .hbm, ⟨1, _⟩ => ⟨S8x128x256, .bf16⟩
  | .hbm, ⟨2, _⟩ => ⟨S128x256, .f32⟩
  | .local _ .vmem, ⟨0, _⟩ => ⟨S128x256, .bf16⟩
  | .local _ .vmem, ⟨1, _⟩ => ⟨S8x128x256, .bf16⟩
  | .local _ .vmem, ⟨2, _⟩ => ⟨S128x256, .f32⟩
  | _, _ => ⟨S128x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference21Ideal.lean ====
abbrev S128x256 : Shape := ⟨2, ![128, 256]⟩
abbrev S8x128x256 : Shape := ⟨3, ![8, 128, 256]⟩
abbrev S7x128x256 : Shape := ⟨3, ![7, 128, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S128x256, .bf16⟩
  | .hbm, ⟨1, _⟩ => ⟨S8x128x256, .bf16⟩
  | .hbm, ⟨2, _⟩ => ⟨S128x256, .f32⟩
  | .hbm, ⟨3, _⟩ => ⟨S7x128x256, .bf16⟩
  | .hbm, ⟨4, _⟩ => ⟨S7x128x256, .f32⟩
  | .hbm, ⟨5, _⟩ => ⟨S_, .f32⟩
  | .hbm, ⟨6, _⟩ => ⟨S128x256, .f32⟩
  | .hbm, ⟨7, _⟩ => ⟨S128x256, .f32⟩
  | _, _ => ⟨S128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S1024x450 : Shape := ⟨2, ![1024, 450]⟩
abbrev S256x450 : Shape := ⟨2, ![256, 450]⟩

abbrev nBuf : Space → Nat
  | .hbm => 7
  | .vmem => 14
  | .smem => 0
  | _ => 0

abbrev bufTy : (tb : Table) → Fin (tcTables nBuf tb) → BufTy
  | .hbm, ⟨0, _⟩ => ⟨S1024x450, .f32⟩
  | .hbm, ⟨1, _⟩ => ⟨S1024x450, .f32⟩
  | .hbm, ⟨2, _⟩ => ⟨S1024x450, .f32⟩
  | .hbm, ⟨3, _⟩ => ⟨S1024x450, .f32⟩
  | .hbm, ⟨4, _⟩ => ⟨S1024x450, .f32⟩
  | .hbm, ⟨5, _⟩ => ⟨S1024x450, .f32⟩
  | .hbm, ⟨6, _⟩ => ⟨S1024x450, .f32⟩
  | .local _ .vmem, ⟨0, _⟩ => ⟨S256x450, .f32⟩
  | .local _ .vmem, ⟨1, _⟩ => ⟨S256x450, .f32⟩
  | .local _ .vmem, ⟨2, _⟩ => ⟨S256x450, .f32⟩
  | .local _ .vmem, ⟨3, _⟩ => ⟨S256x450, .f32⟩
  | .local _ .vmem, ⟨4, _⟩ => ⟨S256x450, .f32⟩
  | .local _ .vmem, ⟨5, _⟩ => ⟨S256x450, .f32⟩
  | .local _ .vmem, ⟨6, _⟩ => ⟨S256x450, .f32⟩
  | .local _ .vmem, ⟨7, _⟩ => ⟨S256x450, .f32⟩
  | .local _ .vmem, ⟨8, _⟩ => ⟨S256x450, .f32⟩
  | .local _ .vmem, ⟨9, _⟩ => ⟨S256x450, .f32⟩
  | .local _ .vmem, ⟨10, _⟩ => ⟨S256x450, .f32⟩
  | .local _ .vmem, ⟨11, _⟩ => ⟨S256x450, .f32⟩
  | .local _ .vmem, ⟨12, _⟩ => ⟨S256x450, .f32⟩
  | .local _ .vmem, ⟨13, _⟩ => ⟨S256x450, .f32⟩
  | _, _ => ⟨S1024x450, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x450 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x450 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x450 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x450 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x450 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x450 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x450 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel22Ideal.lean ====
abbrev S1024x450 : Shape := ⟨2, ![1024, 450]⟩
abbrev S256x450 : Shape := ⟨2, ![256, 450]⟩

abbrev nBuf : Space → Nat
  | .hbm => 7
  | .vmem => 14
  | .smem => 0
  | _ => 0

abbrev bufTy : (tb : Table) → Fin (tcTables nBuf tb) → BufTy
  | .hbm, ⟨0, _⟩ => ⟨S1024x450, .f32⟩
  | .hbm, ⟨1, _⟩ => ⟨S1024x450, .f32⟩
  | .hbm, ⟨2, _⟩ => ⟨S1024x450, .f32⟩
  | .hbm, ⟨3, _⟩ => ⟨S1024x450, .f32⟩
  | .hbm, ⟨4, _⟩ => ⟨S1024x450, .f32⟩
  | .hbm, ⟨5, _⟩ => ⟨S1024x450, .f32⟩
  | .hbm, ⟨6, _⟩ => ⟨S1024x450, .f32⟩
  | .local _ .vmem, ⟨0, _⟩ => ⟨S256x450, .f32⟩
  | .local _ .vmem, ⟨1, _⟩ => ⟨S256x450, .f32⟩
  | .local _ .vmem, ⟨2, _⟩ => ⟨S256x450, .f32⟩
  | .local _ .vmem, ⟨3, _⟩ => ⟨S256x450, .f32⟩
  | .local _ .vmem, ⟨4, _⟩ => ⟨S256x450, .f32⟩
  | .local _ .vmem, ⟨5, _⟩ => ⟨S256x450, .f32⟩
  | .local _ .vmem, ⟨6, _⟩ => ⟨S256x450, .f32⟩
  | .local _ .vmem, ⟨7, _⟩ => ⟨S256x450, .f32⟩
  | .local _ .vmem, ⟨8, _⟩ => ⟨S256x450, .f32⟩
  | .local _ .vmem, ⟨9, _⟩ => ⟨S256x450, .f32⟩
  | .local _ .vmem, ⟨10, _⟩ => ⟨S256x450, .f32⟩
  | .local _ .vmem, ⟨11, _⟩ => ⟨S256x450, .f32⟩
  | .local _ .vmem, ⟨12, _⟩ => ⟨S256x450, .f32⟩
  | .local _ .vmem, ⟨13, _⟩ => ⟨S256x450, .f32⟩
  | _, _ => ⟨S1024x450, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x450 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x450 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x450 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x450 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x450 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x450 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x450 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S1024x450 : Shape := ⟨2, ![1024, 450]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x450, .f32⟩
  | .hbm, ⟨1, _⟩ => ⟨S1024x450, .f32⟩
  | .hbm, ⟨2, _⟩ => ⟨S1024x450, .f32⟩
  | .hbm, ⟨3, _⟩ => ⟨S1024x450, .f32⟩
  | .hbm, ⟨4, _⟩ => ⟨S_, .f32⟩
  | .hbm, ⟨5, _⟩ => ⟨S1024x450, .f32⟩
  | .hbm, ⟨6, _⟩ => ⟨S1024x450, .f32⟩
  | .hbm, ⟨7, _⟩ => ⟨S_, .f32⟩
  | .hbm, ⟨8, _⟩ => ⟨S1024x450, .f32⟩
  | .hbm, ⟨9, _⟩ => ⟨S1024x450, .f32⟩
  | .hbm, ⟨10, _⟩ => ⟨S1024x450, .f32⟩
  | .hbm, ⟨11, _⟩ => ⟨S_, .f32⟩
  | .hbm, ⟨12, _⟩ => ⟨S1024x450, .f32⟩
  | .hbm, ⟨13, _⟩ => ⟨S1024x450, .f32⟩
  | .hbm, ⟨14, _⟩ => ⟨S1024x450, .f32⟩
  | .hbm, ⟨15, _⟩ => ⟨S_, .f32⟩
  | .hbm, ⟨16, _⟩ => ⟨S1024x450, .f32⟩
  | .hbm, ⟨17, _⟩ => ⟨S1024x450, .f32⟩
  | .hbm, ⟨18, _⟩ => ⟨S1024x450, .f32⟩
  | .hbm, ⟨19, _⟩ => ⟨S_, .f32⟩
  | .hbm, ⟨20, _⟩ => ⟨S1024x450, .f32⟩
  | .hbm, ⟨21, _⟩ => ⟨S1024x450, .f32⟩
  | .hbm, ⟨22, _⟩ => ⟨S_, .f32⟩
  | .hbm, ⟨23, _⟩ => ⟨S1024x450, .f32⟩
  | .hbm, ⟨24, _⟩ => ⟨S1024x450, .f32⟩
  | .hbm, ⟨25, _⟩ => ⟨S1024x450, .f32⟩
  | .hbm, ⟨26, _⟩ => ⟨S_, .f32⟩
  | .hbm, ⟨27, _⟩ => ⟨S1024x450, .f32⟩
  | .hbm, ⟨28, _⟩ => ⟨S1024x450, .f32⟩
  | .hbm, ⟨29, _⟩ => ⟨S1024x450, .f32⟩
  | .hbm, ⟨30, _⟩ => ⟨S_, .f32⟩
  | .hbm, ⟨31, _⟩ => ⟨S1024x450, .f32⟩
  | .hbm, ⟨32, _⟩ => ⟨S1024x450, .f32⟩
  | .hbm, ⟨33, _⟩ => ⟨S1024x450, .f32⟩
  | .hbm, ⟨34, _⟩ => ⟨S_, .f32⟩
  | .hbm, ⟨35, _⟩ => ⟨S1024x450, .f32⟩
  | .hbm, ⟨36, _⟩ => ⟨S1024x450, .f32⟩
  | _, _ => ⟨S1024x450, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S256x128 : Shape := ⟨2, ![256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8x32x1536 : Shape := ⟨3, ![8, 32, 1536]⟩
abbrev S32x1536 : Shape := ⟨2, ![32, 1536]⟩
abbrev S1x32x1536 : Shape := ⟨3, ![1, 32, 1536]⟩

abbrev nBuf : Space → Nat
  | .hbm => 2
  | .vmem => 2
  | .smem => 0
  | _ => 0

abbrev bufTy : (tb : Table) → Fin (tcTables nBuf tb) → BufTy
  | .hbm, ⟨0, _⟩ => ⟨S8x32x1536, .f32⟩
  | .hbm, ⟨1, _⟩ => ⟨S32x1536, .f32⟩
  | .local _ .vmem, ⟨0, _⟩ => ⟨S8x32x1536, .f32⟩
  | .local _ .vmem, ⟨1, _⟩ => ⟨S32x1536, .f32⟩
  | _, _ => ⟨S8x32x1536, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference25Ideal.lean ====
abbrev S8x32x1536 : Shape := ⟨3, ![8, 32, 1536]⟩
abbrev S_ : Shape := ⟨0, ![]⟩
abbrev S32x1536 : Shape := ⟨2, ![32, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8x32x1536, .f32⟩
  | .hbm, ⟨1, _⟩ => ⟨S_, .f32⟩
  | .hbm, ⟨2, _⟩ => ⟨S32x1536, .f32⟩
  | _, _ => ⟨S8x32x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.FfnPay.lean ====
/-
  What each stored expression of the kernel is at one element, over the reals.

  A grid point of the kernel holds a block of 512 rows and 1408 columns of the feed-forward layer. The lemmas here read
  the kernel's stored expressions (`k0_payN`) at one index when every block holds finite values: `DF` is the gradient
  before the product with `w_down`, `slope` the derivative of the gate's two factors, `rowD` the gradient of the
  convolution's output in the block, `shifted k` that gradient `k` rows further down, where the rows past the block's
  end are the eight rows the point before left.
-/
module

public import proofs.«01_k».proof.Proof.Gen.KernelIdeal.Value
public import Idealize.ShloMosaic.Lib.Pipeline.ValueKit.Point

@[expose] public section

noncomputable section

namespace Cert.Ffn

open Cert.KernelIdeal Cert.KernelIdeal.Gen Idealize.ShloMosaic Idealize.ShloMosaic.TcCoe Idealize.SL.Sem

/-- The logistic function. -/
def sg (g : ℝ) : ℝ := (1 + Real.exp (-g))⁻¹

/-- The kernel's form of the logistic function: half the hyperbolic tangent of half the argument, plus a half. -/
theorem half_tanh (g : ℝ) : 1 / 2 * Real.tanh (1 / 2 * g) + 1 / 2 = sg g := by
  have e : Real.exp (-g) = Real.exp (-(1 / 2 * g)) * Real.exp (-(1 / 2 * g)) := by
    rw [← Real.exp_add]; congr 1; ring
  have h1 : Real.exp (1 / 2 * g) * Real.exp (-(1 / 2 * g)) = 1 := by
    rw [← Real.exp_add]; simp
  have p1 := Real.exp_pos (1 / 2 * g)
  have p2 := Real.exp_pos (-(1 / 2 * g))
  rw [sg, Real.tanh_eq_sinh_div_cosh, Real.sinh_eq, Real.cosh_eq, e]
  generalize Real.exp (1 / 2 * g) = a at *
  generalize Real.exp (-(1 / 2 * g)) = b at *
  have : (0 : ℝ) < 1 + b * b := by positivity
  have : (0 : ℝ) < a + b := by positivity
  field_simp
  nlinarith

/-- The gradient of `silu(g) · v` by the gate `g` (part 0) or by the value `v` (part 1). -/
def slope (p : Fin 2) (g v : ℝ) : ℝ := if p = 0 then v * (sg g * (1 + g * (1 - sg g))) else g * sg g

theorem half_f32 : Ideal.ofBits FTy.f32 1056964608#32 = ((1 / 2 : ℝ) : EReal) := by
  simp [Ideal.ofBits, Ideal.ieee, -EReal.coe_mul]
  norm_num

/-- The blocks of one grid point as real functions of their coordinates. -/
structure Blk where
  x : Fin 512 → Fin 1024 → ℝ
  wd : Fin 1408 → Fin 1024 → ℝ
  u : Fin 2 → Fin 512 → Fin 1408 → ℝ
  c : Fin 2 → Fin 512 → Fin 1408 → ℝ
  w : Fin 3 → Fin 2 → Fin 1408 → ℝ
  nx : Fin 2 → Fin 8 → Fin 1408 → ℝ

namespace Blk

variable (B : Blk)

/-- The gradient entering the gate: `dx2 · w_downᵀ`. -/
def DF (r : Fin 512) (f : Fin 1408) : ℝ := ∑ k, B.x r k * B.wd f k

/-- The gradient of the convolution's output in the block. -/
def rowD (p : Fin 2) (r : Fin 512) (f : Fin 1408) : ℝ := B.DF r f * slope p (B.c 0 r f) (B.c 1 r f)

/-- The same, `k` rows further down. -/
def shifted (k : ℕ) (p : Fin 2) (r : Fin 512) (f : Fin 1408) : ℝ :=
  if h : r.val + k < 512 then B.rowD p ⟨r.val + k, h⟩ f else B.nx p ⟨(r.val + k - 512) % 8, Nat.mod_lt _ (by omega)⟩ f

end Blk

/-- The blocks hold these finite values. -/
structure Holds (B : Blk) (x0 : Vec Ideal S512x1024 .f32) (x1 : Vec Ideal S1408x1024 .bf16)
    (x2 x3 : Vec Ideal S2x512x1408 .bf16) (x4 : Vec Ideal S3x2x1x1408 .f32) (xs : Vec Ideal S2x8x1408 .f32) : Prop where
  h0 : ∀ r k, x0 (ix2 r k) = ((B.x r k : ℝ) : EReal)
  h1 : ∀ f k, x1 (ix2 f k) = ((B.wd f k : ℝ) : EReal)
  h2 : ∀ p r f, x2 (ix3 p r f) = ((B.u p r f : ℝ) : EReal)
  h3 : ∀ p r f, x3 (ix3 p r f) = ((B.c p r f : ℝ) : EReal)
  h4 : ∀ k p f, x4 (ix4 k p 0 f) = ((B.w k p f : ℝ) : EReal)
  h5 : ∀ p r f, xs (ix3 p r f) = ((B.nx p r f : ℝ) : EReal)

theorem coe_sum {n : ℕ} (g : Fin n → ℝ) : (∑ k, ((g k : ℝ) : EReal)) = ((∑ k, g k : ℝ) : EReal) := by
  induction n with
  | zero => simp
  | succ n ih => rw [Fin.sum_univ_castSucc, Fin.sum_univ_castSucc, ih, EReal.coe_add]

/-- An extended real whose absolute value is below infinity is a real number. -/
theorem real_of_abs_lt {x : EReal} (h : max x (-x) < ⊤) : x = ((x.toReal : ℝ) : EReal) := by
  refine (EReal.coe_toReal ?_ ?_).symm
  · rintro rfl; simp at h
  · rintro rfl; simp at h

theorem inf_f32 : Ideal.ofBits FTy.f32 2139095040#32 = ⊤ := by
  simp [Ideal.ofBits, Ideal.ieee]

theorem real_of_bit {x : EReal} (h : BitVec.ofBool (decide (max x (-x) < Ideal.ofBits FTy.f32 2139095040#32)) = 1#1) :
    x = ((x.toReal : ℝ) : EReal) := by
  rw [inf_f32] at h
  refine real_of_abs_lt ?_
  by_contra hc
  rw [decide_eq_false hc] at h
  exact absurd h (by decide)

section Payloads

variable (B : Blk) (a0 : Vec Ideal S512x1024 .f32) (a1 : Vec Ideal S1408x1024 .bf16) (g v u : Vec Ideal S1x512x1408 .bf16)
variable (d uu : FVec Ideal S512x1408 .f32) (nx : Vec Ideal S1x8x1408 .f32) (p : Fin 2)

/-- The product with `w_downᵀ`. -/
theorem pay_df (h0 : ∀ r k, a0 (ix2 r k) = ((B.x r k : ℝ) : EReal)) (h1 : ∀ f k, a1 (ix2 f k) = ((B.wd f k : ℝ) : EReal))
    (r : Fin 512) (f : Fin 1408) : k0_pay8 a0 a1 (ix2 r f) = ((B.DF r f : ℝ) : EReal) := by
  pointwise [k0_pay8]
  simp only [h0, h1, ← EReal.coe_mul, coe_sum]
  rfl

/-- The gradient by the gate. -/
theorem pay_d0 (h0 : ∀ r k, a0 (ix2 r k) = ((B.x r k : ℝ) : EReal)) (h1 : ∀ f k, a1 (ix2 f k) = ((B.wd f k : ℝ) : EReal))
    (hg : ∀ r f, g (ix3 0 r f) = ((B.c 0 r f : ℝ) : EReal)) (hv : ∀ r f, v (ix3 0 r f) = ((B.c 1 r f : ℝ) : EReal))
    (r : Fin 512) (f : Fin 1408) : k0_pay11 a0 a1 g v (ix2 r f) = ((B.rowD 0 r f : ℝ) : EReal) := by
  pointwise [k0_pay11, k0_pay10, k0_pay9]
  rw [pay_df B a0 a1 h0 h1, hg, hv, half_f32]
  simp only [← EReal.coe_mul, Ideal.tanh_coe, ← EReal.coe_add, ← EReal.coe_one, ← EReal.coe_sub, half_tanh]
  congr 1
  simp only [Blk.rowD, slope, if_true]
  ring

/-- The gradient by the value. -/
theorem pay_d1 (h0 : ∀ r k, a0 (ix2 r k) = ((B.x r k : ℝ) : EReal)) (h1 : ∀ f k, a1 (ix2 f k) = ((B.wd f k : ℝ) : EReal))
    (hg : ∀ r f, g (ix3 0 r f) = ((B.c 0 r f : ℝ) : EReal))
    (r : Fin 512) (f : Fin 1408) : k0_pay12 a0 a1 g (ix2 r f) = ((B.rowD 1 r f : ℝ) : EReal) := by
  pointwise [k0_pay12, k0_pay10, k0_pay9]
  rw [pay_df B a0 a1 h0 h1, hg, half_f32]
  simp only [← EReal.coe_mul, Ideal.tanh_coe, ← EReal.coe_add, ← EReal.coe_one, ← EReal.coe_sub, half_tanh]
  congr 1

/-- A block's column of `u`, part 0. -/
theorem pay_u0 (hu : ∀ r f, u (ix3 0 r f) = ((B.u p r f : ℝ) : EReal)) (r : Fin 512) (f : Fin 1408) :
    k0_pay13 u (ix2 r f) = ((B.u p r f : ℝ) : EReal) := by
  pointwise [k0_pay13]; exact hu r f

theorem pay_u1 (hu : ∀ r f, u (ix3 0 r f) = ((B.u p r f : ℝ) : EReal)) (r : Fin 512) (f : Fin 1408) :
    k0_pay25 u (ix2 r f) = ((B.u p r f : ℝ) : EReal) := by
  pointwise [k0_pay25]; exact hu r f

theorem sge_sel (n k : ℕ) (hn : n < 8) (hk : k < 8) (x y : EReal) :
    Scalar.select (IntOp.cmpi CmpIPredicate.sge (BitVec.ofNat 32 n) (BitVec.ofNat 32 k)) x y = if k ≤ n then x else y := by
  interval_cases n <;> interval_cases k <;> rfl

variable (hd : ∀ r f, d (ix2 r f) = ((B.rowD p r f : ℝ) : EReal)) (hn : ∀ r f, nx (ix3 0 r f) = ((B.nx p r f : ℝ) : EReal))
include hd hn

/-- Part 0, two rows down. -/
theorem pay_s2 (r : Fin 512) (f : Fin 1408) : k0_pay18 d nx (ix2 r f) = ((B.shifted 2 p r f : ℝ) : EReal) := by
  have hr := r.isLt
  pointwise [k0_pay18, k0_pay15]
  unfold Blk.shifted
  by_cases h : r.val < 504
  · rw [dif_pos h, dif_pos (by omega), hd]
    congr 2; apply Fin.ext; dsimp only; omega
  · rw [dif_neg h, sge_sel _ 6 (by omega) (by omega)]
    by_cases h' : r.val + 2 < 512
    · rw [if_neg (by omega), dif_pos h', hd]; congr 2; apply Fin.ext; dsimp only; omega
    · rw [if_pos (by omega), dif_neg h', hn]; congr 2; apply Fin.ext; dsimp only; omega

/-- Part 0, one row down. -/
theorem pay_s1 (r : Fin 512) (f : Fin 1408) : k0_pay21 d (k0_pay15 nx) (ix2 r f) = ((B.shifted 1 p r f : ℝ) : EReal) := by
  have hr := r.isLt
  pointwise [k0_pay21, k0_pay15]
  unfold Blk.shifted
  by_cases h : r.val < 504
  · rw [dif_pos h, dif_pos (by omega), hd]
    congr 2; apply Fin.ext; dsimp only; omega
  · rw [dif_neg h, sge_sel _ 7 (by omega) (by omega)]
    by_cases h' : r.val + 1 < 512
    · rw [if_neg (by omega), dif_pos h', hd]; congr 2; apply Fin.ext; dsimp only; omega
    · rw [if_pos (by omega), dif_neg h', hn]; congr 2; apply Fin.ext; dsimp only; omega

/-- Part 1, two rows down. -/
theorem pay_s2' (r : Fin 512) (f : Fin 1408) : k0_pay30 d (k0_pay27 nx) (ix2 r f) = ((B.shifted 2 p r f : ℝ) : EReal) := by
  have hr := r.isLt
  pointwise [k0_pay30, k0_pay27]
  unfold Blk.shifted
  by_cases h : r.val < 504
  · rw [dif_pos h, dif_pos (by omega), hd]
    congr 2; apply Fin.ext; dsimp only; omega
  · rw [dif_neg h, sge_sel _ 6 (by omega) (by omega)]
    by_cases h' : r.val + 2 < 512
    · rw [if_neg (by omega), dif_pos h', hd]; congr 2; apply Fin.ext; dsimp only; omega
    · rw [if_pos (by omega), dif_neg h', hn]; congr 2; apply Fin.ext; dsimp only; omega

/-- Part 1, one row down. -/
theorem pay_s1' (io : IVec S8x1408 32) (hio : io = iota .tc S8x1408 32 [0] iota_S8x1408_d0_w32) (r : Fin 512) (f : Fin 1408) :
    k0_pay1 (k0_pay27 nx) (k0_pay33 d) io 7#32 (ix2 r f) = ((B.shifted 1 p r f : ℝ) : EReal) := by
  subst hio
  have hr := r.isLt
  pointwise [k0_pay1, k0_pay27, k0_pay33]
  unfold Blk.shifted
  by_cases h : r.val < 504
  · rw [dif_pos h, dif_pos (by omega), hd]
    congr 2; apply Fin.ext; dsimp only; omega
  · rw [dif_neg h, sge_sel _ 7 (by omega) (by omega)]
    by_cases h' : r.val + 1 < 512
    · rw [if_neg (by omega), dif_pos h', hd]; congr 2; apply Fin.ext; dsimp only; omega
    · rw [if_pos (by omega), dif_neg h', hn]; congr 2; apply Fin.ext; dsimp only; omega

end Payloads

end Cert.Ffn
-- ==== Proof.FfnStores.lean ====
/-
  What one grid point of the kernel leaves in its result blocks and in its carried scratch, as lists of stores.

  Both cases of the body (the first row block of a column half, which clears the accumulators and the scratch, and the
  others) make the same stores over the same blocks; they differ only in what the accumulators and the scratch held.
-/
module

public import proofs.«01_k».proof.Proof.Gen.KernelIdeal.Value
public import Idealize.ShloMosaic.Lib.Pipeline.ValueKit.Point

@[expose] public section

noncomputable section

namespace Cert.Ffn

open Cert.KernelIdeal Cert.KernelIdeal.Gen Idealize.ShloMosaic Idealize.ShloMosaic.TcCoe Idealize.SL.Sem

section General

variable {Val : EltTy → Type} {S : Shape} {e : EltTy}

/-- Stores made before a covering list of stores leave nothing. -/
theorem canon_append_of_mem [∀ e, Nonempty (Val e)] (L' : List (View.Piece Val S e)) (y : S.Idx) :
    ∀ L : List (View.Piece Val S e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p _ hy, View.canon_cons_of_not_mem p _ hy]
      refine canon_append_of_mem L' y L ?_
      obtain ⟨q, hq, hyq⟩ := h
      rcases List.mem_cons.mp hq with rfl | hq
      · exact absurd hyq hy
      · exact ⟨q, hq, hyq⟩

/-- A load of a box apart from the last store's box reads the earlier stores. -/
theorem readCov_skip [∀ e, Nonempty (Val e)] {sig : RefSig} {κ : Kind} {sp : Space} (v : View sig κ sp S e)
    {off size off' size' : Fin S.rank → Nat} (inb inb') (w) (L : List (View.Piece Val S e))
    (h : ∃ a, off a + size a ≤ off' a ∨ off' a + size' a ≤ off a) :
    v.readCov ((⟨Rect.unit off size inb, w⟩ : View.Piece Val S e) :: L) (Rect.unit off' size' inb').toLoadRect
      = v.readCov L (Rect.unit off' size' inb').toLoadRect := by
  refine View.readCov_cons_of_disjoint v _ L _ (Finset.disjoint_left.mpr fun i h1 h2 => ?_)
  obtain ⟨a, ha⟩ := h
  have h1 := (Rect.mem_set_unit (off := off) (size := size) (inb := inb)).mp h1 a
  have h2 := (Rect.mem_set_unit (off := off') (size := size') (inb := inb')).mp h2 a
  omega

/-- A load of a box of a buffer one store filled reads that store's values. -/
theorem readCov_filled [∀ e, Nonempty (Val e)] {sig : RefSig} {κ : Kind} {sp : Space} (v : View sig κ sp S e)
    {off off' size' : Fin S.rank → Nat} (inb : ∀ a, off a + S.size a ≤ S.size a) (inb') (w : S.Idx → Val e)
    (h : ∀ a, off a = 0) :
    v.readCov [(⟨Rect.unit off (no_index S.size) inb, w⟩ : View.Piece Val S e)] (Rect.unit off' size' inb').toLoadRect
      = View.ld w (Rect.unit off' size' inb') := by
  obtain rfl := View.eq_zero_of_forall h
  rw [View.readCov_eq_canon']
  funext j
  rw [View.canon_unit_zero rfl]

end General

variable {F : FTy → Type} [FloatOps F]

section Lists

variable (x0 : Vec F S512x1024 .f32) (x1 : Vec F S1408x1024 .bf16) (x2 x3 : Vec F S2x512x1408 .bf16)
  (x4 xo6 : Vec F S3x2x1x1408 .f32) (xo7 : Vec F S2x1x1408 .f32) (xs0 : Vec F S2x8x1408 .f32)

/-- The first part's gradient of the convolution's output. -/
abbrev d0 : FVec F S512x1408 .f32 :=
  k0_pay11 (View.ld x0 (Rect.unit ![0, 0] ![512, 1024] inb_S512x1024_S512x1024_0_0))
    (View.ld x1 (Rect.unit ![0, 0] ![1408, 1024] inb_S1408x1024_S1408x1024_0_0))
    (View.ld x3 (Rect.unit ![0, 0, 0] ![1, 512, 1408] inb_S2x512x1408_S1x512x1408_0_0_0))
    (View.ld x3 (Rect.unit ![1, 0, 0] ![1, 512, 1408] inb_S2x512x1408_S1x512x1408_1_0_0))

/-- The second part's. -/
abbrev d1 : FVec F S512x1408 .f32 :=
  k0_pay12 (View.ld x0 (Rect.unit ![0, 0] ![512, 1024] inb_S512x1024_S512x1024_0_0))
    (View.ld x1 (Rect.unit ![0, 0] ![1408, 1024] inb_S1408x1024_S1408x1024_0_0))
    (View.ld x3 (Rect.unit ![0, 0, 0] ![1, 512, 1408] inb_S2x512x1408_S1x512x1408_0_0_0))

/-- The rows the point before left, per part. -/
abbrev n0 : Vec F S1x8x1408 .f32 := View.ld xs0 (Rect.unit ![0, 0, 0] ![1, 8, 1408] inb_S2x8x1408_S1x8x1408_0_0_0)
abbrev n1 : Vec F S1x8x1408 .f32 := View.ld xs0 (Rect.unit ![1, 0, 0] ![1, 8, 1408] inb_S2x8x1408_S1x8x1408_1_0_0)

/-- The block's column of the up projection, per part. -/
abbrev u0 : FVec F S512x1408 .f32 :=
  k0_pay13 (View.ld x2 (Rect.unit ![0, 0, 0] ![1, 512, 1408] inb_S2x512x1408_S1x512x1408_0_0_0))
abbrev u1 : FVec F S512x1408 .f32 :=
  k0_pay25 (View.ld x2 (Rect.unit ![1, 0, 0] ![1, 512, 1408] inb_S2x512x1408_S1x512x1408_1_0_0))

/-- The stores of the gradient of the up projection. -/
abbrev L5 : List (View.Piece (Elt F) S2x512x1408 .bf16) :=
  [⟨Rect.unit ![1, 0, 0] ![1, 512, 1408] inb_S2x512x1408_S1x512x1408_1_0_0,
      k0_pay4 (k0_pay27 (n1 xs0))
        (k0_pay32 (d1 x0 x1 x3) (k0_pay27 (n1 xs0))
          (k0_pay28 (d1 x0 x1 x3) (View.ld x4 (Rect.unit ![2, 1, 0, 0] ![1, 1, 1, 1408] inb_S3x2x1x1408_S1x1x1x1408_2_1_0_0)))
          (View.ld x4 (Rect.unit ![0, 1, 0, 0] ![1, 1, 1, 1408] inb_S3x2x1x1408_S1x1x1x1408_0_1_0_0)))
        (k0_pay33 (d1 x0 x1 x3))
        (iota Kind.tc S8x1408 32 [0] iota_S8x1408_d0_w32) (7#32)
        (View.ld x4 (Rect.unit ![1, 1, 0, 0] ![1, 1, 1, 1408] inb_S3x2x1x1408_S1x1x1x1408_1_1_0_0))⟩,
   ⟨Rect.unit ![0, 0, 0] ![1, 512, 1408] inb_S2x512x1408_S1x512x1408_0_0_0,
      k0_pay24
        (k0_pay20
          (k0_pay16 (d0 x0 x1 x3) (View.ld x4 (Rect.unit ![2, 0, 0, 0] ![1, 1, 1, 1408] inb_S3x2x1x1408_S1x1x1x1408_2_0_0_0)))
          (k0_pay18 (d0 x0 x1 x3) (n0 xs0))
          (View.ld x4 (Rect.unit ![0, 0, 0, 0] ![1, 1, 1, 1408] inb_S3x2x1x1408_S1x1x1x1408_0_0_0_0)))
        (k0_pay21 (d0 x0 x1 x3) (k0_pay15 (n0 xs0)))
        (View.ld x4 (Rect.unit ![1, 0, 0, 0] ![1, 1, 1, 1408] inb_S3x2x1x1408_S1x1x1x1408_1_0_0_0))⟩]

/-- The stores of the gradient of the convolution's taps. -/
abbrev L6 : List (View.Piece (Elt F) S3x2x1x1408 .f32) :=
  [⟨Rect.unit ![1, 1, 0, 0] ![1, 1, 1, 1408] inb_S3x2x1x1408_S1x1x1x1408_1_1_0_0,
      k0_pay2 (u1 x2) (k0_pay27 (n1 xs0)) (k0_pay33 (d1 x0 x1 x3)) (iota Kind.tc S8x1408 32 [0] iota_S8x1408_d0_w32) (7#32)
        (View.ld xo6 (Rect.unit ![1, 1, 0, 0] ![1, 1, 1, 1408] inb_S3x2x1x1408_S1x1x1x1408_1_1_0_0))⟩,
   ⟨Rect.unit ![0, 1, 0, 0] ![1, 1, 1, 1408] inb_S3x2x1x1408_S1x1x1x1408_0_1_0_0,
      k0_pay31 (d1 x0 x1 x3) (u1 x2) (k0_pay27 (n1 xs0))
        (View.ld xo6 (Rect.unit ![0, 1, 0, 0] ![1, 1, 1, 1408] inb_S3x2x1x1408_S1x1x1x1408_0_1_0_0))⟩,
   ⟨Rect.unit ![2, 1, 0, 0] ![1, 1, 1, 1408] inb_S3x2x1x1408_S1x1x1x1408_2_1_0_0,
      k0_pay29 (d1 x0 x1 x3) (u1 x2)
        (View.ld xo6 (Rect.unit ![2, 1, 0, 0] ![1, 1, 1, 1408] inb_S3x2x1x1408_S1x1x1x1408_2_1_0_0))⟩,
   ⟨Rect.unit ![1, 0, 0, 0] ![1, 1, 1, 1408] inb_S3x2x1x1408_S1x1x1x1408_1_0_0_0,
      k0_pay22 (d0 x0 x1 x3) (u0 x2) (k0_pay15 (n0 xs0))
        (View.ld xo6 (Rect.unit ![1, 0, 0, 0] ![1, 1, 1, 1408] inb_S3x2x1x1408_S1x1x1x1408_1_0_0_0))⟩,
   ⟨Rect.unit ![0, 0, 0, 0] ![1, 1, 1, 1408] inb_S3x2x1x1408_S1x1x1x1408_0_0_0_0,
      k0_pay19 (u0 x2) (k0_pay18 (d0 x0 x1 x3) (n0 xs0))
        (View.ld xo6 (Rect.unit ![0, 0, 0, 0] ![1, 1, 1, 1408] inb_S3x2x1x1408_S1x1x1x1408_0_0_0_0))⟩,
   ⟨Rect.unit ![2, 0, 0, 0] ![1, 1, 1, 1408] inb_S3x2x1x1408_S1x1x1x1408_2_0_0_0,
      k0_pay17 (d0 x0 x1 x3) (u0 x2)
        (View.ld xo6 (Rect.unit ![2, 0, 0, 0] ![1, 1, 1, 1408] inb_S3x2x1x1408_S1x1x1x1408_2_0_0_0))⟩]

/-- The stores of the gradient of the convolution's bias. -/
abbrev L7 : List (View.Piece (Elt F) S2x1x1408 .f32) :=
  [⟨Rect.unit ![1, 0, 0] ![1, 1, 1408] inb_S2x1x1408_S1x1x1408_1_0_0,
      k0_pay26 (d1 x0 x1 x3) (View.ld xo7 (Rect.unit ![1, 0, 0] ![1, 1, 1408] inb_S2x1x1408_S1x1x1408_1_0_0))⟩,
   ⟨Rect.unit ![0, 0, 0] ![1, 1, 1408] inb_S2x1x1408_S1x1x1408_0_0_0,
      k0_pay14 (d0 x0 x1 x3) (View.ld xo7 (Rect.unit ![0, 0, 0] ![1, 1, 1408] inb_S2x1x1408_S1x1x1408_0_0_0))⟩]

/-- The stores of the rows carried to the next point. -/
abbrev LS : List (View.Piece (Elt F) S2x8x1408 .f32) :=
  [⟨Rect.unit ![1, 0, 0] ![1, 8, 1408] inb_S2x8x1408_S1x8x1408_1_0_0, k0_pay3 (d1 x0 x1 x3)⟩,
   ⟨Rect.unit ![0, 0, 0] ![1, 8, 1408] inb_S2x8x1408_S1x8x1408_0_0_0, k0_pay23 (d0 x0 x1 x3)⟩]

end Lists

section Points

variable (c : Dev nD) (i : grid0.Coords)
  (arg2 : Memref sig .tc .vmem S512x1024 .f32) (h2 : arg2.IsWhole)
  (arg3 : Memref sig .tc .vmem S1408x1024 .bf16) (h3 : arg3.IsWhole)
  (arg4 : Memref sig .tc .vmem S2x512x1408 .bf16) (h4 : arg4.IsWhole)
  (arg5 : Memref sig .tc .vmem S2x512x1408 .bf16) (h5 : arg5.IsWhole)
  (arg6 : Memref sig .tc .vmem S3x2x1x1408 .f32) (h6 : arg6.IsWhole)
  (arg7 : Memref sig .tc .vmem S2x512x1408 .bf16) (h7 : arg7.IsWhole)
  (arg8 : Memref sig .tc .vmem S3x2x1x1408 .f32) (h8 : arg8.IsWhole)
  (arg9 : Memref sig .tc .vmem S2x1x1408 .f32) (h9 : arg9.IsWhole)
  (arg10 : Memref sig .tc .vmem S2x8x1408 .f32) (h10 : arg10.IsWhole)
  (x0 : Vec F S512x1024 .f32) (x1 : Vec F S1408x1024 .bf16) (x2 x3 : Vec F S2x512x1408 .bf16)
  (x4 xo6 : Vec F S3x2x1x1408 .f32) (xo7 : Vec F S2x1x1408 .f32) (xs0 : Vec F S2x8x1408 .f32)

theorem B5 (hc : ¬cond0_0 i) :
    out0_B_5 c i arg2 h2 arg3 h3 arg4 h4 arg5 h5 arg6 h6 arg7 h7 arg8 h8 arg9 h9 arg10 h10 hc x0 x1 x2 x3 x4 xo6 xo7 xs0 = View.canon (L5 x0 x1 x3 x4 xs0) := by
  unfold out0_B_5
  rw [View.read_writes_eq_canon _ _ _ (cover0_B_5 c i arg2 h2 arg3 h3 arg4 h4 arg5 h5 arg6 h6 arg7 h7 arg8 h8 arg9 h9 arg10 h10 hc x0 x1 x2 x3 x4 xo6 xo7 xs0)]
  unfold kernelRun0_B
  dsimp only
  sl_unfold_words
  simp only [View.readAt_eq_ld, h2.read_unread, h3.read_unread, h4.read_unread, h5.read_unread, h6.read_unread, h8.read_unread, h9.read_unread, h10.read_unread]

theorem B6 (hc : ¬cond0_0 i) :
    out0_B_6 c i arg2 h2 arg3 h3 arg4 h4 arg5 h5 arg6 h6 arg7 h7 arg8 h8 arg9 h9 arg10 h10 hc x0 x1 x2 x3 x4 xo6 xo7 xs0 = View.canon (L6 x0 x1 x2 x3 xo6 xs0) := by
  unfold out0_B_6
  rw [View.read_writes_eq_canon _ _ _ (cover0_B_6 c i arg2 h2 arg3 h3 arg4 h4 arg5 h5 arg6 h6 arg7 h7 arg8 h8 arg9 h9 arg10 h10 hc x0 x1 x2 x3 x4 xo6 xo7 xs0)]
  unfold kernelRun0_B
  dsimp only
  sl_unfold_words
  simp only [View.readAt_eq_ld, h2.read_unread, h3.read_unread, h4.read_unread, h5.read_unread, h6.read_unread, h8.read_unread, h9.read_unread, h10.read_unread]

theorem B7 (hc : ¬cond0_0 i) :
    out0_B_7 c i arg2 h2 arg3 h3 arg4 h4 arg5 h5 arg6 h6 arg7 h7 arg8 h8 arg9 h9 arg10 h10 hc x0 x1 x2 x3 x4 xo6 xo7 xs0 = View.canon (L7 x0 x1 x3 xo7) := by
  unfold out0_B_7
  rw [View.read_writes_eq_canon _ _ _ (cover0_B_7 c i arg2 h2 arg3 h3 arg4 h4 arg5 h5 arg6 h6 arg7 h7 arg8 h8 arg9 h9 arg10 h10 hc x0 x1 x2 x3 x4 xo6 xo7 xs0)]
  unfold kernelRun0_B
  dsimp only
  sl_unfold_words
  simp only [View.readAt_eq_ld, h2.read_unread, h3.read_unread, h4.read_unread, h5.read_unread, h6.read_unread, h8.read_unread, h9.read_unread, h10.read_unread]

theorem BS (hc : ¬cond0_0 i) :
    sout0_B_0 c i arg2 h2 arg3 h3 arg4 h4 arg5 h5 arg6 h6 arg7 h7 arg8 h8 arg9 h9 arg10 h10 hc x0 x1 x2 x3 x4 xo6 xo7 xs0 = View.canon (LS x0 x1 x3) := by
  unfold sout0_B_0
  rw [View.read_writes_eq_canon _ _ _ (scover0_B_0 c i arg2 h2 arg3 h3 arg4 h4 arg5 h5 arg6 h6 arg7 h7 arg8 h8 arg9 h9 arg10 h10 hc x0 x1 x2 x3 x4 xo6 xo7 xs0)]
  unfold kernelRun0_B
  dsimp only
  sl_unfold_words
  simp only [View.readAt_eq_ld, h2.read_unread, h3.read_unread, h4.read_unread, h5.read_unread, h6.read_unread, h8.read_unread, h9.read_unread, h10.read_unread]

theorem A5 (hc : cond0_0 i) :
    out0_A_5 c i arg2 h2 arg3 h3 arg4 h4 arg5 h5 arg6 h6 arg7 h7 arg8 h8 arg9 h9 arg10 h10 hc x0 x1 x2 x3 x4 = View.canon (L5 x0 x1 x3 x4 k0_pay5) := by
  unfold out0_A_5
  rw [View.read_writes_eq_canon _ _ _ (cover0_A_5 c i arg2 h2 arg3 h3 arg4 h4 arg5 h5 arg6 h6 arg7 h7 arg8 h8 arg9 h9 arg10 h10 hc x0 x1 x2 x3 x4)]
  unfold kernelRun0_A
  dsimp only
  sl_unfold_words
  simp (disch := decide) only [View.readAt_eq_ld, readCov_skip, readCov_filled, h2.read_unread, h3.read_unread, h4.read_unread, h5.read_unread, h6.read_unread, h8.read_unread, h9.read_unread, h10.read_unread]

theorem A6 (hc : cond0_0 i) :
    out0_A_6 c i arg2 h2 arg3 h3 arg4 h4 arg5 h5 arg6 h6 arg7 h7 arg8 h8 arg9 h9 arg10 h10 hc x0 x1 x2 x3 x4 = View.canon (L6 x0 x1 x2 x3 k0_pay6 k0_pay5) := by
  unfold out0_A_6
  rw [View.read_writes_eq_canon _ _ _ (cover0_A_6 c i arg2 h2 arg3 h3 arg4 h4 arg5 h5 arg6 h6 arg7 h7 arg8 h8 arg9 h9 arg10 h10 hc x0 x1 x2 x3 x4)]
  unfold kernelRun0_A
  dsimp only
  sl_unfold_words
  simp (disch := decide) only [View.readAt_eq_ld, readCov_skip, readCov_filled, h2.read_unread, h3.read_unread, h4.read_unread, h5.read_unread, h6.read_unread, h8.read_unread, h9.read_unread, h10.read_unread]
  exact funext fun y => canon_append_of_mem [_] y (L6 x0 x1 x2 x3 k0_pay6 k0_pay5) (View.cover_of_tiled_head _ _ _ (by rfl) y)

theorem A7 (hc : cond0_0 i) :
    out0_A_7 c i arg2 h2 arg3 h3 arg4 h4 arg5 h5 arg6 h6 arg7 h7 arg8 h8 arg9 h9 arg10 h10 hc x0 x1 x2 x3 x4 = View.canon (L7 x0 x1 x3 k0_pay7) := by
  unfold out0_A_7
  rw [View.read_writes_eq_canon _ _ _ (cover0_A_7 c i arg2 h2 arg3 h3 arg4 h4 arg5 h5 arg6 h6 arg7 h7 arg8 h8 arg9 h9 arg10 h10 hc x0 x1 x2 x3 x4)]
  unfold kernelRun0_A
  dsimp only
  sl_unfold_words
  simp (disch := decide) only [View.readAt_eq_ld, readCov_skip, readCov_filled, h2.read_unread, h3.read_unread, h4.read_unread, h5.read_unread, h6.read_unread, h8.read_unread, h9.read_unread, h10.read_unread]
  exact funext fun y => canon_append_of_mem [_] y (L7 x0 x1 x3 k0_pay7) (View.cover_of_tiled_head _ _ _ (by rfl) y)

theorem AS (hc : cond0_0 i) :
    sout0_A_0 c i arg2 h2 arg3 h3 arg4 h4 arg5 h5 arg6 h6 arg7 h7 arg8 h8 arg9 h9 arg10 h10 hc x0 x1 x2 x3 x4 = View.canon (LS x0 x1 x3) := by
  unfold sout0_A_0
  rw [View.read_writes_eq_canon _ _ _ (scover0_A_0 c i arg2 h2 arg3 h3 arg4 h4 arg5 h5 arg6 h6 arg7 h7 arg8 h8 arg9 h9 arg10 h10 hc x0 x1 x2 x3 x4)]
  unfold kernelRun0_A
  dsimp only
  sl_unfold_words
  simp (disch := decide) only [View.readAt_eq_ld, readCov_skip, readCov_filled, h2.read_unread, h3.read_unread, h4.read_unread, h5.read_unread, h6.read_unread, h8.read_unread, h9.read_unread, h10.read_unread]
  exact funext fun y => canon_append_of_mem [_] y (LS x0 x1 x3) (View.cover_of_tiled_head _ _ _ (by rfl) y)

end Points

end Cert.Ffn
-- ==== Proof.FfnPoint.lean ====
/-
  What one grid point of the kernel leaves, over the reals: the gradient of the up projection in its block, the taps' and
  the bias's gradients with the block's rows added, and the block's first rows carried to the next point.
-/
module

public import proofs.«01_k».proof.Proof.FfnPay
public import proofs.«01_k».proof.Proof.FfnStores

@[expose] public section

noncomputable section

namespace Cert.Ffn

open Cert.KernelIdeal Cert.KernelIdeal.Gen Idealize.ShloMosaic Idealize.ShloMosaic.TcCoe Idealize.SL.Sem

namespace Blk

variable (B : Blk)

/-- The gradient of the up projection in the block. -/
def du (p : Fin 2) (r : Fin 512) (f : Fin 1408) : ℝ :=
  B.w 2 p f * B.rowD p r f + B.w 0 p f * B.shifted 2 p r f + B.w 1 p f * B.shifted 1 p r f

/-- The block's share of the gradient of tap `k`. -/
def dw (k : Fin 3) (p : Fin 2) (f : Fin 1408) : ℝ := ∑ r, B.u p r f * B.shifted (2 - k.val) p r f

/-- The block's share of the gradient of the bias. -/
def db (p : Fin 2) (f : Fin 1408) : ℝ := ∑ r, B.rowD p r f

theorem shifted_zero (p : Fin 2) (r : Fin 512) (f : Fin 1408) : B.shifted 0 p r f = B.rowD p r f := by
  unfold shifted; rw [dif_pos (by omega)]; rfl

end Blk

section Loads

variable {B : Blk} {x0 : Vec Ideal S512x1024 .f32} {x1 : Vec Ideal S1408x1024 .bf16}
    {x2 x3 : Vec Ideal S2x512x1408 .bf16} {x4 : Vec Ideal S3x2x1x1408 .f32} {xs : Vec Ideal S2x8x1408 .f32}
    (H : Holds B x0 x1 x2 x3 x4 xs)
include H

theorem d0_apply (r : Fin 512) (f : Fin 1408) : d0 x0 x1 x3 (ix2 r f) = ((B.rowD 0 r f : ℝ) : EReal) := by
  refine pay_d0 B _ _ _ _ (fun r k => ?_) (fun r k => ?_) (fun r k => ?_) (fun r k => ?_) r f
  · rw [← H.h0]; exact View.ld_unit_apply_of _ _ _ _ _ _ (by intro a; fin_cases a <;> simp)
  · rw [← H.h1]; exact View.ld_unit_apply_of _ _ _ _ _ _ (by intro a; fin_cases a <;> simp)
  · rw [← H.h3]; exact View.ld_unit_apply_of _ _ _ _ _ _ (by intro a; fin_cases a <;> simp)
  · rw [← H.h3]; exact View.ld_unit_apply_of _ _ _ _ _ _ (by intro a; fin_cases a <;> simp)

theorem d1_apply (r : Fin 512) (f : Fin 1408) : d1 x0 x1 x3 (ix2 r f) = ((B.rowD 1 r f : ℝ) : EReal) := by
  refine pay_d1 B _ _ _ (fun r k => ?_) (fun r k => ?_) (fun r k => ?_) r f
  · rw [← H.h0]; exact View.ld_unit_apply_of _ _ _ _ _ _ (by intro a; fin_cases a <;> simp)
  · rw [← H.h1]; exact View.ld_unit_apply_of _ _ _ _ _ _ (by intro a; fin_cases a <;> simp)
  · rw [← H.h3]; exact View.ld_unit_apply_of _ _ _ _ _ _ (by intro a; fin_cases a <;> simp)

theorem n0_apply (r : Fin 8) (f : Fin 1408) : n0 xs (ix3 0 r f) = ((B.nx 0 r f : ℝ) : EReal) := by
  rw [← H.h5]; exact View.ld_unit_apply_of _ _ _ _ _ _ (by intro a; fin_cases a <;> simp)

theorem n1_apply (r : Fin 8) (f : Fin 1408) : n1 xs (ix3 0 r f) = ((B.nx 1 r f : ℝ) : EReal) := by
  rw [← H.h5]; exact View.ld_unit_apply_of _ _ _ _ _ _ (by intro a; fin_cases a <;> simp)

theorem u0_apply (r : Fin 512) (f : Fin 1408) : u0 x2 (ix2 r f) = ((B.u 0 r f : ℝ) : EReal) := by
  refine pay_u0 B _ 0 (fun r f => ?_) r f
  rw [← H.h2]; exact View.ld_unit_apply_of _ _ _ _ _ _ (by intro a; fin_cases a <;> simp)

theorem u1_apply (r : Fin 512) (f : Fin 1408) : u1 x2 (ix2 r f) = ((B.u 1 r f : ℝ) : EReal) := by
  refine pay_u1 B _ 1 (fun r f => ?_) r f
  rw [← H.h2]; exact View.ld_unit_apply_of _ _ _ _ _ _ (by intro a; fin_cases a <;> simp)

/-- The tap `k` of part `p`, read through its own rectangle. -/
theorem w_apply (k : Fin 3) (p : Fin 2) (k' p' : ℕ) (hk : k.val = k') (hp : p.val = p') (inb) (f : Fin 1408) :
    View.ld x4 (Rect.unit ![k', p', 0, 0] ![1, 1, 1, 1408] inb) (ix4 0 0 0 f) = ((B.w k p f : ℝ) : EReal) := by
  subst hk hp
  rw [← H.h4]; exact View.ld_unit_apply_of _ _ _ _ _ _ (by intro a; fin_cases a <;> simp)

/-- The block of the up projection's gradient. -/
theorem L5_apply (p : Fin 2) (r : Fin 512) (f : Fin 1408) :
    View.canon (L5 x0 x1 x3 x4 xs) (ix3 p r f) = ((B.du p r f : ℝ) : EReal) := by
  canon_tiles x h
  · obtain rfl : p = 1 := Fin.ext (by simp only [ix3_0] at h0; show p.val = 1; omega)
    obtain rfl : x = ix3 0 r f := by
      rw [eq_ix3 x]
      congr 1
      · apply Fin.ext; show (x 0).val = 0; omega
      · exact Fin.ext h1.symm
      · exact Fin.ext h2.symm
    have hd := d1_apply H
    have hn := n1_apply H
    have e2 := pay_s2' B _ _ 1 hd hn r f
    have e1 := pay_s1' B _ _ 1 hd hn _ rfl r f
    have w2 := w_apply H 2 1 2 1 rfl rfl inb_S3x2x1x1408_S1x1x1x1408_2_1_0_0 f
    have w1 := w_apply H 1 1 1 1 rfl rfl inb_S3x2x1x1408_S1x1x1x1408_1_1_0_0 f
    have w0 := w_apply H 0 1 0 1 rfl rfl inb_S3x2x1x1408_S1x1x1x1408_0_1_0_0 f
    have hdr := hd r f
    generalize d1 x0 x1 x3 = d at *
    generalize n1 xs = n at *
    generalize View.ld x4 (Rect.unit ![2, 1, 0, 0] ![1, 1, 1, 1408] inb_S3x2x1x1408_S1x1x1x1408_2_1_0_0) = v2 at *
    generalize View.ld x4 (Rect.unit ![1, 1, 0, 0] ![1, 1, 1, 1408] inb_S3x2x1x1408_S1x1x1x1408_1_1_0_0) = v1 at *
    generalize View.ld x4 (Rect.unit ![0, 1, 0, 0] ![1, 1, 1, 1408] inb_S3x2x1x1408_S1x1x1x1408_0_1_0_0) = v0 at *
    pointwise [k0_pay4, k0_pay32, k0_pay28]
    rw [e2, e1, w2, w1, w0, hdr]
    simp only [← EReal.coe_mul, ← EReal.coe_add]
    rfl
  · obtain rfl : p = 0 := Fin.ext (by simp only [ix3_0] at h0; show p.val = 0; omega)
    obtain rfl : x = ix3 0 r f := by
      rw [eq_ix3 x]
      congr 1
      · apply Fin.ext; show (x 0).val = 0; omega
      · exact Fin.ext h1.symm
      · exact Fin.ext h2.symm
    have hd := d0_apply H
    have hn := n0_apply H
    have e2 := pay_s2 B _ _ 0 hd hn r f
    have e1 := pay_s1 B _ _ 0 hd hn r f
    have w2 := w_apply H 2 0 2 0 rfl rfl inb_S3x2x1x1408_S1x1x1x1408_2_0_0_0 f
    have w1 := w_apply H 1 0 1 0 rfl rfl inb_S3x2x1x1408_S1x1x1x1408_1_0_0_0 f
    have w0 := w_apply H 0 0 0 0 rfl rfl inb_S3x2x1x1408_S1x1x1x1408_0_0_0_0 f
    have hdr := hd r f
    generalize d0 x0 x1 x3 = d at *
    generalize n0 xs = n at *
    generalize View.ld x4 (Rect.unit ![2, 0, 0, 0] ![1, 1, 1, 1408] inb_S3x2x1x1408_S1x1x1x1408_2_0_0_0) = v2 at *
    generalize View.ld x4 (Rect.unit ![1, 0, 0, 0] ![1, 1, 1, 1408] inb_S3x2x1x1408_S1x1x1x1408_1_0_0_0) = v1 at *
    generalize View.ld x4 (Rect.unit ![0, 0, 0, 0] ![1, 1, 1, 1408] inb_S3x2x1x1408_S1x1x1x1408_0_0_0_0) = v0 at *
    pointwise [k0_pay24, k0_pay20, k0_pay16]
    rw [e2, e1, w2, w1, w0, hdr]
    simp only [← EReal.coe_mul, ← EReal.coe_add]
    rfl

/-- The block of the taps' gradient: what it held, and the block's rows. -/
theorem L6_apply (xo : Vec Ideal S3x2x1x1408 .f32) (k : Fin 3) (p : Fin 2) (f : Fin 1408) (o : ℝ) (ho : xo (ix4 k p 0 f) = (o : EReal)) :
    View.canon (L6 x0 x1 x2 x3 xo xs) (ix4 k p 0 f) = ((o + B.dw k p f : ℝ) : EReal) := by
  have hd0 := d0_apply H
  have hn0 := n0_apply H
  have hu0 := u0_apply H
  have hd1 := d1_apply H
  have hn1 := n1_apply H
  have hu1 := u1_apply H
  have e20 := pay_s2 B _ _ 0 hd0 hn0
  have e10 := pay_s1 B _ _ 0 hd0 hn0
  have e21 := pay_s2' B _ _ 1 hd1 hn1
  have e11 := pay_s1' B _ _ 1 hd1 hn1 _ rfl
  have ld : ∀ (k' p' : ℕ) (inb) (x : (⟨4, ![1, 1, 1, 1408]⟩ : Shape).Idx), k.val = k' → p.val = p' → x = ix4 0 0 0 f →
      View.ld xo (Rect.unit ![k', p', 0, 0] ![1, 1, 1, 1408] inb) x = (o : EReal) := by
    rintro k' p' inb x rfl rfl rfl
    rw [← ho]; exact View.ld_unit_apply_of _ _ _ _ _ _ (by intro a; fin_cases a <;> simp)
  have hix : ∀ x : S1x1x1x1408.Idx, (x 3).val = f.val → x = ix4 0 0 0 f := fun x hx => by
    rw [eq_ix4 x]
    congr 1
    · exact Subsingleton.elim (α := Fin 1) _ _
    · exact Subsingleton.elim (α := Fin 1) _ _
    · exact Subsingleton.elim (α := Fin 1) _ _
    · exact Fin.ext hx
  canon_tiles x h
  · obtain rfl : k = 1 := Fin.ext (by simp only [ix4_0] at h0; show k.val = 1; omega)
    obtain rfl : p = 1 := Fin.ext (by simp only [ix4_1] at h1; show p.val = 1; omega)
    have l := ld 1 1 inb_S3x2x1x1408_S1x1x1x1408_1_1_0_0 x rfl rfl (hix x h3.symm)
    rw [hix x h3.symm] at l ⊢
    generalize View.ld xo _ = v at *
    pointwise [k0_pay2]
    simp only [l, hu1, e11, ← EReal.coe_mul, coe_sum, ← EReal.coe_add]
    rfl
  · obtain rfl : k = 0 := Fin.ext (by simp only [ix4_0] at h0; show k.val = 0; omega)
    obtain rfl : p = 1 := Fin.ext (by simp only [ix4_1] at h1; show p.val = 1; omega)
    have l := ld 0 1 inb_S3x2x1x1408_S1x1x1x1408_0_1_0_0 x rfl rfl (hix x h3.symm)
    rw [hix x h3.symm] at l ⊢
    generalize View.ld xo _ = v at *
    pointwise [k0_pay31]
    simp only [l, hu1, e21, ← EReal.coe_mul, coe_sum, ← EReal.coe_add]
    rfl
  · obtain rfl : k = 2 := Fin.ext (by simp only [ix4_0] at h0; show k.val = 2; omega)
    obtain rfl : p = 1 := Fin.ext (by simp only [ix4_1] at h1; show p.val = 1; omega)
    have l := ld 2 1 inb_S3x2x1x1408_S1x1x1x1408_2_1_0_0 x rfl rfl (hix x h3.symm)
    rw [hix x h3.symm] at l ⊢
    generalize View.ld xo _ = v at *
    pointwise [k0_pay29]
    simp only [l, hu1, hd1, ← EReal.coe_mul, coe_sum, ← EReal.coe_add]
    congr 2
    exact Finset.sum_congr rfl fun r _ => by rw [mul_comm]; exact congrArg _ (B.shifted_zero 1 r f).symm
  · obtain rfl : k = 1 := Fin.ext (by simp only [ix4_0] at h0; show k.val = 1; omega)
    obtain rfl : p = 0 := Fin.ext (by simp only [ix4_1] at h1; show p.val = 0; omega)
    have l := ld 1 0 inb_S3x2x1x1408_S1x1x1x1408_1_0_0_0 x rfl rfl (hix x h3.symm)
    rw [hix x h3.symm] at l ⊢
    generalize View.ld xo _ = v at *
    pointwise [k0_pay22]
    simp only [l, hu0, e10, ← EReal.coe_mul, coe_sum, ← EReal.coe_add]
    rfl
  · obtain rfl : k = 0 := Fin.ext (by simp only [ix4_0] at h0; show k.val = 0; omega)
    obtain rfl : p = 0 := Fin.ext (by simp only [ix4_1] at h1; show p.val = 0; omega)
    have l := ld 0 0 inb_S3x2x1x1408_S1x1x1x1408_0_0_0_0 x rfl rfl (hix x h3.symm)
    rw [hix x h3.symm] at l ⊢
    generalize View.ld xo _ = v at *
    pointwise [k0_pay19]
    simp only [l, hu0, e20, ← EReal.coe_mul, coe_sum, ← EReal.coe_add]
    rfl
  · obtain rfl : k = 2 := Fin.ext (by simp only [ix4_0] at h0; show k.val = 2; omega)
    obtain rfl : p = 0 := Fin.ext (by simp only [ix4_1] at h1; show p.val = 0; omega)
    have l := ld 2 0 inb_S3x2x1x1408_S1x1x1x1408_2_0_0_0 x rfl rfl (hix x h3.symm)
    rw [hix x h3.symm] at l ⊢
    generalize View.ld xo _ = v at *
    pointwise [k0_pay17]
    simp only [l, hu0, hd0, ← EReal.coe_mul, coe_sum, ← EReal.coe_add]
    congr 2
    exact Finset.sum_congr rfl fun r _ => by rw [mul_comm]; exact congrArg _ (B.shifted_zero 0 r f).symm

/-- The block of the bias's gradient likewise. -/
theorem L7_apply (xo : Vec Ideal S2x1x1408 .f32) (p : Fin 2) (f : Fin 1408) (o : ℝ) (ho : xo (ix3 p 0 f) = (o : EReal)) :
    View.canon (L7 x0 x1 x3 xo) (ix3 p 0 f) = ((o + B.db p f : ℝ) : EReal) := by
  have hd0 := d0_apply H
  have hd1 := d1_apply H
  have ld : ∀ (p' : ℕ) (inb) (x : (⟨3, ![1, 1, 1408]⟩ : Shape).Idx), p.val = p' → x = ix3 0 0 f →
      View.ld xo (Rect.unit ![p', 0, 0] ![1, 1, 1408] inb) x = (o : EReal) := by
    rintro p' inb x rfl rfl
    rw [← ho]; exact View.ld_unit_apply_of _ _ _ _ _ _ (by intro a; fin_cases a <;> simp)
  have hix : ∀ x : S1x1x1408.Idx, (x 2).val = f.val → x = ix3 0 0 f := fun x hx => by
    rw [eq_ix3 x]
    congr 1
    · exact Subsingleton.elim (α := Fin 1) _ _
    · exact Subsingleton.elim (α := Fin 1) _ _
    · exact Fin.ext hx
  canon_tiles x h
  · obtain rfl : p = 1 := Fin.ext (by simp only [ix3_0] at h0; show p.val = 1; omega)
    have l := ld 1 inb_S2x1x1408_S1x1x1408_1_0_0 x rfl (hix x h2.symm)
    rw [hix x h2.symm] at l ⊢
    generalize View.ld xo _ = v at *
    pointwise [k0_pay26]
    simp only [l, hd1, coe_sum, ← EReal.coe_add]
    rfl
  · obtain rfl : p = 0 := Fin.ext (by simp only [ix3_0] at h0; show p.val = 0; omega)
    have l := ld 0 inb_S2x1x1408_S1x1x1408_0_0_0 x rfl (hix x h2.symm)
    rw [hix x h2.symm] at l ⊢
    generalize View.ld xo _ = v at *
    pointwise [k0_pay14]
    simp only [l, hd0, coe_sum, ← EReal.coe_add]
    rfl

/-- The rows carried to the next point: the block's first eight. -/
theorem LS_apply (p : Fin 2) (r : Fin 8) (f : Fin 1408) :
    View.canon (LS x0 x1 x3) (ix3 p r f) = ((B.rowD p ⟨r.val, by omega⟩ f : ℝ) : EReal) := by
  have hd0 := d0_apply H
  have hd1 := d1_apply H
  have hix : ∀ x : S1x8x1408.Idx, (x 1).val = r.val → (x 2).val = f.val → x = ix3 0 r f := fun x hx hy => by
    rw [eq_ix3 x]
    congr 1
    · exact Subsingleton.elim (α := Fin 1) _ _
    · exact Fin.ext hx
    · exact Fin.ext hy
  canon_tiles x h
  · obtain rfl : p = 1 := Fin.ext (by simp only [ix3_0] at h0; show p.val = 1; omega)
    rw [hix x h1.symm h2.symm]
    pointwise [k0_pay3]
    exact hd1 _ _
  · obtain rfl : p = 0 := Fin.ext (by simp only [ix3_0] at h0; show p.val = 0; omega)
    rw [hix x h1.symm h2.symm]
    pointwise [k0_pay23]
    exact hd0 _ _

end Loads

end Cert.Ffn
-- ==== Proof.FfnReal.lean ====
module

public import proofs.«01_k».proof.Proof.FfnPoint

/-!
# The whole arrays over the real numbers

`Arrays` are the five arguments as real arrays, `Of` says that five buffers hold them. The backward pass is
written on them directly: the recomputed convolution `C`, the gradient `DN` of the convolution's output (zero past
the last row), and the three gradients `du`, `dw`, `db`. `blk n j` is the block that the grid point of row block
`n` and column half `j` works on.
-/

@[expose] public section

noncomputable section

namespace Cert.Ffn

open Cert.KernelIdeal Idealize.ShloMosaic

structure Arrays where
  X : Fin 8192 → Fin 1024 → ℝ
  U : Fin 2 → Fin 8192 → Fin 2816 → ℝ
  W : Fin 3 → Fin 2 → Fin 2816 → ℝ
  Bi : Fin 2 → Fin 2816 → ℝ
  Wd : Fin 2816 → Fin 1024 → ℝ

/-- Five buffers hold the arrays' values. -/
structure Arrays.Of (A : Arrays) (a0 : Vec Ideal S8192x1024 .f32) (a1 : Vec Ideal S2x8192x2816 .bf16)
    (a2 : Vec Ideal S3x2x1x2816 .f32) (a3 : Vec Ideal S2x1x2816 .f32) (a4 : Vec Ideal S2816x1024 .f32) : Prop where
  h0 : ∀ t k, a0 (ix2 t k) = ((A.X t k : ℝ) : EReal)
  h1 : ∀ p t f, a1 (ix3 p t f) = ((A.U p t f : ℝ) : EReal)
  h2 : ∀ k p f, a2 (ix4 k p 0 f) = ((A.W k p f : ℝ) : EReal)
  h3 : ∀ p f, a3 (ix3 p 0 f) = ((A.Bi p f : ℝ) : EReal)
  h4 : ∀ f k, a4 (ix2 f k) = ((A.Wd f k : ℝ) : EReal)

namespace Arrays

variable (A : Arrays)

/-- The up projection `k` rows earlier, zero before the first row. -/
def back (k : ℕ) (p : Fin 2) (t : Fin 8192) (f : Fin 2816) : ℝ :=
  if t.val < k then 0 else A.U p ⟨t.val - k, by omega⟩ f

/-- The convolution over the sequence. -/
def C (p : Fin 2) (t : Fin 8192) (f : Fin 2816) : ℝ :=
  A.W 0 p f * A.back 2 p t f + A.W 1 p f * A.back 1 p t f + A.W 2 p f * A.U p t f + A.Bi p f

/-- The gradient entering the gate. -/
def DF (t : Fin 8192) (f : Fin 2816) : ℝ := ∑ k, A.X t k * A.Wd f k

/-- The gradient of the convolution's output. -/
def D (p : Fin 2) (t : Fin 8192) (f : Fin 2816) : ℝ := A.DF t f * slope p (A.C 0 t f) (A.C 1 t f)

/-- The same at any row number, zero past the last row. -/
def DN (p : Fin 2) (n : ℕ) (f : Fin 2816) : ℝ := if h : n < 8192 then A.D p ⟨n, h⟩ f else 0

def du (p : Fin 2) (t : Fin 8192) (f : Fin 2816) : ℝ :=
  A.W 2 p f * A.D p t f + A.W 0 p f * A.DN p (t.val + 2) f + A.W 1 p f * A.DN p (t.val + 1) f

def dw (k : Fin 3) (p : Fin 2) (f : Fin 2816) : ℝ := ∑ t : Fin 8192, A.U p t f * A.DN p (t.val + (2 - k.val)) f

def db (p : Fin 2) (f : Fin 2816) : ℝ := ∑ t : Fin 8192, A.D p t f

/-- A row of row block `n`, a column of column half `j`. -/
abbrev row (n : Fin 16) (r : Fin 512) : Fin 8192 := ⟨512 * n.val + r.val, by omega⟩
abbrev col (j : Fin 2) (f : Fin 1408) : Fin 2816 := ⟨1408 * j.val + f.val, by omega⟩

/-- The block of row block `n` and column half `j`, with the rows that follow it. -/
def blk (n : Fin 16) (j : Fin 2) : Blk where
  x r k := A.X (row n r) k
  wd f k := A.Wd (col j f) k
  u p r f := A.U p (row n r) (col j f)
  c p r f := A.C p (row n r) (col j f)
  w k p f := A.W k p (col j f)
  nx p r f := A.DN p (512 * (n.val + 1) + r.val) (col j f)

variable (n : Fin 16) (j : Fin 2)

theorem blk_rowD (p : Fin 2) (r : Fin 512) (f : Fin 1408) : (A.blk n j).rowD p r f = A.D p (row n r) (col j f) := rfl

theorem blk_shifted (k : ℕ) (hk : k ≤ 8) (p : Fin 2) (r : Fin 512) (f : Fin 1408) :
    (A.blk n j).shifted k p r f = A.DN p (512 * n.val + r.val + k) (col j f) := by
  unfold Blk.shifted
  split
  · rename_i h
    rw [blk_rowD]
    unfold DN
    rw [dif_pos (by omega)]
    congr 1
    exact Fin.ext (Nat.add_assoc _ _ _).symm
  · rename_i h
    show A.DN p (512 * (n.val + 1) + (r.val + k - 512) % 8) (col j f) = _
    congr 1
    rcases Nat.lt_or_ge (r.val + k - 512) 8 with h8 | h8
    · rw [Nat.mod_eq_of_lt h8]; omega
    · omega

theorem blk_du (p : Fin 2) (r : Fin 512) (f : Fin 1408) : (A.blk n j).du p r f = A.du p (row n r) (col j f) := by
  unfold Blk.du du
  rw [blk_shifted _ _ _ 2 (by omega), blk_shifted _ _ _ 1 (by omega)]
  rfl

theorem blk_dw (k : Fin 3) (p : Fin 2) (f : Fin 1408) :
    (A.blk n j).dw k p f = ∑ r : Fin 512, A.U p (row n r) (col j f) * A.DN p ((row n r).val + (2 - k.val)) (col j f) := by
  unfold Blk.dw
  exact Finset.sum_congr rfl fun r _ => by rw [blk_shifted _ _ _ _ (by omega)]; rfl

/-- A sum over the rows is the sum over the row blocks, last block first, of the sums over each block's rows. -/
theorem sum_rows (g : Fin 8192 → ℝ) :
    ∑ i ∈ Finset.range 16, ∑ r, g (row ⟨15 - i, by omega⟩ r) = ∑ t, g t := by
  have h1 : ∑ i ∈ Finset.range 16, ∑ r, g (row ⟨15 - i, by omega⟩ r) = ∑ n : Fin 16, ∑ r, g (row n r) := by
    rw [← Equiv.sum_comp Fin.revPerm, Finset.sum_range]
    refine Finset.sum_congr rfl fun i _ => Finset.sum_congr rfl fun r _ => ?_
    congr 2
    exact Fin.ext (by simp [Fin.rev])
  rw [h1, ← Fintype.sum_prod_type']
  refine Fintype.sum_equiv (finProdFinEquiv (m := 16) (n := 512)) _ _ fun x => ?_
  congr 1
  exact Fin.ext (by simp [finProdFinEquiv]; omega)

theorem sum_blk_dw (k : Fin 3) (p : Fin 2) (f : Fin 1408) :
    ∑ i ∈ Finset.range 16, (A.blk ⟨15 - i, by omega⟩ j).dw k p f = A.dw k p (col j f) := by
  unfold dw
  rw [← sum_rows]
  exact Finset.sum_congr rfl fun i _ => by rw [blk_dw]

theorem sum_blk_db (p : Fin 2) (f : Fin 1408) :
    ∑ i ∈ Finset.range 16, (A.blk ⟨15 - i, by omega⟩ j).db p f = A.db p (col j f) := by
  unfold db
  rw [← sum_rows]
  rfl

end Arrays

end Cert.Ffn
-- ==== Proof.FfnBlocks.lean ====
module

public import proofs.«01_k».proof.Proof.FfnReal

/-!
# The blocks a grid point is given

At grid point `t` the windows read row block `15 - t % 16` and column half `t / 16` of their arrays; the cast of
`w_down` and the convolution are computed on the host.
-/

@[expose] public section

noncomputable section

namespace Cert.Ffn

open Cert.KernelIdeal Cert.KernelIdeal.Gen Idealize.ShloMosaic Idealize.ShloMosaic.TcCoe Idealize.SL.Sem

/-- The row block and the column half of a grid point. -/
abbrev rb (t : ℕ) : Fin 16 := ⟨15 - t % 16, by omega⟩
abbrev ch (t : Fin cfg0.N) : Fin 2 := ⟨t.val / 16, by have : cfg0.N = 32 := N_0; omega⟩

theorem idx : ∀ t : Fin cfg0.N,
    win0_0.index t 0 = 15 - t.val % 16 ∧ win0_0.index t 1 = 0 ∧ win0_1.index t 0 = t.val / 16 ∧ win0_1.index t 1 = 0
    ∧ win0_2.index t 0 = 0 ∧ win0_2.index t 1 = 15 - t.val % 16 ∧ win0_2.index t 2 = t.val / 16
    ∧ win0_3.index t 0 = 0 ∧ win0_3.index t 1 = 15 - t.val % 16 ∧ win0_3.index t 2 = t.val / 16
    ∧ win0_4.index t 0 = 0 ∧ win0_4.index t 1 = 0 ∧ win0_4.index t 2 = 0 ∧ win0_4.index t 3 = t.val / 16
    ∧ win0_5.index t 0 = 0 ∧ win0_5.index t 1 = 15 - t.val % 16 ∧ win0_5.index t 2 = t.val / 16
    ∧ win0_6.index t 0 = 0 ∧ win0_6.index t 1 = 0 ∧ win0_6.index t 2 = 0 ∧ win0_6.index t 3 = t.val / 16
    ∧ win0_7.index t 0 = 0 ∧ win0_7.index t 1 = 0 ∧ win0_7.index t 2 = t.val / 16 :=
  (by decide +kernel : ∀ t : Fin grid0.N, _)

variable (m : (ℓ : Loc nD τ sig) → Buf (Elt Ideal) ℓ) (c : Dev nD) (t : Fin cfg0.N)

theorem blk0 (r : Fin 512) (k : Fin 1024) :
    (iblk m c 0 t : Vec Ideal S512x1024 .f32) (ix2 r k)
      = m ((c : Thread nD τ).loc main_arg0) (ix2 (Arrays.row (rb t) r) k) := by
  blk_ext! [iblk, V, idx t]

theorem blk1 (f : Fin 1408) (k : Fin 1024) :
    (iblk m c 1 t : Vec Ideal S1408x1024 .bf16) (ix2 f k)
      = m ((c : Thread nD τ).loc main_arg4) (ix2 (Arrays.col (ch t) f) k) := by
  blk_simp [iblk, idx t]
  entry_read
  pointwise
  blk_ext [idx t]

theorem blk2 (p : Fin 2) (r : Fin 512) (f : Fin 1408) :
    (iblk m c 2 t : Vec Ideal S2x512x1408 .bf16) (ix3 p r f)
      = m ((c : Thread nD τ).loc main_arg1) (ix3 p (Arrays.row (rb t) r) (Arrays.col (ch t) f)) := by
  blk_ext! [iblk, V, idx t]

theorem blk4 (k : Fin 3) (p : Fin 2) (f : Fin 1408) :
    (iblk m c 4 t : Vec Ideal S3x2x1x1408 .f32) (ix4 k p 0 f)
      = m ((c : Thread nD τ).loc main_arg2) (ix4 k p 0 (Arrays.col (ch t) f)) := by
  blk_ext! [iblk, V, idx t]

variable {m c} {A : Arrays}
  (H : A.Of (m ((c : Thread nD τ).loc main_arg0)) (m ((c : Thread nD τ).loc main_arg1)) (m ((c : Thread nD τ).loc main_arg2))
    (m ((c : Thread nD τ).loc main_arg3)) (m ((c : Thread nD τ).loc main_arg4)))
include H

/-- The convolution that the host computes. -/
theorem conv_apply (p : Fin 2) (s : Fin 8192) (f : Fin 2816) :
    V m c main_v22 (ix3 p s f) = ((A.C p s f : ℝ) : EReal) := by
  entry_read
  pointwise
  unfold Arrays.C Arrays.back
  simp only [EReal.coe_add, EReal.coe_mul]
  rw [← H.h3, ← H.h2, ← H.h2, ← H.h2, ← H.h1]
  congr 2
  congr 1
  · congr 1
    split
    · rfl
    · rw [← H.h1]
  · congr 1
    rcases Nat.lt_or_ge s.val 1 with hs | hs
    · rw [dif_pos (by omega), if_pos hs]; rfl
    · rw [dif_neg (by omega), if_neg (show ¬s.val < 1 by omega), ← H.h1]
      congr 2
      exact Fin.ext (by show 1 + s.val - 2 = s.val - 1; omega)

theorem blk3 (p : Fin 2) (r : Fin 512) (f : Fin 1408) :
    (iblk m c 3 t : Vec Ideal S2x512x1408 .bf16) (ix3 p r f)
      = ((A.C p (Arrays.row (rb t) r) (Arrays.col (ch t) f) : ℝ) : EReal) := by
  rw [← conv_apply H]
  blk_ext! [iblk, idx t]

/-- The blocks of a point hold the values of its row block and column half. -/
theorem holds (xs : Vec Ideal S2x8x1408 .f32)
    (hx : ∀ p r f, xs (ix3 p r f) = ((A.DN p (512 * ((rb t).val + 1) + r.val) (Arrays.col (ch t) f) : ℝ) : EReal)) :
    Holds (A.blk (rb t) (ch t)) (iblk m c 0 t) (iblk m c 1 t) (iblk m c 2 t) (iblk m c 3 t) (iblk m c 4 t) xs where
  h0 r k := (blk0 m c t r k).trans (H.h0 _ _)
  h1 f k := (blk1 m c t f k).trans (H.h4 _ _)
  h2 p r f := (blk2 m c t p r f).trans (H.h1 _ _ _)
  h3 p r f := blk3 t H p r f
  h4 k p f := (blk4 m c t k p f).trans (H.h2 _ _ _)
  h5 := hx

end Cert.Ffn
-- ==== Proof.FfnFold.lean ====
module

public import proofs.«01_k».proof.Proof.FfnBlocks
public import proofs.«01_k».proof.Proof.FfnStores
public import proofs.«01_k».proof.Proof.Gen.KernelIdeal.Value

/-!
# What the grid points leave

Column half `j` is swept in sixteen points, from the last row block to the first. The sums over the rows grow by one
row block at a point; the carried buffer holds the first rows of the block just done, which are the rows after the
next block.
-/

@[expose] public section

noncomputable section

namespace Cert.Ffn

open Cert.KernelIdeal Cert.KernelIdeal.Gen Idealize.ShloMosaic Idealize.ShloMosaic.TcCoe Idealize.SL.Sem

theorem pay5_apply (p : Fin 2) (r : Fin 8) (f : Fin 1408) : (k0_pay5 (F := Ideal) : Vec Ideal S2x8x1408 .f32) (ix3 p r f) = ((0 : ℝ) : EReal) := by
  pointwise [k0_pay5]
  exact EReal.coe_zero.symm

theorem pay6_apply (k : Fin 3) (p : Fin 2) (f : Fin 1408) : (k0_pay6 (F := Ideal) : Vec Ideal S3x2x1x1408 .f32) (ix4 k p 0 f) = ((0 : ℝ) : EReal) := by
  pointwise [k0_pay6]
  exact EReal.coe_zero.symm

theorem pay7_apply (p : Fin 2) (f : Fin 1408) : (k0_pay7 (F := Ideal) : Vec Ideal S2x1x1408 .f32) (ix3 p 0 f) = ((0 : ℝ) : EReal) := by
  pointwise [k0_pay7]
  exact EReal.coe_zero.symm

/-- What a point leaves in its three outputs and in the carried buffer. -/
structure Left (A : Arrays) (n : ℕ) (j : Fin 2) (o : Vec Ideal S2x512x1408 .bf16 × Vec Ideal S3x2x1x1408 .f32 × Vec Ideal S2x1x1408 .f32 × Vec Ideal S2x8x1408 .f32) : Prop where
  du : ∀ p r f, o.1 (ix3 p r f) = (((A.blk (rb n) j).du p r f : ℝ) : EReal)
  dw : ∀ k p f, o.2.1 (ix4 k p 0 f) = ((∑ i ∈ Finset.range (n % 16 + 1), (A.blk ⟨15 - i, by omega⟩ j).dw k p f : ℝ) : EReal)
  db : ∀ p f, o.2.2.1 (ix3 p 0 f) = ((∑ i ∈ Finset.range (n % 16 + 1), (A.blk ⟨15 - i, by omega⟩ j).db p f : ℝ) : EReal)
  nx : ∀ p r f, o.2.2.2 (ix3 p r f) = ((A.DN p (512 * (rb n).val + r.val) (Arrays.col j f) : ℝ) : EReal)

theorem first_rows (A : Arrays) (n : Fin 16) (j : Fin 2) (p : Fin 2) (r : Fin 8) (f : Fin 1408) :
    (A.blk n j).rowD p ⟨r.val, by omega⟩ f = A.DN p (512 * n.val + r.val) (Arrays.col j f) := by
  rw [Arrays.blk_rowD]
  unfold Arrays.DN
  rw [dif_pos (by omega)]

variable {m : (ℓ : Loc nD τ sig) → Buf (Elt Ideal) ℓ} {c : Dev nD} {A : Arrays}
  (H : A.Of (m ((c : Thread nD τ).loc main_arg0)) (m ((c : Thread nD τ).loc main_arg1)) (m ((c : Thread nD τ).loc main_arg2))
    (m ((c : Thread nD τ).loc main_arg3)) (m ((c : Thread nD τ).loc main_arg4)))
include H

/-- The first point of a column half: nothing follows the last row block, and the sums start at zero. -/
theorem left_first (t : Fin cfg0.N) (h0 : t.val % 16 = 0) : Left A t.val (ch t) (outsAt0 m c t.val t.isLt) := by
  have Hb : Holds (A.blk (rb t) (ch t)) (iblk m c 0 t) (iblk m c 1 t) (iblk m c 2 t) (iblk m c 3 t) (iblk m c 4 t) (k0_pay5 (F := Ideal)) :=
    holds t H _ fun p r f => by
      rw [pay5_apply]
      unfold Arrays.DN
      rw [dif_neg (by simp only [h0]; omega)]
  have e15 : rb t.val = ⟨15, by omega⟩ := Fin.ext (by simp only [h0])
  rw [outsAt0_A m c t h0]
  refine ⟨fun p r f => ?_, fun k p f => ?_, fun p f => ?_, fun p r f => ?_⟩
  · dsimp only; rw [A5]; exact L5_apply Hb p r f
  · dsimp only; rw [A6, L6_apply Hb _ k p f 0 (pay6_apply k p f), h0, e15]; simp
  · dsimp only; rw [A7, L7_apply Hb _ p f 0 (pay7_apply p f), h0, e15]; simp
  · dsimp only; rw [AS, LS_apply Hb p r f, first_rows]

/-- A later point: the sums grow by its row block, and the rows after it are the carried ones. -/
theorem left_next (t : Fin cfg0.N) (h0 : ¬t.val % 16 = 0)
    (ih : Left A (t.val - 1) (ch t) (outsAt0 m c (t.val - 1) (Nat.lt_of_le_of_lt (Nat.sub_le _ _) t.isLt))) :
    Left A t.val (ch t) (outsAt0 m c t.val t.isLt) := by
  have em : (t.val - 1) % 16 + 1 = t.val % 16 := by omega
  have Hb := holds t H (outsAt0 m c (t.val - 1) (Nat.lt_of_le_of_lt (Nat.sub_le _ _) t.isLt)).2.2.2 fun p r f => by
    rw [ih.nx]
    congr 3
    show 512 * (15 - (t.val - 1) % 16) = 512 * (15 - t.val % 16 + 1)
    omega
  rw [outsAt0_B m c t h0]
  refine ⟨fun p r f => ?_, fun k p f => ?_, fun p f => ?_, fun p r f => ?_⟩
  · dsimp only; rw [B5]; exact L5_apply Hb p r f
  · dsimp only; rw [B6, L6_apply Hb _ k p f _ (ih.dw k p f), em, Finset.sum_range_succ]
  · dsimp only; rw [B7, L7_apply Hb _ p f _ (ih.db p f), em, Finset.sum_range_succ]
  · dsimp only; rw [BS, LS_apply Hb p r f, first_rows]

theorem left (n : ℕ) : ∀ hn : n < cfg0.N, Left A n (ch ⟨n, hn⟩) (outsAt0 m c n hn) := by
  induction n with
  | zero => exact fun hn => left_first H ⟨0, hn⟩ rfl
  | succ n ih =>
    intro hn
    by_cases h0 : (n + 1) % 16 = 0
    · exact left_first H ⟨n + 1, hn⟩ h0
    · have e : ch ⟨n + 1, hn⟩ = ch ⟨n, by omega⟩ := Fin.ext (by show (n + 1) / 16 = n / 16; omega)
      exact left_next H ⟨n + 1, hn⟩ h0 (e ▸ ih (by omega))

end Cert.Ffn
-- ==== Proof.FfnArrays.lean ====
module

public import proofs.«01_k».proof.Proof.FfnFold

/-!
# The kernel's results

Every point writes its block of `du`; the last point of a column half writes that half of the two sums.
-/

@[expose] public section

noncomputable section

namespace Cert.Ffn

open Cert.KernelIdeal Cert.KernelIdeal.Gen Idealize.ShloMosaic Idealize.ShloMosaic.TcCoe Idealize.SL.Sem

/-- The three results as arrays. -/
def outU (A : Arrays) : Vec Ideal S2x8192x2816 .bf16 := fun y => ((A.du (y 0) (y 1) (y 2) : ℝ) : EReal)
def outW (A : Arrays) : Vec Ideal S3x2x1x2816 .f32 := fun y => ((A.dw (y 0) (y 1) (y 3) : ℝ) : EReal)
def outB (A : Arrays) : Vec Ideal S2x1x2816 .f32 := fun y => ((A.db (y 0) (y 2) : ℝ) : EReal)

variable {m : (ℓ : Loc nD τ sig) → Buf (Elt Ideal) ℓ} {c : Dev nD} {A : Arrays}
  (H : A.Of (m ((c : Thread nD τ).loc main_arg0)) (m ((c : Thread nD τ).loc main_arg1)) (m ((c : Thread nD τ).loc main_arg2))
    (m ((c : Thread nD τ).loc main_arg3)) (m ((c : Thread nD τ).loc main_arg4)))
include H

theorem arr5 : (dats m 0 c).arrAt 5 cfg0.N = outU A := by
  refine (dats m 0 c).arrAt_eq_of_covers 5 (outU A) (by decide +kernel) fun t hf y => ?_
  blk_simp
  rw [after0_5]
  obtain ⟨p, r, f, rfl⟩ : ∃ (p : Fin 2) (r : Fin 512) (f : Fin 1408), y = ix3 p r f := ⟨y 0, y 1, y 2, eq_ix3 y⟩
  refine ((left H t.val t.isLt).du p r f).trans ?_
  rw [Arrays.blk_du]
  show outU A (ix3 p (Arrays.row (rb t) r) (Arrays.col (ch t) f)) = _
  blk_ext [idx t]

theorem arr6 : (dats m 0 c).arrAt 6 cfg0.N = outW A := by
  refine (dats m 0 c).arrAt_eq_of_covers 6 (outW A) (by decide +kernel) fun t hf y => ?_
  have h15 := (by decide +kernel : ∀ t : Fin grid0.N, win0_6.flush t = true → t.val % 16 = 15) t hf
  blk_simp
  rw [after0_6]
  obtain ⟨k, p, f, rfl⟩ : ∃ (k : Fin 3) (p : Fin 2) (f : Fin 1408), y = ix4 k p 0 f :=
    ⟨y 0, y 1, y 3, (eq_ix4 y).trans (by congr 1; exact Subsingleton.elim (α := Fin 1) _ _)⟩
  refine ((left H t.val t.isLt).dw k p f).trans ?_
  rw [h15, Arrays.sum_blk_dw]
  show outW A (ix4 k p 0 (Arrays.col (ch t) f)) = _
  blk_ext [idx t]

theorem arr7 : (dats m 0 c).arrAt 7 cfg0.N = outB A := by
  refine (dats m 0 c).arrAt_eq_of_covers 7 (outB A) (by decide +kernel) fun t hf y => ?_
  have h15 := (by decide +kernel : ∀ t : Fin grid0.N, win0_7.flush t = true → t.val % 16 = 15) t hf
  blk_simp
  rw [after0_7]
  obtain ⟨p, f, rfl⟩ : ∃ (p : Fin 2) (f : Fin 1408), y = ix3 p 0 f :=
    ⟨y 0, y 2, (eq_ix3 y).trans (by congr 1; exact Subsingleton.elim (α := Fin 1) _ _)⟩
  refine ((left H t.val t.isLt).db p f).trans ?_
  rw [h15, Arrays.sum_blk_db]
  show outB A (ix3 p 0 (Arrays.col (ch t) f)) = _
  blk_ext [idx t]

end Cert.Ffn
-- ==== Proof.FfnRef.lean ====
module

public import proofs.«01_k».proof.Proof.FfnReal
public import proofs.«01_k».proof.Proof.Gen.ReferenceIdeal.Read

/-!
# The reference's results
-/

@[expose] public section

noncomputable section

namespace Cert.Ffn

open Cert.ReferenceIdeal Cert.ReferenceIdeal.Gen Cert.ReferenceIdeal.Read Idealize.ShloMosaic

variable {a0 : Vec Ideal S8192x1024 .f32} {a1 : Vec Ideal S2x8192x2816 .bf16}
    {a2 : Vec Ideal S3x2x1x2816 .f32} {a3 : Vec Ideal S2x1x2816 .f32} {a4 : Vec Ideal S2816x1024 .f32} {A : Arrays} (H : A.Of a0 a1 a2 a3 a4)
include H

/-- The up projection with two zero rows in front. -/
theorem pad_apply2 (p : Fin 2) (n : ℕ) (hn : n < 8194) (f : Fin 2816) :
    val_main_v2 (F := Ideal) a1 (ix3 p ⟨n, hn⟩ f) = ((if h : n < 2 then 0 else A.U p ⟨n - 2, by omega⟩ f : ℝ) : EReal) := by
  pointwise [val_main_v2, val_main_v1, val_main_cst, val_main_v0]
  split
  · rfl
  · exact H.h1 _ _ _

theorem ref_conv (p : Fin 2) (t : Fin 8192) (f : Fin 2816) :
    val_main_v22 (F := Ideal) a1 a2 a3 (ix3 p t f) = ((A.C p t f : ℝ) : EReal) := by
  pointwise [val_main_v22, val_main_v20, val_main_v21, val_main_v14, val_main_v19, val_main_v8, val_main_v13, val_main_v7, val_main_v12, val_main_v18, val_main_v5, val_main_v10, val_main_v16, val_main_v4, val_main_v9, val_main_v15, val_main_v6, val_main_v11, val_main_v17]
  rw [pad_apply2 H p t.val, pad_apply2 H p (1 + t.val), pad_apply2 H p (2 + t.val), H.h2, H.h2, H.h2, H.h3]
  simp only [← EReal.coe_mul, ← EReal.coe_add]
  have e1 : (if h : 1 + t.val < 2 then 0 else A.U p ⟨1 + t.val - 2, by omega⟩ f) = A.back 1 p t f := by
    unfold Arrays.back
    rcases Nat.lt_or_ge t.val 1 with hs | hs
    · rw [dif_pos (by omega), if_pos hs]
    · rw [dif_neg (by omega), if_neg (show ¬t.val < 1 by omega)]
      congr 1
      exact Fin.ext (by show 1 + t.val - 2 = t.val - 1; omega)
  have e2 : (if h : 2 + t.val < 2 then 0 else A.U p ⟨2 + t.val - 2, by omega⟩ f) = A.U p t f := by
    rw [dif_neg (by omega)]
    congr 1
    exact Fin.ext (by show 2 + t.val - 2 = t.val; omega)
  rw [e1, e2]
  rfl

theorem ref_df (t : Fin 8192) (f : Fin 2816) :
    val_main_v30 (F := Ideal) a0 a4 (ix2 t f) = ((A.DF t f : ℝ) : EReal) := by
  pointwise [val_main_v30]
  unfold Arrays.DF
  rw [← coe_sum]
  exact Finset.sum_congr rfl fun k _ => by rw [H.h0, H.h4, EReal.coe_mul]

/-- The derivative of the first part, through `silu`. -/
theorem ref_d0 (t : Fin 8192) (f : Fin 2816) :
    val_main_v33 (F := Ideal) a0 a1 a2 a3 a4 (ix2 t f) = ((A.D 0 t f : ℝ) : EReal) := by
  have hp : 1 + Real.exp (-A.C 0 t f) ≠ 0 := by positivity
  pointwise [val_main_v33, val_main_call1_v0, val_main_call1_v1, val_main_call1_v2, val_main_v32, val_main_v27_2, val_main_v27_1, val_main_call0_v0, val_main_call0_v1, val_main_call0_v2, val_main_call0_v3, val_main_call0_v4, val_main_call0_v6, val_main_call0_v7, val_main_call0_cst, val_main_call0_cst_0, val_main_call0_cst_1, val_main_v23, val_main_v24, val_main_v25, val_main_v26]
  rw [ref_conv H, ref_conv H, ref_df H, ← EReal.coe_neg, Ideal.exp_coe, ← EReal.coe_one, ← EReal.coe_add, Ideal.div_coe hp]
  simp only [← EReal.coe_mul, ← EReal.coe_add, ← EReal.coe_sub]
  congr 1
  unfold Arrays.D slope sg
  rw [if_pos rfl]
  ring

/-- The derivative of the second part: `silu` of the first. -/
theorem ref_d1 (t : Fin 8192) (f : Fin 2816) :
    val_main_v31 (F := Ideal) a0 a1 a2 a3 a4 (ix2 t f) = ((A.D 1 t f : ℝ) : EReal) := by
  have hp : 1 + Real.exp (-A.C 0 t f) ≠ 0 := by positivity
  pointwise [val_main_v31, val_main_v27_0, val_main_v27_2, val_main_call0_v0, val_main_call0_v1, val_main_call0_v2, val_main_call0_v3, val_main_call0_v4, val_main_call0_cst, val_main_call0_cst_0, val_main_v23, val_main_v24]
  rw [ref_conv H, ref_df H, ← EReal.coe_neg, Ideal.exp_coe, ← EReal.coe_one, ← EReal.coe_add, Ideal.div_coe hp]
  simp only [← EReal.coe_mul, ← EReal.coe_add, ← EReal.coe_sub]
  congr 1
  unfold Arrays.D slope sg
  rw [if_neg (by decide)]
  ring

theorem ref_d (p : Fin 2) (t : Fin 8192) (f : Fin 2816) :
    val_main_v36 (F := Ideal) a0 a1 a2 a3 a4 (ix3 p t f) = ((A.D p t f : ℝ) : EReal) := by
  pointwise [val_main_v36, val_main_v34, val_main_v35]
  rcases Nat.lt_or_ge p.val 1 with hs | hs
  · obtain rfl : p = 0 := Fin.ext (by show p.val = 0; omega)
    rw [dif_pos hs, ref_d0 H]
  · obtain rfl : p = 1 := Fin.ext (by show p.val = 1; omega)
    rw [dif_neg (by omega), ref_d1 H]

theorem ref_db (p : Fin 2) (f : Fin 2816) :
    val_main_v38 (F := Ideal) a0 a1 a2 a3 a4 (ix3 p 0 f) = ((A.db p f : ℝ) : EReal) := by
  pointwise [val_main_v38, val_main_v37, val_main_cst_1]
  unfold Arrays.db
  rw [← coe_sum]
  exact Finset.sum_congr rfl fun t _ => ref_d H p t f

theorem ref_du (p : Fin 2) (t : Fin 8192) (f : Fin 2816) :
    val_main_v69 (F := Ideal) a0 a1 a2 a3 a4 (ix3 p t f) = ((A.du p t f : ℝ) : EReal) := by
  pointwise [val_main_v69, val_main_v68, val_main_v63, val_main_v67, val_main_v62, val_main_v58, val_main_v57, val_main_v53, val_main_v52, val_main_v48, val_main_v47, val_main_v44, val_main_v40, val_main_v39, val_main_cst_3, val_main_cst_6, val_main_cst_9,val_main_v5, val_main_v10, val_main_v16, val_main_v4, val_main_v9, val_main_v15]
  have e1 : (if h : 1 ≤ 2 + t.val ∧ 2 + t.val - 1 < 8192 then
        a2 (ix4 1 p 0 f) * val_main_v36 (F := Ideal) a0 a1 a2 a3 a4 (ix3 p ⟨2 + t.val - 1, h.2⟩ f) else 0)
      = ((A.W 1 p f * A.DN p (t.val + 1) f : ℝ) : EReal) := by
    unfold Arrays.DN
    rcases Nat.lt_or_ge (t.val + 1) 8192 with hs | hs
    · rw [dif_pos (by omega), dif_pos hs, ref_d H, H.h2, EReal.coe_mul]
      congr 3
      exact Fin.ext (by show 2 + t.val - 1 = t.val + 1; omega)
    · rw [dif_neg (by omega), dif_neg (show ¬t.val + 1 < 8192 by omega), mul_zero, EReal.coe_zero]
  have e2 : (if h : 2 + t.val < 8192 then
        a2 (ix4 0 p 0 f) * val_main_v36 (F := Ideal) a0 a1 a2 a3 a4 (ix3 p ⟨2 + t.val, h⟩ f) else 0)
      = ((A.W 0 p f * A.DN p (t.val + 2) f : ℝ) : EReal) := by
    unfold Arrays.DN
    rcases Nat.lt_or_ge (t.val + 2) 8192 with hs | hs
    · rw [dif_pos (by omega), dif_pos hs, ref_d H, H.h2, EReal.coe_mul]
      congr 3
      exact Fin.ext (by show 2 + t.val = t.val + 2; omega)
    · rw [dif_neg (by omega), dif_neg (show ¬t.val + 2 < 8192 by omega), mul_zero, EReal.coe_zero]
  refine (congrArg₂ (· + ·) (congrArg₂ (· + ·) rfl e1) e2).trans ?_
  rw [ref_d H, H.h2, ← EReal.coe_mul]
  show ((_ : ℝ) : EReal) + ((_ : ℝ) : EReal) + ((_ : ℝ) : EReal) = _
  rw [← EReal.coe_add, ← EReal.coe_add]
  congr 1
  unfold Arrays.du
  ring

omit H in
/-- Moving the shift of a sum over the rows from one factor to the other. -/
theorem sum_shift (A : Arrays) (s : ℕ) (hs : s ≤ 8192) (p : Fin 2) (f : Fin 2816) :
    ∑ t : Fin 8192, A.D p t f * A.back s p t f = ∑ t : Fin 8192, A.U p t f * A.DN p (t.val + s) f := by
  let UN : ℕ → ℝ := fun n => if h : n < 8192 then A.U p ⟨n, h⟩ f else 0
  have h1 : ∑ t : Fin 8192, A.D p t f * A.back s p t f
      = ∑ n ∈ Finset.range 8192, A.DN p n f * (if n < s then 0 else UN (n - s)) := by
    rw [Finset.sum_range]
    refine Finset.sum_congr rfl fun t _ => ?_
    unfold Arrays.DN Arrays.back
    rw [dif_pos t.isLt]
    simp only [UN]
    rw [dif_pos (show t.val - s < 8192 by omega)]
  have h2 : ∑ t : Fin 8192, A.U p t f * A.DN p (t.val + s) f = ∑ n ∈ Finset.range 8192, UN n * A.DN p (n + s) f := by
    rw [Finset.sum_range]
    refine Finset.sum_congr rfl fun t _ => ?_
    simp only [UN]
    rw [dif_pos t.isLt]
  rw [h1, h2]
  have e1 : 8192 = s + (8192 - s) := by omega
  have e2 : 8192 = (8192 - s) + s := by omega
  have l : ∑ n ∈ Finset.range 8192, A.DN p n f * (if n < s then 0 else UN (n - s))
      = ∑ n ∈ Finset.range (8192 - s), A.DN p (s + n) f * UN n := by
    conv_lhs => rw [e1]
    rw [Finset.sum_range_add, Finset.sum_eq_zero, zero_add]
    · refine Finset.sum_congr rfl fun n _ => ?_
      rw [if_neg (by omega), Nat.add_sub_cancel_left]
    · intro n hn
      rw [if_pos (Finset.mem_range.mp hn), mul_zero]
  have r : ∑ n ∈ Finset.range 8192, UN n * A.DN p (n + s) f = ∑ n ∈ Finset.range (8192 - s), UN n * A.DN p (n + s) f := by
    conv_lhs => rw [e2]
    rw [Finset.sum_range_add, add_eq_left]
    refine Finset.sum_eq_zero fun n _ => ?_
    unfold Arrays.DN
    rw [dif_neg (by omega), mul_zero]
  rw [l, r]
  exact Finset.sum_congr rfl fun n _ => by rw [mul_comm, Nat.add_comm s n]

theorem ref_dw (k : Fin 3) (p : Fin 2) (f : Fin 2816) :
    val_main_v66 (F := Ideal) a0 a1 a2 a3 a4 (ix4 k p 0 f) = ((A.dw k p f : ℝ) : EReal) := by
  pointwise [val_main_v66, val_main_v65, val_main_v64, val_main_v61, val_main_v60, val_main_v59, val_main_v56, val_main_v55, val_main_v54, val_main_v51, val_main_v50, val_main_v49, val_main_v46, val_main_v45, val_main_v43, val_main_v42, val_main_v41, val_main_cst_2, val_main_cst_4, val_main_cst_5, val_main_cst_7, val_main_cst_8, val_main_cst_10]
  have hb : ∀ (s n : ℕ) (t : Fin 8192) (hn : n < 8194), n + s = t.val + 2 →
      val_main_v2 (F := Ideal) a1 (ix3 p ⟨n, hn⟩ f) = ((A.back s p t f : ℝ) : EReal) := by
    intro s n t hn e
    rw [pad_apply2 H p n hn f]
    unfold Arrays.back
    congr 1
    rcases Nat.lt_or_ge n 2 with h | h
    · rw [dif_pos h, if_pos (show t.val < s by omega)]
    · rw [dif_neg (by omega), if_neg (show ¬t.val < s by omega)]
      congr 1
      exact Fin.ext (by show n - 2 = t.val - s; omega)
  have hs : ∀ (s : ℕ) (g : Fin 8192 → EReal), s ≤ 2 → (∀ t, g t = ((A.back s p t f : ℝ) : EReal)) →
      ∑ x, val_main_v36 (F := Ideal) a0 a1 a2 a3 a4 (ix3 p x f) * g x
        = ((∑ t : Fin 8192, A.U p t f * A.DN p (t.val + s) f : ℝ) : EReal) := by
    intro s g hs hg
    rw [← sum_shift A s (by omega), ← coe_sum]
    exact Finset.sum_congr rfl fun t _ => by rw [hg, ref_d H, EReal.coe_mul]
  have e0 := hs 0 (fun x => val_main_v17 (F := Ideal) a1 (ix3 p x f)) (by omega) fun t => by
    pointwise [val_main_v17]
    exact hb 0 _ t _ (by omega)
  have e1 := hs 1 (fun x => val_main_v11 (F := Ideal) a1 (ix3 p x f)) (by omega) fun t => by
    pointwise [val_main_v11]
    exact hb 1 _ t _ (by omega)
  have e2 := hs 2 (fun x => val_main_v6 (F := Ideal) a1 (ix3 p x f)) (by omega) fun t => by
    pointwise [val_main_v6]
    exact hb 2 _ t _ (by omega)
  rw [e0, e1, e2]
  unfold Arrays.dw
  fin_cases k <;> simp

end Cert.Ffn
-- ==== Proof.FfnClaim.lean ====
module

public import proofs.«01_k».proof.Proof.FfnArrays
public import proofs.«01_k».proof.Proof.FfnRef
public import proofs.«01_k».proof.Proof.Gen.ReferenceIdeal.Run
public import proofs.«01_k».proof.Proof.Gen.Pre_ffn_finite
public import proofs.«01_k».proof.Defs

/-!
# The kernel and the reference agree

Finite arguments are real arrays; on real arrays both programs leave the three gradients.
-/

@[expose] public section

noncomputable section

namespace Cert.Ffn

open Idealize.ShloMosaic Idealize.ShloMosaic.TcCoe Idealize.SL.Sem

/-- The real arrays that finite buffers hold. -/
def reals (a0 : Vec Ideal Cert.KernelIdeal.S8192x1024 .f32) (a1 : Vec Ideal Cert.KernelIdeal.S2x8192x2816 .bf16)
    (a2 : Vec Ideal Cert.KernelIdeal.S3x2x1x2816 .f32) (a3 : Vec Ideal Cert.KernelIdeal.S2x1x2816 .f32)
    (a4 : Vec Ideal Cert.KernelIdeal.S2816x1024 .f32) : Arrays where
  X t k := (a0 (ix2 t k) : EReal).toReal
  U p t f := (a1 (ix3 p t f) : EReal).toReal
  W k p f := (a2 (ix4 k p 0 f) : EReal).toReal
  Bi p f := (a3 (ix3 p 0 f) : EReal).toReal
  Wd f k := (a4 (ix2 f k) : EReal).toReal

open Cert.Pre_ffn_finite in
theorem reals_of (a0 : Vec Ideal Cert.KernelIdeal.S8192x1024 .f32) (a1 : Vec Ideal Cert.KernelIdeal.S2x8192x2816 .bf16)
    (a2 : Vec Ideal Cert.KernelIdeal.S3x2x1x2816 .f32) (a3 : Vec Ideal Cert.KernelIdeal.S2x1x2816 .f32)
    (a4 : Vec Ideal Cert.KernelIdeal.S2816x1024 .f32)
    (h0 : (fn (F := Ideal) a0 a1 a2 a3 a4).1 = fun _ => 1#1) (h1 : (fn (F := Ideal) a0 a1 a2 a3 a4).2.1 = fun _ => 1#1)
    (h2 : (fn (F := Ideal) a0 a1 a2 a3 a4).2.2.1 = fun _ => 1#1) (h3 : (fn (F := Ideal) a0 a1 a2 a3 a4).2.2.2.1 = fun _ => 1#1)
    (h4 : (fn (F := Ideal) a0 a1 a2 a3 a4).2.2.2.2 = fun _ => 1#1) : (reals a0 a1 a2 a3 a4).Of a0 a1 a2 a3 a4 where
  h0 t k := by
    have h := congrFun h0 (ix2 t k)
    pointwise [fn] at h
    exact real_of_bit h
  h1 p t f := by
    have h := congrFun h1 (ix3 p t f)
    pointwise [fn] at h
    exact real_of_bit h
  h2 k p f := by
    have h := congrFun h2 (ix4 k p 0 f)
    pointwise [fn] at h
    exact real_of_bit h
  h3 p f := by
    have h := congrFun h3 (ix3 p 0 f)
    pointwise [fn] at h
    exact real_of_bit h
  h4 f k := by
    have h := congrFun h4 (ix2 f k)
    pointwise [fn] at h
    exact real_of_bit h

/-! ## The reference's results as arrays -/

section Reference

variable {a0 : Vec Ideal Cert.KernelIdeal.S8192x1024 .f32} {a1 : Vec Ideal Cert.KernelIdeal.S2x8192x2816 .bf16}
    {a2 : Vec Ideal Cert.KernelIdeal.S3x2x1x2816 .f32} {a3 : Vec Ideal Cert.KernelIdeal.S2x1x2816 .f32}
    {a4 : Vec Ideal Cert.KernelIdeal.S2816x1024 .f32} {A : Arrays} (H : A.Of a0 a1 a2 a3 a4)
include H

open Cert.ReferenceIdeal.Read

theorem ref_outU : val_main_v69 (F := Ideal) a0 a1 a2 a3 a4 = outU A :=
  funext fun y => (congrArg _ (eq_ix3 y)).trans (ref_du H (y 0) (y 1) (y 2))

theorem ref_outW : val_main_v66 (F := Ideal) a0 a1 a2 a3 a4 = outW A :=
  funext fun y => (congrArg _ ((eq_ix4 y).trans (by congr 1; exact Subsingleton.elim (α := Fin 1) _ _))).trans
    (ref_dw H (y 0) (y 1) (y 3))

theorem ref_outB : val_main_v38 (F := Ideal) a0 a1 a2 a3 a4 = outB A :=
  funext fun y => (congrArg _ ((eq_ix3 y).trans (by congr 1; exact Subsingleton.elim (α := Fin 1) _ _))).trans
    (ref_db H (y 0) (y 2))

end Reference

/-! ## The claims -/

/-- The reference ends, leaves its arguments unchanged, and has no semaphores. -/
theorem ref_frame : Cert.quiescent_ReferenceIdeal := fun m g _ =>
  (θ_run (Cert.ReferenceIdeal.defs (F := Ideal)) _ _).mono
    (fun r h => And.intro (fun c => (h c).2.2.2) (sem_eq_zero_of_no_sems (by rfl) r.2))
    (Cert.ReferenceIdeal.Value.run (F := Ideal) m g)

theorem algebraic : Cert.algebraic_KernelIdeal_ReferenceIdeal_pre_ffn_finite := by
  intro m g m' g' hp heq
  let A := fun c : Dev Cert.KernelIdeal.nD => reals (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
  have H := fun c => reals_of _ _ _ _ _ (hp c).1 (hp c).2.1 (hp c).2.2.1 (hp c).2.2.2.1 (hp c).2.2.2.2
  refine ⟨fun c => outU (A c), fun c => outW (A c), fun c => outB (A c), ?_, ?_⟩
  · refine (θ_run _ _ _).mono (fun r h c => ?_) (Cert.KernelIdeal.Value.run_blocks (F := Ideal) m g)
    obtain ⟨h5, h6, h7, hk⟩ := h c
    exact ⟨h5.trans (arr5 (H c)), h6.trans (arr6 (H c)), h7.trans (arr7 (H c)), hk⟩
  · refine (θ_run _ _ _).mono (fun r h c => ?_) (Cert.ReferenceIdeal.Value.run (F := Ideal) m' g')
    obtain ⟨h5, h6, h7, hk⟩ := h c
    obtain ⟨e0, e1, e2, e3, e4⟩ := heq c
    refine ⟨h5.trans ?_, h6.trans ?_, h7.trans ?_, hk⟩
    · rw [Cert.ReferenceIdeal.Read.val_main_v69_eq, e0, e1, e2, e3, e4]; exact ref_outU (H c)
    · rw [Cert.ReferenceIdeal.Read.val_main_v66_eq, e0, e1, e2, e3, e4]; exact ref_outW (H c)
    · rw [Cert.ReferenceIdeal.Read.val_main_v38_eq, e0, e1, e2, e3, e4]; exact ref_outB (H c)

end Cert.Ffn
-- ==== Proof.Norm.lean ====
module

public import proofs.«01_k».proof.Proof.FfnPay

/-!
# The gradient of the row norm over the reals

A row `x` of 1024 values is divided by the root of its mean square plus `eps`. The kernels write the gradient as one
scaled difference; the reference, a derivative taken mechanically, as a sum of three terms. They are equal because the
square of the scale is the inverse of the mean square.
-/

@[expose] public section

noncomputable section

namespace Cert.Norm

open Idealize.ShloMosaic Cert.Ffn

/-- Dividing one real number by another that is not zero. -/
theorem div_real (a : ℝ) {b : ℝ} (hb : b ≠ 0) : Ideal.div (a : EReal) (b : EReal) = ((a / b : ℝ) : EReal) := by
  rw [Ideal.div_coe hb, ← EReal.coe_mul]
  congr 1
  ring

/-- The number added to the mean square: the 32-bit word nearest to one millionth. -/
def eps : ℝ := 8796093 / 8796093022208

theorem eps_f32 : Ideal.ofBits FTy.f32 0x358637BD#32 = ((eps : ℝ) : EReal) := by
  simp [Ideal.ofBits, Ideal.ieee, -EReal.coe_mul]
  norm_num [eps]

theorem eps_pos : 0 < eps := by norm_num [eps]

theorem n_f32 : Ideal.ofBits FTy.f32 0x44800000#32 = ((1024 : ℝ) : EReal) := by
  simp [Ideal.ofBits, Ideal.ieee, -EReal.coe_mul]
  norm_num

theorem neg_half_f32 : Ideal.ofBits FTy.f32 0xBF000000#32 = ((-1 / 2 : ℝ) : EReal) := by
  simp [Ideal.ofBits, Ideal.ieee, -EReal.coe_mul]
  norm_num

/-- The mean square plus `eps`, and its inverse root. -/
def ms (x : Fin 1024 → ℝ) : ℝ := (∑ k, x k * x k) / 1024 + eps
def rs (x : Fin 1024 → ℝ) : ℝ := (Real.sqrt (ms x))⁻¹

theorem ms_pos (x : Fin 1024 → ℝ) : 0 < ms x := by
  have : 0 ≤ ∑ k, x k * x k := Finset.sum_nonneg fun k _ => mul_self_nonneg _
  have := eps_pos
  unfold ms
  positivity

theorem rs_sq (x : Fin 1024 → ℝ) : rs x * rs x = (ms x)⁻¹ := by
  unfold rs
  rw [← mul_inv, Real.mul_self_sqrt (ms_pos x).le]

theorem rsqrt_ms (x : Fin 1024 → ℝ) : Ideal.rsqrt ((ms x : ℝ) : EReal) = ((rs x : ℝ) : EReal) := by
  rw [Ideal.rsqrt_coe, if_neg (not_lt.mpr (ms_pos x).le), if_neg (ms_pos x).ne']
  rfl

/-- The sum of squares over 1024, plus `eps`, as the programs write it. -/
theorem ms_coe (x : Fin 1024 → ℝ) (f : Fin 1024 → EReal) (h : ∀ k, f k = ((x k : ℝ) : EReal)) :
    Ideal.div (∑ k, f k * f k) (Ideal.ofBits FTy.f32 0x44800000#32) + Ideal.ofBits FTy.f32 0x358637BD#32
      = ((ms x : ℝ) : EReal) := by
  simp only [h, n_f32, eps_f32, ← EReal.coe_mul, coe_sum]
  rw [div_real _ (by norm_num), ← EReal.coe_add]
  rfl

/-- The gradient of one row: `res` is added to what comes back through the norm. -/
def dx (res dh g x : Fin 1024 → ℝ) (d : Fin 1024) : ℝ :=
  res d + rs x * (dh d * g d - x d * rs x * ((∑ k, dh k * g k * (x k * rs x)) / 1024))

theorem dx_eq (res dh g x : Fin 1024 → ℝ) (d : Fin 1024) :
    res d + dh d * g d * rs x + x d * ((∑ k, x k * (dh k * g k)) * (-1 / 2 * (rs x / ms x)) / 1024)
      + (∑ k, x k * (dh k * g k)) * (-1 / 2 * (rs x / ms x)) / 1024 * x d = dx res dh g x d := by
  have e : ∑ k, dh k * g k * (x k * rs x) = (∑ k, x k * (dh k * g k)) * rs x := by
    rw [Finset.sum_mul]
    exact Finset.sum_congr rfl fun k _ => by ring
  unfold dx
  rw [e, div_eq_mul_inv (rs x), ← rs_sq]
  ring

end Cert.Norm
-- ==== Proof.UpPay.lean ====
module

public import proofs.«01_k».proof.Proof.Norm
public import proofs.«01_k».proof.Proof.Gen.Kernel2Ideal.Value

/-!
# What the gradient of the up projection stores, one element at a time

The real arrays of the call, and its stored expressions (`k0_payN`) over blocks of finite values.
-/

@[expose] public section

noncomputable section

namespace Cert.Up

open Cert.Kernel2Ideal Cert.Kernel2Ideal.Gen Idealize.ShloMosaic Idealize.ShloMosaic.TcCoe Idealize.SL.Sem
open Cert.Norm Cert.Ffn

section Payloads

variable {x : Fin 512 → Fin 1024 → ℝ} {v : Vec Ideal S512x1024 .f32} (hx : ∀ r d, v (ix2 r d) = ((x r d : ℝ) : EReal))
include hx

theorem pay_rs (r : Fin 512) : k0_pay3 (F := Ideal) v (ix2 r 0) = ((rs (x r) : ℝ) : EReal) := by
  pointwise [k0_pay3]
  rw [ms_coe (x r) _ (hx r), rsqrt_ms]

theorem pay_xh (r : Fin 512) (d : Fin 1024) : k0_pay4 (F := Ideal) v (ix2 r d) = ((x r d * rs (x r) : ℝ) : EReal) := by
  pointwise [k0_pay4]
  rw [hx, pay_rs hx, EReal.coe_mul]

variable {dh res : Fin 512 → Fin 1024 → ℝ} {g : Fin 1024 → ℝ}
variable {a b : Vec Ideal S1x512x2816 .bf16} {p q : Vec Ideal S2816x1024 .bf16}
  (hd : ∀ r d, k0_pay2 (F := Ideal) a p b q (ix2 r d) = ((dh r d : ℝ) : EReal))
include hd

theorem pay_dx {w : Vec Ideal S1x1024 .f32} (hg : ∀ d, w (ix2 0 d) = ((g d : ℝ) : EReal))
    {u : Vec Ideal S512x1024 .f32} (hr : ∀ r d, u (ix2 r d) = ((res r d : ℝ) : EReal)) (r : Fin 512) (d : Fin 1024) :
    k0_pay1 (F := Ideal) (k0_pay2 a p b q) (k0_pay3 v) (k0_pay4 v) w u (ix2 r d)
      = ((dx (res r) (dh r) g (x r) d : ℝ) : EReal) := by
  pointwise [k0_pay1]
  simp only [hd, hg, hr, pay_rs hx, pay_xh hx, n_f32, ← EReal.coe_mul, coe_sum]
  rw [div_real _ (by norm_num), ← EReal.coe_mul, ← EReal.coe_sub, ← EReal.coe_mul, ← EReal.coe_add]
  rfl

theorem pay_dg (acc : Vec Ideal S1x1024 .f32) (d : Fin 1024) :
    k0_pay6 (F := Ideal) a p b q v acc (ix2 0 d)
      = acc (ix2 0 d) + ((∑ r, dh r d * (x r d * rs (x r)) : ℝ) : EReal) := by
  pointwise [k0_pay6]
  simp only [hd, pay_xh hx, ← EReal.coe_mul, coe_sum]

end Payloads

/-- The sum of the two parts' products. -/
theorem pay_dh (a b : Vec Ideal S1x512x2816 .bf16) (p q : Vec Ideal S2816x1024 .bf16) (r : Fin 512) (d : Fin 1024) :
    k0_pay2 (F := Ideal) a p b q (ix2 r d) = ∑ f, a (ix3 0 r f) * p (ix2 f d) + ∑ f, b (ix3 0 r f) * q (ix2 f d) := by
  pointwise [k0_pay2]

theorem pay_zero (d : Fin 1024) : (k0_pay5 (F := Ideal) : Vec Ideal S1x1024 .f32) (ix2 0 d) = 0 := by
  pointwise [k0_pay5]

/-- The arrays of the call as real functions. -/
structure Arrays where
  DU : Fin 2 → Fin 8192 → Fin 2816 → ℝ
  W : Fin 1024 → Fin 5632 → ℝ
  X : Fin 8192 → Fin 1024 → ℝ
  G : Fin 1024 → ℝ
  R : Fin 8192 → Fin 1024 → ℝ

namespace Arrays

variable (A : Arrays)

/-- The gradient of the normalised rows. -/
def dh (t : Fin 8192) (d : Fin 1024) : ℝ :=
  ∑ f : Fin 2816, A.DU 0 t f * A.W d ⟨f.val, by omega⟩ + ∑ f : Fin 2816, A.DU 1 t f * A.W d ⟨2816 + f.val, by omega⟩

/-- The two results. -/
def dx (t : Fin 8192) (d : Fin 1024) : ℝ := Norm.dx (A.R t) (A.dh t) A.G (A.X t) d
def dg (d : Fin 1024) : ℝ := ∑ t, A.dh t d * (A.X t d * rs (A.X t))

/-- The buffers hold these finite values. -/
structure Of (a0 : Vec Ideal S2x8192x2816 .bf16) (a1 : Vec Ideal S1024x5632 .f32) (a2 : Vec Ideal S8192x1024 .f32)
    (a3 : Vec Ideal S1x1024 .f32) (a4 : Vec Ideal S8192x1024 .f32) : Prop where
  h0 : ∀ p t f, a0 (ix3 p t f) = ((A.DU p t f : ℝ) : EReal)
  h1 : ∀ d f, a1 (ix2 d f) = ((A.W d f : ℝ) : EReal)
  h2 : ∀ t d, a2 (ix2 t d) = ((A.X t d : ℝ) : EReal)
  h3 : ∀ d, a3 (ix2 0 d) = ((A.G d : ℝ) : EReal)
  h4 : ∀ t d, a4 (ix2 t d) = ((A.R t d : ℝ) : EReal)

/-- Row `r` of row block `b`. -/
abbrev row (b : Fin 16) (r : Fin 512) : Fin 8192 := ⟨b.val * 512 + r.val, by omega⟩

end Arrays

/-- The two results as arrays. -/
def outX (A : Arrays) : Vec Ideal S8192x1024 .f32 := fun y => ((A.dx (y 0) (y 1) : ℝ) : EReal)
def outG (A : Arrays) : Vec Ideal S1x1024 .f32 := fun y => ((A.dg (y 1) : ℝ) : EReal)

end Cert.Up
-- ==== Proof.UpPoint.lean ====
module

public import proofs.«01_k».proof.Proof.UpPay

/-!
# The kernel's results

Grid point `t` computes row block `t` of the gradient, and adds the block's rows to the gradient of the norm's weight,
which the last point writes back.
-/

@[expose] public section

noncomputable section

namespace Cert.Up

open Cert.Kernel2Ideal Cert.Kernel2Ideal.Gen Idealize.ShloMosaic Idealize.ShloMosaic.TcCoe Idealize.SL.Sem
open Cert.Norm Cert.Ffn

abbrev rb (t : Fin cfg0.N) : Fin 16 := ⟨t.val, by have : cfg0.N = 16 := N_0; omega⟩

theorem idx : ∀ t : Fin cfg0.N,
    win0_0.index t 0 = 0 ∧ win0_0.index t 1 = t.val ∧ win0_0.index t 2 = 0
    ∧ win0_1.index t 0 = 1 ∧ win0_1.index t 1 = t.val ∧ win0_1.index t 2 = 0
    ∧ win0_2.index t 0 = 0 ∧ win0_2.index t 1 = 0 ∧ win0_3.index t 0 = 1 ∧ win0_3.index t 1 = 0
    ∧ win0_4.index t 0 = t.val ∧ win0_4.index t 1 = 0 ∧ win0_5.index t 0 = 0 ∧ win0_5.index t 1 = 0
    ∧ win0_6.index t 0 = t.val ∧ win0_6.index t 1 = 0 ∧ win0_7.index t 0 = t.val ∧ win0_7.index t 1 = 0
    ∧ win0_8.index t 0 = 0 ∧ win0_8.index t 1 = 0 :=
  (by decide +kernel : ∀ t : Fin grid0.N, _)

section Blocks

variable (m : (ℓ : Loc nD τ sig) → Buf (Elt Ideal) ℓ) (c : Dev nD) (t : Fin cfg0.N)

theorem blk0 (r : Fin 512) (f : Fin 2816) : (iblk m c 0 t : Vec Ideal S1x512x2816 .bf16) (ix3 0 r f)
    = m ((c : Thread nD τ).loc main_arg0) (ix3 0 (Arrays.row (rb t) r) f) := by
  blk_ext! [iblk, V, idx t]

theorem blk1 (r : Fin 512) (f : Fin 2816) : (iblk m c 1 t : Vec Ideal S1x512x2816 .bf16) (ix3 0 r f)
    = m ((c : Thread nD τ).loc main_arg0) (ix3 1 (Arrays.row (rb t) r) f) := by
  blk_ext! [iblk, V, idx t]

theorem blk2 (f : Fin 2816) (d : Fin 1024) : (iblk m c 2 t : Vec Ideal S2816x1024 .bf16) (ix2 f d)
    = m ((c : Thread nD τ).loc main_arg1) (ix2 d ⟨f.val, by omega⟩) := by
  blk_simp [iblk, idx t]
  entry_read
  pointwise
  blk_ext [idx t]

theorem blk3 (f : Fin 2816) (d : Fin 1024) : (iblk m c 3 t : Vec Ideal S2816x1024 .bf16) (ix2 f d)
    = m ((c : Thread nD τ).loc main_arg1) (ix2 d ⟨2816 + f.val, by omega⟩) := by
  blk_simp [iblk, idx t]
  entry_read
  pointwise
  blk_ext [idx t]

theorem blk4 (r : Fin 512) (d : Fin 1024) : (iblk m c 4 t : Vec Ideal S512x1024 .f32) (ix2 r d)
    = m ((c : Thread nD τ).loc main_arg2) (ix2 (Arrays.row (rb t) r) d) := by
  blk_ext! [iblk, V, idx t]

theorem blk5 (d : Fin 1024) : (iblk m c 5 t : Vec Ideal S1x1024 .f32) (ix2 0 d)
    = m ((c : Thread nD τ).loc main_arg3) (ix2 0 d) := by
  blk_ext! [iblk, V, idx t]

theorem blk6 (r : Fin 512) (d : Fin 1024) : (iblk m c 6 t : Vec Ideal S512x1024 .f32) (ix2 r d)
    = m ((c : Thread nD τ).loc main_arg4) (ix2 (Arrays.row (rb t) r) d) := by
  blk_ext! [iblk, V, idx t]

end Blocks

variable {m : (ℓ : Loc nD τ sig) → Buf (Elt Ideal) ℓ} {c : Dev nD} {A : Arrays}
  (H : A.Of (m ((c : Thread nD τ).loc main_arg0)) (m ((c : Thread nD τ).loc main_arg1)) (m ((c : Thread nD τ).loc main_arg2))
    (m ((c : Thread nD τ).loc main_arg3)) (m ((c : Thread nD τ).loc main_arg4)))
include H

theorem dh_blk (t : Fin cfg0.N) (r : Fin 512) (d : Fin 1024) :
    k0_pay2 (F := Ideal) (iblk m c 0 t) (iblk m c 2 t) (iblk m c 1 t) (iblk m c 3 t) (ix2 r d)
      = ((A.dh (Arrays.row (rb t) r) d : ℝ) : EReal) := by
  rw [pay_dh]
  simp only [blk0, blk1, blk2, blk3, H.h0, H.h1, ← EReal.coe_mul, coe_sum, ← EReal.coe_add]
  rfl

theorem x_blk (t : Fin cfg0.N) (r : Fin 512) (d : Fin 1024) :
    (iblk m c 4 t : Vec Ideal S512x1024 .f32) (ix2 r d) = ((A.X (Arrays.row (rb t) r) d : ℝ) : EReal) := by
  rw [blk4, H.h2]

theorem left_dx (t : Fin cfg0.N) (r : Fin 512) (d : Fin 1024) :
    (outsAt0 m c t.val t.isLt).1 (ix2 r d) = ((A.dx (Arrays.row (rb t) r) d : ℝ) : EReal) := by
  have e := pay_dx (x_blk H t) (dh_blk H t) (w := iblk m c 5 t) (fun d => (blk5 m c t d).trans (H.h3 d))
    (u := iblk m c 6 t) (fun r d => (blk6 m c t r d).trans (H.h4 _ d)) r d
  by_cases h : t.val % 16 = 0
  · rw [outsAt0_A m c t h]; frame_out; exact e
  · rw [outsAt0_B m c t h]; frame_out; exact e

theorem arr7 : (dats m 0 c).arrAt 7 cfg0.N = outX A := by
  refine (dats m 0 c).arrAt_eq_of_covers 7 (outX A) (by decide +kernel) fun t hf y => ?_
  blk_simp
  rw [after0_7]
  obtain ⟨r, d, rfl⟩ : ∃ (r : Fin 512) (d : Fin 1024), y = ix2 r d := ⟨y 0, y 1, eq_ix2 y⟩
  refine (left_dx H t r d).trans ?_
  show outX A (ix2 (Arrays.row (rb t) r) d) = _
  blk_ext [idx t]

theorem left_dg (t : Fin cfg0.N) (ht : t.val + 1 = cfg0.N) (d : Fin 1024) :
    (outsAt0 m c t.val t.isLt).2 (ix2 0 d) = ((A.dg d : ℝ) : EReal) := by
  rw [Pipeline.eq_sum_fin_of_reset_step_apply_last (fun n h => (outsAt0 m c n h).2) 16 (fun _ => 0)
    (fun t y => ((∑ r : Fin 512, A.dh (Arrays.row (rb t) r) (y 1) * (A.X (Arrays.row (rb t) r) (y 1) * rs (A.X (Arrays.row (rb t) r))) : ℝ) : EReal))
    (fun t h y => by
      obtain ⟨d, rfl⟩ : ∃ d : Fin 1024, y = ix2 0 d := ⟨y 1, (eq_ix2 y).trans (by congr 1; exact Subsingleton.elim (α := Fin 1) _ _)⟩
      rw [outsAt0_A m c t h]; frame_out
      rw [pay_dg (x_blk H t) (dh_blk H t), pay_zero]
      rfl)
    (fun t h y => by
      obtain ⟨d, rfl⟩ : ∃ d : Fin 1024, y = ix2 0 d := ⟨y 1, (eq_ix2 y).trans (by congr 1; exact Subsingleton.elim (α := Fin 1) _ _)⟩
      rw [outsAt0_B m c t h]; frame_out
      rw [pay_dg (x_blk H t) (dh_blk H t)]
      rfl)
    (le_of_eq N_0) t ht (ix2 0 d), zero_add]
  unfold Arrays.dg
  rw [← coe_sum (n := 8192)]
  simp only [← coe_sum (n := 512)]
  refine Fin.sum_mul_add_congr (S := 16) (n := 512) (L := 8192) ?_
  intro s k hl
  rfl

theorem arr8 : (dats m 0 c).arrAt 8 cfg0.N = outG A := by
  refine (dats m 0 c).arrAt_eq_of_covers 8 (outG A) (by decide +kernel) fun t hf y => ?_
  have h15 := (by decide +kernel : ∀ t : Fin grid0.N, win0_8.flush t = true → t.val + 1 = grid0.N) t hf
  blk_simp
  rw [after0_8]
  obtain ⟨d, rfl⟩ : ∃ d : Fin 1024, y = ix2 0 d := ⟨y 1, (eq_ix2 y).trans (by congr 1; exact Subsingleton.elim (α := Fin 1) _ _)⟩
  refine (left_dg H t h15 d).trans ?_
  show outG A (ix2 0 d) = _
  blk_ext [idx t]

end Cert.Up
-- ==== Proof.UpRef.lean ====
module

public import proofs.«01_k».proof.Proof.UpPay
public import proofs.«01_k».proof.Proof.Gen.Reference2Ideal.Read

/-!
# The reference's results
-/

@[expose] public section

noncomputable section

namespace Cert.Up

open Cert.Reference2Ideal Cert.Reference2Ideal.Gen Cert.Reference2Ideal.Read Idealize.ShloMosaic
open Cert.Norm Cert.Ffn

variable {a0 : Vec Ideal S2x8192x2816 .bf16} {a1 : Vec Ideal S1024x5632 .f32} {a2 : Vec Ideal S8192x1024 .f32}
    {a3 : Vec Ideal S1x1024 .f32} {a4 : Vec Ideal S8192x1024 .f32} {A : Arrays} (H : A.Of a0 a1 a2 a3 a4)
include H

theorem ref_ms (t : Fin 8192) : val_main_v6 (F := Ideal) a2 (ix2 t 0) = ((ms (A.X t) : ℝ) : EReal) := by
  pointwise [val_main_v6, val_main_v5, val_main_v4, val_main_v3, val_main_v2, val_main_v1, val_main_v0, val_main_cst,
    val_main_cst_0, val_main_cst_1]
  exact ms_coe (A.X t) _ (H.h2 t)

theorem ref_rs (t : Fin 8192) : val_main_v7 (F := Ideal) a2 (ix2 t 0) = ((rs (A.X t) : ℝ) : EReal) := by
  pointwise [val_main_v7]
  rw [ref_ms H, rsqrt_ms]

theorem ref_slope (t : Fin 8192) :
    val_main_v10 (F := Ideal) a2 (ix2 t 0) = ((-1 / 2 * (rs (A.X t) / ms (A.X t)) : ℝ) : EReal) := by
  pointwise [val_main_v10, val_main_v9, val_main_v8, val_main_cst_2]
  rw [ref_ms H, ref_rs H, neg_half_f32, div_real _ (ms_pos _).ne', EReal.coe_mul]

theorem ref_dh (t : Fin 8192) (d : Fin 1024) : val_main_v27 (F := Ideal) a0 a1 (ix2 t d) = ((A.dh t d : ℝ) : EReal) := by
  pointwise [val_main_v27, val_main_v26, val_main_v25, val_main_v24, val_main_v23, val_main_v22, val_main_v21]
  simp only [H.h0, H.h1, ← EReal.coe_mul, coe_sum, ← EReal.coe_add]
  rfl

theorem ref_dg (d : Fin 1024) : val_main_v30 (F := Ideal) a0 a1 a2 (ix2 0 d) = ((A.dg d : ℝ) : EReal) := by
  pointwise [val_main_v30, val_main_v29, val_main_v28, val_main_v12, val_main_v11, val_main_cst_3]
  unfold Arrays.dg
  rw [← coe_sum]
  refine Finset.sum_congr rfl fun t _ => ?_
  rw [ref_rs H, ref_dh H, H.h2, ← EReal.coe_mul, ← EReal.coe_mul, mul_comm]

theorem ref_proj (t : Fin 8192) :
    val_main_v35 (F := Ideal) a0 a1 a2 a3 (ix2 t 0) = ((∑ k, A.X t k * (A.dh t k * A.G k) : ℝ) : EReal) := by
  pointwise [val_main_v35, val_main_v34, val_main_v33, val_main_v32, val_main_v31, val_main_cst_4]
  simp only [ref_dh H, H.h2, H.h3, ← EReal.coe_mul, coe_sum]

theorem ref_dx (t : Fin 8192) (d : Fin 1024) :
    val_main_v47 (F := Ideal) a0 a1 a2 a3 a4 (ix2 t d) = ((A.dx t d : ℝ) : EReal) := by
  pointwise [val_main_v47, val_main_v46, val_main_v45, val_main_v44, val_main_v43, val_main_v42, val_main_v41,
    val_main_v40, val_main_v39, val_main_v38, val_main_v37, val_main_v36, val_main_v32, val_main_v31, val_main_cst_5,
    val_main_cst_6]
  simp only [Fin.sum_univ_one, ref_proj H, ref_slope H, ref_rs H, ref_dh H, H.h2, H.h3, H.h4, n_f32, ← EReal.coe_mul]
  rw [div_real _ (by norm_num)]
  simp only [← EReal.coe_mul, ← EReal.coe_add]
  congr 1
  exact dx_eq (A.R t) (A.dh t) A.G (A.X t) d

theorem ref_outX : val_main_v47 (F := Ideal) a0 a1 a2 a3 a4 = outX A :=
  funext fun y => (congrArg _ (eq_ix2 y)).trans (ref_dx H (y 0) (y 1))

theorem ref_outG : val_main_v30 (F := Ideal) a0 a1 a2 = outG A :=
  funext fun y => (congrArg _ ((eq_ix2 y).trans (by congr 1; exact Subsingleton.elim (α := Fin 1) _ _))).trans (ref_dg H (y 1))

end Cert.Up
-- ==== Proof.UpClaim.lean ====
module

public import proofs.«01_k».proof.Proof.UpPoint
public import proofs.«01_k».proof.Proof.UpRef
public import proofs.«01_k».proof.Proof.Gen.Reference2Ideal.Run
public import proofs.«01_k».proof.Proof.Gen.Pre_up_finite
public import proofs.«01_k».proof.Defs

/-!
# The gradient of the up projection: the kernel and the reference agree
-/

@[expose] public section

noncomputable section

namespace Cert.Up

open Idealize.ShloMosaic Idealize.ShloMosaic.TcCoe Idealize.SL.Sem Cert.Ffn

open Cert.Kernel2Ideal in
/-- The real arrays that finite buffers hold. -/
def reals (a0 : Vec Ideal S2x8192x2816 .bf16) (a1 : Vec Ideal S1024x5632 .f32) (a2 : Vec Ideal S8192x1024 .f32)
    (a3 : Vec Ideal S1x1024 .f32) (a4 : Vec Ideal S8192x1024 .f32) : Arrays where
  DU p t f := (a0 (ix3 p t f) : EReal).toReal
  W d f := (a1 (ix2 d f) : EReal).toReal
  X t d := (a2 (ix2 t d) : EReal).toReal
  G d := (a3 (ix2 0 d) : EReal).toReal
  R t d := (a4 (ix2 t d) : EReal).toReal

section Finite

open Cert.Kernel2Ideal
open Cert.Pre_up_finite (fn)

theorem reals_of (a0 : Vec Ideal S2x8192x2816 .bf16) (a1 : Vec Ideal S1024x5632 .f32) (a2 : Vec Ideal S8192x1024 .f32)
    (a3 : Vec Ideal S1x1024 .f32) (a4 : Vec Ideal S8192x1024 .f32)
    (h0 : (fn (F := Ideal) a0 a1 a2 a3 a4).1 = fun _ => 1#1) (h1 : (fn (F := Ideal) a0 a1 a2 a3 a4).2.1 = fun _ => 1#1)
    (h2 : (fn (F := Ideal) a0 a1 a2 a3 a4).2.2.1 = fun _ => 1#1) (h3 : (fn (F := Ideal) a0 a1 a2 a3 a4).2.2.2.1 = fun _ => 1#1)
    (h4 : (fn (F := Ideal) a0 a1 a2 a3 a4).2.2.2.2 = fun _ => 1#1) : (reals a0 a1 a2 a3 a4).Of a0 a1 a2 a3 a4 where
  h0 p t f := by
    have h := congrFun h0 (ix3 p t f)
    pointwise [fn] at h
    exact real_of_bit h
  h1 d f := by
    have h := congrFun h1 (ix2 d f)
    pointwise [fn] at h
    exact real_of_bit h
  h2 t d := by
    have h := congrFun h2 (ix2 t d)
    pointwise [fn] at h
    exact real_of_bit h
  h3 d := by
    have h := congrFun h3 (ix2 0 d)
    pointwise [fn] at h
    exact real_of_bit h
  h4 t d := by
    have h := congrFun h4 (ix2 t d)
    pointwise [fn] at h
    exact real_of_bit h

end Finite

/-- The reference ends, leaves its arguments unchanged, and has no semaphores. -/
theorem ref_frame : Cert.quiescent_Reference2Ideal := fun m g _ =>
  (θ_run (Cert.Reference2Ideal.defs (F := Ideal)) _ _).mono
    (fun r h => And.intro (fun c => (h c).2.2) (sem_eq_zero_of_no_sems (by rfl) r.2))
    (Cert.Reference2Ideal.Value.run (F := Ideal) m g)

theorem algebraic : Cert.algebraic_Kernel2Ideal_Reference2Ideal_pre_up_finite := by
  intro m g m' g' hp heq
  let A := fun c : Dev Cert.Kernel2Ideal.nD => reals (m ((c : Thread Cert.Kernel2Ideal.nD Cert.Kernel2Ideal.τ).loc Cert.Kernel2Ideal.main_arg0))
    (m ((c : Thread Cert.Kernel2Ideal.nD Cert.Kernel2Ideal.τ).loc Cert.Kernel2Ideal.main_arg1))
    (m ((c : Thread Cert.Kernel2Ideal.nD Cert.Kernel2Ideal.τ).loc Cert.Kernel2Ideal.main_arg2))
    (m ((c : Thread Cert.Kernel2Ideal.nD Cert.Kernel2Ideal.τ).loc Cert.Kernel2Ideal.main_arg3))
    (m ((c : Thread Cert.Kernel2Ideal.nD Cert.Kernel2Ideal.τ).loc Cert.Kernel2Ideal.main_arg4))
  have H := fun c => reals_of _ _ _ _ _ (hp c).1 (hp c).2.1 (hp c).2.2.1 (hp c).2.2.2.1 (hp c).2.2.2.2
  refine ⟨fun c => outX (A c), fun c => outG (A c), ?_, ?_⟩
  · refine (θ_run _ _ _).mono (fun r h c => ?_) (Cert.Kernel2Ideal.Value.run_blocks (F := Ideal) m g)
    obtain ⟨h7, h8, hk⟩ := h c
    exact ⟨h7.trans (arr7 (H c)), h8.trans (arr8 (H c)), hk⟩
  · refine (θ_run _ _ _).mono (fun r h c => ?_) (Cert.Reference2Ideal.Value.run (F := Ideal) m' g')
    obtain ⟨h7, h8, hk⟩ := h c
    obtain ⟨e0, e1, e2, e3, e4⟩ := heq c
    refine ⟨h7.trans ?_, h8.trans ?_, hk⟩
    · rw [Cert.Reference2Ideal.Read.val_main_v47_eq, e0, e1, e2, e3, e4]; exact ref_outX (H c)
    · rw [Cert.Reference2Ideal.Read.val_main_v30_eq, e0, e1, e2]; exact ref_outG (H c)

end Cert.Up
-- ==== Proof.UpGrad.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Point
public import Idealize.ShloMosaic.Lib.Pipeline.ValueKit.Acc
public import proofs.«01_k».proof.Defs

/-!
# The gradient of the up projection's weight

The gradient entering the two halves of the up projection is one array with the half as its first coordinate. Grid point
`t` adds the products of 2048 rows to 1408 rows of the gradient; four points make one block, and the last of them writes
it back. Sums of extended reals commute, so nothing need be finite.
-/

@[expose] public section

noncomputable section

namespace Cert.UpGrad

open Cert.Kernel3Ideal Cert.Kernel3Ideal.Gen Idealize.ShloMosaic Idealize.ShloMosaic.TcCoe Idealize.SL.Sem

theorem pay_zero (f : Fin 1408) (d : Fin 1024) : (k0_pay1 (F := Ideal) : Vec Ideal S1408x1024 .f32) (ix2 f d) = 0 := by
  pointwise [k0_pay1]

/-- The products of one point's rows, summed. -/
def part (a : Vec Ideal S1x2048x1408 .bf16) (b : Vec Ideal S2048x1024 .bf16) (f : Fin 1408) (d : Fin 1024) : EReal :=
  ∑ r : Fin 2048, a (ix3 0 r f) * b (ix2 r d)

theorem pay_acc (acc : Vec Ideal S1408x1024 .f32) (a : Vec Ideal S1x2048x1408 .bf16) (b : Vec Ideal S2048x1024 .bf16)
    (f : Fin 1408) (d : Fin 1024) :
    k0_pay2 (F := Ideal) acc a b (ix2 f d) = acc (ix2 f d) + part a b f d := by
  pointwise [k0_pay2]
  rfl

theorem pay_out (v : Vec Ideal S1408x1024 .f32) (y : S1408x1024.Idx) : k0_pay3 (F := Ideal) v y = v y := rfl

theorem idx : ∀ t : Fin cfg0.N,
    win0_0.index t 0 = t.val / 8 ∧ win0_0.index t 1 = t.val % 4 ∧ win0_0.index t 2 = t.val / 4 % 2 ∧ win0_1.index t 0 = t.val % 4 ∧ win0_1.index t 1 = 0
    ∧ win0_2.index t 0 = t.val / 4 ∧ win0_2.index t 1 = 0 :=
  (by decide +kernel : ∀ t : Fin grid0.N, _)

/-- The half of the up projection that a row of the gradient belongs to, and the column of that half. -/
abbrev half (j : Fin 5632) : Fin 2 := ⟨j.val / 2816, by omega⟩
abbrev col (j : Fin 5632) : Fin 2816 := ⟨j.val % 2816, by omega⟩

/-- The result as an array: the sum over all rows of the products. -/
def out (a : Vec Ideal S2x8192x2816 .bf16) (b : Vec Ideal S8192x1024 .bf16) : Vec Ideal S5632x1024 .bf16 :=
  fun y => ∑ t : Fin 8192, (a (ix3 (half (y 0)) t (col (y 0))) * b (ix2 t (y 1)) : EReal)

section Points

variable (m : (ℓ : Loc nD τ sig) → Buf (Elt Ideal) ℓ) (c : Dev nD)

theorem blk0 (t : Fin cfg0.N) (r : Fin 2048) (f : Fin 1408) : (iblk m c 0 t : Vec Ideal S1x2048x1408 .bf16) (ix3 0 r f)
    = m ((c : Thread nD τ).loc main_arg0) (ix3 ⟨t.val / 8, by have : cfg0.N = 16 := N_0; omega⟩
        ⟨t.val % 4 * 2048 + r.val, by omega⟩ ⟨t.val / 4 % 2 * 1408 + f.val, by omega⟩) := by
  blk_ext! [iblk, V, idx t]

theorem blk1 (t : Fin cfg0.N) (r : Fin 2048) (d : Fin 1024) : (iblk m c 1 t : Vec Ideal S2048x1024 .bf16) (ix2 r d)
    = m ((c : Thread nD τ).loc main_arg1) (ix2 ⟨t.val % 4 * 2048 + r.val, by omega⟩ d) := by
  blk_ext! [iblk, V, idx t]

/-- Point `s` of the four that make the block of point `t`. -/
abbrev run (t : Fin cfg0.N) (s : Fin 4) : Fin cfg0.N :=
  ⟨4 * (t.val / 4) + s.val, by have : cfg0.N = 16 := N_0; have := t.isLt; omega⟩

theorem scratch (t : Fin cfg0.N) (h : t.val % 4 = 3) (f : Fin 1408) (d : Fin 1024) :
    (outsAt0 m c t.val t.isLt).2 (ix2 f d)
      = ∑ s : Fin 4, part (iblk m c 0 (run t s)) (iblk m c 1 (run t s)) f d := by
  rw [Pipeline.eq_sum_fin_of_reset_step_apply_of_flush (fun n h => (outsAt0 m c n h).2) 4 (fun _ => 0)
    (fun t y => part (iblk m c 0 t) (iblk m c 1 t) (y 0) (y 1))
    (fun t h y => by
      obtain ⟨f, d, rfl⟩ : ∃ (f : Fin 1408) (d : Fin 1024), y = ix2 f d := ⟨y 0, y 1, eq_ix2 y⟩
      rw [outsAt0_A m c t h (by omega)]; frame_out
      rw [pay_acc, pay_zero]
      rfl)
    (fun t h y => by
      obtain ⟨f, d, rfl⟩ : ∃ (f : Fin 1408) (d : Fin 1024), y = ix2 f d := ⟨y 0, y 1, eq_ix2 y⟩
      by_cases h3 : t.val % 4 = 3
      · rw [outsAt0_C m c t h h3]; frame_out
        rw [pay_acc]
        exact congrArg (· + _) (congrFun (Memref.IsWhole.read_unread (Memref.isWhole_whole cc0_scratch0) _) _)
      · rw [outsAt0_B m c t h h3]; frame_out
        rw [pay_acc]
        exact congrArg (· + _) (congrFun (Memref.IsWhole.read_unread (Memref.isWhole_whole cc0_scratch0) _) _))
    t h (ix2 f d), zero_add]
  rfl

/-- The last point of a block writes back what it accumulated. -/
theorem written (t : Fin cfg0.N) (h : t.val % 4 = 3) (y : S1408x1024.Idx) :
    (outsAt0 m c t.val t.isLt).1 y = (outsAt0 m c t.val t.isLt).2 y := by
  rw [outsAt0_C m c t (by omega) h]; frame_out
  exact pay_out _ _

theorem arr : (dats m 0 c).arrAt 2 cfg0.N
    = out (m ((c : Thread nD τ).loc main_arg0)) (m ((c : Thread nD τ).loc main_arg1)) := by
  refine (dats m 0 c).arrAt_eq_of_covers 2 (out (m ((c : Thread nD τ).loc main_arg0)) (m ((c : Thread nD τ).loc main_arg1)))
    (by decide +kernel) fun t hf y => ?_
  have h3 := (by decide +kernel : ∀ t : Fin grid0.N, win0_2.flush t = true → t.val % 4 = 3) t hf
  have hN : t.val < 16 := lt_of_lt_of_eq t.isLt N_0
  blk_simp
  rw [after0_2]
  obtain ⟨f, d, rfl⟩ : ∃ (f : Fin 1408) (d : Fin 1024), y = ix2 f d := ⟨y 0, y 1, eq_ix2 y⟩
  refine (written m c t h3 _).trans ((scratch m c t h3 f d).trans ?_)
  trans out (m ((c : Thread nD τ).loc main_arg0)) (m ((c : Thread nD τ).loc main_arg1)) (ix2 ⟨t.val / 4 * 1408 + f.val, by omega⟩ d)
  · refine Fin.sum_mul_add_congr (S := 4) (n := 2048) (L := 8192) ?_
    intro s r hl
    have h1 : (4 * (t.val / 4) + s.val) % 4 = s.val := by omega
    rw [blk0, blk1]
    congr 3
    · exact Fin.ext (by show (4 * (t.val / 4) + s.val) / 8 = (t.val / 4 * 1408 + f.val) / 2816; omega)
    · exact Fin.ext (by show (4 * (t.val / 4) + s.val) % 4 * 2048 + r.val = _; rw [h1])
    · exact Fin.ext (by
        show (4 * (t.val / 4) + s.val) / 4 % 2 * 1408 + f.val = (t.val / 4 * 1408 + f.val) % 2816
        omega)
    · exact Fin.ext (by show (4 * (t.val / 4) + s.val) % 4 * 2048 + r.val = _; rw [h1])
  · generalize out (m ((c : Thread nD τ).loc main_arg0)) (m ((c : Thread nD τ).loc main_arg1)) = G
    blk_ext [idx t]

end Points

open Cert.Reference3Ideal.Read in
theorem ref_out (a : Vec Ideal S2x8192x2816 .bf16) (b : Vec Ideal S8192x1024 .bf16) :
    val_main_v17 (F := Ideal) a b = out a b := by
  funext y
  obtain ⟨f, d, rfl⟩ : ∃ (f : Fin 5632) (d : Fin 1024), y = ix2 f d := ⟨y 0, y 1, eq_ix2 y⟩
  pointwise [val_main_v17, val_main_v16, val_main_v15, val_main_v14, val_main_v13, val_main_v12, val_main_v11,
    val_main_v10, val_main_v9, val_main_v8, val_main_v1]
  refine Finset.sum_congr rfl fun x _ => congrArg (· * b (ix2 x d)) ?_
  show _ = a (ix3 (half f) x (col f))
  by_cases hf : f.val < 2816
  · have e0 : half f = 0 := Fin.ext (Nat.div_eq_of_lt hf)
    have e1 : col f = ⟨f.val, hf⟩ := Fin.ext (Nat.mod_eq_of_lt hf)
    rw [dif_pos hf, e0, e1]
  · have e0 : half f = 1 := Fin.ext (by show f.val / 2816 = 1; omega)
    have e1 : col f = ⟨f.val - 2816, by omega⟩ := Fin.ext (by show f.val % 2816 = f.val - 2816; omega)
    rw [dif_neg hf, e0, e1]

/-- The reference ends, leaves its arguments unchanged, and has no semaphores. -/
theorem ref_frame : Cert.quiescent_Reference3Ideal := fun m g _ =>
  (θ_run (Cert.Reference3Ideal.defs (F := Ideal)) _ _).mono
    (fun r h => And.intro (fun c => (h c).2) (sem_eq_zero_of_no_sems (by rfl) r.2))
    (Cert.Reference3Ideal.Value.run (F := Ideal) m g)

theorem algebraic : Cert.algebraic_Kernel3Ideal_Reference3Ideal := by
  intro m g m' g' _ heq
  refine ⟨fun c => out (m ((c : Thread nD τ).loc main_arg0)) (m ((c : Thread nD τ).loc main_arg1)), ?_, ?_⟩
  · refine (θ_run _ _ _).mono (fun r h c => ?_) (Cert.Kernel3Ideal.Value.run_blocks (F := Ideal) m g)
    exact ⟨(h c).1.trans (arr m c), (h c).2⟩
  · refine (θ_run _ _ _).mono (fun r h c => ?_) (Cert.Reference3Ideal.Value.run (F := Ideal) m' g')
    obtain ⟨e0, e1⟩ := heq c
    refine ⟨(h c).1.trans ?_, (h c).2⟩
    rw [Cert.Reference3Ideal.Read.val_main_v17_eq, e0, e1]
    exact ref_out _ _

end Cert.UpGrad
-- ==== Proof.DownGrad.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Point
public import Idealize.ShloMosaic.Lib.Pipeline.ValueKit.Acc
public import proofs.«01_k».proof.Defs

/-!
# The gradient of the down projection's weight

Grid point `t` adds the products of 2048 rows to 1408 rows of the gradient; four points make one block, and the last of
them writes it back. Sums of extended reals commute, so nothing need be finite.
-/

@[expose] public section

noncomputable section

namespace Cert.DownGrad

open Cert.Kernel4Ideal Cert.Kernel4Ideal.Gen Idealize.ShloMosaic Idealize.ShloMosaic.TcCoe Idealize.SL.Sem

theorem pay_zero (f : Fin 1408) (d : Fin 1024) : (k0_pay1 (F := Ideal) : Vec Ideal S1408x1024 .f32) (ix2 f d) = 0 := by
  pointwise [k0_pay1]

/-- The products of one point's rows, summed. -/
def part (a : Vec Ideal S2048x1408 .bf16) (b : Vec Ideal S2048x1024 .f32) (f : Fin 1408) (d : Fin 1024) : EReal :=
  ∑ r : Fin 2048, a (ix2 r f) * b (ix2 r d)

theorem pay_acc (acc : Vec Ideal S1408x1024 .f32) (a : Vec Ideal S2048x1408 .bf16) (b : Vec Ideal S2048x1024 .f32)
    (f : Fin 1408) (d : Fin 1024) :
    k0_pay2 (F := Ideal) acc a b (ix2 f d) = acc (ix2 f d) + part a b f d := by
  pointwise [k0_pay2]
  rfl

theorem pay_out (v : Vec Ideal S1408x1024 .f32) (y : S1408x1024.Idx) : k0_pay3 (F := Ideal) v y = v y := rfl

theorem idx : ∀ t : Fin cfg0.N,
    win0_0.index t 0 = t.val % 4 ∧ win0_0.index t 1 = t.val / 4 ∧ win0_1.index t 0 = t.val % 4 ∧ win0_1.index t 1 = 0
    ∧ win0_2.index t 0 = t.val / 4 ∧ win0_2.index t 1 = 0 :=
  (by decide +kernel : ∀ t : Fin grid0.N, _)

/-- The result as an array: the sum over all rows of the products. -/
def out (a : Vec Ideal S8192x2816 .bf16) (b : Vec Ideal S8192x1024 .f32) : Vec Ideal S2816x1024 .bf16 :=
  fun y => ∑ t : Fin 8192, (a (ix2 t (y 0)) * b (ix2 t (y 1)) : EReal)

section Points

variable (m : (ℓ : Loc nD τ sig) → Buf (Elt Ideal) ℓ) (c : Dev nD)

theorem blk0 (t : Fin cfg0.N) (r : Fin 2048) (f : Fin 1408) : (iblk m c 0 t : Vec Ideal S2048x1408 .bf16) (ix2 r f)
    = m ((c : Thread nD τ).loc main_arg0) (ix2 ⟨t.val % 4 * 2048 + r.val, by omega⟩
        ⟨t.val / 4 * 1408 + f.val, by have : cfg0.N = 8 := N_0; omega⟩) := by
  blk_ext! [iblk, V, idx t]

theorem blk1 (t : Fin cfg0.N) (r : Fin 2048) (d : Fin 1024) : (iblk m c 1 t : Vec Ideal S2048x1024 .f32) (ix2 r d)
    = m ((c : Thread nD τ).loc main_arg1) (ix2 ⟨t.val % 4 * 2048 + r.val, by omega⟩ d) := by
  blk_ext! [iblk, V, idx t]

/-- Point `s` of the four that make the block of point `t`. -/
abbrev run (t : Fin cfg0.N) (s : Fin 4) : Fin cfg0.N :=
  ⟨4 * (t.val / 4) + s.val, by have : cfg0.N = 8 := N_0; have := t.isLt; omega⟩

theorem scratch (t : Fin cfg0.N) (h : t.val % 4 = 3) (f : Fin 1408) (d : Fin 1024) :
    (outsAt0 m c t.val t.isLt).2 (ix2 f d)
      = ∑ s : Fin 4, part (iblk m c 0 (run t s)) (iblk m c 1 (run t s)) f d := by
  rw [Pipeline.eq_sum_fin_of_reset_step_apply_of_flush (fun n h => (outsAt0 m c n h).2) 4 (fun _ => 0)
    (fun t y => part (iblk m c 0 t) (iblk m c 1 t) (y 0) (y 1))
    (fun t h y => by
      obtain ⟨f, d, rfl⟩ : ∃ (f : Fin 1408) (d : Fin 1024), y = ix2 f d := ⟨y 0, y 1, eq_ix2 y⟩
      rw [outsAt0_A m c t h (by omega)]; frame_out
      rw [pay_acc, pay_zero]
      rfl)
    (fun t h y => by
      obtain ⟨f, d, rfl⟩ : ∃ (f : Fin 1408) (d : Fin 1024), y = ix2 f d := ⟨y 0, y 1, eq_ix2 y⟩
      by_cases h3 : t.val % 4 = 3
      · rw [outsAt0_C m c t h h3]; frame_out
        rw [pay_acc]
        exact congrArg (· + _) (congrFun (Memref.IsWhole.read_unread (Memref.isWhole_whole cc0_scratch0) _) _)
      · rw [outsAt0_B m c t h h3]; frame_out
        rw [pay_acc]
        exact congrArg (· + _) (congrFun (Memref.IsWhole.read_unread (Memref.isWhole_whole cc0_scratch0) _) _))
    t h (ix2 f d), zero_add]
  rfl

/-- The last point of a block writes back what it accumulated. -/
theorem written (t : Fin cfg0.N) (h : t.val % 4 = 3) (y : S1408x1024.Idx) :
    (outsAt0 m c t.val t.isLt).1 y = (outsAt0 m c t.val t.isLt).2 y := by
  rw [outsAt0_C m c t (by omega) h]; frame_out
  exact pay_out _ _

theorem arr : (dats m 0 c).arrAt 2 cfg0.N
    = out (m ((c : Thread nD τ).loc main_arg0)) (m ((c : Thread nD τ).loc main_arg1)) := by
  refine (dats m 0 c).arrAt_eq_of_covers 2 (out (m ((c : Thread nD τ).loc main_arg0)) (m ((c : Thread nD τ).loc main_arg1)))
    (by decide +kernel) fun t hf y => ?_
  have h3 := (by decide +kernel : ∀ t : Fin grid0.N, win0_2.flush t = true → t.val % 4 = 3) t hf
  have hN : t.val < 8 := lt_of_lt_of_eq t.isLt N_0
  blk_simp
  rw [after0_2]
  obtain ⟨f, d, rfl⟩ : ∃ (f : Fin 1408) (d : Fin 1024), y = ix2 f d := ⟨y 0, y 1, eq_ix2 y⟩
  refine (written m c t h3 _).trans ((scratch m c t h3 f d).trans ?_)
  trans out (m ((c : Thread nD τ).loc main_arg0)) (m ((c : Thread nD τ).loc main_arg1)) (ix2 ⟨t.val / 4 * 1408 + f.val, by omega⟩ d)
  · refine Fin.sum_mul_add_congr (S := 4) (n := 2048) (L := 8192) ?_
    intro s r hl
    have h1 : (4 * (t.val / 4) + s.val) % 4 = s.val := by omega
    have h2 : (4 * (t.val / 4) + s.val) / 4 = t.val / 4 := by omega
    rw [blk0, blk1]
    congr 3
    · exact Fin.ext (by show (4 * (t.val / 4) + s.val) % 4 * 2048 + r.val = _; rw [h1])
    · exact Fin.ext (by show (4 * (t.val / 4) + s.val) / 4 * 1408 + f.val = t.val / 4 * 1408 + f.val; rw [h2])
    · exact Fin.ext (by show (4 * (t.val / 4) + s.val) % 4 * 2048 + r.val = _; rw [h1])
  · generalize out (m ((c : Thread nD τ).loc main_arg0)) (m ((c : Thread nD τ).loc main_arg1)) = G
    blk_ext [idx t]

end Points

open Cert.Reference4Ideal.Read in
theorem ref_out (a : Vec Ideal S8192x2816 .bf16) (b : Vec Ideal S8192x1024 .f32) :
    val_main_v5 (F := Ideal) a b = out a b := by
  funext y
  obtain ⟨f, d, rfl⟩ : ∃ (f : Fin 2816) (d : Fin 1024), y = ix2 f d := ⟨y 0, y 1, eq_ix2 y⟩
  pointwise [val_main_v5, val_main_v4, val_main_v3, val_main_v1]
  exact Finset.sum_congr rfl fun t _ => mul_comm _ _

/-- The reference ends, leaves its arguments unchanged, and has no semaphores. -/
theorem ref_frame : Cert.quiescent_Reference4Ideal := fun m g _ =>
  (θ_run (Cert.Reference4Ideal.defs (F := Ideal)) _ _).mono
    (fun r h => And.intro (fun c => (h c).2) (sem_eq_zero_of_no_sems (by rfl) r.2))
    (Cert.Reference4Ideal.Value.run (F := Ideal) m g)

theorem algebraic : Cert.algebraic_Kernel4Ideal_Reference4Ideal := by
  intro m g m' g' _ heq
  refine ⟨fun c => out (m ((c : Thread nD τ).loc main_arg0)) (m ((c : Thread nD τ).loc main_arg1)), ?_, ?_⟩
  · refine (θ_run _ _ _).mono (fun r h c => ?_) (Cert.Kernel4Ideal.Value.run_blocks (F := Ideal) m g)
    exact ⟨(h c).1.trans (arr m c), (h c).2⟩
  · refine (θ_run _ _ _).mono (fun r h c => ?_) (Cert.Reference4Ideal.Value.run (F := Ideal) m' g')
    obtain ⟨e0, e1⟩ := heq c
    refine ⟨(h c).1.trans ?_, (h c).2⟩
    rw [Cert.Reference4Ideal.Read.val_main_v5_eq, e0, e1]
    exact ref_out _ _

end Cert.DownGrad
-- ==== Proof.PlePay.lean ====
module

public import proofs.«01_k».proof.Proof.Norm
public import proofs.«01_k».proof.Proof.Gen.Kernel5Ideal.Value

/-!
# What the loss head of a layer stores, one element at a time

The call computes the layer's last product, its gated embedding, the loss, and the gradients back to the layer's rows.
Every quantity of a row depends on that row only, so one set of definitions over `n` rows serves the whole arrays and
the blocks of 512 rows.
-/

@[expose] public section

noncomputable section

namespace Cert.Ple

open Cert.Kernel5Ideal Cert.Kernel5Ideal.Gen Idealize.ShloMosaic Idealize.ShloMosaic.TcCoe Idealize.SL.Sem
open Cert.Norm Cert.Ffn

/-- The arrays of the call as real functions, with `n` rows. -/
structure Arrays (n : ℕ) where
  X1 : Fin n → Fin 1024 → ℝ
  F : Fin n → Fin 2816 → ℝ
  WD : Fin 2816 → Fin 1024 → ℝ
  G : Fin 1024 → ℝ
  WG : Fin 1024 → Fin 1024 → ℝ
  P : Fin n → Fin 256 → ℝ
  WP : Fin 256 → Fin 1024 → ℝ
  T : Fin n → Fin 1024 → ℝ

namespace Arrays

variable {n : ℕ} (A : Arrays n)

/-- The residual with the down projection added. -/
def x (t : Fin n) (d : Fin 1024) : ℝ := A.X1 t d + ∑ f, A.F t f * A.WD f d
/-- The normalised rows, without and with the norm's weight. -/
def xh (t : Fin n) (d : Fin 1024) : ℝ := A.x t d * rs (A.x t)
def h (t : Fin n) (d : Fin 1024) : ℝ := A.xh t d * A.G d
/-- The gate and the projected embedding. -/
def gate (t : Fin n) (d : Fin 1024) : ℝ := sg (∑ k, A.h t k * A.WG k d)
def pp (t : Fin n) (d : Fin 1024) : ℝ := ∑ k, A.P t k * A.WP k d
/-- The layer's output minus the target. -/
def err (t : Fin n) (d : Fin 1024) : ℝ := A.x t d + A.gate t d * A.pp t d - A.T t d
/-- Half the sum of the rows' mean squared errors. -/
def loss : ℝ := 1 / 2 * ∑ t, (∑ d, A.err t d * A.err t d) / 1024
/-- The gradients of the output, of the gate's argument, of the projected embedding and of the normalised rows. -/
def dy (t : Fin n) (d : Fin 1024) : ℝ := A.err t d * (1 / 1024)
def dpre (t : Fin n) (d : Fin 1024) : ℝ := A.dy t d * A.pp t d * A.gate t d * (1 - A.gate t d)
def dpp (t : Fin n) (d : Fin 1024) : ℝ := A.dy t d * A.gate t d
def dh (t : Fin n) (d : Fin 1024) : ℝ := ∑ e, A.dpre t e * A.WG d e
/-- The gradients of the rows and of the norm's weight. -/
def dx (t : Fin n) (d : Fin 1024) : ℝ := Norm.dx (A.dy t) (A.dh t) A.G (A.x t) d
def dg (d : Fin 1024) : ℝ := ∑ t, A.dh t d * A.xh t d

end Arrays

theorem inv_1024_f32 : Ideal.ofBits FTy.f32 0x3A800000#32 = ((1 / 1024 : ℝ) : EReal) := by
  simp [Ideal.ofBits, Ideal.ieee, -EReal.coe_mul]
  norm_num

/-- The blocks of one grid point hold these finite values. -/
structure Holds (B : Arrays 512) (v0 : Vec Ideal S512x1024 .f32) (v1 : Vec Ideal S512x2816 .bf16)
    (v2 : Vec Ideal S2816x1024 .bf16) (v3 : Vec Ideal S1x1024 .f32) (v4 : Vec Ideal S1024x1024 .bf16)
    (v5 : Vec Ideal S512x256 .f32) (v6 : Vec Ideal S1024x256 .bf16) (v7 : Vec Ideal S512x1024 .f32) : Prop where
  h0 : ∀ r d, v0 (ix2 r d) = ((B.X1 r d : ℝ) : EReal)
  h1 : ∀ r f, v1 (ix2 r f) = ((B.F r f : ℝ) : EReal)
  h2 : ∀ f d, v2 (ix2 f d) = ((B.WD f d : ℝ) : EReal)
  h3 : ∀ d, v3 (ix2 0 d) = ((B.G d : ℝ) : EReal)
  h4 : ∀ d e, v4 (ix2 d e) = ((B.WG d e : ℝ) : EReal)
  h5 : ∀ r k, v5 (ix2 r k) = ((B.P r k : ℝ) : EReal)
  h6 : ∀ d k, v6 (ix2 d k) = ((B.WP k d : ℝ) : EReal)
  h7 : ∀ r d, v7 (ix2 r d) = ((B.T r d : ℝ) : EReal)

section Payloads

variable {B : Arrays 512} {v0 : Vec Ideal S512x1024 .f32} {v1 : Vec Ideal S512x2816 .bf16}
    {v2 : Vec Ideal S2816x1024 .bf16} {v3 : Vec Ideal S1x1024 .f32} {v4 : Vec Ideal S1024x1024 .bf16}
    {v5 : Vec Ideal S512x256 .f32} {v6 : Vec Ideal S1024x256 .bf16} {v7 : Vec Ideal S512x1024 .f32}
    (H : Holds B v0 v1 v2 v3 v4 v5 v6 v7)
include H

theorem pay_x (r : Fin 512) (d : Fin 1024) : k0_pay4 (F := Ideal) v0 v1 v2 (ix2 r d) = ((B.x r d : ℝ) : EReal) := by
  pointwise [k0_pay4]
  simp only [H.h0, H.h1, H.h2, ← EReal.coe_mul, coe_sum, ← EReal.coe_add]
  rfl

theorem pay_rs (r : Fin 512) : k0_pay5 (F := Ideal) v0 v1 v2 (ix2 r 0) = ((rs (B.x r) : ℝ) : EReal) := by
  pointwise [k0_pay5]
  rw [ms_coe (B.x r) _ (pay_x H r), rsqrt_ms]

theorem pay_xh (r : Fin 512) (d : Fin 1024) : k0_pay6 (F := Ideal) v0 v1 v2 (ix2 r d) = ((B.xh r d : ℝ) : EReal) := by
  pointwise [k0_pay6]
  rw [pay_x H, pay_rs H, ← EReal.coe_mul]
  rfl

theorem pay_h (r : Fin 512) (d : Fin 1024) : k0_pay7 (F := Ideal) v0 v1 v2 v3 (ix2 r d) = ((B.h r d : ℝ) : EReal) := by
  pointwise [k0_pay7]
  rw [pay_xh H, H.h3, ← EReal.coe_mul]
  rfl

theorem pay_gate (r : Fin 512) (d : Fin 1024) :
    k0_pay8 (F := Ideal) v0 v1 v2 v3 v4 (ix2 r d) = ((B.gate r d : ℝ) : EReal) := by
  pointwise [k0_pay8]
  simp only [pay_h H, H.h4, half_f32, ← EReal.coe_mul, coe_sum, Ideal.tanh_coe, ← EReal.coe_add]
  congr 1
  exact half_tanh _

theorem pay_pp (r : Fin 512) (d : Fin 1024) :
    k0_pay10 (F := Ideal) (k0_pay9 v5) v6 (ix2 r d) = ((B.pp r d : ℝ) : EReal) := by
  pointwise [k0_pay10, k0_pay9]
  simp only [H.h5, H.h6, ← EReal.coe_mul, coe_sum]
  rfl

theorem pay_err (r : Fin 512) (d : Fin 1024) :
    k0_pay11 (F := Ideal) (k0_pay4 v0 v1 v2) (k0_pay8 v0 v1 v2 v3 v4) (k0_pay9 v5) v6 v7 (ix2 r d)
      = ((B.err r d : ℝ) : EReal) := by
  pointwise [k0_pay11]
  rw [pay_x H, pay_gate H, pay_pp H, H.h7, ← EReal.coe_mul, ← EReal.coe_add, ← EReal.coe_sub]
  rfl

theorem pay_loss (acc : Vec Ideal S1x128 .f32) (k : Fin 128) :
    k0_pay14 (F := Ideal) (k0_pay4 v0 v1 v2) (k0_pay8 v0 v1 v2 v3 v4) (k0_pay9 v5) v6 v7 acc (ix2 0 k)
      = acc (ix2 0 k) + ((B.loss : ℝ) : EReal) := by
  pointwise [k0_pay14]
  simp only [pay_err H, n_f32, half_f32, ← EReal.coe_mul, coe_sum, div_real _ (show (1024 : ℝ) ≠ 0 by norm_num)]
  rfl

theorem pay_dy (r : Fin 512) (d : Fin 1024) :
    k0_pay15 (F := Ideal) (k0_pay4 v0 v1 v2) (k0_pay8 v0 v1 v2 v3 v4) (k0_pay9 v5) v6 v7 (ix2 r d)
      = ((B.dy r d : ℝ) : EReal) := by
  pointwise [k0_pay15]
  rw [pay_err H, inv_1024_f32, ← EReal.coe_mul]
  rfl

theorem pay_dpre (r : Fin 512) (d : Fin 1024) :
    k0_pay16 (F := Ideal) (k0_pay4 v0 v1 v2) (k0_pay8 v0 v1 v2 v3 v4) (k0_pay9 v5) v6 v7 (ix2 r d)
      = ((B.dpre r d : ℝ) : EReal) := by
  pointwise [k0_pay16]
  rw [pay_dy H, pay_pp H, pay_gate H, ← EReal.coe_one, ← EReal.coe_mul, ← EReal.coe_mul, ← EReal.coe_sub, ← EReal.coe_mul]
  rfl

theorem pay_dpp (r : Fin 512) (d : Fin 1024) :
    k0_pay17 (F := Ideal) (k0_pay4 v0 v1 v2) (k0_pay8 v0 v1 v2 v3 v4) (k0_pay9 v5) v6 v7 (ix2 r d)
      = ((B.dpp r d : ℝ) : EReal) := by
  pointwise [k0_pay17]
  rw [pay_dy H, pay_gate H, ← EReal.coe_mul]
  rfl

theorem pay_dh (r : Fin 512) (d : Fin 1024) :
    k0_pay1 (F := Ideal) (k0_pay16 (k0_pay4 v0 v1 v2) (k0_pay8 v0 v1 v2 v3 v4) (k0_pay9 v5) v6 v7) v4 (ix2 r d)
      = ((B.dh r d : ℝ) : EReal) := by
  pointwise [k0_pay1]
  simp only [pay_dpre H, H.h4, ← EReal.coe_mul, coe_sum]
  rfl

theorem pay_dg (acc : Vec Ideal S1x1024 .f32) (d : Fin 1024) :
    k0_pay2 (F := Ideal) (k0_pay6 v0 v1 v2)
        (k0_pay16 (k0_pay4 v0 v1 v2) (k0_pay8 v0 v1 v2 v3 v4) (k0_pay9 v5) v6 v7) v4 acc (ix2 0 d)
      = acc (ix2 0 d) + ((B.dg d : ℝ) : EReal) := by
  pointwise [k0_pay2]
  simp only [pay_dh H, pay_xh H, ← EReal.coe_mul, coe_sum]
  rfl

theorem pay_dx (r : Fin 512) (d : Fin 1024) :
    k0_pay3 (F := Ideal) (k0_pay5 v0 v1 v2) (k0_pay6 v0 v1 v2)
        (k0_pay15 (k0_pay4 v0 v1 v2) (k0_pay8 v0 v1 v2 v3 v4) (k0_pay9 v5) v6 v7)
        (k0_pay16 (k0_pay4 v0 v1 v2) (k0_pay8 v0 v1 v2 v3 v4) (k0_pay9 v5) v6 v7) v4 v3 (ix2 r d)
      = ((B.dx r d : ℝ) : EReal) := by
  pointwise [k0_pay3]
  simp only [pay_dh H, pay_xh H, pay_dy H, pay_rs H, H.h3, n_f32, ← EReal.coe_mul, coe_sum]
  rw [div_real _ (by norm_num), ← EReal.coe_mul, ← EReal.coe_sub, ← EReal.coe_mul, ← EReal.coe_add]
  rfl

end Payloads

theorem pay_zero_loss (k : Fin 128) : (k0_pay12 (F := Ideal) : Vec Ideal S1x128 .f32) (ix2 0 k) = 0 := by
  pointwise [k0_pay12]

theorem pay_zero_dg (d : Fin 1024) : (k0_pay13 (F := Ideal) : Vec Ideal S1x1024 .f32) (ix2 0 d) = 0 := by
  pointwise [k0_pay13]

/-- The call's arguments hold these finite values. -/
structure Arrays.Of (A : Arrays 8192) (a0 : Vec Ideal S8192x1024 .f32) (a1 : Vec Ideal S8192x2816 .bf16)
    (a2 : Vec Ideal S2816x1024 .f32) (a3 : Vec Ideal S1x1024 .f32) (a4 : Vec Ideal S1024x1024 .f32)
    (a5 : Vec Ideal S8192x256 .f32) (a6 : Vec Ideal S256x1024 .f32) (a7 : Vec Ideal S8192x1024 .f32) : Prop where
  h0 : ∀ t d, a0 (ix2 t d) = ((A.X1 t d : ℝ) : EReal)
  h1 : ∀ t f, a1 (ix2 t f) = ((A.F t f : ℝ) : EReal)
  h2 : ∀ f d, a2 (ix2 f d) = ((A.WD f d : ℝ) : EReal)
  h3 : ∀ d, a3 (ix2 0 d) = ((A.G d : ℝ) : EReal)
  h4 : ∀ d e, a4 (ix2 d e) = ((A.WG d e : ℝ) : EReal)
  h5 : ∀ t k, a5 (ix2 t k) = ((A.P t k : ℝ) : EReal)
  h6 : ∀ k d, a6 (ix2 k d) = ((A.WP k d : ℝ) : EReal)
  h7 : ∀ t d, a7 (ix2 t d) = ((A.T t d : ℝ) : EReal)

/-- Row `r` of row block `b`, and the arrays of that block. -/
abbrev row (b : Fin 16) (r : Fin 512) : Fin 8192 := ⟨b.val * 512 + r.val, by omega⟩

def Arrays.block (A : Arrays 8192) (b : Fin 16) : Arrays 512 where
  X1 r d := A.X1 (row b r) d
  F r f := A.F (row b r) f
  WD := A.WD
  G := A.G
  WG := A.WG
  P r k := A.P (row b r) k
  WP := A.WP
  T r d := A.T (row b r) d

/-- The six results as arrays. -/
def outX (A : Arrays 8192) : Vec Ideal S8192x1024 .f32 := fun y => ((A.dx (y 0) (y 1) : ℝ) : EReal)
def outPre (A : Arrays 8192) : Vec Ideal S8192x1024 .bf16 := fun y => ((A.dpre (y 0) (y 1) : ℝ) : EReal)
def outPP (A : Arrays 8192) : Vec Ideal S8192x1024 .bf16 := fun y => ((A.dpp (y 0) (y 1) : ℝ) : EReal)
def outH (A : Arrays 8192) : Vec Ideal S8192x1024 .bf16 := fun y => ((A.h (y 0) (y 1) : ℝ) : EReal)
def outL (A : Arrays 8192) : Vec Ideal S1x128 .f32 := fun _ => ((A.loss : ℝ) : EReal)
def outG (A : Arrays 8192) : Vec Ideal S1x1024 .f32 := fun y => ((A.dg (y 1) : ℝ) : EReal)

end Cert.Ple
-- ==== Proof.PlePoint.lean ====
module

public import proofs.«01_k».proof.Proof.PlePay

/-!
# The kernel's results

Grid point `t` computes row block `t` of four results, and adds the block's rows to the loss and to the gradient of the
norm's weight, which the last point writes back.
-/

@[expose] public section

noncomputable section

namespace Cert.Ple

open Cert.Kernel5Ideal Cert.Kernel5Ideal.Gen Idealize.ShloMosaic Idealize.ShloMosaic.TcCoe Idealize.SL.Sem
open Cert.Norm Cert.Ffn

abbrev rb (t : Fin cfg0.N) : Fin 16 := ⟨t.val, by have : cfg0.N = 16 := N_0; omega⟩

theorem idx : ∀ t : Fin cfg0.N,
    win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = t.val ∧ win0_5.index t 1 = 0
    ∧ win0_6.index t 0 = 0 ∧ win0_6.index t 1 = 0 ∧ win0_7.index t 0 = t.val ∧ win0_7.index t 1 = 0
    ∧ win0_8.index t 0 = t.val ∧ win0_8.index t 1 = 0 ∧ win0_9.index t 0 = t.val ∧ win0_9.index t 1 = 0
    ∧ win0_10.index t 0 = t.val ∧ win0_10.index t 1 = 0 ∧ win0_11.index t 0 = t.val ∧ win0_11.index t 1 = 0
    ∧ win0_12.index t 0 = 0 ∧ win0_12.index t 1 = 0 ∧ win0_13.index t 0 = 0 ∧ win0_13.index t 1 = 0 :=
  (by decide +kernel : ∀ t : Fin grid0.N, _)

/-- The blocks' parts of the loss and of the gradient of the norm's weight add up. -/
theorem loss_blocks (A : Arrays 8192) : ∑ s : Fin 16, (A.block s).loss = A.loss := by
  unfold Arrays.loss
  rw [← Finset.mul_sum]
  refine congrArg (fun x : ℝ => 1 / 2 * x) ?_
  refine Fin.sum_mul_add_congr (S := 16) (n := 512) (L := 8192) ?_
  intro s k hl
  rfl

theorem dg_blocks (A : Arrays 8192) (d : Fin 1024) : ∑ s : Fin 16, (A.block s).dg d = A.dg d := by
  refine Fin.sum_mul_add_congr (S := 16) (n := 512) (L := 8192) ?_
  intro s k hl
  rfl

section Blocks

variable (m : (ℓ : Loc nD τ sig) → Buf (Elt Ideal) ℓ) (c : Dev nD) (t : Fin cfg0.N)

theorem blk0 (r : Fin 512) (d : Fin 1024) : (iblk m c 0 t : Vec Ideal S512x1024 .f32) (ix2 r d)
    = m ((c : Thread nD τ).loc main_arg0) (ix2 (row (rb t) r) d) := by
  blk_ext! [iblk, V, idx t]

theorem blk1 (r : Fin 512) (f : Fin 2816) : (iblk m c 1 t : Vec Ideal S512x2816 .bf16) (ix2 r f)
    = m ((c : Thread nD τ).loc main_arg1) (ix2 (row (rb t) r) f) := by
  blk_ext! [iblk, V, idx t]

theorem blk2 (f : Fin 2816) (d : Fin 1024) : (iblk m c 2 t : Vec Ideal S2816x1024 .bf16) (ix2 f d)
    = m ((c : Thread nD τ).loc main_arg2) (ix2 f d) := by
  blk_simp [iblk, idx t]
  entry_read
  pointwise
  blk_ext [idx t]

theorem blk3 (d : Fin 1024) : (iblk m c 3 t : Vec Ideal S1x1024 .f32) (ix2 0 d)
    = m ((c : Thread nD τ).loc main_arg3) (ix2 0 d) := by
  blk_ext! [iblk, V, idx t]

theorem blk4 (d e : Fin 1024) : (iblk m c 4 t : Vec Ideal S1024x1024 .bf16) (ix2 d e)
    = m ((c : Thread nD τ).loc main_arg4) (ix2 d e) := by
  blk_simp [iblk, idx t]
  entry_read
  pointwise
  blk_ext [idx t]

theorem blk5 (r : Fin 512) (k : Fin 256) : (iblk m c 5 t : Vec Ideal S512x256 .f32) (ix2 r k)
    = m ((c : Thread nD τ).loc main_arg5) (ix2 (row (rb t) r) k) := by
  blk_ext! [iblk, V, idx t]

theorem blk6 (d : Fin 1024) (k : Fin 256) : (iblk m c 6 t : Vec Ideal S1024x256 .bf16) (ix2 d k)
    = m ((c : Thread nD τ).loc main_arg6) (ix2 k d) := by
  blk_simp [iblk, idx t]
  entry_read
  pointwise
  blk_ext [idx t]

theorem blk7 (r : Fin 512) (d : Fin 1024) : (iblk m c 7 t : Vec Ideal S512x1024 .f32) (ix2 r d)
    = m ((c : Thread nD τ).loc main_arg7) (ix2 (row (rb t) r) d) := by
  blk_ext! [iblk, V, idx t]

end Blocks

variable {m : (ℓ : Loc nD τ sig) → Buf (Elt Ideal) ℓ} {c : Dev nD} {A : Arrays 8192}
  (H : A.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)))
include H

theorem holds (t : Fin cfg0.N) : Holds (A.block (rb t)) (iblk m c 0 t) (iblk m c 1 t) (iblk m c 2 t) (iblk m c 3 t)
    (iblk m c 4 t) (iblk m c 5 t) (iblk m c 6 t) (iblk m c 7 t) where
  h0 r d := (blk0 m c t r d).trans (H.h0 _ _)
  h1 r f := (blk1 m c t r f).trans (H.h1 _ _)
  h2 f d := (blk2 m c t f d).trans (H.h2 _ _)
  h3 d := (blk3 m c t d).trans (H.h3 _)
  h4 d e := (blk4 m c t d e).trans (H.h4 _ _)
  h5 r k := (blk5 m c t r k).trans (H.h5 _ _)
  h6 d k := (blk6 m c t d k).trans (H.h6 _ _)
  h7 r d := (blk7 m c t r d).trans (H.h7 _ _)

theorem left_dx (t : Fin cfg0.N) (r : Fin 512) (d : Fin 1024) :
    (outsAt0 m c t.val t.isLt).1 (ix2 r d) = ((A.dx (row (rb t) r) d : ℝ) : EReal) := by
  by_cases h : t.val % 16 = 0
  · rw [outsAt0_A m c t h]; frame_out; exact pay_dx (holds H t) r d
  · rw [outsAt0_B m c t h]; frame_out; exact pay_dx (holds H t) r d

theorem left_dpre (t : Fin cfg0.N) (r : Fin 512) (d : Fin 1024) :
    (outsAt0 m c t.val t.isLt).2.1 (ix2 r d) = ((A.dpre (row (rb t) r) d : ℝ) : EReal) := by
  by_cases h : t.val % 16 = 0
  · rw [outsAt0_A m c t h]; frame_out; exact pay_dpre (holds H t) r d
  · rw [outsAt0_B m c t h]; frame_out; exact pay_dpre (holds H t) r d

theorem left_dpp (t : Fin cfg0.N) (r : Fin 512) (d : Fin 1024) :
    (outsAt0 m c t.val t.isLt).2.2.1 (ix2 r d) = ((A.dpp (row (rb t) r) d : ℝ) : EReal) := by
  by_cases h : t.val % 16 = 0
  · rw [outsAt0_A m c t h]; frame_out; exact pay_dpp (holds H t) r d
  · rw [outsAt0_B m c t h]; frame_out; exact pay_dpp (holds H t) r d

theorem left_h (t : Fin cfg0.N) (r : Fin 512) (d : Fin 1024) :
    (outsAt0 m c t.val t.isLt).2.2.2.1 (ix2 r d) = ((A.h (row (rb t) r) d : ℝ) : EReal) := by
  by_cases h : t.val % 16 = 0
  · rw [outsAt0_A m c t h]; frame_out; exact pay_h (holds H t) r d
  · rw [outsAt0_B m c t h]; frame_out; exact pay_h (holds H t) r d

theorem arr8 : (dats m 0 c).arrAt 8 cfg0.N = outX A := by
  refine (dats m 0 c).arrAt_eq_of_covers 8 (outX A) (by decide +kernel) fun t hf y => ?_
  blk_simp
  rw [after0_8]
  obtain ⟨r, d, rfl⟩ : ∃ (r : Fin 512) (d : Fin 1024), y = ix2 r d := ⟨y 0, y 1, eq_ix2 y⟩
  refine (left_dx H t r d).trans ?_
  show outX A (ix2 (row (rb t) r) d) = _
  blk_ext [idx t]

theorem arr9 : (dats m 0 c).arrAt 9 cfg0.N = outPre A := by
  refine (dats m 0 c).arrAt_eq_of_covers 9 (outPre A) (by decide +kernel) fun t hf y => ?_
  blk_simp
  rw [after0_9]
  obtain ⟨r, d, rfl⟩ : ∃ (r : Fin 512) (d : Fin 1024), y = ix2 r d := ⟨y 0, y 1, eq_ix2 y⟩
  refine (left_dpre H t r d).trans ?_
  show outPre A (ix2 (row (rb t) r) d) = _
  blk_ext [idx t]

theorem arr10 : (dats m 0 c).arrAt 10 cfg0.N = outPP A := by
  refine (dats m 0 c).arrAt_eq_of_covers 10 (outPP A) (by decide +kernel) fun t hf y => ?_
  blk_simp
  rw [after0_10]
  obtain ⟨r, d, rfl⟩ : ∃ (r : Fin 512) (d : Fin 1024), y = ix2 r d := ⟨y 0, y 1, eq_ix2 y⟩
  refine (left_dpp H t r d).trans ?_
  show outPP A (ix2 (row (rb t) r) d) = _
  blk_ext [idx t]

theorem arr11 : (dats m 0 c).arrAt 11 cfg0.N = outH A := by
  refine (dats m 0 c).arrAt_eq_of_covers 11 (outH A) (by decide +kernel) fun t hf y => ?_
  blk_simp
  rw [after0_11]
  obtain ⟨r, d, rfl⟩ : ∃ (r : Fin 512) (d : Fin 1024), y = ix2 r d := ⟨y 0, y 1, eq_ix2 y⟩
  refine (left_h H t r d).trans ?_
  show outH A (ix2 (row (rb t) r) d) = _
  blk_ext [idx t]

theorem left_loss (t : Fin cfg0.N) (ht : t.val + 1 = cfg0.N) (k : Fin 128) :
    (outsAt0 m c t.val t.isLt).2.2.2.2.1 (ix2 0 k) = ((A.loss : ℝ) : EReal) := by
  rw [Pipeline.eq_sum_fin_of_reset_step_apply_last (fun n h => (outsAt0 m c n h).2.2.2.2.1) 16 (fun _ => 0)
    (fun t y => (((A.block (rb t)).loss : ℝ) : EReal))
    (fun t h y => by
      obtain ⟨k, rfl⟩ : ∃ k : Fin 128, y = ix2 0 k := ⟨y 1, (eq_ix2 y).trans (by congr 1; exact Subsingleton.elim (α := Fin 1) _ _)⟩
      rw [outsAt0_A m c t h]; frame_out
      rw [pay_loss (holds H t), pay_zero_loss])
    (fun t h y => by
      obtain ⟨k, rfl⟩ : ∃ k : Fin 128, y = ix2 0 k := ⟨y 1, (eq_ix2 y).trans (by congr 1; exact Subsingleton.elim (α := Fin 1) _ _)⟩
      rw [outsAt0_B m c t h]; frame_out
      rw [pay_loss (holds H t)])
    (le_of_eq N_0) t ht (ix2 0 k), zero_add]
  exact (coe_sum fun s : Fin 16 => (A.block s).loss).trans (congrArg _ (loss_blocks A))

theorem left_dg (t : Fin cfg0.N) (ht : t.val + 1 = cfg0.N) (d : Fin 1024) :
    (outsAt0 m c t.val t.isLt).2.2.2.2.2 (ix2 0 d) = ((A.dg d : ℝ) : EReal) := by
  rw [Pipeline.eq_sum_fin_of_reset_step_apply_last (fun n h => (outsAt0 m c n h).2.2.2.2.2) 16 (fun _ => 0)
    (fun t y => (((A.block (rb t)).dg (y 1) : ℝ) : EReal))
    (fun t h y => by
      obtain ⟨d, rfl⟩ : ∃ d : Fin 1024, y = ix2 0 d := ⟨y 1, (eq_ix2 y).trans (by congr 1; exact Subsingleton.elim (α := Fin 1) _ _)⟩
      rw [outsAt0_A m c t h]; frame_out
      rw [pay_dg (holds H t), pay_zero_dg]
      rfl)
    (fun t h y => by
      obtain ⟨d, rfl⟩ : ∃ d : Fin 1024, y = ix2 0 d := ⟨y 1, (eq_ix2 y).trans (by congr 1; exact Subsingleton.elim (α := Fin 1) _ _)⟩
      rw [outsAt0_B m c t h]; frame_out
      rw [pay_dg (holds H t)]
      rfl)
    (le_of_eq N_0) t ht (ix2 0 d), zero_add]
  exact (coe_sum fun s : Fin 16 => (A.block s).dg d).trans (congrArg _ (dg_blocks A d))

theorem arr12 : (dats m 0 c).arrAt 12 cfg0.N = outL A := by
  refine (dats m 0 c).arrAt_eq_of_covers 12 (outL A) (by decide +kernel) fun t hf y => ?_
  have h15 := (by decide +kernel : ∀ t : Fin grid0.N, win0_12.flush t = true → t.val + 1 = grid0.N) t hf
  blk_simp
  rw [after0_12]
  obtain ⟨k, rfl⟩ : ∃ k : Fin 128, y = ix2 0 k := ⟨y 1, (eq_ix2 y).trans (by congr 1; exact Subsingleton.elim (α := Fin 1) _ _)⟩
  exact left_loss H t h15 k

theorem arr13 : (dats m 0 c).arrAt 13 cfg0.N = outG A := by
  refine (dats m 0 c).arrAt_eq_of_covers 13 (outG A) (by decide +kernel) fun t hf y => ?_
  have h15 := (by decide +kernel : ∀ t : Fin grid0.N, win0_13.flush t = true → t.val + 1 = grid0.N) t hf
  blk_simp
  rw [after0_13]
  obtain ⟨d, rfl⟩ : ∃ d : Fin 1024, y = ix2 0 d := ⟨y 1, (eq_ix2 y).trans (by congr 1; exact Subsingleton.elim (α := Fin 1) _ _)⟩
  refine (left_dg H t h15 d).trans ?_
  show outG A (ix2 0 d) = _
  blk_ext [idx t]

end Cert.Ple
-- ==== Proof.PleRef.lean ====
module

public import proofs.«01_k».proof.Proof.PlePay
public import proofs.«01_k».proof.Proof.Gen.Reference5Ideal.Read

/-!
# The reference's results
-/

@[expose] public section

noncomputable section

namespace Cert.Ple

open Cert.Reference5Ideal Cert.Reference5Ideal.Gen Cert.Reference5Ideal.Read Idealize.ShloMosaic
open Cert.Norm Cert.Ffn

theorem two_f32 : Ideal.ofBits FTy.f32 0x40000000#32 = ((2 : ℝ) : EReal) := by
  simp [Ideal.ofBits, Ideal.ieee, -EReal.coe_mul]
  norm_num

variable {a0 : Vec Ideal S8192x1024 .f32} {a1 : Vec Ideal S8192x2816 .bf16} {a2 : Vec Ideal S2816x1024 .f32}
    {a3 : Vec Ideal S1x1024 .f32} {a4 : Vec Ideal S1024x1024 .f32} {a5 : Vec Ideal S8192x256 .f32}
    {a6 : Vec Ideal S256x1024 .f32} {a7 : Vec Ideal S8192x1024 .f32} {A : Arrays 8192}
    (H : A.Of a0 a1 a2 a3 a4 a5 a6 a7)
include H

theorem ref_x (t : Fin 8192) (d : Fin 1024) : val_main_v2 (F := Ideal) a0 a1 a2 (ix2 t d) = ((A.x t d : ℝ) : EReal) := by
  pointwise [val_main_v2, val_main_v1, val_main_v0]
  simp only [H.h0, H.h1, H.h2, ← EReal.coe_mul, coe_sum, ← EReal.coe_add]
  rfl

theorem ref_ms (t : Fin 8192) : val_main_v9 (F := Ideal) a0 a1 a2 (ix2 t 0) = ((ms (A.x t) : ℝ) : EReal) := by
  pointwise [val_main_v9, val_main_v8, val_main_v7, val_main_v6, val_main_v5, val_main_v4, val_main_v3, val_main_cst,
    val_main_cst_0, val_main_cst_1]
  exact ms_coe (A.x t) _ (ref_x H t)

theorem ref_rs (t : Fin 8192) : val_main_v10 (F := Ideal) a0 a1 a2 (ix2 t 0) = ((rs (A.x t) : ℝ) : EReal) := by
  pointwise [val_main_v10]
  rw [ref_ms H, rsqrt_ms]

theorem ref_slope (t : Fin 8192) :
    val_main_v13 (F := Ideal) a0 a1 a2 (ix2 t 0) = ((-1 / 2 * (rs (A.x t) / ms (A.x t)) : ℝ) : EReal) := by
  pointwise [val_main_v13, val_main_v12, val_main_v11, val_main_cst_2]
  rw [ref_ms H, ref_rs H, neg_half_f32, div_real _ (ms_pos _).ne', EReal.coe_mul]

theorem ref_xh (t : Fin 8192) (d : Fin 1024) :
    val_main_v15 (F := Ideal) a0 a1 a2 (ix2 t d) = ((A.xh t d : ℝ) : EReal) := by
  pointwise [val_main_v15, val_main_v14]
  rw [ref_x H, ref_rs H, ← EReal.coe_mul]
  rfl

theorem ref_gate (t : Fin 8192) (d : Fin 1024) :
    val_main_v25 (F := Ideal) a0 a1 a2 a3 a4 (ix2 t d) = ((A.gate t d : ℝ) : EReal) := by
  pointwise [val_main_v25, val_main_v24, val_main_v23, val_main_v22, val_main_v21, val_main_v20, val_main_v18,
    val_main_v17, val_main_v16, val_main_cst_3, val_main_cst_4]
  simp only [ref_xh H, H.h3, H.h4, ← EReal.coe_one, ← EReal.coe_mul, coe_sum, ← EReal.coe_neg, Ideal.exp_coe, ← EReal.coe_add]
  rw [div_real _ (by positivity), one_div]
  rfl

theorem ref_pp (t : Fin 8192) (d : Fin 1024) : val_main_v19 (F := Ideal) a5 a6 (ix2 t d) = ((A.pp t d : ℝ) : EReal) := by
  pointwise [val_main_v19]
  simp only [H.h5, H.h6, ← EReal.coe_mul, coe_sum]
  rfl

theorem ref_err (t : Fin 8192) (d : Fin 1024) :
    val_main_v31 (F := Ideal) a0 a1 a2 a3 a4 a5 a6 a7 (ix2 t d) = ((A.err t d : ℝ) : EReal) := by
  pointwise [val_main_v31, val_main_v30, val_main_v29]
  rw [ref_x H, ref_gate H, ref_pp H, H.h7, ← EReal.coe_mul, ← EReal.coe_add, ← EReal.coe_sub]
  rfl

theorem ref_row (t : Fin 8192) : val_main_v37 (F := Ideal) a0 a1 a2 a3 a4 a5 a6 a7 (ix1 t)
    = (((∑ d, A.err t d * A.err t d) / 1024 : ℝ) : EReal) := by
  pointwise [val_main_v37, val_main_v36, val_main_v35, val_main_v32, val_main_cst_7, val_main_cst_8]
  simp only [ref_err H, n_f32, ← EReal.coe_mul, coe_sum]
  exact div_real _ (by norm_num)

theorem ref_loss (k : Fin 128) :
    val_main_v69 (F := Ideal) a0 a1 a2 a3 a4 a5 a6 a7 (ix2 0 k) = ((A.loss : ℝ) : EReal) := by
  pointwise [val_main_v69, val_main_v39, val_main_v38, val_main_cst_9, val_main_cst_10]
  simp only [ref_row H, half_f32, ← EReal.coe_mul, coe_sum]
  rfl

theorem ref_dy (t : Fin 8192) (d : Fin 1024) :
    val_main_v45 (F := Ideal) a0 a1 a2 a3 a4 a5 a6 a7 (ix2 t d) = ((A.dy t d : ℝ) : EReal) := by
  pointwise [val_main_v45, val_main_v44, val_main_v43, val_main_v42, val_main_v41, val_main_v40, val_main_v34,
    val_main_v33, val_main_cst_6, val_main_cst_11, val_main_cst_12, val_main_cst_13]
  rw [ref_err H, half_f32, two_f32, n_f32, div_real _ (by norm_num), ← EReal.coe_mul, ← EReal.coe_mul]
  congr 1
  unfold Arrays.dy
  ring

theorem ref_dpre (t : Fin 8192) (d : Fin 1024) :
    val_main_v48 (F := Ideal) a0 a1 a2 a3 a4 a5 a6 a7 (ix2 t d) = ((A.dpre t d : ℝ) : EReal) := by
  pointwise [val_main_v48, val_main_v47, val_main_v28, val_main_v27, val_main_v26, val_main_cst_5]
  rw [ref_dy H, ref_pp H, ref_gate H, ← EReal.coe_one, ← EReal.coe_sub, ← EReal.coe_mul, ← EReal.coe_mul, ← EReal.coe_mul]
  congr 1
  unfold Arrays.dpre
  ring

theorem ref_dpp (t : Fin 8192) (d : Fin 1024) :
    val_main_v46 (F := Ideal) a0 a1 a2 a3 a4 a5 a6 a7 (ix2 t d) = ((A.dpp t d : ℝ) : EReal) := by
  pointwise [val_main_v46]
  rw [ref_dy H, ref_gate H, ← EReal.coe_mul, mul_comm]
  rfl

theorem ref_dh (t : Fin 8192) (d : Fin 1024) :
    val_main_v49 (F := Ideal) a0 a1 a2 a3 a4 a5 a6 a7 (ix2 t d) = ((A.dh t d : ℝ) : EReal) := by
  pointwise [val_main_v49]
  simp only [ref_dpre H, H.h4, ← EReal.coe_mul, coe_sum]
  rfl

theorem ref_dg (d : Fin 1024) :
    val_main_v52 (F := Ideal) a0 a1 a2 a3 a4 a5 a6 a7 (ix2 0 d) = ((A.dg d : ℝ) : EReal) := by
  pointwise [val_main_v52, val_main_v51, val_main_v50, val_main_cst_14]
  unfold Arrays.dg
  rw [← coe_sum]
  refine Finset.sum_congr rfl fun t _ => ?_
  rw [ref_xh H, ref_dh H, ← EReal.coe_mul, mul_comm]

theorem ref_proj (t : Fin 8192) : val_main_v57 (F := Ideal) a0 a1 a2 a3 a4 a5 a6 a7 (ix2 t 0)
    = ((∑ k, A.x t k * (A.dh t k * A.G k) : ℝ) : EReal) := by
  pointwise [val_main_v57, val_main_v56, val_main_v55, val_main_v54, val_main_v53, val_main_cst_15]
  simp only [ref_dh H, ref_x H, H.h3, ← EReal.coe_mul, coe_sum]

theorem ref_dx (t : Fin 8192) (d : Fin 1024) :
    val_main_v70 (F := Ideal) a0 a1 a2 a3 a4 a5 a6 a7 (ix2 t d) = ((A.dx t d : ℝ) : EReal) := by
  pointwise [val_main_v70, val_main_v68, val_main_v67, val_main_v66, val_main_v65, val_main_v64, val_main_v63,
    val_main_v62, val_main_v61, val_main_v60, val_main_v59, val_main_v58, val_main_v54, val_main_v53, val_main_cst_16,
    val_main_cst_17]
  simp only [Fin.sum_univ_one, ref_proj H, ref_slope H, ref_rs H, ref_dh H, ref_dy H, ref_x H, H.h3, n_f32, ← EReal.coe_mul]
  rw [div_real _ (by norm_num)]
  simp only [← EReal.coe_mul, ← EReal.coe_add]
  congr 1
  refine Eq.trans ?_ (dx_eq (A.dy t) (A.dh t) A.G (A.x t) d)
  ring

theorem ref_ms' (t : Fin 8192) : val_main_v79 (F := Ideal) a0 a1 a2 (ix2 t 0) = ((ms (A.x t) : ℝ) : EReal) := by
  pointwise [val_main_v79, val_main_v78, val_main_v77, val_main_v76, val_main_v75, val_main_v74, val_main_v73,
    val_main_cst_18, val_main_cst_19, val_main_cst_20]
  exact ms_coe (A.x t) _ (ref_x H t)

theorem ref_h (t : Fin 8192) (d : Fin 1024) :
    val_main_v84 (F := Ideal) a0 a1 a2 a3 (ix2 t d) = ((A.h t d : ℝ) : EReal) := by
  pointwise [val_main_v84, val_main_v83, val_main_v82, val_main_v81, val_main_v80]
  rw [ref_ms' H, rsqrt_ms, ref_x H, H.h3, ← EReal.coe_mul, ← EReal.coe_mul]
  rfl

theorem ref_outX : val_main_v70 (F := Ideal) a0 a1 a2 a3 a4 a5 a6 a7 = outX A :=
  funext fun y => (congrArg _ (eq_ix2 y)).trans (ref_dx H (y 0) (y 1))

theorem ref_outPre : val_main_v71 (F := Ideal) a0 a1 a2 a3 a4 a5 a6 a7 = outPre A :=
  funext fun y => (congrArg _ (eq_ix2 y)).trans (ref_dpre H (y 0) (y 1))

theorem ref_outPP : val_main_v72 (F := Ideal) a0 a1 a2 a3 a4 a5 a6 a7 = outPP A :=
  funext fun y => (congrArg _ (eq_ix2 y)).trans (ref_dpp H (y 0) (y 1))

theorem ref_outH : val_main_v85 (F := Ideal) a0 a1 a2 a3 = outH A :=
  funext fun y => (congrArg _ (eq_ix2 y)).trans (ref_h H (y 0) (y 1))

theorem ref_outL : val_main_v69 (F := Ideal) a0 a1 a2 a3 a4 a5 a6 a7 = outL A :=
  funext fun y => (congrArg _ ((eq_ix2 y).trans (by congr 1; exact Subsingleton.elim (α := Fin 1) _ _))).trans (ref_loss H (y 1))

theorem ref_outG : val_main_v52 (F := Ideal) a0 a1 a2 a3 a4 a5 a6 a7 = outG A :=
  funext fun y => (congrArg _ ((eq_ix2 y).trans (by congr 1; exact Subsingleton.elim (α := Fin 1) _ _))).trans (ref_dg H (y 1))

end Cert.Ple
-- ==== Proof.PleClaim.lean ====
module

public import proofs.«01_k».proof.Proof.PlePoint
public import proofs.«01_k».proof.Proof.PleRef
public import proofs.«01_k».proof.Proof.Gen.Reference5Ideal.Run
public import proofs.«01_k».proof.Proof.Gen.Pre_ple_finite
public import proofs.«01_k».proof.Defs

/-!
# The loss head of a layer with its gradients: the kernel and the reference agree
-/

@[expose] public section

noncomputable section

namespace Cert.Ple

open Idealize.ShloMosaic Idealize.ShloMosaic.TcCoe Idealize.SL.Sem Cert.Ffn

open Cert.Kernel5Ideal in
/-- The real arrays that finite buffers hold. -/
def reals (a0 : Vec Ideal S8192x1024 .f32) (a1 : Vec Ideal S8192x2816 .bf16) (a2 : Vec Ideal S2816x1024 .f32) (a3 : Vec Ideal S1x1024 .f32) (a4 : Vec Ideal S1024x1024 .f32) (a5 : Vec Ideal S8192x256 .f32) (a6 : Vec Ideal S256x1024 .f32) (a7 : Vec Ideal S8192x1024 .f32) : Arrays 8192 where
  X1 t f := (a0 (ix2 t f) : EReal).toReal
  F t f := (a1 (ix2 t f) : EReal).toReal
  WD t f := (a2 (ix2 t f) : EReal).toReal
  G d := (a3 (ix2 0 d) : EReal).toReal
  WG t f := (a4 (ix2 t f) : EReal).toReal
  P t f := (a5 (ix2 t f) : EReal).toReal
  WP t f := (a6 (ix2 t f) : EReal).toReal
  T t f := (a7 (ix2 t f) : EReal).toReal

section Finite

open Cert.Kernel5Ideal
open Cert.Pre_ple_finite (fn fn_part1)

theorem reals_of (a0 : Vec Ideal S8192x1024 .f32) (a1 : Vec Ideal S8192x2816 .bf16) (a2 : Vec Ideal S2816x1024 .f32) (a3 : Vec Ideal S1x1024 .f32) (a4 : Vec Ideal S1024x1024 .f32) (a5 : Vec Ideal S8192x256 .f32) (a6 : Vec Ideal S256x1024 .f32) (a7 : Vec Ideal S8192x1024 .f32)
    (h0 : (fn (F := Ideal) a0 a1 a2 a3 a4 a5 a6 a7).1 = fun _ => 1#1)
    (h1 : (fn (F := Ideal) a0 a1 a2 a3 a4 a5 a6 a7).2.1 = fun _ => 1#1)
    (h2 : (fn (F := Ideal) a0 a1 a2 a3 a4 a5 a6 a7).2.2.1 = fun _ => 1#1)
    (h3 : (fn (F := Ideal) a0 a1 a2 a3 a4 a5 a6 a7).2.2.2.1 = fun _ => 1#1)
    (h4 : (fn (F := Ideal) a0 a1 a2 a3 a4 a5 a6 a7).2.2.2.2.1 = fun _ => 1#1)
    (h5 : (fn (F := Ideal) a0 a1 a2 a3 a4 a5 a6 a7).2.2.2.2.2.1 = fun _ => 1#1)
    (h6 : (fn (F := Ideal) a0 a1 a2 a3 a4 a5 a6 a7).2.2.2.2.2.2.1 = fun _ => 1#1)
    (h7 : (fn (F := Ideal) a0 a1 a2 a3 a4 a5 a6 a7).2.2.2.2.2.2.2 = fun _ => 1#1) :
    (reals a0 a1 a2 a3 a4 a5 a6 a7).Of a0 a1 a2 a3 a4 a5 a6 a7 where
  h0 t f := by
    have h := congrFun h0 (ix2 t f)
    pointwise [fn, fn_part1] at h
    exact real_of_bit h
  h1 t f := by
    have h := congrFun h1 (ix2 t f)
    pointwise [fn, fn_part1] at h
    exact real_of_bit h
  h2 t f := by
    have h := congrFun h2 (ix2 t f)
    pointwise [fn, fn_part1] at h
    exact real_of_bit h
  h3 d := by
    have h := congrFun h3 (ix2 0 d)
    pointwise [fn, fn_part1] at h
    exact real_of_bit h
  h4 t f := by
    have h := congrFun h4 (ix2 t f)
    pointwise [fn, fn_part1] at h
    exact real_of_bit h
  h5 t f := by
    have h := congrFun h5 (ix2 t f)
    pointwise [fn, fn_part1] at h
    exact real_of_bit h
  h6 t f := by
    have h := congrFun h6 (ix2 t f)
    pointwise [fn, fn_part1] at h
    exact real_of_bit h
  h7 t f := by
    have h := congrFun h7 (ix2 t f)
    pointwise [fn, fn_part1] at h
    exact real_of_bit h

end Finite

/-- The reference ends, leaves its arguments unchanged, and has no semaphores. -/
theorem ref_frame : Cert.quiescent_Reference5Ideal := fun m g _ =>
  (θ_run (Cert.Reference5Ideal.defs (F := Ideal)) _ _).mono
    (fun r h => And.intro (fun c => (h c).2.2.2.2.2.2) (sem_eq_zero_of_no_sems (by rfl) r.2))
    (Cert.Reference5Ideal.Value.run (F := Ideal) m g)

theorem algebraic : Cert.algebraic_Kernel5Ideal_Reference5Ideal_pre_ple_finite := by
  intro m g m' g' hp heq
  let A := fun c : Dev Cert.Kernel5Ideal.nD => reals (m ((c : Thread Cert.Kernel5Ideal.nD Cert.Kernel5Ideal.τ).loc Cert.Kernel5Ideal.main_arg0))
    (m ((c : Thread Cert.Kernel5Ideal.nD Cert.Kernel5Ideal.τ).loc Cert.Kernel5Ideal.main_arg1))
    (m ((c : Thread Cert.Kernel5Ideal.nD Cert.Kernel5Ideal.τ).loc Cert.Kernel5Ideal.main_arg2))
    (m ((c : Thread Cert.Kernel5Ideal.nD Cert.Kernel5Ideal.τ).loc Cert.Kernel5Ideal.main_arg3))
    (m ((c : Thread Cert.Kernel5Ideal.nD Cert.Kernel5Ideal.τ).loc Cert.Kernel5Ideal.main_arg4))
    (m ((c : Thread Cert.Kernel5Ideal.nD Cert.Kernel5Ideal.τ).loc Cert.Kernel5Ideal.main_arg5))
    (m ((c : Thread Cert.Kernel5Ideal.nD Cert.Kernel5Ideal.τ).loc Cert.Kernel5Ideal.main_arg6))
    (m ((c : Thread Cert.Kernel5Ideal.nD Cert.Kernel5Ideal.τ).loc Cert.Kernel5Ideal.main_arg7))
  have H := fun c => reals_of _ _ _ _ _ _ _ _ (hp c).1 (hp c).2.1 (hp c).2.2.1 (hp c).2.2.2.1 (hp c).2.2.2.2.1 (hp c).2.2.2.2.2.1 (hp c).2.2.2.2.2.2.1 (hp c).2.2.2.2.2.2.2
  refine ⟨fun c => outX (A c), fun c => outPre (A c), fun c => outPP (A c), fun c => outH (A c), fun c => outL (A c),
    fun c => outG (A c), ?_, ?_⟩
  · refine (θ_run _ _ _).mono (fun r h c => ?_) (Cert.Kernel5Ideal.Value.run_blocks (F := Ideal) m g)
    obtain ⟨g0, g1, g2, g3, g4, g5, hk⟩ := h c
    exact ⟨g0.trans (arr8 (H c)), g1.trans (arr9 (H c)), g2.trans (arr10 (H c)), g3.trans (arr11 (H c)),
      g4.trans (arr12 (H c)), g5.trans (arr13 (H c)), hk⟩
  · refine (θ_run _ _ _).mono (fun r h c => ?_) (Cert.Reference5Ideal.Value.run (F := Ideal) m' g')
    obtain ⟨g0, g1, g2, g3, g4, g5, hk⟩ := h c
    obtain ⟨e0, e1, e2, e3, e4, e5, e6, e7⟩ := heq c
    refine ⟨g0.trans ?_, g1.trans ?_, g2.trans ?_, g3.trans ?_, g4.trans ?_, g5.trans ?_, hk⟩
    · rw [Cert.Reference5Ideal.Read.val_main_v70_eq, e0, e1, e2, e3, e4, e5, e6, e7]; exact ref_outX (H c)
    · rw [Cert.Reference5Ideal.Read.val_main_v71_eq, e0, e1, e2, e3, e4, e5, e6, e7]; exact ref_outPre (H c)
    · rw [Cert.Reference5Ideal.Read.val_main_v72_eq, e0, e1, e2, e3, e4, e5, e6, e7]; exact ref_outPP (H c)
    · rw [Cert.Reference5Ideal.Read.val_main_v85_eq, e0, e1, e2, e3]; exact ref_outH (H c)
    · rw [Cert.Reference5Ideal.Read.val_main_v69_eq, e0, e1, e2, e3, e4, e5, e6, e7]; exact ref_outL (H c)
    · rw [Cert.Reference5Ideal.Read.val_main_v52_eq, e0, e1, e2, e3, e4, e5, e6, e7]; exact ref_outG (H c)

end Cert.Ple
-- ==== Proof.InPay.lean ====
module

public import proofs.«01_k».proof.Proof.Norm
public import proofs.«01_k».proof.Proof.Gen.Kernel6Ideal.Value

/-!
# What the gradient of the input projection stores, one element at a time

The real arrays of the call, and its stored expressions (`k0_payN`) over blocks of finite values.
-/

@[expose] public section

noncomputable section

namespace Cert.In

open Cert.Kernel6Ideal Cert.Kernel6Ideal.Gen Idealize.ShloMosaic Idealize.ShloMosaic.TcCoe Idealize.SL.Sem
open Cert.Norm Cert.Ffn

section Payloads

variable {x : Fin 512 → Fin 1024 → ℝ} {v : Vec Ideal S512x1024 .f32} (hx : ∀ r d, v (ix2 r d) = ((x r d : ℝ) : EReal))
include hx

theorem pay_rs (r : Fin 512) : k0_pay1 (F := Ideal) (k0_pay7 v) (ix2 r 0) = ((rs (x r) : ℝ) : EReal) := by
  pointwise [k0_pay1, k0_pay7]
  rw [ms_coe (x r) _ (hx r), rsqrt_ms]

theorem pay_xh (r : Fin 512) (d : Fin 1024) :
    k0_pay2 (F := Ideal) v (k0_pay7 v) (ix2 r d) = ((x r d * rs (x r) : ℝ) : EReal) := by
  pointwise [k0_pay2]
  rw [hx, pay_rs hx, EReal.coe_mul]

variable {dh res : Fin 512 → Fin 1024 → ℝ} {g : Fin 1024 → ℝ}
variable {e : FVec Ideal S512x1024 .f32} (hd : ∀ r d, e (ix2 r d) = ((dh r d : ℝ) : EReal))
include hd

theorem pay_dx {w : Vec Ideal S1x1024 .f32} (hg : ∀ d, w (ix2 0 d) = ((g d : ℝ) : EReal))
    {u : Vec Ideal S512x1024 .f32} (hr : ∀ r d, u (ix2 r d) = ((res r d : ℝ) : EReal)) (r : Fin 512) (d : Fin 1024) :
    k0_pay5 (F := Ideal) e v (k0_pay7 v) w u (ix2 r d) = ((dx (res r) (dh r) g (x r) d : ℝ) : EReal) := by
  pointwise [k0_pay5]
  simp only [hd, hg, hr, pay_rs hx, pay_xh hx, n_f32, ← EReal.coe_mul, coe_sum]
  rw [div_real _ (by norm_num), ← EReal.coe_mul, ← EReal.coe_sub, ← EReal.coe_mul, ← EReal.coe_add]
  rfl

theorem pay_dg (acc : Vec Ideal S1x1024 .f32) (d : Fin 1024) :
    k0_pay4 (F := Ideal) e v (k0_pay7 v) acc (ix2 0 d)
      = acc (ix2 0 d) + ((∑ r, dh r d * (x r d * rs (x r)) : ℝ) : EReal) := by
  pointwise [k0_pay4]
  simp only [hd, pay_xh hx, ← EReal.coe_mul, coe_sum]

end Payloads

/-- The sum of the five pieces' products. -/
theorem pay_dh (a b c : Vec Ideal S512x1024 .bf16) (e : Vec Ideal S512x512 .bf16) (h : Vec Ideal S512x128 .bf16)
    (p q s : Vec Ideal S1024x1024 .bf16) (u : Vec Ideal S512x1024 .bf16) (w : Vec Ideal S128x1024 .bf16)
    (r : Fin 512) (d : Fin 1024) :
    k0_pay6 (F := Ideal) a p b q c s e u h w (ix2 r d)
      = ∑ f, a (ix2 r f) * p (ix2 f d) + ∑ f, b (ix2 r f) * q (ix2 f d) + ∑ f, c (ix2 r f) * s (ix2 f d)
        + ∑ f, e (ix2 r f) * u (ix2 f d) + ∑ f, h (ix2 r f) * w (ix2 f d) := by
  pointwise [k0_pay6]

theorem pay_zero (d : Fin 1024) : (k0_pay3 (F := Ideal) : Vec Ideal S1x1024 .f32) (ix2 0 d) = 0 := by
  pointwise [k0_pay3]

/-- The arrays of the call as real functions. -/
structure Arrays where
  P0 : Fin 8192 → Fin 1024 → ℝ
  P1 : Fin 8192 → Fin 1024 → ℝ
  P2 : Fin 8192 → Fin 1024 → ℝ
  P3 : Fin 8192 → Fin 512 → ℝ
  P4 : Fin 8192 → Fin 128 → ℝ
  W : Fin 1024 → Fin 3600 → ℝ
  X : Fin 8192 → Fin 1024 → ℝ
  G : Fin 1024 → ℝ
  R : Fin 8192 → Fin 1024 → ℝ

namespace Arrays

variable (A : Arrays)

/-- The gradient of the normalised rows. -/
def dh (t : Fin 8192) (d : Fin 1024) : ℝ :=
  ∑ f : Fin 1024, A.P0 t f * A.W d ⟨f.val, by omega⟩ + ∑ f : Fin 1024, A.P1 t f * A.W d ⟨1024 + f.val, by omega⟩
    + ∑ f : Fin 1024, A.P2 t f * A.W d ⟨2048 + f.val, by omega⟩ + ∑ f : Fin 512, A.P3 t f * A.W d ⟨3072 + f.val, by omega⟩
    + ∑ f : Fin 16, A.P4 t ⟨f.val, by omega⟩ * A.W d ⟨3584 + f.val, by omega⟩

/-- The two results. -/
def dx (t : Fin 8192) (d : Fin 1024) : ℝ := Norm.dx (A.R t) (A.dh t) A.G (A.X t) d
def dg (d : Fin 1024) : ℝ := ∑ t, A.dh t d * (A.X t d * rs (A.X t))

/-- The buffers hold these finite values. -/
structure Of (a0 a1 a2 : Vec Ideal S8192x1024 .bf16) (a3 : Vec Ideal S8192x512 .bf16) (a4 : Vec Ideal S8192x128 .bf16)
    (a5 : Vec Ideal S1024x3600 .f32) (a6 : Vec Ideal S8192x1024 .f32) (a7 : Vec Ideal S1x1024 .f32)
    (a8 : Vec Ideal S8192x1024 .f32) : Prop where
  h0 : ∀ t f, a0 (ix2 t f) = ((A.P0 t f : ℝ) : EReal)
  h1 : ∀ t f, a1 (ix2 t f) = ((A.P1 t f : ℝ) : EReal)
  h2 : ∀ t f, a2 (ix2 t f) = ((A.P2 t f : ℝ) : EReal)
  h3 : ∀ t f, a3 (ix2 t f) = ((A.P3 t f : ℝ) : EReal)
  h4 : ∀ t f, a4 (ix2 t f) = ((A.P4 t f : ℝ) : EReal)
  h5 : ∀ d f, a5 (ix2 d f) = ((A.W d f : ℝ) : EReal)
  h6 : ∀ t d, a6 (ix2 t d) = ((A.X t d : ℝ) : EReal)
  h7 : ∀ d, a7 (ix2 0 d) = ((A.G d : ℝ) : EReal)
  h8 : ∀ t d, a8 (ix2 t d) = ((A.R t d : ℝ) : EReal)

/-- Row `r` of row block `b`. -/
abbrev row (b : Fin 16) (r : Fin 512) : Fin 8192 := ⟨b.val * 512 + r.val, by omega⟩

end Arrays

/-- The two results as arrays. -/
def outX (A : Arrays) : Vec Ideal S8192x1024 .f32 := fun y => ((A.dx (y 0) (y 1) : ℝ) : EReal)
def outG (A : Arrays) : Vec Ideal S1x1024 .f32 := fun y => ((A.dg (y 1) : ℝ) : EReal)

end Cert.In
-- ==== Proof.InPoint.lean ====
module

public import proofs.«01_k».proof.Proof.InPay

/-!
# The kernel's results

Grid point `t` computes row block `t` of the gradient, and adds the block's rows to the gradient of the norm's weight,
which the last point writes back.
-/

@[expose] public section

noncomputable section

namespace Cert.In

open Cert.Kernel6Ideal Cert.Kernel6Ideal.Gen Idealize.ShloMosaic Idealize.ShloMosaic.TcCoe Idealize.SL.Sem
open Cert.Norm Cert.Ffn

abbrev rb (t : Fin cfg0.N) : Fin 16 := ⟨t.val, by have : cfg0.N = 16 := N_0; omega⟩

theorem idx : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0
    ∧ win0_5.index t 0 = 0 ∧ win0_5.index t 1 = 0 ∧ win0_6.index t 0 = 1 ∧ win0_6.index t 1 = 0
    ∧ win0_7.index t 0 = 2 ∧ win0_7.index t 1 = 0 ∧ win0_8.index t 0 = 6 ∧ win0_8.index t 1 = 0
    ∧ win0_9.index t 0 = 28 ∧ win0_9.index t 1 = 0
    ∧ win0_10.index t 0 = t.val ∧ win0_10.index t 1 = 0 ∧ win0_11.index t 0 = 0 ∧ win0_11.index t 1 = 0
    ∧ win0_12.index t 0 = t.val ∧ win0_12.index t 1 = 0 ∧ win0_13.index t 0 = t.val ∧ win0_13.index t 1 = 0
    ∧ win0_14.index t 0 = 0 ∧ win0_14.index t 1 = 0 :=
  (by decide +kernel : ∀ t : Fin grid0.N, _)

/-- A sum whose terms from 16 on are zero. -/
theorem short_sum (F : (f : Fin 128) → f.val < 16 → ℝ) :
    (∑ f : Fin 128, if h : f.val < 16 then F f h else 0) = ∑ f : Fin 16, F ⟨f.val, by omega⟩ f.isLt := by
  rw [Fin.sum_univ_add (a := 16) (b := 112)]
  rw [Finset.sum_eq_zero (s := (Finset.univ : Finset (Fin 112))) fun f _ => dif_neg (by simp), add_zero]
  exact Finset.sum_congr rfl fun f _ => dif_pos f.isLt

section Blocks

variable (m : (ℓ : Loc nD τ sig) → Buf (Elt Ideal) ℓ) (c : Dev nD) (t : Fin cfg0.N)

theorem blk0 (r : Fin 512) (f : Fin 1024) : (iblk m c 0 t : Vec Ideal S512x1024 .bf16) (ix2 r f)
    = m ((c : Thread nD τ).loc main_arg0) (ix2 (Arrays.row (rb t) r) f) := by
  blk_ext! [iblk, V, idx t]

theorem blk1 (r : Fin 512) (f : Fin 1024) : (iblk m c 1 t : Vec Ideal S512x1024 .bf16) (ix2 r f)
    = m ((c : Thread nD τ).loc main_arg1) (ix2 (Arrays.row (rb t) r) f) := by
  blk_ext! [iblk, V, idx t]

theorem blk2 (r : Fin 512) (f : Fin 1024) : (iblk m c 2 t : Vec Ideal S512x1024 .bf16) (ix2 r f)
    = m ((c : Thread nD τ).loc main_arg2) (ix2 (Arrays.row (rb t) r) f) := by
  blk_ext! [iblk, V, idx t]

theorem blk3 (r : Fin 512) (f : Fin 512) : (iblk m c 3 t : Vec Ideal S512x512 .bf16) (ix2 r f)
    = m ((c : Thread nD τ).loc main_arg3) (ix2 (Arrays.row (rb t) r) f) := by
  blk_ext! [iblk, V, idx t]

theorem blk4 (r : Fin 512) (f : Fin 128) : (iblk m c 4 t : Vec Ideal S512x128 .bf16) (ix2 r f)
    = m ((c : Thread nD τ).loc main_arg4) (ix2 (Arrays.row (rb t) r) f) := by
  blk_ext! [iblk, V, idx t]

/-- The transposed weight, with zeros appended. -/
theorem weight (r : Fin 3840) (d : Fin 1024) : (V m c main_v3 : Vec Ideal S3840x1024 .bf16) (ix2 r d)
    = if h : r.val < 3600 then m ((c : Thread nD τ).loc main_arg5) (ix2 d ⟨r.val, h⟩) else (0 : EReal) := by
  entry_read
  pointwise

theorem blk5 (f : Fin 1024) (d : Fin 1024) : (X0_5 m c t : Vec Ideal S1024x1024 .bf16) (ix2 f d)
    = m ((c : Thread nD τ).loc main_arg5) (ix2 d ⟨f.val, by omega⟩) := by
  trans (V m c main_v3 : Vec Ideal S3840x1024 .bf16) (ix2 ⟨f.val, by omega⟩ d)
  · unfold X0_5 Pipeline.Window.fill
    rw [dif_pos (moved0_5 t _)]
    blk_simp [iblk, idx t]
    blk_ext [idx t]
  · rw [weight, dif_pos]

theorem blk6 (f : Fin 1024) (d : Fin 1024) : (X0_6 m c t : Vec Ideal S1024x1024 .bf16) (ix2 f d)
    = m ((c : Thread nD τ).loc main_arg5) (ix2 d ⟨1024 + f.val, by omega⟩) := by
  trans (V m c main_v3 : Vec Ideal S3840x1024 .bf16) (ix2 ⟨1024 + f.val, by omega⟩ d)
  · unfold X0_6 Pipeline.Window.fill
    rw [dif_pos (moved0_6 t _)]
    blk_simp [iblk, idx t]
    blk_ext [idx t]
  · rw [weight, dif_pos]

theorem blk7 (f : Fin 1024) (d : Fin 1024) : (X0_7 m c t : Vec Ideal S1024x1024 .bf16) (ix2 f d)
    = m ((c : Thread nD τ).loc main_arg5) (ix2 d ⟨2048 + f.val, by omega⟩) := by
  trans (V m c main_v3 : Vec Ideal S3840x1024 .bf16) (ix2 ⟨2048 + f.val, by omega⟩ d)
  · unfold X0_7 Pipeline.Window.fill
    rw [dif_pos (moved0_7 t _)]
    blk_simp [iblk, idx t]
    blk_ext [idx t]
  · rw [weight, dif_pos]

theorem blk8 (f : Fin 512) (d : Fin 1024) : (X0_8 m c t : Vec Ideal S512x1024 .bf16) (ix2 f d)
    = m ((c : Thread nD τ).loc main_arg5) (ix2 d ⟨3072 + f.val, by omega⟩) := by
  trans (V m c main_v3 : Vec Ideal S3840x1024 .bf16) (ix2 ⟨3072 + f.val, by omega⟩ d)
  · unfold X0_8 Pipeline.Window.fill
    rw [dif_pos (moved0_8 t _)]
    blk_simp [iblk, idx t]
    blk_ext [idx t]
  · rw [weight, dif_pos]

/-- The last 112 rows of this block are zero. -/
theorem blk9 (f : Fin 128) (d : Fin 1024) : (iblk m c 9 t : Vec Ideal S128x1024 .bf16) (ix2 f d)
    = if h : f.val < 16 then m ((c : Thread nD τ).loc main_arg5) (ix2 d ⟨3584 + f.val, by omega⟩) else (0 : EReal) := by
  trans (V m c main_v3 : Vec Ideal S3840x1024 .bf16) (ix2 ⟨3584 + f.val, by omega⟩ d)
  · blk_simp [iblk, idx t]
    blk_ext [idx t]
  · rw [weight]
    by_cases h : f.val < 16
    · rw [dif_pos h, dif_pos (show 3584 + f.val < 3600 by omega)]
    · rw [dif_neg h, dif_neg (show ¬3584 + f.val < 3600 by omega)]

theorem blk10 (r : Fin 512) (d : Fin 1024) : (iblk m c 10 t : Vec Ideal S512x1024 .f32) (ix2 r d)
    = m ((c : Thread nD τ).loc main_arg6) (ix2 (Arrays.row (rb t) r) d) := by
  blk_ext! [iblk, V, idx t]

theorem blk11 (d : Fin 1024) : (iblk m c 11 t : Vec Ideal S1x1024 .f32) (ix2 0 d)
    = m ((c : Thread nD τ).loc main_arg7) (ix2 0 d) := by
  blk_ext! [iblk, V, idx t]

theorem blk12 (r : Fin 512) (d : Fin 1024) : (iblk m c 12 t : Vec Ideal S512x1024 .f32) (ix2 r d)
    = m ((c : Thread nD τ).loc main_arg8) (ix2 (Arrays.row (rb t) r) d) := by
  blk_ext! [iblk, V, idx t]

end Blocks

/-- The gradient of the normalised rows, of the blocks at a grid point. -/
abbrev dhAt (m : (ℓ : Loc nD τ sig) → Buf (Elt Ideal) ℓ) (c : Dev nD) (t : Fin cfg0.N) : FVec Ideal S512x1024 .f32 :=
  k0_pay6 (F := Ideal) (iblk m c 0 t) (X0_5 m c t) (iblk m c 1 t) (X0_6 m c t) (iblk m c 2 t) (X0_7 m c t)
    (iblk m c 3 t) (X0_8 m c t) (iblk m c 4 t) (iblk m c 9 t)

variable {m : (ℓ : Loc nD τ sig) → Buf (Elt Ideal) ℓ} {c : Dev nD} {A : Arrays}
  (H : A.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)))
include H

theorem last (t : Fin cfg0.N) (r : Fin 512) (f : Fin 128) (d : Fin 1024) (a : Vec Ideal S512x128 .bf16)
    (w : Vec Ideal S128x1024 .bf16) (ha : a = iblk m c 4 t) (hw : w = iblk m c 9 t) : a (ix2 r f) * w (ix2 f d)
      = ((if h : f.val < 16 then A.P4 (Arrays.row (rb t) r) f * A.W d ⟨3584 + f.val, by omega⟩ else 0 : ℝ) : EReal) := by
  rw [ha, hw, blk4, blk9]
  by_cases h : f.val < 16
  · rw [dif_pos h, dif_pos h, H.h4, H.h5, EReal.coe_mul]
  · rw [dif_neg h, dif_neg h, mul_zero, EReal.coe_zero]

theorem dh_blk (t : Fin cfg0.N) (r : Fin 512) (d : Fin 1024) :
    dhAt m c t (ix2 r d) = ((A.dh (Arrays.row (rb t) r) d : ℝ) : EReal) := by
  unfold dhAt
  rw [pay_dh]
  simp only [last H t r _ d _ _ rfl rfl, blk0, blk1, blk2, blk3, blk5, blk6, blk7, blk8]
  simp only [H.h0, H.h1, H.h2, H.h3, H.h5, ← EReal.coe_mul, coe_sum, ← EReal.coe_add, short_sum]
  rfl

theorem x_blk (t : Fin cfg0.N) (r : Fin 512) (d : Fin 1024) :
    (iblk m c 10 t : Vec Ideal S512x1024 .f32) (ix2 r d) = ((A.X (Arrays.row (rb t) r) d : ℝ) : EReal) := by
  rw [blk10, H.h6]

theorem left_dx (t : Fin cfg0.N) (r : Fin 512) (d : Fin 1024) :
    (outsAt0 m c t.val t.isLt).1 (ix2 r d) = ((A.dx (Arrays.row (rb t) r) d : ℝ) : EReal) := by
  have e := pay_dx (v := iblk m c 10 t) (x_blk H t) (e := dhAt m c t) (dh_blk H t) (w := iblk m c 11 t) (fun d => (blk11 m c t d).trans (H.h7 d))
    (u := iblk m c 12 t) (fun r d => (blk12 m c t r d).trans (H.h8 _ d)) r d
  by_cases h : t.val % 16 = 0
  · rw [outsAt0_A m c t h]; frame_out; exact e
  · rw [outsAt0_B m c t h]; frame_out; exact e

theorem arr13 : (dats m 0 c).arrAt 13 cfg0.N = outX A := by
  refine (dats m 0 c).arrAt_eq_of_covers 13 (outX A) (by decide +kernel) fun t hf y => ?_
  blk_simp
  rw [after0_13]
  obtain ⟨r, d, rfl⟩ : ∃ (r : Fin 512) (d : Fin 1024), y = ix2 r d := ⟨y 0, y 1, eq_ix2 y⟩
  refine (left_dx H t r d).trans ?_
  show outX A (ix2 (Arrays.row (rb t) r) d) = _
  blk_ext [idx t]

theorem left_dg (t : Fin cfg0.N) (ht : t.val + 1 = cfg0.N) (d : Fin 1024) :
    (outsAt0 m c t.val t.isLt).2 (ix2 0 d) = ((A.dg d : ℝ) : EReal) := by
  rw [Pipeline.eq_sum_fin_of_reset_step_apply_last (fun n h => (outsAt0 m c n h).2) 16 (fun _ => 0)
    (fun t y => ((∑ r : Fin 512, A.dh (Arrays.row (rb t) r) (y 1) * (A.X (Arrays.row (rb t) r) (y 1) * rs (A.X (Arrays.row (rb t) r))) : ℝ) : EReal))
    (fun t h y => by
      obtain ⟨d, rfl⟩ : ∃ d : Fin 1024, y = ix2 0 d := ⟨y 1, (eq_ix2 y).trans (by congr 1; exact Subsingleton.elim (α := Fin 1) _ _)⟩
      rw [outsAt0_A m c t h]; frame_out
      rw [pay_dg (v := iblk m c 10 t) (x_blk H t) (e := dhAt m c t) (dh_blk H t), pay_zero]
      rfl)
    (fun t h y => by
      obtain ⟨d, rfl⟩ : ∃ d : Fin 1024, y = ix2 0 d := ⟨y 1, (eq_ix2 y).trans (by congr 1; exact Subsingleton.elim (α := Fin 1) _ _)⟩
      rw [outsAt0_B m c t h]; frame_out
      rw [pay_dg (v := iblk m c 10 t) (x_blk H t) (e := dhAt m c t) (dh_blk H t)]
      rfl)
    (le_of_eq N_0) t ht (ix2 0 d), zero_add]
  unfold Arrays.dg
  rw [← coe_sum (n := 8192)]
  simp only [← coe_sum (n := 512)]
  refine Fin.sum_mul_add_congr (S := 16) (n := 512) (L := 8192) ?_
  intro s k hl
  rfl

theorem arr14 : (dats m 0 c).arrAt 14 cfg0.N = outG A := by
  refine (dats m 0 c).arrAt_eq_of_covers 14 (outG A) (by decide +kernel) fun t hf y => ?_
  have h15 := (by decide +kernel : ∀ t : Fin grid0.N, win0_14.flush t = true → t.val + 1 = grid0.N) t hf
  blk_simp
  rw [after0_14]
  obtain ⟨d, rfl⟩ : ∃ d : Fin 1024, y = ix2 0 d := ⟨y 1, (eq_ix2 y).trans (by congr 1; exact Subsingleton.elim (α := Fin 1) _ _)⟩
  refine (left_dg H t h15 d).trans ?_
  show outG A (ix2 0 d) = _
  blk_ext [idx t]

end Cert.In
-- ==== Proof.InRef.lean ====
module

public import proofs.«01_k».proof.Proof.InPay
public import proofs.«01_k».proof.Proof.Gen.Reference6Ideal.Read

/-!
# The reference's results
-/

@[expose] public section

noncomputable section

namespace Cert.In

open Cert.Reference6Ideal Cert.Reference6Ideal.Gen Cert.Reference6Ideal.Read Idealize.ShloMosaic
open Cert.Norm Cert.Ffn

/-- A sum over the 3600 columns of the projection is the sum over its five pieces. -/
theorem sum_pieces {M : Type} [AddCommMonoid M] (F : Fin 3600 → M) : ∑ k, F k
    = ∑ f : Fin 1024, F ⟨f.val, by omega⟩ + ∑ f : Fin 1024, F ⟨1024 + f.val, by omega⟩
      + ∑ f : Fin 1024, F ⟨2048 + f.val, by omega⟩ + ∑ f : Fin 512, F ⟨3072 + f.val, by omega⟩
      + ∑ f : Fin 16, F ⟨3584 + f.val, by omega⟩ := by
  rw [Fin.sum_univ_add (a := 3584) (b := 16) F, Fin.sum_univ_add (a := 3072) (b := 512),
    Fin.sum_univ_add (a := 2048) (b := 1024), Fin.sum_univ_add (a := 1024) (b := 1024)]
  rfl

section Pieces

variable (a0 a1 a2 : Vec Ideal S8192x1024 .bf16) (a3 : Vec Ideal S8192x512 .bf16) (a4 : Vec Ideal S8192x128 .bf16)
  (t : Fin 8192)

theorem piece0 (f : Fin 1024) : val_main_v1 (F := Ideal) a0 a1 a2 a3 a4 (ix2 t ⟨f.val, by omega⟩) = a0 (ix2 t f) := by
  pointwise [val_main_v1]

theorem piece1 (f : Fin 1024) :
    val_main_v1 (F := Ideal) a0 a1 a2 a3 a4 (ix2 t ⟨1024 + f.val, by omega⟩) = a1 (ix2 t f) := by
  pointwise [val_main_v1]

theorem piece2 (f : Fin 1024) :
    val_main_v1 (F := Ideal) a0 a1 a2 a3 a4 (ix2 t ⟨2048 + f.val, by omega⟩) = a2 (ix2 t f) := by
  pointwise [val_main_v1]
  rw [dif_neg (by omega), dif_neg (by omega), dif_pos (by omega)]
  exact congrArg (fun k => a2 (ix2 t k)) (Fin.ext (by show 2048 + f.val - 1024 - 1024 = f.val; omega))

theorem piece3 (f : Fin 512) :
    val_main_v1 (F := Ideal) a0 a1 a2 a3 a4 (ix2 t ⟨3072 + f.val, by omega⟩) = a3 (ix2 t f) := by
  pointwise [val_main_v1]
  rw [dif_neg (by omega), dif_neg (by omega), dif_neg (by omega), dif_pos (by omega)]
  exact congrArg (fun k => a3 (ix2 t k)) (Fin.ext (by show 3072 + f.val - 1024 - 1024 - 1024 = f.val; omega))

theorem piece4 (f : Fin 16) :
    val_main_v1 (F := Ideal) a0 a1 a2 a3 a4 (ix2 t ⟨3584 + f.val, by omega⟩) = a4 (ix2 t ⟨f.val, by omega⟩) := by
  pointwise [val_main_v1, val_main_v0]
  rw [dif_neg (by omega), dif_neg (by omega), dif_neg (by omega), dif_neg (by omega)]
  exact congrArg (fun k => a4 (ix2 t k)) (Fin.ext (by show 3584 + f.val - 1024 - 1024 - 1024 - 512 = f.val; omega))

end Pieces

variable {a0 a1 a2 : Vec Ideal S8192x1024 .bf16} {a3 : Vec Ideal S8192x512 .bf16} {a4 : Vec Ideal S8192x128 .bf16}
    {a5 : Vec Ideal S1024x3600 .f32} {a6 : Vec Ideal S8192x1024 .f32} {a7 : Vec Ideal S1x1024 .f32}
    {a8 : Vec Ideal S8192x1024 .f32} {A : Arrays} (H : A.Of a0 a1 a2 a3 a4 a5 a6 a7 a8)
include H

theorem ref_ms (t : Fin 8192) : val_main_v9 (F := Ideal) a6 (ix2 t 0) = ((ms (A.X t) : ℝ) : EReal) := by
  pointwise [val_main_v9, val_main_v8, val_main_v7, val_main_v6, val_main_v5, val_main_v4, val_main_v3, val_main_cst,
    val_main_cst_0, val_main_cst_1]
  exact ms_coe (A.X t) _ (H.h6 t)

theorem ref_rs (t : Fin 8192) : val_main_v10 (F := Ideal) a6 (ix2 t 0) = ((rs (A.X t) : ℝ) : EReal) := by
  pointwise [val_main_v10]
  rw [ref_ms H, rsqrt_ms]

theorem ref_slope (t : Fin 8192) :
    val_main_v13 (F := Ideal) a6 (ix2 t 0) = ((-1 / 2 * (rs (A.X t) / ms (A.X t)) : ℝ) : EReal) := by
  pointwise [val_main_v13, val_main_v12, val_main_v11, val_main_cst_2]
  rw [ref_ms H, ref_rs H, neg_half_f32, div_real _ (ms_pos _).ne', EReal.coe_mul]

theorem ref_dh (t : Fin 8192) (d : Fin 1024) :
    val_main_v19 (F := Ideal) a0 a1 a2 a3 a4 a5 (ix2 t d) = ((A.dh t d : ℝ) : EReal) := by
  pointwise [val_main_v19, val_main_v2]
  rw [sum_pieces]
  simp only [piece0, piece1, piece2, piece3, piece4, H.h0, H.h1, H.h2, H.h3, H.h4, H.h5, ← EReal.coe_mul, coe_sum, ← EReal.coe_add]
  rfl

theorem ref_dg (d : Fin 1024) : val_main_v22 (F := Ideal) a0 a1 a2 a3 a4 a5 a6 (ix2 0 d) = ((A.dg d : ℝ) : EReal) := by
  pointwise [val_main_v22, val_main_v21, val_main_v20, val_main_v15, val_main_v14, val_main_cst_3]
  unfold Arrays.dg
  rw [← coe_sum]
  refine Finset.sum_congr rfl fun t _ => ?_
  rw [ref_rs H, ref_dh H, H.h6, ← EReal.coe_mul, ← EReal.coe_mul, mul_comm]

theorem ref_proj (t : Fin 8192) : val_main_v27 (F := Ideal) a0 a1 a2 a3 a4 a5 a6 a7 (ix2 t 0)
    = ((∑ k, A.X t k * (A.dh t k * A.G k) : ℝ) : EReal) := by
  pointwise [val_main_v27, val_main_v26, val_main_v25, val_main_v24, val_main_v23, val_main_cst_4]
  simp only [ref_dh H, H.h6, H.h7, ← EReal.coe_mul, coe_sum]

theorem ref_dx (t : Fin 8192) (d : Fin 1024) :
    val_main_v39 (F := Ideal) a0 a1 a2 a3 a4 a5 a6 a7 a8 (ix2 t d) = ((A.dx t d : ℝ) : EReal) := by
  pointwise [val_main_v39, val_main_v38, val_main_v37, val_main_v36, val_main_v35, val_main_v34, val_main_v33,
    val_main_v32, val_main_v31, val_main_v30, val_main_v29, val_main_v28, val_main_v24, val_main_v23, val_main_cst_5,
    val_main_cst_6]
  simp only [Fin.sum_univ_one, ref_proj H, ref_slope H, ref_rs H, ref_dh H, H.h6, H.h7, H.h8, n_f32, ← EReal.coe_mul]
  rw [div_real _ (by norm_num)]
  simp only [← EReal.coe_mul, ← EReal.coe_add]
  congr 1
  exact dx_eq (A.R t) (A.dh t) A.G (A.X t) d

theorem ref_outX : val_main_v39 (F := Ideal) a0 a1 a2 a3 a4 a5 a6 a7 a8 = outX A :=
  funext fun y => (congrArg _ (eq_ix2 y)).trans (ref_dx H (y 0) (y 1))

theorem ref_outG : val_main_v22 (F := Ideal) a0 a1 a2 a3 a4 a5 a6 = outG A :=
  funext fun y => (congrArg _ ((eq_ix2 y).trans (by congr 1; exact Subsingleton.elim (α := Fin 1) _ _))).trans (ref_dg H (y 1))

end Cert.In
-- ==== Proof.InClaim.lean ====
module

public import proofs.«01_k».proof.Proof.InPoint
public import proofs.«01_k».proof.Proof.InRef
public import proofs.«01_k».proof.Proof.Gen.Reference6Ideal.Run
public import proofs.«01_k».proof.Proof.Gen.Pre_in_finite
public import proofs.«01_k».proof.Defs

/-!
# The gradient of the input projection: the kernel and the reference agree
-/

@[expose] public section

noncomputable section

namespace Cert.In

open Idealize.ShloMosaic Idealize.ShloMosaic.TcCoe Idealize.SL.Sem Cert.Ffn

open Cert.Kernel6Ideal in
/-- The real arrays that finite buffers hold. -/
def reals (a0 a1 a2 : Vec Ideal S8192x1024 .bf16) (a3 : Vec Ideal S8192x512 .bf16) (a4 : Vec Ideal S8192x128 .bf16)
    (a5 : Vec Ideal S1024x3600 .f32) (a6 : Vec Ideal S8192x1024 .f32) (a7 : Vec Ideal S1x1024 .f32)
    (a8 : Vec Ideal S8192x1024 .f32) : Arrays where
  P0 t f := (a0 (ix2 t f) : EReal).toReal
  P1 t f := (a1 (ix2 t f) : EReal).toReal
  P2 t f := (a2 (ix2 t f) : EReal).toReal
  P3 t f := (a3 (ix2 t f) : EReal).toReal
  P4 t f := (a4 (ix2 t f) : EReal).toReal
  W d f := (a5 (ix2 d f) : EReal).toReal
  X t d := (a6 (ix2 t d) : EReal).toReal
  G d := (a7 (ix2 0 d) : EReal).toReal
  R t d := (a8 (ix2 t d) : EReal).toReal

section Finite

open Cert.Kernel6Ideal
open Cert.Pre_in_finite (fn fn_part1)

theorem reals_of (a0 a1 a2 : Vec Ideal S8192x1024 .bf16) (a3 : Vec Ideal S8192x512 .bf16) (a4 : Vec Ideal S8192x128 .bf16)
    (a5 : Vec Ideal S1024x3600 .f32) (a6 : Vec Ideal S8192x1024 .f32) (a7 : Vec Ideal S1x1024 .f32)
    (a8 : Vec Ideal S8192x1024 .f32)
    (h0 : (fn (F := Ideal) a0 a1 a2 a3 a4 a5 a6 a7 a8).1 = fun _ => 1#1)
    (h1 : (fn (F := Ideal) a0 a1 a2 a3 a4 a5 a6 a7 a8).2.1 = fun _ => 1#1)
    (h2 : (fn (F := Ideal) a0 a1 a2 a3 a4 a5 a6 a7 a8).2.2.1 = fun _ => 1#1)
    (h3 : (fn (F := Ideal) a0 a1 a2 a3 a4 a5 a6 a7 a8).2.2.2.1 = fun _ => 1#1)
    (h4 : (fn (F := Ideal) a0 a1 a2 a3 a4 a5 a6 a7 a8).2.2.2.2.1 = fun _ => 1#1)
    (h5 : (fn (F := Ideal) a0 a1 a2 a3 a4 a5 a6 a7 a8).2.2.2.2.2.1 = fun _ => 1#1)
    (h6 : (fn (F := Ideal) a0 a1 a2 a3 a4 a5 a6 a7 a8).2.2.2.2.2.2.1 = fun _ => 1#1)
    (h7 : (fn (F := Ideal) a0 a1 a2 a3 a4 a5 a6 a7 a8).2.2.2.2.2.2.2.1 = fun _ => 1#1)
    (h8 : (fn (F := Ideal) a0 a1 a2 a3 a4 a5 a6 a7 a8).2.2.2.2.2.2.2.2 = fun _ => 1#1) :
    (reals a0 a1 a2 a3 a4 a5 a6 a7 a8).Of a0 a1 a2 a3 a4 a5 a6 a7 a8 where
  h0 t f := by
    have h := congrFun h0 (ix2 t f)
    pointwise [fn, fn_part1] at h
    exact real_of_bit h
  h1 t f := by
    have h := congrFun h1 (ix2 t f)
    pointwise [fn, fn_part1] at h
    exact real_of_bit h
  h2 t f := by
    have h := congrFun h2 (ix2 t f)
    pointwise [fn, fn_part1] at h
    exact real_of_bit h
  h3 t f := by
    have h := congrFun h3 (ix2 t f)
    pointwise [fn, fn_part1] at h
    exact real_of_bit h
  h4 t f := by
    have h := congrFun h4 (ix2 t f)
    pointwise [fn, fn_part1] at h
    exact real_of_bit h
  h5 d f := by
    have h := congrFun h5 (ix2 d f)
    pointwise [fn, fn_part1] at h
    exact real_of_bit h
  h6 t d := by
    have h := congrFun h6 (ix2 t d)
    pointwise [fn, fn_part1] at h
    exact real_of_bit h
  h7 d := by
    have h := congrFun h7 (ix2 0 d)
    pointwise [fn, fn_part1] at h
    exact real_of_bit h
  h8 t d := by
    have h := congrFun h8 (ix2 t d)
    pointwise [fn, fn_part1] at h
    exact real_of_bit h

end Finite

/-- The reference ends, leaves its arguments unchanged, and has no semaphores. -/
theorem ref_frame : Cert.quiescent_Reference6Ideal := fun m g _ =>
  (θ_run (Cert.Reference6Ideal.defs (F := Ideal)) _ _).mono
    (fun r h => And.intro (fun c => (h c).2.2) (sem_eq_zero_of_no_sems (by rfl) r.2))
    (Cert.Reference6Ideal.Value.run (F := Ideal) m g)

theorem algebraic : Cert.algebraic_Kernel6Ideal_Reference6Ideal_pre_in_finite := by
  intro m g m' g' hp heq
  let A := fun c : Dev Cert.Kernel6Ideal.nD => reals (m ((c : Thread Cert.Kernel6Ideal.nD Cert.Kernel6Ideal.τ).loc Cert.Kernel6Ideal.main_arg0))
    (m ((c : Thread Cert.Kernel6Ideal.nD Cert.Kernel6Ideal.τ).loc Cert.Kernel6Ideal.main_arg1))
    (m ((c : Thread Cert.Kernel6Ideal.nD Cert.Kernel6Ideal.τ).loc Cert.Kernel6Ideal.main_arg2))
    (m ((c : Thread Cert.Kernel6Ideal.nD Cert.Kernel6Ideal.τ).loc Cert.Kernel6Ideal.main_arg3))
    (m ((c : Thread Cert.Kernel6Ideal.nD Cert.Kernel6Ideal.τ).loc Cert.Kernel6Ideal.main_arg4))
    (m ((c : Thread Cert.Kernel6Ideal.nD Cert.Kernel6Ideal.τ).loc Cert.Kernel6Ideal.main_arg5))
    (m ((c : Thread Cert.Kernel6Ideal.nD Cert.Kernel6Ideal.τ).loc Cert.Kernel6Ideal.main_arg6))
    (m ((c : Thread Cert.Kernel6Ideal.nD Cert.Kernel6Ideal.τ).loc Cert.Kernel6Ideal.main_arg7))
    (m ((c : Thread Cert.Kernel6Ideal.nD Cert.Kernel6Ideal.τ).loc Cert.Kernel6Ideal.main_arg8))
  have H := fun c => reals_of _ _ _ _ _ _ _ _ _ (hp c).1 (hp c).2.1 (hp c).2.2.1 (hp c).2.2.2.1 (hp c).2.2.2.2.1 (hp c).2.2.2.2.2.1 (hp c).2.2.2.2.2.2.1 (hp c).2.2.2.2.2.2.2.1 (hp c).2.2.2.2.2.2.2.2
  refine ⟨fun c => outX (A c), fun c => outG (A c), ?_, ?_⟩
  · refine (θ_run _ _ _).mono (fun r h c => ?_) (Cert.Kernel6Ideal.Value.run_blocks (F := Ideal) m g)
    obtain ⟨h7, h8, hk⟩ := h c
    exact ⟨h7.trans (arr13 (H c)), h8.trans (arr14 (H c)), hk⟩
  · refine (θ_run _ _ _).mono (fun r h c => ?_) (Cert.Reference6Ideal.Value.run (F := Ideal) m' g')
    obtain ⟨h7, h8, hk⟩ := h c
    obtain ⟨e0, e1, e2, e3, e4, e5, e6, e7, e8⟩ := heq c
    refine ⟨h7.trans ?_, h8.trans ?_, hk⟩
    · rw [Cert.Reference6Ideal.Read.val_main_v39_eq, e0, e1, e2, e3, e4, e5, e6, e7, e8]; exact ref_outX (H c)
    · rw [Cert.Reference6Ideal.Read.val_main_v22_eq, e0, e1, e2, e3, e4, e5, e6]; exact ref_outG (H c)

end Cert.In
-- ==== Proof.Out.lean ====
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Point
public import Idealize.ShloMosaic.Lib.Pipeline.ValueKit.Acc
public import proofs.«01_k».proof.Defs

/-!
# The gradient of the output projection's input

Grid point `t` multiplies 1024 rows of the gradient by the two row ranges of the weight: the first 512 rows give the
gradient of the attention part, the other 1024 that of the recurrent part.
-/

@[expose] public section

noncomputable section

namespace Cert.Out

open Cert.Kernel7Ideal Cert.Kernel7Ideal.Gen Idealize.ShloMosaic Idealize.ShloMosaic.TcCoe Idealize.SL.Sem

theorem pay_attn (x : Vec Ideal S1024x1024 .f32) (w : Vec Ideal S512x1024 .bf16) (r : Fin 1024) (j : Fin 512) :
    k0_pay2 (F := Ideal) x w (ix2 r j) = ∑ k : Fin 1024, x (ix2 r k) * w (ix2 j k) := by
  pointwise [k0_pay2, k0_pay1]

theorem pay_ssm (x : Vec Ideal S1024x1024 .f32) (w : Vec Ideal S1024x1024 .bf16) (r : Fin 1024) (j : Fin 1024) :
    k0_pay3 (F := Ideal) x w (ix2 r j) = ∑ k : Fin 1024, x (ix2 r k) * w (ix2 j k) := by
  pointwise [k0_pay3, k0_pay1]

theorem idx : ∀ t : Fin cfg0.N,
    win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0 :=
  (by decide +kernel : ∀ t : Fin grid0.N, _)

/-- The two results as arrays. -/
def outA (x : Vec Ideal S8192x1024 .f32) (w : Vec Ideal S1536x1024 .f32) : Vec Ideal S8192x512 .f32 :=
  fun y => ∑ k : Fin 1024, (x (ix2 (y 0) k) * w (ix2 ⟨(y 1).val, lt_of_lt_of_le (y 1).isLt (by decide)⟩ k) : EReal)
def outS (x : Vec Ideal S8192x1024 .f32) (w : Vec Ideal S1536x1024 .f32) : Vec Ideal S8192x1024 .f32 :=
  fun y => ∑ k : Fin 1024, (x (ix2 (y 0) k) * w (ix2 ⟨512 + (y 1).val, Nat.add_lt_add_left (y 1).isLt 512⟩ k) : EReal)

section Points

variable (m : (ℓ : Loc nD τ sig) → Buf (Elt Ideal) ℓ) (c : Dev nD)

abbrev row (t : Fin cfg0.N) (r : Fin 1024) : Fin 8192 := ⟨t.val * 1024 + r.val, by have : cfg0.N = 8 := N_0; omega⟩

theorem blk0 (t : Fin cfg0.N) (r : Fin 1024) (d : Fin 1024) : (iblk m c 0 t : Vec Ideal S1024x1024 .f32) (ix2 r d)
    = m ((c : Thread nD τ).loc main_arg0) (ix2 (row t r) d) := by
  blk_ext! [iblk, V, idx t]

theorem blk1 (t : Fin cfg0.N) (j : Fin 1536) (d : Fin 1024) : (iblk m c 1 t : Vec Ideal S1536x1024 .bf16) (ix2 j d)
    = m ((c : Thread nD τ).loc main_arg1) (ix2 j d) := by
  blk_simp [iblk, idx t]
  entry_read
  pointwise
  blk_ext [idx t]

theorem rowsA (w : Vec Ideal S1536x1024 .bf16) (inb) (j : Fin 512) (k : Fin 1024) :
    View.ld w (Rect.unit (s := S1536x1024) ![0, 0] S512x1024.size inb) (ix2 j k) = w (ix2 ⟨j.val, by omega⟩ k) :=
  View.ld_unit_apply_of _ _ _ _ _ _ (by intro a; fin_cases a <;> simp)

theorem rowsS (w : Vec Ideal S1536x1024 .bf16) (inb) (j : Fin 1024) (k : Fin 1024) :
    View.ld w (Rect.unit (s := S1536x1024) ![512, 0] S1024x1024.size inb) (ix2 j k) = w (ix2 ⟨512 + j.val, by omega⟩ k) :=
  View.ld_unit_apply_of _ _ _ _ _ _ (by intro a; fin_cases a <;> simp)

theorem arrA : (dats m 0 c).arrAt 2 cfg0.N
    = outA (m ((c : Thread nD τ).loc main_arg0)) (m ((c : Thread nD τ).loc main_arg1)) := by
  refine (dats m 0 c).arrAt_eq_of_covers 2 (outA (m ((c : Thread nD τ).loc main_arg0)) (m ((c : Thread nD τ).loc main_arg1)))
    (by decide +kernel) fun t hf y => ?_
  blk_simp
  rw [after0_2]
  obtain ⟨r, j, rfl⟩ : ∃ (r : Fin 1024) (j : Fin 512), y = ix2 r j := ⟨y 0, y 1, eq_ix2 y⟩
  trans outA (m ((c : Thread nD τ).loc main_arg0)) (m ((c : Thread nD τ).loc main_arg1)) (ix2 (row t r) j)
  · frame_out
    rw [pay_attn]
    refine Finset.sum_congr rfl fun k _ => ?_
    rw [rowsA, blk0, blk1]
    rfl
  · generalize outA (m ((c : Thread nD τ).loc main_arg0)) (m ((c : Thread nD τ).loc main_arg1)) = G
    blk_ext [idx t]

theorem arrS : (dats m 0 c).arrAt 3 cfg0.N
    = outS (m ((c : Thread nD τ).loc main_arg0)) (m ((c : Thread nD τ).loc main_arg1)) := by
  refine (dats m 0 c).arrAt_eq_of_covers 3 (outS (m ((c : Thread nD τ).loc main_arg0)) (m ((c : Thread nD τ).loc main_arg1)))
    (by decide +kernel) fun t hf y => ?_
  blk_simp
  rw [after0_3]
  obtain ⟨r, j, rfl⟩ : ∃ (r : Fin 1024) (j : Fin 1024), y = ix2 r j := ⟨y 0, y 1, eq_ix2 y⟩
  trans outS (m ((c : Thread nD τ).loc main_arg0)) (m ((c : Thread nD τ).loc main_arg1)) (ix2 (row t r) j)
  · frame_out
    rw [pay_ssm]
    refine Finset.sum_congr rfl fun k _ => ?_
    rw [rowsS, blk0, blk1]
    rfl
  · generalize outS (m ((c : Thread nD τ).loc main_arg0)) (m ((c : Thread nD τ).loc main_arg1)) = G
    blk_ext [idx t]

end Points

open Cert.Reference7Ideal.Read in
theorem ref_attn (x : Vec Ideal S8192x1024 .f32) (w : Vec Ideal S1536x1024 .f32) :
    val_main_v5 (F := Ideal) x w = outA x w := by
  funext y
  obtain ⟨r, j, rfl⟩ : ∃ (r : Fin 8192) (j : Fin 512), y = ix2 r j := ⟨y 0, y 1, eq_ix2 y⟩
  pointwise [val_main_v5, val_main_v4]
  rfl

open Cert.Reference7Ideal.Read in
theorem ref_ssm (x : Vec Ideal S8192x1024 .f32) (w : Vec Ideal S1536x1024 .f32) :
    val_main_v6 (F := Ideal) x w = outS x w := by
  funext y
  obtain ⟨r, j, rfl⟩ : ∃ (r : Fin 8192) (j : Fin 1024), y = ix2 r j := ⟨y 0, y 1, eq_ix2 y⟩
  pointwise [val_main_v6, val_main_v4]
  rfl

/-- The reference ends, leaves its arguments unchanged, and has no semaphores. -/
theorem ref_frame : Cert.quiescent_Reference7Ideal := fun m g _ =>
  (θ_run (Cert.Reference7Ideal.defs (F := Ideal)) _ _).mono
    (fun r h => And.intro (fun c => (h c).2.2) (sem_eq_zero_of_no_sems (by rfl) r.2))
    (Cert.Reference7Ideal.Value.run (F := Ideal) m g)

theorem algebraic : Cert.algebraic_Kernel7Ideal_Reference7Ideal := by
  intro m g m' g' _ heq
  refine ⟨fun c => outA (m ((c : Thread nD τ).loc main_arg0)) (m ((c : Thread nD τ).loc main_arg1)),
    fun c => outS (m ((c : Thread nD τ).loc main_arg0)) (m ((c : Thread nD τ).loc main_arg1)), ?_, ?_⟩
  · refine (θ_run _ _ _).mono (fun r h c => ?_) (Cert.Kernel7Ideal.Value.run_blocks (F := Ideal) m g)
    exact ⟨(h c).1.trans (arrA m c), (h c).2.1.trans (arrS m c), (h c).2.2⟩
  · refine (θ_run _ _ _).mono (fun r h c => ?_) (Cert.Reference7Ideal.Value.run (F := Ideal) m' g')
    obtain ⟨e0, e1⟩ := heq c
    refine ⟨(h c).1.trans ?_, (h c).2.1.trans ?_, (h c).2.2⟩
    · rw [Cert.Reference7Ideal.Read.val_main_v5_eq, e0, e1]
      exact ref_attn _ _
    · rw [Cert.Reference7Ideal.Read.val_main_v6_eq, e0, e1]
      exact ref_ssm _ _

end Cert.Out
-- ==== Proof.OutGrad.lean ====
module

public import proofs.«01_k».proof.Proof.FfnStores
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit.Acc
public import proofs.«01_k».proof.Defs

/-!
# The gradient of the output projection's weight

Grid point `t` adds the products of 2048 rows to the whole gradient, the rows of the attention part and of the recurrent part apart;
the last of the four points writes it back. Sums of extended reals commute, so nothing need be finite.
-/

@[expose] public section

noncomputable section

namespace Cert.OutGrad

open Cert.Kernel8Ideal Cert.Kernel8Ideal.Gen Idealize.ShloMosaic Idealize.ShloMosaic.TcCoe Idealize.SL.Sem
open Cert.Ffn (readCov_skip readCov_filled canon_append_of_mem)

/-! ## The stores of one point -/

section Stores

variable {F : FTy → Type} [FloatOps F]
variable (x0 : Vec F S2048x512 .f32) (x1 : Vec F S2048x1024 .bf16) (x2 : Vec F S2048x1024 .f32) (acc : Vec F S1536x1024 .f32)

/-- The stores into the accumulator, given what it held. -/
abbrev L : List (View.Piece (Elt F) S1536x1024 .f32) :=
  [⟨Rect.unit ![512, 0] S1024x1024.size inb_S1536x1024_S1024x1024_512_0,
      k0_pay4 (View.ld x2 (Rect.unit ![0, 0] S2048x1024.size inb_S2048x1024_S2048x1024_0_0))
        (View.ld acc (Rect.unit ![512, 0] S1024x1024.size inb_S1536x1024_S1024x1024_512_0))
        (View.ld x1 (Rect.unit ![0, 0] S2048x1024.size inb_S2048x1024_S2048x1024_0_0))⟩,
   ⟨Rect.unit ![0, 0] S512x1024.size inb_S1536x1024_S512x1024_0_0,
      k0_pay3 (View.ld x2 (Rect.unit ![0, 0] S2048x1024.size inb_S2048x1024_S2048x1024_0_0))
        (View.ld acc (Rect.unit ![0, 0] S512x1024.size inb_S1536x1024_S512x1024_0_0))
        (View.ld x0 (Rect.unit ![0, 0] S2048x512.size inb_S2048x512_S2048x512_0_0))⟩]

/-- A load of the whole accumulator reads all its stores. -/
theorem readCov_all {sig : RefSig} {κ : Kind} {sp : Space} (v : View sig κ sp S1536x1024 .f32) (P : List (View.Piece (Elt F) S1536x1024 .f32))
    (inb) : v.readCov P (Rect.unit ![0, 0] ![1536, 1024] inb).toLoadRect = View.canon P := by
  rw [View.readCov_eq_canon']
  exact View.ld_unit_lit inb (View.canon P) (by decide)

variable (c : Dev nD) (i : grid0.Coords)
  (arg1 : Memref sig .tc .vmem S2048x512 .f32) (h1 : arg1.IsWhole)
  (arg2 : Memref sig .tc .vmem S2048x1024 .bf16) (h2 : arg2.IsWhole)
  (arg3 : Memref sig .tc .vmem S2048x1024 .f32) (h3 : arg3.IsWhole)
  (arg4 : Memref sig .tc .vmem S1536x1024 .bf16) (h4 : arg4.IsWhole)
  (arg5 : Memref sig .tc .vmem S1536x1024 .f32) (h5 : arg5.IsWhole)

theorem B (hc0 : ¬cond0_0 i) (hc1 : ¬cond0_1 i) :
    sout0_B_0 c i arg1 h1 arg2 h2 arg3 h3 arg4 h4 arg5 h5 hc0 hc1 x0 x1 x2 acc = View.canon (L x0 x1 x2 acc) := by
  unfold sout0_B_0
  rw [View.read_writes_eq_canon _ _ _ (scover0_B_0 c i arg1 h1 arg2 h2 arg3 h3 arg4 h4 arg5 h5 hc0 hc1 x0 x1 x2 acc)]
  unfold kernelRun0_B
  dsimp only
  sl_unfold_words
  simp (disch := decide) only [View.readAt_eq_ld, readCov_skip, h1.read_unread, h2.read_unread, h3.read_unread, h5.read_unread]

theorem C (hc0 : ¬cond0_0 i) (hc1 : cond0_1 i) :
    sout0_C_0 c i arg1 h1 arg2 h2 arg3 h3 arg4 h4 arg5 h5 hc0 hc1 x0 x1 x2 acc = View.canon (L x0 x1 x2 acc) := by
  unfold sout0_C_0
  rw [View.read_writes_eq_canon _ _ _ (scover0_C_0 c i arg1 h1 arg2 h2 arg3 h3 arg4 h4 arg5 h5 hc0 hc1 x0 x1 x2 acc)]
  unfold kernelRun0_C
  dsimp only
  sl_unfold_words
  simp (disch := decide) only [View.readAt_eq_ld, readCov_skip, h1.read_unread, h2.read_unread, h3.read_unread, h5.read_unread]

theorem written (hc0 : ¬cond0_0 i) (hc1 : cond0_1 i) :
    out0_C_3 c i arg1 h1 arg2 h2 arg3 h3 arg4 h4 arg5 h5 hc0 hc1 x0 x1 x2 acc = k0_pay5 (View.canon (L x0 x1 x2 acc)) := by
  unfold out0_C_3
  rw [View.read_writes_eq_canon _ _ _ (cover0_C_3 c i arg1 h1 arg2 h2 arg3 h3 arg4 h4 arg5 h5 hc0 hc1 x0 x1 x2 acc)]
  unfold kernelRun0_C
  dsimp only
  sl_unfold_words
  simp (disch := decide) only [View.readAt_eq_ld, readCov_skip, readCov_all, h1.read_unread, h2.read_unread, h3.read_unread, h5.read_unread]
  exact View.canon_cons_unit_lit _ _ _ (by decide)

theorem A (hc0 : cond0_0 i) (hc1 : ¬cond0_1 i) :
    sout0_A_0 c i arg1 h1 arg2 h2 arg3 h3 arg4 h4 arg5 h5 hc0 hc1 x0 x1 x2 = View.canon (L x0 x1 x2 k0_pay1) := by
  unfold sout0_A_0
  rw [View.read_writes_eq_canon _ _ _ (scover0_A_0 c i arg1 h1 arg2 h2 arg3 h3 arg4 h4 arg5 h5 hc0 hc1 x0 x1 x2)]
  unfold kernelRun0_A
  dsimp only
  sl_unfold_words
  simp (disch := decide) only [View.readAt_eq_ld, readCov_skip, readCov_filled, h1.read_unread, h2.read_unread, h3.read_unread, h5.read_unread]
  exact funext fun y => canon_append_of_mem [_] y (L x0 x1 x2 k0_pay1) (View.cover_of_tiledBy _ ![512, 1024] (by sl_kernel_rfl) y)

end Stores

/-! ## One point's values -/

theorem pay_zero (y : S1536x1024.Idx) : (k0_pay1 (F := Ideal) : Vec Ideal S1536x1024 .f32) y = 0 := by
  obtain ⟨f, d, rfl⟩ : ∃ (f : Fin 1536) (d : Fin 1024), y = ix2 f d := ⟨y 0, y 1, eq_ix2 y⟩
  pointwise [k0_pay1]

theorem pay_out (v : Vec Ideal S1536x1024 .f32) (y : S1536x1024.Idx) : k0_pay5 (F := Ideal) v y = v y := rfl

theorem pay_0 (b : Vec Ideal S2048x1024 .f32) (acc : Vec Ideal S512x1024 .f32) (a : Vec Ideal S2048x512 .f32)
    (f : Fin 512) (d : Fin 1024) :
    k0_pay3 (F := Ideal) b acc a (ix2 f d) = acc (ix2 f d) + ∑ r : Fin 2048, a (ix2 r f) * b (ix2 r d) := by
  pointwise [k0_pay3, k0_pay2]

theorem pay_1 (b : Vec Ideal S2048x1024 .f32) (acc : Vec Ideal S1024x1024 .f32) (a : Vec Ideal S2048x1024 .bf16)
    (f : Fin 1024) (d : Fin 1024) :
    k0_pay4 (F := Ideal) b acc a (ix2 f d) = acc (ix2 f d) + ∑ r : Fin 2048, a (ix2 r f) * b (ix2 r d) := by
  pointwise [k0_pay4, k0_pay2]

/-- The pieces of the left factor side by side: row `r`, column `f`. -/
def cat {n : ℕ} (x0 : Vec Ideal ⟨2, ![n, 512]⟩ .f32) (x1 : Vec Ideal ⟨2, ![n, 1024]⟩ .bf16) (r : Fin n) (f : Fin 1536) : EReal :=
  if h0 : f.val < 512 then x0 (ix2 r ⟨f.val, by omega⟩)
    else x1 (ix2 r ⟨f.val - 512, by omega⟩)

/-- The products of one point's rows, summed. -/
def part (x0 : Vec Ideal S2048x512 .f32) (x1 : Vec Ideal S2048x1024 .bf16) (x2 : Vec Ideal S2048x1024 .f32) (f : Fin 1536) (d : Fin 1024) : EReal :=
  ∑ r : Fin 2048, cat x0 x1 r f * x2 (ix2 r d)

theorem piece_1 (x0 : Vec Ideal S2048x512 .f32) (x1 : Vec Ideal S2048x1024 .bf16) (x2 : Vec Ideal S2048x1024 .f32) (acc : Vec Ideal S1536x1024 .f32) (f : Fin 1536) (d : Fin 1024) (x : S1024x1024.Idx)
    (h0 : f.val = 512 + (x 0).val) (h1 : d.val = (x 1).val) :
    k0_pay4 (F := Ideal) (View.ld x2 (Rect.unit ![0, 0] S2048x1024.size inb_S2048x1024_S2048x1024_0_0))
      (View.ld acc (Rect.unit ![512, 0] S1024x1024.size inb_S1536x1024_S1024x1024_512_0))
      (View.ld x1 (Rect.unit ![0, 0] S2048x1024.size inb_S2048x1024_S2048x1024_0_0)) x
      = acc (ix2 f d) + part x0 x1 x2 f d := by
  obtain ⟨p, q, rfl⟩ : ∃ (p : Fin 1024) (q : Fin 1024), x = ix2 p q := ⟨x 0, x 1, eq_ix2 x⟩
  have h0 : f.val = 512 + p.val := h0
  obtain rfl : d = q := Fin.ext h1
  have hp := p.isLt
  refine (pay_1 _ _ _ _ _).trans (congrArg₂ (· + ·) ?_ (Finset.sum_congr rfl fun r _ => congrArg₂ (· * ·) ?_ ?_))
  · exact View.ld_unit_apply_of _ _ _ _ _ _ (by intro a; fin_cases a <;> simp <;> omega)
  · rw [View.ld_unit_lit _ _ (by decide)]
    unfold cat
    rw [dif_neg (show ¬(f.val < 512) by omega)]
    exact congrArg (fun p => x1 (ix2 r p)) (Fin.ext (by simp only []; omega))
  · rw [View.ld_unit_lit _ _ (by decide)]

theorem piece_0 (x0 : Vec Ideal S2048x512 .f32) (x1 : Vec Ideal S2048x1024 .bf16) (x2 : Vec Ideal S2048x1024 .f32) (acc : Vec Ideal S1536x1024 .f32) (f : Fin 1536) (d : Fin 1024) (x : S512x1024.Idx)
    (h0 : f.val = (x 0).val) (h1 : d.val = (x 1).val) :
    k0_pay3 (F := Ideal) (View.ld x2 (Rect.unit ![0, 0] S2048x1024.size inb_S2048x1024_S2048x1024_0_0))
      (View.ld acc (Rect.unit ![0, 0] S512x1024.size inb_S1536x1024_S512x1024_0_0))
      (View.ld x0 (Rect.unit ![0, 0] S2048x512.size inb_S2048x512_S2048x512_0_0)) x
      = acc (ix2 f d) + part x0 x1 x2 f d := by
  obtain ⟨p, q, rfl⟩ : ∃ (p : Fin 512) (q : Fin 1024), x = ix2 p q := ⟨x 0, x 1, eq_ix2 x⟩
  have h0 : f.val = p.val := h0
  obtain rfl : d = q := Fin.ext h1
  have hp := p.isLt
  refine (pay_0 _ _ _ _ _).trans (congrArg₂ (· + ·) ?_ (Finset.sum_congr rfl fun r _ => congrArg₂ (· * ·) ?_ ?_))
  · exact View.ld_unit_apply_of _ _ _ _ _ _ (by intro a; fin_cases a <;> simp <;> omega)
  · rw [View.ld_unit_lit _ _ (by decide)]
    unfold cat
    rw [dif_pos (show f.val < 512 by omega)]
    exact congrArg (fun p => x0 (ix2 r p)) (Fin.ext (by simp only []; omega))
  · rw [View.ld_unit_lit _ _ (by decide)]

theorem L_apply (x0 : Vec Ideal S2048x512 .f32) (x1 : Vec Ideal S2048x1024 .bf16) (x2 : Vec Ideal S2048x1024 .f32) (acc : Vec Ideal S1536x1024 .f32) (f : Fin 1536) (d : Fin 1024) :
    View.canon (L (F := Ideal) x0 x1 x2 acc) (ix2 f d) = acc (ix2 f d) + part x0 x1 x2 f d := by
  canon_tiles x h using View.cover_of_tiledBy _ ![512, 1024] (by sl_kernel_rfl) (ix2 f d)
  · exact piece_1 x0 x1 x2 acc f d x h0 h1
  · exact piece_0 x0 x1 x2 acc f d x h0 h1

theorem idx : ∀ t : Fin cfg0.N,
    win0_0.index t 0 = t.val ∧ win0_0.index t 1 = 0 ∧ win0_1.index t 0 = t.val ∧ win0_1.index t 1 = 0 ∧ win0_2.index t 0 = t.val ∧ win0_2.index t 1 = 0
    ∧ win0_3.index t 0 = 0 ∧ win0_3.index t 1 = 0 :=
  (by decide +kernel : ∀ t : Fin grid0.N, _)

/-- The result as an array: the sum over all rows of the products. -/
def out (x0 : Vec Ideal S8192x512 .f32) (x1 : Vec Ideal S8192x1024 .bf16) (x2 : Vec Ideal S8192x1024 .f32) : Vec Ideal S1536x1024 .bf16 :=
  fun y => ∑ t : Fin 8192, (cat x0 x1 t (y 0) * x2 (ix2 t (y 1)) : EReal)

/-! ## The kernel's result -/

section Points

variable (m : (ℓ : Loc nD τ sig) → Buf (Elt Ideal) ℓ) (c : Dev nD)

abbrev row (t : Fin cfg0.N) (r : Fin 2048) : Fin 8192 := ⟨t.val * 2048 + r.val, by have : cfg0.N = 4 := N_0; omega⟩

abbrev res : Vec Ideal S1536x1024 .bf16 :=
  out (m ((c : Thread nD τ).loc main_arg0)) (m ((c : Thread nD τ).loc main_arg1)) (m ((c : Thread nD τ).loc main_arg2))

theorem blk0 (t : Fin cfg0.N) (r : Fin 2048) (f : Fin 512) : (iblk m c 0 t : Vec Ideal S2048x512 .f32) (ix2 r f)
    = m ((c : Thread nD τ).loc main_arg0) (ix2 (row t r) f) := by
  blk_ext! [iblk, V, idx t]

theorem blk1 (t : Fin cfg0.N) (r : Fin 2048) (f : Fin 1024) : (iblk m c 1 t : Vec Ideal S2048x1024 .bf16) (ix2 r f)
    = m ((c : Thread nD τ).loc main_arg1) (ix2 (row t r) f) := by
  blk_ext! [iblk, V, idx t]

theorem blk2 (t : Fin cfg0.N) (r : Fin 2048) (f : Fin 1024) : (iblk m c 2 t : Vec Ideal S2048x1024 .f32) (ix2 r f)
    = m ((c : Thread nD τ).loc main_arg2) (ix2 (row t r) f) := by
  blk_ext! [iblk, V, idx t]

theorem cat_blk (t : Fin cfg0.N) (r : Fin 2048) (f : Fin 1536) :
    cat (iblk m c 0 t) (iblk m c 1 t) r f = cat (m ((c : Thread nD τ).loc main_arg0)) (m ((c : Thread nD τ).loc main_arg1)) (row t r) f := by
  unfold cat
  split
  · exact blk0 m c t r _
  · exact blk1 m c t r _

theorem scratch (t : Fin cfg0.N) (ht : t.val = 3) (f : Fin 1536) (d : Fin 1024) :
    (outsAt0 m c t.val t.isLt).2 (ix2 f d) = ∑ s : Fin 4, part (iblk m c 0 (s.cast N_0.symm)) (iblk m c 1 (s.cast N_0.symm)) (iblk m c 2 (s.cast N_0.symm)) f d := by
  have hN : cfg0.N = 4 := N_0
  rw [Pipeline.eq_sum_fin_of_reset_step_apply_last (fun n h => (outsAt0 m c n h).2) 4 (fun _ => 0)
    (fun t y => part (iblk m c 0 t) (iblk m c 1 t) (iblk m c 2 t) (y 0) (y 1))
    (fun t h y => by
      obtain ⟨f, d, rfl⟩ : ∃ (f : Fin 1536) (d : Fin 1024), y = ix2 f d := ⟨y 0, y 1, eq_ix2 y⟩
      rw [outsAt0_A m c t (by omega) (by omega)]
      dsimp only
      rw [A]
      exact (L_apply _ _ _ _ f d).trans (congrArg (· + _) (pay_zero _)))
    (fun t h y => by
      obtain ⟨f, d, rfl⟩ : ∃ (f : Fin 1536) (d : Fin 1024), y = ix2 f d := ⟨y 0, y 1, eq_ix2 y⟩
      have := t.isLt
      by_cases h3 : t.val % 4 = 3
      · rw [outsAt0_C m c t (by omega) h3]
        dsimp only
        rw [C]
        exact L_apply _ _ _ _ f d
      · rw [outsAt0_B m c t (by omega) h3]
        dsimp only
        rw [B]
        exact L_apply _ _ _ _ f d)
    (le_of_eq N_0) t (by omega) (ix2 f d), zero_add]
  rfl

/-- The last point writes back what was accumulated. -/
theorem written_eq (t : Fin cfg0.N) (h : t.val % 4 = 3) (y : S1536x1024.Idx) :
    (outsAt0 m c t.val t.isLt).1 y = (outsAt0 m c t.val t.isLt).2 y := by
  rw [outsAt0_C m c t (by omega) h]
  dsimp only
  rw [C, written]
  exact pay_out _ _

theorem arr : (dats m 0 c).arrAt 3 cfg0.N = res m c := by
  refine (dats m 0 c).arrAt_eq_of_covers 3 (res m c) (by decide +kernel) fun t hf y => ?_
  have h3 := (by decide +kernel : ∀ t : Fin grid0.N, win0_3.flush t = true → t.val = 3) t hf
  blk_simp
  rw [after0_3]
  obtain ⟨f, d, rfl⟩ : ∃ (f : Fin 1536) (d : Fin 1024), y = ix2 f d := ⟨y 0, y 1, eq_ix2 y⟩
  refine (written_eq m c t (by omega) _).trans ((scratch m c t h3 f d).trans ?_)
  trans res m c (ix2 f d)
  · refine Fin.sum_mul_add_congr (S := 4) (n := 2048) (L := 8192) ?_
    intro s r hl
    rw [cat_blk, blk2]
    rfl
  · generalize res m c = G
    blk_ext [idx t]

end Points

open Cert.Reference8Ideal.Read in
theorem ref_out (x0 : Vec Ideal S8192x512 .f32) (x1 : Vec Ideal S8192x1024 .bf16) (x2 : Vec Ideal S8192x1024 .f32) :
    val_main_v6 (F := Ideal) x0 x1 x2 = out x0 x1 x2 := by
  funext y
  obtain ⟨f, d, rfl⟩ : ∃ (f : Fin 1536) (d : Fin 1024), y = ix2 f d := ⟨y 0, y 1, eq_ix2 y⟩
  pointwise [val_main_v6, val_main_v5, val_main_v4, val_main_v2, val_main_v1]
  exact Finset.sum_congr rfl fun t _ => mul_comm _ _

/-- The reference ends, leaves its arguments unchanged, and has no semaphores. -/
theorem ref_frame : Cert.quiescent_Reference8Ideal := fun m g _ =>
  (θ_run (Cert.Reference8Ideal.defs (F := Ideal)) _ _).mono
    (fun r h => And.intro (fun c => (h c).2) (sem_eq_zero_of_no_sems (by rfl) r.2))
    (Cert.Reference8Ideal.Value.run (F := Ideal) m g)

theorem algebraic : Cert.algebraic_Kernel8Ideal_Reference8Ideal := by
  intro m g m' g' _ heq
  refine ⟨fun c => res m c, ?_, ?_⟩
  · refine (θ_run _ _ _).mono (fun r h c => ?_) (Cert.Kernel8Ideal.Value.run_blocks (F := Ideal) m g)
    exact ⟨(h c).1.trans (arr m c), (h c).2⟩
  · refine (θ_run _ _ _).mono (fun r h c => ?_) (Cert.Reference8Ideal.Value.run (F := Ideal) m' g')
    obtain ⟨e0, e1, e2⟩ := heq c
    refine ⟨(h c).1.trans ?_, (h c).2⟩
    rw [Cert.Reference8Ideal.Read.val_main_v6_eq, e0, e1, e2]
    exact ref_out _ _ _

end Cert.OutGrad
-- ==== Proof.QkvzGrad.lean ====
module

public import proofs.«01_k».proof.Proof.FfnStores
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Acc
public import proofs.«01_k».proof.Defs

/-!
# The gradient of the first 2048 columns of the input projection's weight

Grid point `t` adds the products of 2048 rows to the whole gradient, the two pieces of its columns apart;
the last of the four points writes it back. Sums of extended reals commute, so nothing need be finite.
-/

@[expose] public section

noncomputable section

namespace Cert.QkvzGrad

open Cert.Kernel9Ideal Cert.Kernel9Ideal.Gen Idealize.ShloMosaic Idealize.ShloMosaic.TcCoe Idealize.SL.Sem
open Cert.Ffn (readCov_skip readCov_filled canon_append_of_mem)

/-! ## The stores of one point -/

section Stores

variable {F : FTy → Type} [FloatOps F]
variable (x0 : Vec F S2048x1024 .bf16) (x1 : Vec F S2048x1024 .bf16) (x2 : Vec F S2048x1024 .bf16) (acc : Vec F S2048x1024 .f32)

/-- The stores into the accumulator, given what it held. -/
abbrev L : List (View.Piece (Elt F) S2048x1024 .f32) :=
  [⟨Rect.unit ![1024, 0] S1024x1024.size inb_S2048x1024_S1024x1024_1024_0,
      k0_pay3 (View.ld x2 (Rect.unit ![0, 0] S2048x1024.size inb_S2048x1024_S2048x1024_0_0))
        (View.ld acc (Rect.unit ![1024, 0] S1024x1024.size inb_S2048x1024_S1024x1024_1024_0))
        (View.ld x1 (Rect.unit ![0, 0] S2048x1024.size inb_S2048x1024_S2048x1024_0_0))⟩,
   ⟨Rect.unit ![0, 0] S1024x1024.size inb_S2048x1024_S1024x1024_0_0,
      k0_pay2 (View.ld x2 (Rect.unit ![0, 0] S2048x1024.size inb_S2048x1024_S2048x1024_0_0))
        (View.ld acc (Rect.unit ![0, 0] S1024x1024.size inb_S2048x1024_S1024x1024_0_0))
        (View.ld x0 (Rect.unit ![0, 0] S2048x1024.size inb_S2048x1024_S2048x1024_0_0))⟩]

/-- A load of the whole accumulator reads all its stores. -/
theorem readCov_all {sig : RefSig} {κ : Kind} {sp : Space} (v : View sig κ sp S2048x1024 .f32) (P : List (View.Piece (Elt F) S2048x1024 .f32))
    (inb) : v.readCov P (Rect.unit ![0, 0] ![2048, 1024] inb).toLoadRect = View.canon P := by
  rw [View.readCov_eq_canon']
  exact View.ld_unit_lit inb (View.canon P) (by decide)

variable (c : Dev nD) (i : grid0.Coords)
  (arg1 : Memref sig .tc .vmem S2048x1024 .bf16) (h1 : arg1.IsWhole)
  (arg2 : Memref sig .tc .vmem S2048x1024 .bf16) (h2 : arg2.IsWhole)
  (arg3 : Memref sig .tc .vmem S2048x1024 .bf16) (h3 : arg3.IsWhole)
  (arg4 : Memref sig .tc .vmem S2048x1024 .bf16) (h4 : arg4.IsWhole)
  (arg5 : Memref sig .tc .vmem S2048x1024 .f32) (h5 : arg5.IsWhole)

theorem B (hc0 : ¬cond0_0 i) (hc1 : ¬cond0_1 i) :
    sout0_B_0 c i arg1 h1 arg2 h2 arg3 h3 arg4 h4 arg5 h5 hc0 hc1 x0 x1 x2 acc = View.canon (L x0 x1 x2 acc) := by
  unfold sout0_B_0
  rw [View.read_writes_eq_canon _ _ _ (scover0_B_0 c i arg1 h1 arg2 h2 arg3 h3 arg4 h4 arg5 h5 hc0 hc1 x0 x1 x2 acc)]
  unfold kernelRun0_B
  dsimp only
  sl_unfold_words
  simp (disch := decide) only [View.readAt_eq_ld, readCov_skip, h1.read_unread, h2.read_unread, h3.read_unread, h5.read_unread]

theorem C (hc0 : ¬cond0_0 i) (hc1 : cond0_1 i) :
    sout0_C_0 c i arg1 h1 arg2 h2 arg3 h3 arg4 h4 arg5 h5 hc0 hc1 x0 x1 x2 acc = View.canon (L x0 x1 x2 acc) := by
  unfold sout0_C_0
  rw [View.read_writes_eq_canon _ _ _ (scover0_C_0 c i arg1 h1 arg2 h2 arg3 h3 arg4 h4 arg5 h5 hc0 hc1 x0 x1 x2 acc)]
  unfold kernelRun0_C
  dsimp only
  sl_unfold_words
  simp (disch := decide) only [View.readAt_eq_ld, readCov_skip, h1.read_unread, h2.read_unread, h3.read_unread, h5.read_unread]

theorem written (hc0 : ¬cond0_0 i) (hc1 : cond0_1 i) :
    out0_C_3 c i arg1 h1 arg2 h2 arg3 h3 arg4 h4 arg5 h5 hc0 hc1 x0 x1 x2 acc = k0_pay4 (View.canon (L x0 x1 x2 acc)) := by
  unfold out0_C_3
  rw [View.read_writes_eq_canon _ _ _ (cover0_C_3 c i arg1 h1 arg2 h2 arg3 h3 arg4 h4 arg5 h5 hc0 hc1 x0 x1 x2 acc)]
  unfold kernelRun0_C
  dsimp only
  sl_unfold_words
  simp (disch := decide) only [View.readAt_eq_ld, readCov_skip, readCov_all, h1.read_unread, h2.read_unread, h3.read_unread, h5.read_unread]
  exact View.canon_cons_unit_lit _ _ _ (by decide)

theorem A (hc0 : cond0_0 i) (hc1 : ¬cond0_1 i) :
    sout0_A_0 c i arg1 h1 arg2 h2 arg3 h3 arg4 h4 arg5 h5 hc0 hc1 x0 x1 x2 = View.canon (L x0 x1 x2 k0_pay1) := by
  unfold sout0_A_0
  rw [View.read_writes_eq_canon _ _ _ (scover0_A_0 c i arg1 h1 arg2 h2 arg3 h3 arg4 h4 arg5 h5 hc0 hc1 x0 x1 x2)]
  unfold kernelRun0_A
  dsimp only
  sl_unfold_words
  simp (disch := decide) only [View.readAt_eq_ld, readCov_skip, readCov_filled, h1.read_unread, h2.read_unread, h3.read_unread, h5.read_unread]
  exact funext fun y => canon_append_of_mem [_] y (L x0 x1 x2 k0_pay1) (View.cover_of_tiledBy _ ![1024, 1024] (by sl_kernel_rfl) y)

end Stores

/-! ## One point's values -/

theorem pay_zero (y : S2048x1024.Idx) : (k0_pay1 (F := Ideal) : Vec Ideal S2048x1024 .f32) y = 0 := by
  obtain ⟨f, d, rfl⟩ : ∃ (f : Fin 2048) (d : Fin 1024), y = ix2 f d := ⟨y 0, y 1, eq_ix2 y⟩
  pointwise [k0_pay1]

theorem pay_out (v : Vec Ideal S2048x1024 .f32) (y : S2048x1024.Idx) : k0_pay4 (F := Ideal) v y = v y := rfl

theorem pay_0 (b : Vec Ideal S2048x1024 .bf16) (acc : Vec Ideal S1024x1024 .f32) (a : Vec Ideal S2048x1024 .bf16)
    (f : Fin 1024) (d : Fin 1024) :
    k0_pay2 (F := Ideal) b acc a (ix2 f d) = acc (ix2 f d) + ∑ r : Fin 2048, a (ix2 r f) * b (ix2 r d) := by
  pointwise [k0_pay2]

theorem pay_1 (b : Vec Ideal S2048x1024 .bf16) (acc : Vec Ideal S1024x1024 .f32) (a : Vec Ideal S2048x1024 .bf16)
    (f : Fin 1024) (d : Fin 1024) :
    k0_pay3 (F := Ideal) b acc a (ix2 f d) = acc (ix2 f d) + ∑ r : Fin 2048, a (ix2 r f) * b (ix2 r d) := by
  pointwise [k0_pay3]

/-- The pieces of the left factor side by side: row `r`, column `f`. -/
def cat {n : ℕ} (x0 : Vec Ideal ⟨2, ![n, 1024]⟩ .bf16) (x1 : Vec Ideal ⟨2, ![n, 1024]⟩ .bf16) (r : Fin n) (f : Fin 2048) : EReal :=
  if h0 : f.val < 1024 then x0 (ix2 r ⟨f.val, by omega⟩)
    else x1 (ix2 r ⟨f.val - 1024, by omega⟩)

/-- The products of one point's rows, summed. -/
def part (x0 : Vec Ideal S2048x1024 .bf16) (x1 : Vec Ideal S2048x1024 .bf16) (x2 : Vec Ideal S2048x1024 .bf16) (f : Fin 2048) (d : Fin 1024) : EReal :=
  ∑ r : Fin 2048, cat x0 x1 r f * x2 (ix2 r d)

theorem piece_1 (x0 : Vec Ideal S2048x1024 .bf16) (x1 : Vec Ideal S2048x1024 .bf16) (x2 : Vec Ideal S2048x1024 .bf16) (acc : Vec Ideal S2048x1024 .f32) (f : Fin 2048) (d : Fin 1024) (x : S1024x1024.Idx)
    (h0 : f.val = 1024 + (x 0).val) (h1 : d.val = (x 1).val) :
    k0_pay3 (F := Ideal) (View.ld x2 (Rect.unit ![0, 0] S2048x1024.size inb_S2048x1024_S2048x1024_0_0))
      (View.ld acc (Rect.unit ![1024, 0] S1024x1024.size inb_S2048x1024_S1024x1024_1024_0))
      (View.ld x1 (Rect.unit ![0, 0] S2048x1024.size inb_S2048x1024_S2048x1024_0_0)) x
      = acc (ix2 f d) + part x0 x1 x2 f d := by
  obtain ⟨p, q, rfl⟩ : ∃ (p : Fin 1024) (q : Fin 1024), x = ix2 p q := ⟨x 0, x 1, eq_ix2 x⟩
  have h0 : f.val = 1024 + p.val := h0
  obtain rfl : d = q := Fin.ext h1
  have hp := p.isLt
  refine (pay_1 _ _ _ _ _).trans (congrArg₂ (· + ·) ?_ (Finset.sum_congr rfl fun r _ => congrArg₂ (· * ·) ?_ ?_))
  · exact View.ld_unit_apply_of _ _ _ _ _ _ (by intro a; fin_cases a <;> simp <;> omega)
  · rw [View.ld_unit_lit _ _ (by decide)]
    unfold cat
    rw [dif_neg (show ¬(f.val < 1024) by omega)]
    exact congrArg (fun p => x1 (ix2 r p)) (Fin.ext (by simp only []; omega))
  · rw [View.ld_unit_lit _ _ (by decide)]

theorem piece_0 (x0 : Vec Ideal S2048x1024 .bf16) (x1 : Vec Ideal S2048x1024 .bf16) (x2 : Vec Ideal S2048x1024 .bf16) (acc : Vec Ideal S2048x1024 .f32) (f : Fin 2048) (d : Fin 1024) (x : S1024x1024.Idx)
    (h0 : f.val = (x 0).val) (h1 : d.val = (x 1).val) :
    k0_pay2 (F := Ideal) (View.ld x2 (Rect.unit ![0, 0] S2048x1024.size inb_S2048x1024_S2048x1024_0_0))
      (View.ld acc (Rect.unit ![0, 0] S1024x1024.size inb_S2048x1024_S1024x1024_0_0))
      (View.ld x0 (Rect.unit ![0, 0] S2048x1024.size inb_S2048x1024_S2048x1024_0_0)) x
      = acc (ix2 f d) + part x0 x1 x2 f d := by
  obtain ⟨p, q, rfl⟩ : ∃ (p : Fin 1024) (q : Fin 1024), x = ix2 p q := ⟨x 0, x 1, eq_ix2 x⟩
  have h0 : f.val = p.val := h0
  obtain rfl : d = q := Fin.ext h1
  have hp := p.isLt
  refine (pay_0 _ _ _ _ _).trans (congrArg₂ (· + ·) ?_ (Finset.sum_congr rfl fun r _ => congrArg₂ (· * ·) ?_ ?_))
  · exact View.ld_unit_apply_of _ _ _ _ _ _ (by intro a; fin_cases a <;> simp <;> omega)
  · rw [View.ld_unit_lit _ _ (by decide)]
    unfold cat
    rw [dif_pos (show f.val < 1024 by omega)]
    exact congrArg (fun p => x0 (ix2 r p)) (Fin.ext (by simp only []; omega))
  · rw [View.ld_unit_lit _ _ (by decide)]

theorem L_apply (x0 : Vec Ideal S2048x1024 .bf16) (x1 : Vec Ideal S2048x1024 .bf16) (x2 : Vec Ideal S2048x1024 .bf16) (acc : Vec Ideal S2048x1024 .f32) (f : Fin 2048) (d : Fin 1024) :
    View.canon (L (F := Ideal) x0 x1 x2 acc) (ix2 f d) = acc (ix2 f d) + part x0 x1 x2 f d := by
  canon_tiles x h using View.cover_of_tiledBy _ ![1024, 1024] (by sl_kernel_rfl) (ix2 f d)
  · exact piece_1 x0 x1 x2 acc f d x h0 h1
  · exact piece_0 x0 x1 x2 acc f d x h0 h1

theorem idx : ∀ t : Fin cfg0.N,
    win0_0.index t 0 = t.val ∧ win0_0.index t 1 = 0 ∧ win0_1.index t 0 = t.val ∧ win0_1.index t 1 = 0 ∧ win0_2.index t 0 = t.val ∧ win0_2.index t 1 = 0
    ∧ win0_3.index t 0 = 0 ∧ win0_3.index t 1 = 0 :=
  (by decide +kernel : ∀ t : Fin grid0.N, _)

/-- The result as an array: the sum over all rows of the products. -/
def out (x0 : Vec Ideal S8192x1024 .bf16) (x1 : Vec Ideal S8192x1024 .bf16) (x2 : Vec Ideal S8192x1024 .bf16) : Vec Ideal S2048x1024 .bf16 :=
  fun y => ∑ t : Fin 8192, (cat x0 x1 t (y 0) * x2 (ix2 t (y 1)) : EReal)

/-! ## The kernel's result -/

section Points

variable (m : (ℓ : Loc nD τ sig) → Buf (Elt Ideal) ℓ) (c : Dev nD)

abbrev row (t : Fin cfg0.N) (r : Fin 2048) : Fin 8192 := ⟨t.val * 2048 + r.val, by have : cfg0.N = 4 := N_0; omega⟩

abbrev res : Vec Ideal S2048x1024 .bf16 :=
  out (m ((c : Thread nD τ).loc main_arg0)) (m ((c : Thread nD τ).loc main_arg1)) (m ((c : Thread nD τ).loc main_arg2))

theorem blk0 (t : Fin cfg0.N) (r : Fin 2048) (f : Fin 1024) : (iblk m c 0 t : Vec Ideal S2048x1024 .bf16) (ix2 r f)
    = m ((c : Thread nD τ).loc main_arg0) (ix2 (row t r) f) := by
  blk_ext! [iblk, V, idx t]

theorem blk1 (t : Fin cfg0.N) (r : Fin 2048) (f : Fin 1024) : (iblk m c 1 t : Vec Ideal S2048x1024 .bf16) (ix2 r f)
    = m ((c : Thread nD τ).loc main_arg1) (ix2 (row t r) f) := by
  blk_ext! [iblk, V, idx t]

theorem blk2 (t : Fin cfg0.N) (r : Fin 2048) (f : Fin 1024) : (iblk m c 2 t : Vec Ideal S2048x1024 .bf16) (ix2 r f)
    = m ((c : Thread nD τ).loc main_arg2) (ix2 (row t r) f) := by
  blk_ext! [iblk, V, idx t]

theorem cat_blk (t : Fin cfg0.N) (r : Fin 2048) (f : Fin 2048) :
    cat (iblk m c 0 t) (iblk m c 1 t) r f = cat (m ((c : Thread nD τ).loc main_arg0)) (m ((c : Thread nD τ).loc main_arg1)) (row t r) f := by
  unfold cat
  split
  · exact blk0 m c t r _
  · exact blk1 m c t r _

theorem scratch (t : Fin cfg0.N) (ht : t.val = 3) (f : Fin 2048) (d : Fin 1024) :
    (outsAt0 m c t.val t.isLt).2 (ix2 f d) = ∑ s : Fin 4, part (iblk m c 0 (s.cast N_0.symm)) (iblk m c 1 (s.cast N_0.symm)) (iblk m c 2 (s.cast N_0.symm)) f d := by
  have hN : cfg0.N = 4 := N_0
  rw [Pipeline.eq_sum_fin_of_reset_step_apply_last (fun n h => (outsAt0 m c n h).2) 4 (fun _ => 0)
    (fun t y => part (iblk m c 0 t) (iblk m c 1 t) (iblk m c 2 t) (y 0) (y 1))
    (fun t h y => by
      obtain ⟨f, d, rfl⟩ : ∃ (f : Fin 2048) (d : Fin 1024), y = ix2 f d := ⟨y 0, y 1, eq_ix2 y⟩
      rw [outsAt0_A m c t (by omega) (by omega)]
      dsimp only
      rw [A]
      exact (L_apply _ _ _ _ f d).trans (congrArg (· + _) (pay_zero _)))
    (fun t h y => by
      obtain ⟨f, d, rfl⟩ : ∃ (f : Fin 2048) (d : Fin 1024), y = ix2 f d := ⟨y 0, y 1, eq_ix2 y⟩
      have := t.isLt
      by_cases h3 : t.val % 4 = 3
      · rw [outsAt0_C m c t (by omega) h3]
        dsimp only
        rw [C]
        exact L_apply _ _ _ _ f d
      · rw [outsAt0_B m c t (by omega) h3]
        dsimp only
        rw [B]
        exact L_apply _ _ _ _ f d)
    (le_of_eq N_0) t (by omega) (ix2 f d), zero_add]
  rfl

/-- The last point writes back what was accumulated. -/
theorem written_eq (t : Fin cfg0.N) (h : t.val % 4 = 3) (y : S2048x1024.Idx) :
    (outsAt0 m c t.val t.isLt).1 y = (outsAt0 m c t.val t.isLt).2 y := by
  rw [outsAt0_C m c t (by omega) h]
  dsimp only
  rw [C, written]
  exact pay_out _ _

theorem arr : (dats m 0 c).arrAt 3 cfg0.N = res m c := by
  refine (dats m 0 c).arrAt_eq_of_covers 3 (res m c) (by decide +kernel) fun t hf y => ?_
  have h3 := (by decide +kernel : ∀ t : Fin grid0.N, win0_3.flush t = true → t.val = 3) t hf
  blk_simp
  rw [after0_3]
  obtain ⟨f, d, rfl⟩ : ∃ (f : Fin 2048) (d : Fin 1024), y = ix2 f d := ⟨y 0, y 1, eq_ix2 y⟩
  refine (written_eq m c t (by omega) _).trans ((scratch m c t h3 f d).trans ?_)
  trans res m c (ix2 f d)
  · refine Fin.sum_mul_add_congr (S := 4) (n := 2048) (L := 8192) ?_
    intro s r hl
    rw [cat_blk, blk2]
    rfl
  · generalize res m c = G
    blk_ext [idx t]

end Points

open Cert.Reference9Ideal.Read in
theorem ref_out (x0 : Vec Ideal S8192x1024 .bf16) (x1 : Vec Ideal S8192x1024 .bf16) (x2 : Vec Ideal S8192x1024 .bf16) :
    val_main_v8 (F := Ideal) x0 x1 x2 = out x0 x1 x2 := by
  funext y
  obtain ⟨f, d, rfl⟩ : ∃ (f : Fin 2048) (d : Fin 1024), y = ix2 f d := ⟨y 0, y 1, eq_ix2 y⟩
  pointwise [val_main_v8, val_main_v7, val_main_v6, val_main_v5, val_main_v4, val_main_v3, val_main_v1]
  rfl

/-- The reference ends, leaves its arguments unchanged, and has no semaphores. -/
theorem ref_frame : Cert.quiescent_Reference9Ideal := fun m g _ =>
  (θ_run (Cert.Reference9Ideal.defs (F := Ideal)) _ _).mono
    (fun r h => And.intro (fun c => (h c).2) (sem_eq_zero_of_no_sems (by rfl) r.2))
    (Cert.Reference9Ideal.Value.run (F := Ideal) m g)

theorem algebraic : Cert.algebraic_Kernel9Ideal_Reference9Ideal := by
  intro m g m' g' _ heq
  refine ⟨fun c => res m c, ?_, ?_⟩
  · refine (θ_run _ _ _).mono (fun r h c => ?_) (Cert.Kernel9Ideal.Value.run_blocks (F := Ideal) m g)
    exact ⟨(h c).1.trans (arr m c), (h c).2⟩
  · refine (θ_run _ _ _).mono (fun r h c => ?_) (Cert.Reference9Ideal.Value.run (F := Ideal) m' g')
    obtain ⟨e0, e1, e2⟩ := heq c
    refine ⟨(h c).1.trans ?_, (h c).2⟩
    rw [Cert.Reference9Ideal.Read.val_main_v8_eq, e0, e1, e2]
    exact ref_out _ _ _

end Cert.QkvzGrad
-- ==== Proof.XbcdtGrad.lean ====
module

public import proofs.«01_k».proof.Proof.FfnStores
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit.Acc
public import proofs.«01_k».proof.Defs

/-!
# The gradient of the last columns of the input projection's weight

Grid point `t` adds the products of 2048 rows to the whole gradient, the three pieces of its columns apart;
the last of the four points writes it back. Sums of extended reals commute, so nothing need be finite.
-/

@[expose] public section

noncomputable section

namespace Cert.XbcdtGrad

open Cert.Kernel10Ideal Cert.Kernel10Ideal.Gen Idealize.ShloMosaic Idealize.ShloMosaic.TcCoe Idealize.SL.Sem
open Cert.Ffn (readCov_skip readCov_filled canon_append_of_mem)

/-! ## The stores of one point -/

section Stores

variable {F : FTy → Type} [FloatOps F]
variable (x0 : Vec F S2048x1024 .bf16) (x1 : Vec F S2048x512 .bf16) (x2 : Vec F S2048x128 .bf16) (x3 : Vec F S2048x1024 .bf16) (acc : Vec F S1664x1024 .f32)

/-- The stores into the accumulator, given what it held. -/
abbrev L : List (View.Piece (Elt F) S1664x1024 .f32) :=
  [⟨Rect.unit ![1536, 0] S128x1024.size inb_S1664x1024_S128x1024_1536_0,
      k0_pay5 (View.ld x3 (Rect.unit ![0, 0] S2048x1024.size inb_S2048x1024_S2048x1024_0_0))
        (View.ld acc (Rect.unit ![1536, 0] S128x1024.size inb_S1664x1024_S128x1024_1536_0))
        (View.ld x2 (Rect.unit ![0, 0] S2048x128.size inb_S2048x128_S2048x128_0_0))⟩,
   ⟨Rect.unit ![1024, 0] S512x1024.size inb_S1664x1024_S512x1024_1024_0,
      k0_pay4 (View.ld x3 (Rect.unit ![0, 0] S2048x1024.size inb_S2048x1024_S2048x1024_0_0))
        (View.ld acc (Rect.unit ![1024, 0] S512x1024.size inb_S1664x1024_S512x1024_1024_0))
        (View.ld x1 (Rect.unit ![0, 0] S2048x512.size inb_S2048x512_S2048x512_0_0))⟩,
   ⟨Rect.unit ![0, 0] S1024x1024.size inb_S1664x1024_S1024x1024_0_0,
      k0_pay3 (View.ld x3 (Rect.unit ![0, 0] S2048x1024.size inb_S2048x1024_S2048x1024_0_0))
        (View.ld acc (Rect.unit ![0, 0] S1024x1024.size inb_S1664x1024_S1024x1024_0_0))
        (View.ld x0 (Rect.unit ![0, 0] S2048x1024.size inb_S2048x1024_S2048x1024_0_0))⟩]

/-- A load of the whole accumulator reads all its stores. -/
theorem readCov_all {sig : RefSig} {κ : Kind} {sp : Space} (v : View sig κ sp S1664x1024 .f32) (P : List (View.Piece (Elt F) S1664x1024 .f32))
    (inb) : v.readCov P (Rect.unit ![0, 0] ![1664, 1024] inb).toLoadRect = View.canon P := by
  rw [View.readCov_eq_canon']
  exact View.ld_unit_lit inb (View.canon P) (by decide)

variable (c : Dev nD) (i : grid0.Coords)
  (arg1 : Memref sig .tc .vmem S2048x1024 .bf16) (h1 : arg1.IsWhole)
  (arg2 : Memref sig .tc .vmem S2048x512 .bf16) (h2 : arg2.IsWhole)
  (arg3 : Memref sig .tc .vmem S2048x128 .bf16) (h3 : arg3.IsWhole)
  (arg4 : Memref sig .tc .vmem S2048x1024 .bf16) (h4 : arg4.IsWhole)
  (arg5 : Memref sig .tc .vmem S1664x1024 .bf16) (h5 : arg5.IsWhole)
  (arg6 : Memref sig .tc .vmem S1664x1024 .f32) (h6 : arg6.IsWhole)

theorem B (hc0 : ¬cond0_0 i) (hc1 : ¬cond0_1 i) :
    sout0_B_0 c i arg1 h1 arg2 h2 arg3 h3 arg4 h4 arg5 h5 arg6 h6 hc0 hc1 x0 x1 x2 x3 acc = View.canon (L x0 x1 x2 x3 acc) := by
  unfold sout0_B_0
  rw [View.read_writes_eq_canon _ _ _ (scover0_B_0 c i arg1 h1 arg2 h2 arg3 h3 arg4 h4 arg5 h5 arg6 h6 hc0 hc1 x0 x1 x2 x3 acc)]
  unfold kernelRun0_B
  dsimp only
  sl_unfold_words
  simp (disch := decide) only [View.readAt_eq_ld, readCov_skip, h1.read_unread, h2.read_unread, h3.read_unread, h4.read_unread, h6.read_unread]

theorem C (hc0 : ¬cond0_0 i) (hc1 : cond0_1 i) :
    sout0_C_0 c i arg1 h1 arg2 h2 arg3 h3 arg4 h4 arg5 h5 arg6 h6 hc0 hc1 x0 x1 x2 x3 acc = View.canon (L x0 x1 x2 x3 acc) := by
  unfold sout0_C_0
  rw [View.read_writes_eq_canon _ _ _ (scover0_C_0 c i arg1 h1 arg2 h2 arg3 h3 arg4 h4 arg5 h5 arg6 h6 hc0 hc1 x0 x1 x2 x3 acc)]
  unfold kernelRun0_C
  dsimp only
  sl_unfold_words
  simp (disch := decide) only [View.readAt_eq_ld, readCov_skip, h1.read_unread, h2.read_unread, h3.read_unread, h4.read_unread, h6.read_unread]

theorem written (hc0 : ¬cond0_0 i) (hc1 : cond0_1 i) :
    out0_C_4 c i arg1 h1 arg2 h2 arg3 h3 arg4 h4 arg5 h5 arg6 h6 hc0 hc1 x0 x1 x2 x3 acc = k0_pay1 (View.canon (L x0 x1 x2 x3 acc)) := by
  unfold out0_C_4
  rw [View.read_writes_eq_canon _ _ _ (cover0_C_4 c i arg1 h1 arg2 h2 arg3 h3 arg4 h4 arg5 h5 arg6 h6 hc0 hc1 x0 x1 x2 x3 acc)]
  unfold kernelRun0_C
  dsimp only
  sl_unfold_words
  simp (disch := decide) only [View.readAt_eq_ld, readCov_skip, readCov_all, h1.read_unread, h2.read_unread, h3.read_unread, h4.read_unread, h6.read_unread]
  exact View.canon_cons_unit_lit _ _ _ (by decide)

theorem A (hc0 : cond0_0 i) (hc1 : ¬cond0_1 i) :
    sout0_A_0 c i arg1 h1 arg2 h2 arg3 h3 arg4 h4 arg5 h5 arg6 h6 hc0 hc1 x0 x1 x2 x3 = View.canon (L x0 x1 x2 x3 k0_pay2) := by
  unfold sout0_A_0
  rw [View.read_writes_eq_canon _ _ _ (scover0_A_0 c i arg1 h1 arg2 h2 arg3 h3 arg4 h4 arg5 h5 arg6 h6 hc0 hc1 x0 x1 x2 x3)]
  unfold kernelRun0_A
  dsimp only
  sl_unfold_words
  simp (disch := decide) only [View.readAt_eq_ld, readCov_skip, readCov_filled, h1.read_unread, h2.read_unread, h3.read_unread, h4.read_unread, h6.read_unread]
  exact funext fun y => canon_append_of_mem [_] y (L x0 x1 x2 x3 k0_pay2) (View.cover_of_tiledBy _ ![128, 1024] (by sl_kernel_rfl) y)

end Stores

/-! ## One point's values -/

theorem pay_zero (y : S1664x1024.Idx) : (k0_pay2 (F := Ideal) : Vec Ideal S1664x1024 .f32) y = 0 := by
  obtain ⟨f, d, rfl⟩ : ∃ (f : Fin 1664) (d : Fin 1024), y = ix2 f d := ⟨y 0, y 1, eq_ix2 y⟩
  pointwise [k0_pay2]

theorem pay_out (v : Vec Ideal S1664x1024 .f32) (y : S1664x1024.Idx) : k0_pay1 (F := Ideal) v y = v y := rfl

theorem pay_0 (b : Vec Ideal S2048x1024 .bf16) (acc : Vec Ideal S1024x1024 .f32) (a : Vec Ideal S2048x1024 .bf16)
    (f : Fin 1024) (d : Fin 1024) :
    k0_pay3 (F := Ideal) b acc a (ix2 f d) = acc (ix2 f d) + ∑ r : Fin 2048, a (ix2 r f) * b (ix2 r d) := by
  pointwise [k0_pay3]

theorem pay_1 (b : Vec Ideal S2048x1024 .bf16) (acc : Vec Ideal S512x1024 .f32) (a : Vec Ideal S2048x512 .bf16)
    (f : Fin 512) (d : Fin 1024) :
    k0_pay4 (F := Ideal) b acc a (ix2 f d) = acc (ix2 f d) + ∑ r : Fin 2048, a (ix2 r f) * b (ix2 r d) := by
  pointwise [k0_pay4]

theorem pay_2 (b : Vec Ideal S2048x1024 .bf16) (acc : Vec Ideal S128x1024 .f32) (a : Vec Ideal S2048x128 .bf16)
    (f : Fin 128) (d : Fin 1024) :
    k0_pay5 (F := Ideal) b acc a (ix2 f d) = acc (ix2 f d) + ∑ r : Fin 2048, a (ix2 r f) * b (ix2 r d) := by
  pointwise [k0_pay5]

/-- The pieces of the left factor side by side: row `r`, column `f`. -/
def cat {n : ℕ} (x0 : Vec Ideal ⟨2, ![n, 1024]⟩ .bf16) (x1 : Vec Ideal ⟨2, ![n, 512]⟩ .bf16) (x2 : Vec Ideal ⟨2, ![n, 128]⟩ .bf16) (r : Fin n) (f : Fin 1664) : EReal :=
  if h0 : f.val < 1024 then x0 (ix2 r ⟨f.val, by omega⟩)
    else if h1 : f.val - 1024 < 512 then x1 (ix2 r ⟨f.val - 1024, by omega⟩)
    else x2 (ix2 r ⟨f.val - 1024 - 512, by omega⟩)

/-- The products of one point's rows, summed. -/
def part (x0 : Vec Ideal S2048x1024 .bf16) (x1 : Vec Ideal S2048x512 .bf16) (x2 : Vec Ideal S2048x128 .bf16) (x3 : Vec Ideal S2048x1024 .bf16) (f : Fin 1664) (d : Fin 1024) : EReal :=
  ∑ r : Fin 2048, cat x0 x1 x2 r f * x3 (ix2 r d)

theorem piece_2 (x0 : Vec Ideal S2048x1024 .bf16) (x1 : Vec Ideal S2048x512 .bf16) (x2 : Vec Ideal S2048x128 .bf16) (x3 : Vec Ideal S2048x1024 .bf16) (acc : Vec Ideal S1664x1024 .f32) (f : Fin 1664) (d : Fin 1024) (x : S128x1024.Idx)
    (h0 : f.val = 1536 + (x 0).val) (h1 : d.val = (x 1).val) :
    k0_pay5 (F := Ideal) (View.ld x3 (Rect.unit ![0, 0] S2048x1024.size inb_S2048x1024_S2048x1024_0_0))
      (View.ld acc (Rect.unit ![1536, 0] S128x1024.size inb_S1664x1024_S128x1024_1536_0))
      (View.ld x2 (Rect.unit ![0, 0] S2048x128.size inb_S2048x128_S2048x128_0_0)) x
      = acc (ix2 f d) + part x0 x1 x2 x3 f d := by
  obtain ⟨p, q, rfl⟩ : ∃ (p : Fin 128) (q : Fin 1024), x = ix2 p q := ⟨x 0, x 1, eq_ix2 x⟩
  have h0 : f.val = 1536 + p.val := h0
  obtain rfl : d = q := Fin.ext h1
  have hp := p.isLt
  refine (pay_2 _ _ _ _ _).trans (congrArg₂ (· + ·) ?_ (Finset.sum_congr rfl fun r _ => congrArg₂ (· * ·) ?_ ?_))
  · exact View.ld_unit_apply_of _ _ _ _ _ _ (by intro a; fin_cases a <;> simp <;> omega)
  · rw [View.ld_unit_lit _ _ (by decide)]
    unfold cat
    rw [dif_neg (show ¬(f.val < 1024) by omega), dif_neg (show ¬(f.val - 1024 < 512) by omega)]
    exact congrArg (fun p => x2 (ix2 r p)) (Fin.ext (by simp only []; omega))
  · rw [View.ld_unit_lit _ _ (by decide)]

theorem piece_1 (x0 : Vec Ideal S2048x1024 .bf16) (x1 : Vec Ideal S2048x512 .bf16) (x2 : Vec Ideal S2048x128 .bf16) (x3 : Vec Ideal S2048x1024 .bf16) (acc : Vec Ideal S1664x1024 .f32) (f : Fin 1664) (d : Fin 1024) (x : S512x1024.Idx)
    (h0 : f.val = 1024 + (x 0).val) (h1 : d.val = (x 1).val) :
    k0_pay4 (F := Ideal) (View.ld x3 (Rect.unit ![0, 0] S2048x1024.size inb_S2048x1024_S2048x1024_0_0))
      (View.ld acc (Rect.unit ![1024, 0] S512x1024.size inb_S1664x1024_S512x1024_1024_0))
      (View.ld x1 (Rect.unit ![0, 0] S2048x512.size inb_S2048x512_S2048x512_0_0)) x
      = acc (ix2 f d) + part x0 x1 x2 x3 f d := by
  obtain ⟨p, q, rfl⟩ : ∃ (p : Fin 512) (q : Fin 1024), x = ix2 p q := ⟨x 0, x 1, eq_ix2 x⟩
  have h0 : f.val = 1024 + p.val := h0
  obtain rfl : d = q := Fin.ext h1
  have hp := p.isLt
  refine (pay_1 _ _ _ _ _).trans (congrArg₂ (· + ·) ?_ (Finset.sum_congr rfl fun r _ => congrArg₂ (· * ·) ?_ ?_))
  · exact View.ld_unit_apply_of _ _ _ _ _ _ (by intro a; fin_cases a <;> simp <;> omega)
  · rw [View.ld_unit_lit _ _ (by decide)]
    unfold cat
    rw [dif_neg (show ¬(f.val < 1024) by omega), dif_pos (show f.val - 1024 < 512 by omega)]
    exact congrArg (fun p => x1 (ix2 r p)) (Fin.ext (by simp only []; omega))
  · rw [View.ld_unit_lit _ _ (by decide)]

theorem piece_0 (x0 : Vec Ideal S2048x1024 .bf16) (x1 : Vec Ideal S2048x512 .bf16) (x2 : Vec Ideal S2048x128 .bf16) (x3 : Vec Ideal S2048x1024 .bf16) (acc : Vec Ideal S1664x1024 .f32) (f : Fin 1664) (d : Fin 1024) (x : S1024x1024.Idx)
    (h0 : f.val = (x 0).val) (h1 : d.val = (x 1).val) :
    k0_pay3 (F := Ideal) (View.ld x3 (Rect.unit ![0, 0] S2048x1024.size inb_S2048x1024_S2048x1024_0_0))
      (View.ld acc (Rect.unit ![0, 0] S1024x1024.size inb_S1664x1024_S1024x1024_0_0))
      (View.ld x0 (Rect.unit ![0, 0] S2048x1024.size inb_S2048x1024_S2048x1024_0_0)) x
      = acc (ix2 f d) + part x0 x1 x2 x3 f d := by
  obtain ⟨p, q, rfl⟩ : ∃ (p : Fin 1024) (q : Fin 1024), x = ix2 p q := ⟨x 0, x 1, eq_ix2 x⟩
  have h0 : f.val = p.val := h0
  obtain rfl : d = q := Fin.ext h1
  have hp := p.isLt
  refine (pay_0 _ _ _ _ _).trans (congrArg₂ (· + ·) ?_ (Finset.sum_congr rfl fun r _ => congrArg₂ (· * ·) ?_ ?_))
  · exact View.ld_unit_apply_of _ _ _ _ _ _ (by intro a; fin_cases a <;> simp <;> omega)
  · rw [View.ld_unit_lit _ _ (by decide)]
    unfold cat
    rw [dif_pos (show f.val < 1024 by omega)]
    exact congrArg (fun p => x0 (ix2 r p)) (Fin.ext (by simp only []; omega))
  · rw [View.ld_unit_lit _ _ (by decide)]

theorem L_apply (x0 : Vec Ideal S2048x1024 .bf16) (x1 : Vec Ideal S2048x512 .bf16) (x2 : Vec Ideal S2048x128 .bf16) (x3 : Vec Ideal S2048x1024 .bf16) (acc : Vec Ideal S1664x1024 .f32) (f : Fin 1664) (d : Fin 1024) :
    View.canon (L (F := Ideal) x0 x1 x2 x3 acc) (ix2 f d) = acc (ix2 f d) + part x0 x1 x2 x3 f d := by
  canon_tiles x h using View.cover_of_tiledBy _ ![128, 1024] (by sl_kernel_rfl) (ix2 f d)
  · exact piece_2 x0 x1 x2 x3 acc f d x h0 h1
  · exact piece_1 x0 x1 x2 x3 acc f d x h0 h1
  · exact piece_0 x0 x1 x2 x3 acc f d x h0 h1

theorem idx : ∀ t : Fin cfg0.N,
    win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0
    ∧ win0_4.index t 0 = 0 ∧ win0_4.index t 1 = 0 :=
  (by decide +kernel : ∀ t : Fin grid0.N, _)

/-- The result as an array: the sum over all rows of the products. -/
def out (x0 : Vec Ideal S8192x1024 .bf16) (x1 : Vec Ideal S8192x512 .bf16) (x2 : Vec Ideal S8192x128 .bf16) (x3 : Vec Ideal S8192x1024 .bf16) : Vec Ideal S1664x1024 .bf16 :=
  fun y => ∑ t : Fin 8192, (cat x0 x1 x2 t (y 0) * x3 (ix2 t (y 1)) : EReal)

/-! ## The kernel's result -/

section Points

variable (m : (ℓ : Loc nD τ sig) → Buf (Elt Ideal) ℓ) (c : Dev nD)

abbrev row (t : Fin cfg0.N) (r : Fin 2048) : Fin 8192 := ⟨t.val * 2048 + r.val, by have : cfg0.N = 4 := N_0; omega⟩

abbrev res : Vec Ideal S1664x1024 .bf16 :=
  out (m ((c : Thread nD τ).loc main_arg0)) (m ((c : Thread nD τ).loc main_arg1)) (m ((c : Thread nD τ).loc main_arg2)) (m ((c : Thread nD τ).loc main_arg3))

theorem blk0 (t : Fin cfg0.N) (r : Fin 2048) (f : Fin 1024) : (iblk m c 0 t : Vec Ideal S2048x1024 .bf16) (ix2 r f)
    = m ((c : Thread nD τ).loc main_arg0) (ix2 (row t r) f) := by
  blk_ext! [iblk, V, idx t]

theorem blk1 (t : Fin cfg0.N) (r : Fin 2048) (f : Fin 512) : (iblk m c 1 t : Vec Ideal S2048x512 .bf16) (ix2 r f)
    = m ((c : Thread nD τ).loc main_arg1) (ix2 (row t r) f) := by
  blk_ext! [iblk, V, idx t]

theorem blk2 (t : Fin cfg0.N) (r : Fin 2048) (f : Fin 128) : (iblk m c 2 t : Vec Ideal S2048x128 .bf16) (ix2 r f)
    = m ((c : Thread nD τ).loc main_arg2) (ix2 (row t r) f) := by
  blk_ext! [iblk, V, idx t]

theorem blk3 (t : Fin cfg0.N) (r : Fin 2048) (f : Fin 1024) : (iblk m c 3 t : Vec Ideal S2048x1024 .bf16) (ix2 r f)
    = m ((c : Thread nD τ).loc main_arg3) (ix2 (row t r) f) := by
  blk_ext! [iblk, V, idx t]

theorem cat_blk (t : Fin cfg0.N) (r : Fin 2048) (f : Fin 1664) :
    cat (iblk m c 0 t) (iblk m c 1 t) (iblk m c 2 t) r f = cat (m ((c : Thread nD τ).loc main_arg0)) (m ((c : Thread nD τ).loc main_arg1)) (m ((c : Thread nD τ).loc main_arg2)) (row t r) f := by
  unfold cat
  split
  · exact blk0 m c t r _
  · split
    · exact blk1 m c t r _
    · exact blk2 m c t r _

theorem scratch (t : Fin cfg0.N) (ht : t.val = 3) (f : Fin 1664) (d : Fin 1024) :
    (outsAt0 m c t.val t.isLt).2 (ix2 f d) = ∑ s : Fin 4, part (iblk m c 0 (s.cast N_0.symm)) (iblk m c 1 (s.cast N_0.symm)) (iblk m c 2 (s.cast N_0.symm)) (iblk m c 3 (s.cast N_0.symm)) f d := by
  have hN : cfg0.N = 4 := N_0
  rw [Pipeline.eq_sum_fin_of_reset_step_apply_last (fun n h => (outsAt0 m c n h).2) 4 (fun _ => 0)
    (fun t y => part (iblk m c 0 t) (iblk m c 1 t) (iblk m c 2 t) (iblk m c 3 t) (y 0) (y 1))
    (fun t h y => by
      obtain ⟨f, d, rfl⟩ : ∃ (f : Fin 1664) (d : Fin 1024), y = ix2 f d := ⟨y 0, y 1, eq_ix2 y⟩
      rw [outsAt0_A m c t (by omega) (by omega)]
      dsimp only
      rw [A]
      exact (L_apply _ _ _ _ _ f d).trans (congrArg (· + _) (pay_zero _)))
    (fun t h y => by
      obtain ⟨f, d, rfl⟩ : ∃ (f : Fin 1664) (d : Fin 1024), y = ix2 f d := ⟨y 0, y 1, eq_ix2 y⟩
      have := t.isLt
      by_cases h3 : t.val % 4 = 3
      · rw [outsAt0_C m c t (by omega) h3]
        dsimp only
        rw [C]
        exact L_apply _ _ _ _ _ f d
      · rw [outsAt0_B m c t (by omega) h3]
        dsimp only
        rw [B]
        exact L_apply _ _ _ _ _ f d)
    (le_of_eq N_0) t (by omega) (ix2 f d), zero_add]
  rfl

/-- The last point writes back what was accumulated. -/
theorem written_eq (t : Fin cfg0.N) (h : t.val % 4 = 3) (y : S1664x1024.Idx) :
    (outsAt0 m c t.val t.isLt).1 y = (outsAt0 m c t.val t.isLt).2 y := by
  rw [outsAt0_C m c t (by omega) h]
  dsimp only
  rw [C, written]
  exact pay_out _ _

theorem arr : (dats m 0 c).arrAt 4 cfg0.N = res m c := by
  refine (dats m 0 c).arrAt_eq_of_covers 4 (res m c) (by decide +kernel) fun t hf y => ?_
  have h3 := (by decide +kernel : ∀ t : Fin grid0.N, win0_4.flush t = true → t.val = 3) t hf
  blk_simp
  rw [after0_4]
  obtain ⟨f, d, rfl⟩ : ∃ (f : Fin 1664) (d : Fin 1024), y = ix2 f d := ⟨y 0, y 1, eq_ix2 y⟩
  refine (written_eq m c t (by omega) _).trans ((scratch m c t h3 f d).trans ?_)
  trans res m c (ix2 f d)
  · refine Fin.sum_mul_add_congr (S := 4) (n := 2048) (L := 8192) ?_
    intro s r hl
    rw [cat_blk, blk3]
    rfl
  · generalize res m c = G
    blk_ext [idx t]

end Points

open Cert.Reference10Ideal.Read in
theorem ref_out (x0 : Vec Ideal S8192x1024 .bf16) (x1 : Vec Ideal S8192x512 .bf16) (x2 : Vec Ideal S8192x128 .bf16) (x3 : Vec Ideal S8192x1024 .bf16) :
    val_main_v8 (F := Ideal) x0 x1 x2 x3 = out x0 x1 x2 x3 := by
  funext y
  obtain ⟨f, d, rfl⟩ : ∃ (f : Fin 1664) (d : Fin 1024), y = ix2 f d := ⟨y 0, y 1, eq_ix2 y⟩
  pointwise [val_main_v8, val_main_v7, val_main_v6, val_main_v5, val_main_v4, val_main_v3, val_main_v1]
  rfl

/-- The reference ends, leaves its arguments unchanged, and has no semaphores. -/
theorem ref_frame : Cert.quiescent_Reference10Ideal := fun m g _ =>
  (θ_run (Cert.Reference10Ideal.defs (F := Ideal)) _ _).mono
    (fun r h => And.intro (fun c => (h c).2) (sem_eq_zero_of_no_sems (by rfl) r.2))
    (Cert.Reference10Ideal.Value.run (F := Ideal) m g)

theorem algebraic : Cert.algebraic_Kernel10Ideal_Reference10Ideal := by
  intro m g m' g' _ heq
  refine ⟨fun c => res m c, ?_, ?_⟩
  · refine (θ_run _ _ _).mono (fun r h c => ?_) (Cert.Kernel10Ideal.Value.run_blocks (F := Ideal) m g)
    exact ⟨(h c).1.trans (arr m c), (h c).2⟩
  · refine (θ_run _ _ _).mono (fun r h c => ?_) (Cert.Reference10Ideal.Value.run (F := Ideal) m' g')
    obtain ⟨e0, e1, e2, e3⟩ := heq c
    refine ⟨(h c).1.trans ?_, (h c).2⟩
    rw [Cert.Reference10Ideal.Read.val_main_v8_eq, e0, e1, e2, e3]
    exact ref_out _ _ _ _

end Cert.XbcdtGrad
-- ==== Proof.GateGrad.lean ====
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit.Point
public import Idealize.ShloMosaic.Lib.Pipeline.ValueKit.Acc
public import proofs.«01_k».proof.Defs

/-!
# The gradient of the gate's weight

Grid point `t` adds the products of 2048 rows to the whole gradient; the last of the four points writes it back. Sums of
extended reals commute, so nothing need be finite.
-/

@[expose] public section

noncomputable section

namespace Cert.GateGrad

open Cert.Kernel11Ideal Cert.Kernel11Ideal.Gen Idealize.ShloMosaic Idealize.ShloMosaic.TcCoe Idealize.SL.Sem

theorem pay_zero (f : Fin 1024) (d : Fin 1024) : (k0_pay1 (F := Ideal) : Vec Ideal S1024x1024 .f32) (ix2 f d) = 0 := by
  pointwise [k0_pay1]

/-- The products of one point's rows, summed. -/
def part (a : Vec Ideal S2048x1024 .bf16) (b : Vec Ideal S2048x1024 .bf16) (f : Fin 1024) (d : Fin 1024) : EReal :=
  ∑ r : Fin 2048, a (ix2 r f) * b (ix2 r d)

theorem pay_acc (acc : Vec Ideal S1024x1024 .f32) (a : Vec Ideal S2048x1024 .bf16) (b : Vec Ideal S2048x1024 .bf16)
    (f : Fin 1024) (d : Fin 1024) :
    k0_pay2 (F := Ideal) acc a b (ix2 f d) = acc (ix2 f d) + part a b f d := by
  pointwise [k0_pay2]
  rfl

theorem pay_out (v : Vec Ideal S1024x1024 .f32) (y : S1024x1024.Idx) : k0_pay3 (F := Ideal) v y = v y := rfl

theorem idx : ∀ t : Fin cfg0.N,
    win0_0.index t 0 = t.val ∧ win0_0.index t 1 = 0 ∧ win0_1.index t 0 = t.val ∧ win0_1.index t 1 = 0
    ∧ win0_2.index t 0 = 0 ∧ win0_2.index t 1 = 0 :=
  (by decide +kernel : ∀ t : Fin grid0.N, _)

/-- The result as an array: the sum over all rows of the products. -/
def out (a : Vec Ideal S8192x1024 .bf16) (b : Vec Ideal S8192x1024 .bf16) : Vec Ideal S1024x1024 .bf16 :=
  fun y => ∑ t : Fin 8192, (a (ix2 t (y 0)) * b (ix2 t (y 1)) : EReal)

section Points

variable (m : (ℓ : Loc nD τ sig) → Buf (Elt Ideal) ℓ) (c : Dev nD)

theorem blk0 (t : Fin cfg0.N) (r : Fin 2048) (f : Fin 1024) : (iblk m c 0 t : Vec Ideal S2048x1024 .bf16) (ix2 r f)
    = m ((c : Thread nD τ).loc main_arg0) (ix2 ⟨t.val * 2048 + r.val, by have : cfg0.N = 4 := N_0; omega⟩ f) := by
  blk_ext! [iblk, V, idx t]

theorem blk1 (t : Fin cfg0.N) (r : Fin 2048) (d : Fin 1024) : (iblk m c 1 t : Vec Ideal S2048x1024 .bf16) (ix2 r d)
    = m ((c : Thread nD τ).loc main_arg1) (ix2 ⟨t.val * 2048 + r.val, by have : cfg0.N = 4 := N_0; omega⟩ d) := by
  blk_ext! [iblk, V, idx t]

theorem scratch (t : Fin cfg0.N) (ht : t.val = 3) (f : Fin 1024) (d : Fin 1024) :
    (outsAt0 m c t.val t.isLt).2 (ix2 f d)
      = ∑ s : Fin 4, part (iblk m c 0 (s.cast N_0.symm)) (iblk m c 1 (s.cast N_0.symm)) f d := by
  have hN : cfg0.N = 4 := N_0
  rw [Pipeline.eq_sum_fin_of_reset_step_apply_last (fun n h => (outsAt0 m c n h).2) 4 (fun _ => 0)
    (fun t y => part (iblk m c 0 t) (iblk m c 1 t) (y 0) (y 1))
    (fun t h y => by
      obtain ⟨f, d, rfl⟩ : ∃ (f : Fin 1024) (d : Fin 1024), y = ix2 f d := ⟨y 0, y 1, eq_ix2 y⟩
      rw [outsAt0_A m c t (by omega) (by omega)]; frame_out
      rw [pay_acc, pay_zero]
      rfl)
    (fun t h y => by
      obtain ⟨f, d, rfl⟩ : ∃ (f : Fin 1024) (d : Fin 1024), y = ix2 f d := ⟨y 0, y 1, eq_ix2 y⟩
      have := t.isLt
      by_cases h3 : t.val % 4 = 3
      · rw [outsAt0_C m c t (by omega) h3]; frame_out
        rw [pay_acc]
        exact congrArg (· + _) (congrFun (Memref.IsWhole.read_unread (Memref.isWhole_whole cc0_scratch0) _) _)
      · rw [outsAt0_B m c t (by omega) h3]; frame_out
        rw [pay_acc]
        exact congrArg (· + _) (congrFun (Memref.IsWhole.read_unread (Memref.isWhole_whole cc0_scratch0) _) _))
    (le_of_eq N_0) t (by omega) (ix2 f d), zero_add]
  rfl

/-- The last point writes back what was accumulated. -/
theorem written (t : Fin cfg0.N) (h : t.val % 4 = 3) (y : S1024x1024.Idx) :
    (outsAt0 m c t.val t.isLt).1 y = (outsAt0 m c t.val t.isLt).2 y := by
  rw [outsAt0_C m c t (by omega) h]; frame_out
  exact pay_out _ _

theorem arr : (dats m 0 c).arrAt 2 cfg0.N
    = out (m ((c : Thread nD τ).loc main_arg0)) (m ((c : Thread nD τ).loc main_arg1)) := by
  refine (dats m 0 c).arrAt_eq_of_covers 2 (out (m ((c : Thread nD τ).loc main_arg0)) (m ((c : Thread nD τ).loc main_arg1)))
    (by decide +kernel) fun t hf y => ?_
  have h3 := (by decide +kernel : ∀ t : Fin grid0.N, win0_2.flush t = true → t.val = 3) t hf
  blk_simp
  rw [after0_2]
  obtain ⟨f, d, rfl⟩ : ∃ (f : Fin 1024) (d : Fin 1024), y = ix2 f d := ⟨y 0, y 1, eq_ix2 y⟩
  refine (written m c t (by omega) _).trans ((scratch m c t h3 f d).trans ?_)
  trans out (m ((c : Thread nD τ).loc main_arg0)) (m ((c : Thread nD τ).loc main_arg1)) (ix2 f d)
  · refine Fin.sum_mul_add_congr (S := 4) (n := 2048) (L := 8192) ?_
    intro s r hl
    rw [blk0, blk1]
    rfl
  · generalize out (m ((c : Thread nD τ).loc main_arg0)) (m ((c : Thread nD τ).loc main_arg1)) = G
    blk_ext [idx t]

end Points

open Cert.Reference11Ideal.Read in
theorem ref_out (a : Vec Ideal S8192x1024 .bf16) (b : Vec Ideal S8192x1024 .bf16) :
    val_main_v6 (F := Ideal) a b = out a b := by
  funext y
  obtain ⟨f, d, rfl⟩ : ∃ (f : Fin 1024) (d : Fin 1024), y = ix2 f d := ⟨y 0, y 1, eq_ix2 y⟩
  pointwise [val_main_v6, val_main_v5, val_main_v4, val_main_v3, val_main_v1]
  exact Finset.sum_congr rfl fun t _ => mul_comm _ _

/-- The reference ends, leaves its arguments unchanged, and has no semaphores. -/
theorem ref_frame : Cert.quiescent_Reference11Ideal := fun m g _ =>
  (θ_run (Cert.Reference11Ideal.defs (F := Ideal)) _ _).mono
    (fun r h => And.intro (fun c => (h c).2) (sem_eq_zero_of_no_sems (by rfl) r.2))
    (Cert.Reference11Ideal.Value.run (F := Ideal) m g)

theorem algebraic : Cert.algebraic_Kernel11Ideal_Reference11Ideal := by
  intro m g m' g' _ heq
  refine ⟨fun c => out (m ((c : Thread nD τ).loc main_arg0)) (m ((c : Thread nD τ).loc main_arg1)), ?_, ?_⟩
  · refine (θ_run _ _ _).mono (fun r h c => ?_) (Cert.Kernel11Ideal.Value.run_blocks (F := Ideal) m g)
    exact ⟨(h c).1.trans (arr m c), (h c).2⟩
  · refine (θ_run _ _ _).mono (fun r h c => ?_) (Cert.Reference11Ideal.Value.run (F := Ideal) m' g')
    obtain ⟨e0, e1⟩ := heq c
    refine ⟨(h c).1.trans ?_, (h c).2⟩
    rw [Cert.Reference11Ideal.Read.val_main_v6_eq, e0, e1]
    exact ref_out _ _

end Cert.GateGrad
-- ==== Proof.ProjGrad.lean ====
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Point
public import Idealize.ShloMosaic.Lib.Pipeline.ValueKit.Acc
public import proofs.«01_k».proof.Defs

/-!
# The gradient of the embedding projection's weight

Grid point `t` adds the products of 2048 rows to the whole gradient; the last of the four points writes it back. Sums of
extended reals commute, so nothing need be finite.
-/

@[expose] public section

noncomputable section

namespace Cert.ProjGrad

open Cert.Kernel12Ideal Cert.Kernel12Ideal.Gen Idealize.ShloMosaic Idealize.ShloMosaic.TcCoe Idealize.SL.Sem

theorem pay_zero (f : Fin 1024) (d : Fin 256) : (k0_pay1 (F := Ideal) : Vec Ideal S1024x256 .f32) (ix2 f d) = 0 := by
  pointwise [k0_pay1]

/-- The products of one point's rows, summed. -/
def part (a : Vec Ideal S2048x1024 .bf16) (b : Vec Ideal S2048x256 .f32) (f : Fin 1024) (d : Fin 256) : EReal :=
  ∑ r : Fin 2048, a (ix2 r f) * b (ix2 r d)

theorem pay_acc (acc : Vec Ideal S1024x256 .f32) (a : Vec Ideal S2048x1024 .bf16) (b : Vec Ideal S2048x256 .f32)
    (f : Fin 1024) (d : Fin 256) :
    k0_pay2 (F := Ideal) acc a b (ix2 f d) = acc (ix2 f d) + part a b f d := by
  pointwise [k0_pay2]
  rfl

theorem pay_out (v : Vec Ideal S1024x256 .f32) (y : S1024x256.Idx) : k0_pay3 (F := Ideal) v y = v y := rfl

theorem idx : ∀ t : Fin cfg0.N,
    win0_0.index t 0 = t.val ∧ win0_0.index t 1 = 0 ∧ win0_1.index t 0 = t.val ∧ win0_1.index t 1 = 0
    ∧ win0_2.index t 0 = 0 ∧ win0_2.index t 1 = 0 :=
  (by decide +kernel : ∀ t : Fin grid0.N, _)

/-- The result as an array: the sum over all rows of the products. -/
def out (a : Vec Ideal S8192x1024 .bf16) (b : Vec Ideal S8192x256 .f32) : Vec Ideal S1024x256 .bf16 :=
  fun y => ∑ t : Fin 8192, (a (ix2 t (y 0)) * b (ix2 t (y 1)) : EReal)

section Points

variable (m : (ℓ : Loc nD τ sig) → Buf (Elt Ideal) ℓ) (c : Dev nD)

theorem blk0 (t : Fin cfg0.N) (r : Fin 2048) (f : Fin 1024) : (iblk m c 0 t : Vec Ideal S2048x1024 .bf16) (ix2 r f)
    = m ((c : Thread nD τ).loc main_arg0) (ix2 ⟨t.val * 2048 + r.val, by have : cfg0.N = 4 := N_0; omega⟩ f) := by
  blk_ext! [iblk, V, idx t]

theorem blk1 (t : Fin cfg0.N) (r : Fin 2048) (d : Fin 256) : (iblk m c 1 t : Vec Ideal S2048x256 .f32) (ix2 r d)
    = m ((c : Thread nD τ).loc main_arg1) (ix2 ⟨t.val * 2048 + r.val, by have : cfg0.N = 4 := N_0; omega⟩ d) := by
  blk_ext! [iblk, V, idx t]

theorem scratch (t : Fin cfg0.N) (ht : t.val = 3) (f : Fin 1024) (d : Fin 256) :
    (outsAt0 m c t.val t.isLt).2 (ix2 f d)
      = ∑ s : Fin 4, part (iblk m c 0 (s.cast N_0.symm)) (iblk m c 1 (s.cast N_0.symm)) f d := by
  have hN : cfg0.N = 4 := N_0
  rw [Pipeline.eq_sum_fin_of_reset_step_apply_last (fun n h => (outsAt0 m c n h).2) 4 (fun _ => 0)
    (fun t y => part (iblk m c 0 t) (iblk m c 1 t) (y 0) (y 1))
    (fun t h y => by
      obtain ⟨f, d, rfl⟩ : ∃ (f : Fin 1024) (d : Fin 256), y = ix2 f d := ⟨y 0, y 1, eq_ix2 y⟩
      rw [outsAt0_A m c t (by omega) (by omega)]; frame_out
      rw [pay_acc, pay_zero]
      rfl)
    (fun t h y => by
      obtain ⟨f, d, rfl⟩ : ∃ (f : Fin 1024) (d : Fin 256), y = ix2 f d := ⟨y 0, y 1, eq_ix2 y⟩
      have := t.isLt
      by_cases h3 : t.val % 4 = 3
      · rw [outsAt0_C m c t (by omega) h3]; frame_out
        rw [pay_acc]
        exact congrArg (· + _) (congrFun (Memref.IsWhole.read_unread (Memref.isWhole_whole cc0_scratch0) _) _)
      · rw [outsAt0_B m c t (by omega) h3]; frame_out
        rw [pay_acc]
        exact congrArg (· + _) (congrFun (Memref.IsWhole.read_unread (Memref.isWhole_whole cc0_scratch0) _) _))
    (le_of_eq N_0) t (by omega) (ix2 f d), zero_add]
  rfl

/-- The last point writes back what was accumulated. -/
theorem written (t : Fin cfg0.N) (h : t.val % 4 = 3) (y : S1024x256.Idx) :
    (outsAt0 m c t.val t.isLt).1 y = (outsAt0 m c t.val t.isLt).2 y := by
  rw [outsAt0_C m c t (by omega) h]; frame_out
  exact pay_out _ _

theorem arr : (dats m 0 c).arrAt 2 cfg0.N
    = out (m ((c : Thread nD τ).loc main_arg0)) (m ((c : Thread nD τ).loc main_arg1)) := by
  refine (dats m 0 c).arrAt_eq_of_covers 2 (out (m ((c : Thread nD τ).loc main_arg0)) (m ((c : Thread nD τ).loc main_arg1)))
    (by decide +kernel) fun t hf y => ?_
  have h3 := (by decide +kernel : ∀ t : Fin grid0.N, win0_2.flush t = true → t.val = 3) t hf
  blk_simp
  rw [after0_2]
  obtain ⟨f, d, rfl⟩ : ∃ (f : Fin 1024) (d : Fin 256), y = ix2 f d := ⟨y 0, y 1, eq_ix2 y⟩
  refine (written m c t (by omega) _).trans ((scratch m c t h3 f d).trans ?_)
  trans out (m ((c : Thread nD τ).loc main_arg0)) (m ((c : Thread nD τ).loc main_arg1)) (ix2 f d)
  · refine Fin.sum_mul_add_congr (S := 4) (n := 2048) (L := 8192) ?_
    intro s r hl
    rw [blk0, blk1]
    rfl
  · generalize out (m ((c : Thread nD τ).loc main_arg0)) (m ((c : Thread nD τ).loc main_arg1)) = G
    blk_ext [idx t]

end Points

open Cert.Reference12Ideal.Read in
theorem ref_out (a : Vec Ideal S8192x1024 .bf16) (b : Vec Ideal S8192x256 .f32) :
    val_main_v6 (F := Ideal) a b = out a b := by
  funext y
  obtain ⟨f, d, rfl⟩ : ∃ (f : Fin 1024) (d : Fin 256), y = ix2 f d := ⟨y 0, y 1, eq_ix2 y⟩
  pointwise [val_main_v6, val_main_v5, val_main_v4, val_main_v3, val_main_v2]
  rfl

/-- The reference ends, leaves its arguments unchanged, and has no semaphores. -/
theorem ref_frame : Cert.quiescent_Reference12Ideal := fun m g _ =>
  (θ_run (Cert.Reference12Ideal.defs (F := Ideal)) _ _).mono
    (fun r h => And.intro (fun c => (h c).2) (sem_eq_zero_of_no_sems (by rfl) r.2))
    (Cert.Reference12Ideal.Value.run (F := Ideal) m g)

theorem algebraic : Cert.algebraic_Kernel12Ideal_Reference12Ideal := by
  intro m g m' g' _ heq
  refine ⟨fun c => out (m ((c : Thread nD τ).loc main_arg0)) (m ((c : Thread nD τ).loc main_arg1)), ?_, ?_⟩
  · refine (θ_run _ _ _).mono (fun r h c => ?_) (Cert.Kernel12Ideal.Value.run_blocks (F := Ideal) m g)
    exact ⟨(h c).1.trans (arr m c), (h c).2⟩
  · refine (θ_run _ _ _).mono (fun r h c => ?_) (Cert.Reference12Ideal.Value.run (F := Ideal) m' g')
    obtain ⟨e0, e1⟩ := heq c
    refine ⟨(h c).1.trans ?_, (h c).2⟩
    rw [Cert.Reference12Ideal.Read.val_main_v6_eq, e0, e1]
    exact ref_out _ _

end Cert.ProjGrad
-- ==== Proof.ActRun.lean ====
module

public import proofs.«01_k».proof.Proof.Gen.Kernel13Ideal.Skeleton
public import proofs.«01_k».proof.Proof.Gen.Kernel13Ideal.Frame

/-!
# One point of the forward up projection

The scratch holds, for each column block, the last eight rows of the row block before. A point reads and stores only
its own column block's rows, at an offset that depends on the point.
-/

@[expose] public section

set_option maxRecDepth 16384

noncomputable section

namespace Cert.Act

open Cert.Kernel13Ideal Cert.Kernel13Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is in the first row block. -/
abbrev cond (i : grid0.Coords) : Prop := k0_cond1 i = 1#1

set_option maxHeartbeats 4000000 in
/-- The body's stores at the points of the first row block: the pieces each result's buffer ends with, and the pieces written
over what the scratch held. -/
def run_A (c : Dev nD) (i : grid0.Coords) (arg2 : Memref sig .tc .vmem S2048x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S3x2x1x256 .f32) (harg5 : arg5.IsWhole) (arg6 : Memref sig .tc .vmem S2x1x256 .f32) (harg6 : arg6.IsWhole) (arg7 : Memref sig .tc .vmem S2x2048x256 .bf16) (harg7 : arg7.IsWhole) (arg8 : Memref sig .tc .vmem S2x2048x256 .bf16) (harg8 : arg8.IsWhole) (arg9 : Memref sig .tc .vmem S2048x256 .bf16) (harg9 : arg9.IsWhole) (arg10 : Memref sig .tc .vmem S11x2x8x256 .f32) (harg10 : arg10.IsWhole) (hc0 : cond i)
    (x0 : Vec F S2048x1024 .bf16) (x1 : Vec F S256x1024 .bf16) (x2 : Vec F S256x1024 .bf16) (x3 : Vec F S3x2x1x256 .f32) (x4 : Vec F S2x1x256 .f32) (xs : Vec F S11x2x8x256 .f32) :
    Σ' (L5 : List (View.Piece (Elt F) S2x2048x256 .bf16)), Σ' (L6 : List (View.Piece (Elt F) S2x2048x256 .bf16)), Σ' (L7 : List (View.Piece (Elt F) S2048x256 .bf16)), { LS : List (View.Piece (Elt F) S11x2x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs) LS)) -∗ K ⟨⟩))
          ⊢ wp frame (wpE (defs₀ (F := F)) Variants.none c none) E (cc0_up_proj i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_up_proj_eq_skeleton]; unfold cc0_up_proj_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg10.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexact HS

set_option maxHeartbeats 4000000 in
/-- The body's stores at the other points: the pieces each result's buffer ends with, and the pieces written
over what the scratch held. -/
def run_B (c : Dev nD) (i : grid0.Coords) (arg2 : Memref sig .tc .vmem S2048x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S3x2x1x256 .f32) (harg5 : arg5.IsWhole) (arg6 : Memref sig .tc .vmem S2x1x256 .f32) (harg6 : arg6.IsWhole) (arg7 : Memref sig .tc .vmem S2x2048x256 .bf16) (harg7 : arg7.IsWhole) (arg8 : Memref sig .tc .vmem S2x2048x256 .bf16) (harg8 : arg8.IsWhole) (arg9 : Memref sig .tc .vmem S2048x256 .bf16) (harg9 : arg9.IsWhole) (arg10 : Memref sig .tc .vmem S11x2x8x256 .f32) (harg10 : arg10.IsWhole) (hc0 : ¬cond i)
    (x0 : Vec F S2048x1024 .bf16) (x1 : Vec F S256x1024 .bf16) (x2 : Vec F S256x1024 .bf16) (x3 : Vec F S3x2x1x256 .f32) (x4 : Vec F S2x1x256 .f32) (xs : Vec F S11x2x8x256 .f32) :
    Σ' (L5 : List (View.Piece (Elt F) S2x2048x256 .bf16)), Σ' (L6 : List (View.Piece (Elt F) S2x2048x256 .bf16)), Σ' (L7 : List (View.Piece (Elt F) S2048x256 .bf16)), { LS : List (View.Piece (Elt F) S11x2x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs) LS)) -∗ K ⟨⟩))
          ⊢ wp frame (wpE (defs₀ (F := F)) Variants.none c none) E (cc0_up_proj i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_up_proj_eq_skeleton]; unfold cc0_up_proj_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg10.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexact HS

end Cert.Act
-- ==== Proof.ActPay.lean ====
module

public import proofs.«01_k».proof.Proof.Gen.Kernel13Ideal.Skeleton
public import proofs.«01_k».proof.Proof.FfnPay
public import Idealize.ShloMosaic.Lib.Pipeline.ValueKit.Point

/-!
# The stored expressions of the forward up projection, at one element

A point works in four tiles of 512 rows. `gateN` and `valN` are the two halves of the convolution's output in tile `N`,
`actN` the activation; `y` is the tile of the product, `h` the eight rows above it.
-/

@[expose] public section

noncomputable section

namespace Cert.Act

open Cert.Kernel13Ideal Cert.Kernel13Ideal.Gen Idealize.ShloMosaic Idealize.ShloMosaic.TcCoe Idealize.SL.Sem
open Cert.Ffn

section Tiles

variable {F : FTy → Type} [FloatOps F]
variable (y : FVec F S512x256 .f32) (h : FVec F S8x256 .f32) (b : Vec F S1x1x256 .f32) (t2 t0 t1 : Vec F S1x1x1x256 .f32)

def gate0 : FVec F S512x256 .f32 := k0_pay12 (k0_pay10 h y b t2 t0) (k0_pay11 h y t1)
def gateOut0 : FVec F S1x512x256 .bf16 := k0_pay13 (k0_pay10 h y b t2 t0) (k0_pay11 h y t1)
def valOut0 : FVec F S1x512x256 .bf16 := k0_pay18 h y (k0_pay15 h y b t2 t0) (k0_pay16 t1) 1#32
def act0 (g : FVec F S512x256 .f32) : FVec F S512x256 .bf16 := k0_pay19 h y g (k0_pay15 h y b t2 t0) (k0_pay16 t1) 1#32

def gate1 : FVec F S512x256 .f32 := k0_pay31 (k0_pay26 y h b t2 t0) (k0_pay27 t1) (k0_pay29 y h) (k0_pay30 y)
def gateOut1 : FVec F S1x512x256 .bf16 := k0_pay32 (k0_pay26 y h b t2 t0) (k0_pay27 t1) (k0_pay29 y h) (k0_pay30 y)
def valOut1 : FVec F S1x512x256 .bf16 := k0_pay36 y h (k0_pay34 y h b t2 t0) t1
def act1 (g : FVec F S512x256 .f32) : FVec F S512x256 .bf16 := k0_pay37 y h g (k0_pay34 y h b t2 t0) t1

def gate2 : FVec F S512x256 .f32 := k0_pay49 (k0_pay44 y h b t2 t0) (k0_pay45 t1) (k0_pay46 y) k0_pay47 (k0_pay48 h)
def gateOut2 : FVec F S1x512x256 .bf16 := k0_pay50 (k0_pay44 y h b t2 t0) (k0_pay45 t1) (k0_pay46 y) k0_pay47 (k0_pay48 h)
def valOut2 : FVec F S1x512x256 .bf16 := k0_pay54 y h (k0_pay52 y h b t2 t0) t1
def act2 (g : FVec F S512x256 .f32) : FVec F S512x256 .bf16 := k0_pay55 y h g (k0_pay52 y h b t2 t0) t1

def gate3 : FVec F S512x256 .f32 := k0_pay60 y h (k0_pay59 b) t2 t0 t1
def gateOut3 : FVec F S1x512x256 .bf16 := k0_pay61 y h (k0_pay59 b) t2 t0 t1
def valOut3 : FVec F S1x512x256 .bf16 := k0_pay68 (k0_pay63 y h b t2 t0) (k0_pay64 t1) (k0_pay65 y) (k0_pay66 y h)
def act3 (g : FVec F S512x256 .f32) : FVec F S512x256 .bf16 := k0_pay69 g (k0_pay63 y h b t2 t0) (k0_pay64 t1) (k0_pay65 y) (k0_pay66 y h)

end Tiles

variable (y : FVec Ideal S512x256 .f32) (h : FVec Ideal S8x256 .f32) (b : Vec Ideal S1x1x256 .f32) (t2 t0 t1 : Vec Ideal S1x1x1x256 .f32)

/-- The row `k` above, in the tile or in the eight rows above it. -/
def above (k : ℕ) (p : Fin 512) (q : Fin 256) : EReal :=
  if _ : k ≤ p.val then y (ix2 ⟨p.val - k, by omega⟩ q) else h (ix2 ⟨(8 + p.val - k) % 8, Nat.mod_lt _ (by omega)⟩ q)

/-- The convolution's output in the tile. -/
def conv (p : Fin 512) (q : Fin 256) : EReal :=
  b (ix3 0 0 q) + t2 (ix4 0 0 0 q) * y (ix2 p q) + t0 (ix4 0 0 0 q) * above y h 2 p q + t1 (ix4 0 0 0 q) * above y h 1 p q

/-- The kernel's form of the logistic function. -/
def ksig (g : EReal) : EReal := Ideal.ofBits FTy.f32 1056964608#32 * Ideal.tanh (Ideal.ofBits FTy.f32 1056964608#32 * g) + Ideal.ofBits FTy.f32 1056964608#32

theorem slt_sel {α : Type} (n k : ℕ) (hn : n < 8) (hk : k < 8) (a b : α) :
    Scalar.select (IntOp.cmpi CmpIPredicate.slt (BitVec.ofNat 32 n) (BitVec.ofNat 32 k)) a b = if n < k then a else b := by
  interval_cases k <;> interval_cases n <;> rfl

theorem pick (k : ℕ) (hk : k < 8) (p : Fin 512) (q : Fin 256) :
    (if _ : p.val < 8 then
        Scalar.select (IntOp.cmpi CmpIPredicate.slt (BitVec.ofNat 32 p.val) (BitVec.ofNat 32 k)) (h (ix2 ⟨(p.val + 8 - k) % 8, Nat.mod_lt _ (by omega)⟩ q))
          (y (ix2 ⟨(p.val + 512 - k) % 512, Nat.mod_lt _ (by omega)⟩ q))
      else y (ix2 ⟨(8 + (p.val - 8) + 512 - k) % 512, Nat.mod_lt _ (by omega)⟩ q)) = above y h k p q := by
  have hp := p.isLt
  unfold above
  split
  · rename_i h8
    rw [slt_sel _ _ h8 hk]
    by_cases c : p.val < k
    · rw [if_pos c, dif_neg (by omega)]; congr 2; apply Fin.ext; dsimp only; omega
    · rw [if_neg c, dif_pos (by omega)]; congr 2; apply Fin.ext; dsimp only; omega
  · rw [dif_pos (by omega)]; congr 2; apply Fin.ext; dsimp only; omega

theorem gate0_apply (p : Fin 512) (q : Fin 256) : gate0 y h b t2 t0 t1 (ix2 p q) = conv y h b t2 t0 t1 p q := by
  pointwise [gate0, k0_pay10, k0_pay11, k0_pay12]
  exact congrArg₂ (· + ·) (congrArg (_ + _ * ·) (pick y h 2 (by omega) p q)) (congrArg (_ * ·) (pick y h 1 (by omega) p q))

theorem gateOut0_apply (p : Fin 512) (q : Fin 256) : gateOut0 y h b t2 t0 t1 (ix3 0 p q) = conv y h b t2 t0 t1 p q := by
  pointwise [gateOut0, k0_pay10, k0_pay11, k0_pay12, k0_pay13]
  exact congrArg₂ (· + ·) (congrArg (_ + _ * ·) (pick y h 2 (by omega) p q)) (congrArg (_ * ·) (pick y h 1 (by omega) p q))

theorem valOut0_apply (p : Fin 512) (q : Fin 256) : valOut0 y h b t2 t0 t1 (ix3 0 p q) = conv y h b t2 t0 t1 p q := by
  pointwise [valOut0, k0_pay15, k0_pay16, k0_pay17, k0_pay18]
  exact congrArg₂ (· + ·) (congrArg (_ + _ * ·) (pick y h 2 (by omega) p q)) (congrArg (_ * ·) (pick y h 1 (by omega) p q))

theorem gate1_apply (p : Fin 512) (q : Fin 256) : gate1 y h b t2 t0 t1 (ix2 p q) = conv y h b t2 t0 t1 p q := by
  pointwise [gate1, k0_pay26, k0_pay27, k0_pay28, k0_pay29, k0_pay30, k0_pay31]
  exact congrArg₂ (· + ·) (congrArg (_ + _ * ·) (pick y h 2 (by omega) p q)) (congrArg (_ * ·) (pick y h 1 (by omega) p q))

theorem gateOut1_apply (p : Fin 512) (q : Fin 256) : gateOut1 y h b t2 t0 t1 (ix3 0 p q) = conv y h b t2 t0 t1 p q := by
  pointwise [gateOut1, k0_pay26, k0_pay27, k0_pay28, k0_pay29, k0_pay30, k0_pay31, k0_pay32]
  exact congrArg₂ (· + ·) (congrArg (_ + _ * ·) (pick y h 2 (by omega) p q)) (congrArg (_ * ·) (pick y h 1 (by omega) p q))

theorem valOut1_apply (p : Fin 512) (q : Fin 256) : valOut1 y h b t2 t0 t1 (ix3 0 p q) = conv y h b t2 t0 t1 p q := by
  pointwise [valOut1, k0_pay34, k0_pay35, k0_pay36]
  exact congrArg₂ (· + ·) (congrArg (_ + _ * ·) (pick y h 2 (by omega) p q)) (congrArg (_ * ·) (pick y h 1 (by omega) p q))

theorem gate2_apply (p : Fin 512) (q : Fin 256) : gate2 y h b t2 t0 t1 (ix2 p q) = conv y h b t2 t0 t1 p q := by
  pointwise [gate2, k0_pay44, k0_pay45, k0_pay46, k0_pay47, k0_pay48, k0_pay49]
  exact congrArg₂ (· + ·) (congrArg (_ + _ * ·) (pick y h 2 (by omega) p q)) (congrArg (_ * ·) (pick y h 1 (by omega) p q))

theorem gateOut2_apply (p : Fin 512) (q : Fin 256) : gateOut2 y h b t2 t0 t1 (ix3 0 p q) = conv y h b t2 t0 t1 p q := by
  pointwise [gateOut2, k0_pay44, k0_pay45, k0_pay46, k0_pay47, k0_pay48, k0_pay49, k0_pay50]
  exact congrArg₂ (· + ·) (congrArg (_ + _ * ·) (pick y h 2 (by omega) p q)) (congrArg (_ * ·) (pick y h 1 (by omega) p q))

theorem valOut2_apply (p : Fin 512) (q : Fin 256) : valOut2 y h b t2 t0 t1 (ix3 0 p q) = conv y h b t2 t0 t1 p q := by
  pointwise [valOut2, k0_pay52, k0_pay53, k0_pay54]
  exact congrArg₂ (· + ·) (congrArg (_ + _ * ·) (pick y h 2 (by omega) p q)) (congrArg (_ * ·) (pick y h 1 (by omega) p q))

theorem gate3_apply (p : Fin 512) (q : Fin 256) : gate3 y h b t2 t0 t1 (ix2 p q) = conv y h b t2 t0 t1 p q := by
  pointwise [gate3, k0_pay59, k0_pay60]
  exact congrArg₂ (· + ·) (congrArg (_ + _ * ·) (pick y h 2 (by omega) p q)) (congrArg (_ * ·) (pick y h 1 (by omega) p q))

theorem gateOut3_apply (p : Fin 512) (q : Fin 256) : gateOut3 y h b t2 t0 t1 (ix3 0 p q) = conv y h b t2 t0 t1 p q := by
  pointwise [gateOut3, k0_pay59, k0_pay60, k0_pay61]
  exact congrArg₂ (· + ·) (congrArg (_ + _ * ·) (pick y h 2 (by omega) p q)) (congrArg (_ * ·) (pick y h 1 (by omega) p q))

theorem valOut3_apply (p : Fin 512) (q : Fin 256) : valOut3 y h b t2 t0 t1 (ix3 0 p q) = conv y h b t2 t0 t1 p q := by
  pointwise [valOut3, k0_pay63, k0_pay64, k0_pay65, k0_pay66, k0_pay67, k0_pay68]
  exact congrArg₂ (· + ·) (congrArg (_ + _ * ·) (pick y h 2 (by omega) p q)) (congrArg (_ * ·) (pick y h 1 (by omega) p q))

theorem act0_apply (g : FVec Ideal S512x256 .f32) (p : Fin 512) (q : Fin 256) :
    act0 y h b t2 t0 t1 g (ix2 p q) = g (ix2 p q) * ksig (g (ix2 p q)) * conv y h b t2 t0 t1 p q := by
  pointwise [act0, k0_pay15, k0_pay16, k0_pay17, k0_pay19]
  exact congrArg (_ * ·) (congrArg₂ (· + ·) (congrArg (_ + _ * ·) (pick y h 2 (by omega) p q)) (congrArg (_ * ·) (pick y h 1 (by omega) p q)))

theorem act1_apply (g : FVec Ideal S512x256 .f32) (p : Fin 512) (q : Fin 256) :
    act1 y h b t2 t0 t1 g (ix2 p q) = g (ix2 p q) * ksig (g (ix2 p q)) * conv y h b t2 t0 t1 p q := by
  pointwise [act1, k0_pay34, k0_pay35, k0_pay37]
  exact congrArg (_ * ·) (congrArg₂ (· + ·) (congrArg (_ + _ * ·) (pick y h 2 (by omega) p q)) (congrArg (_ * ·) (pick y h 1 (by omega) p q)))

theorem act2_apply (g : FVec Ideal S512x256 .f32) (p : Fin 512) (q : Fin 256) :
    act2 y h b t2 t0 t1 g (ix2 p q) = g (ix2 p q) * ksig (g (ix2 p q)) * conv y h b t2 t0 t1 p q := by
  pointwise [act2, k0_pay52, k0_pay53, k0_pay55]
  exact congrArg (_ * ·) (congrArg₂ (· + ·) (congrArg (_ + _ * ·) (pick y h 2 (by omega) p q)) (congrArg (_ * ·) (pick y h 1 (by omega) p q)))

theorem act3_apply (g : FVec Ideal S512x256 .f32) (p : Fin 512) (q : Fin 256) :
    act3 y h b t2 t0 t1 g (ix2 p q) = g (ix2 p q) * ksig (g (ix2 p q)) * conv y h b t2 t0 t1 p q := by
  pointwise [act3, k0_pay63, k0_pay64, k0_pay65, k0_pay66, k0_pay67, k0_pay69]
  exact congrArg (_ * ·) (congrArg₂ (· + ·) (congrArg (_ + _ * ·) (pick y h 2 (by omega) p q)) (congrArg (_ * ·) (pick y h 1 (by omega) p q)))

section Product

variable (a : Vec Ideal S512x1024 .bf16) (w : Vec Ideal S256x1024 .bf16) (p : Fin 512) (q : Fin 256)

theorem prod4 : k0_pay4 a w (ix2 p q) = ∑ d : Fin 1024, a (ix2 p d) * w (ix2 q d) := by
  pointwise [k0_pay4]

theorem prod5 : k0_pay5 a w (ix2 p q) = ∑ d : Fin 1024, a (ix2 p d) * w (ix2 q d) := by
  pointwise [k0_pay5]

theorem prod6 : k0_pay6 a w (ix2 p q) = ∑ d : Fin 1024, a (ix2 p d) * w (ix2 q d) := by
  pointwise [k0_pay6]

theorem prod7 : k0_pay7 a w (ix2 p q) = ∑ d : Fin 1024, a (ix2 p d) * w (ix2 q d) := by
  pointwise [k0_pay7]

theorem prod22 : k0_pay22 a w (ix2 p q) = ∑ d : Fin 1024, a (ix2 p d) * w (ix2 q d) := by
  pointwise [k0_pay22]

theorem prod23 : k0_pay23 a w (ix2 p q) = ∑ d : Fin 1024, a (ix2 p d) * w (ix2 q d) := by
  pointwise [k0_pay23]

theorem prod40 : k0_pay40 a w (ix2 p q) = ∑ d : Fin 1024, a (ix2 p d) * w (ix2 q d) := by
  pointwise [k0_pay40]

theorem prod42 : k0_pay42 a (k0_pay41 w) (ix2 p q) = ∑ d : Fin 1024, a (ix2 p d) * w (ix2 q d) := by
  pointwise [k0_pay41, k0_pay42]

theorem out9 : k0_pay9 (k0_pay8 a w) (ix3 0 p q) = ∑ d : Fin 1024, a (ix2 p d) * w (ix2 q d) := by
  pointwise [k0_pay4, k0_pay8, k0_pay9]

end Product

theorem out14 (p : Fin 512) (q : Fin 256) : k0_pay14 y (ix3 0 p q) = y (ix2 p q) := by
  pointwise [k0_pay14]

theorem out25 (p : Fin 512) (q : Fin 256) : k0_pay25 (k0_pay24 y) (ix3 0 p q) = y (ix2 p q) := by
  pointwise [k0_pay24, k0_pay25]

theorem out33 (p : Fin 512) (q : Fin 256) : k0_pay33 y (ix3 0 p q) = y (ix2 p q) := by
  pointwise [k0_pay33]

theorem out43 (p : Fin 512) (q : Fin 256) : k0_pay43 y (ix3 0 p q) = y (ix2 p q) := by
  pointwise [k0_pay43]

theorem out51 (p : Fin 512) (q : Fin 256) : k0_pay51 y (ix3 0 p q) = y (ix2 p q) := by
  pointwise [k0_pay51]

theorem out58 (p : Fin 512) (q : Fin 256) : k0_pay58 y (ix3 0 p q) = y (ix2 p q) := by
  pointwise [k0_pay58]

theorem out62 (p : Fin 512) (q : Fin 256) : k0_pay62 y (ix3 0 p q) = y (ix2 p q) := by
  pointwise [k0_pay62]

theorem last20 (r : Fin 8) (q : Fin 256) : k0_pay20 y (ix2 r q) = y (ix2 ⟨504 + r.val, by omega⟩ q) := by
  pointwise [k0_pay20]

theorem last21 (r : Fin 8) (q : Fin 256) : k0_pay21 y (ix2 r q) = y (ix2 ⟨504 + r.val, by omega⟩ q) := by
  pointwise [k0_pay21]

theorem last38 (r : Fin 8) (q : Fin 256) : k0_pay38 y (ix2 r q) = y (ix2 ⟨504 + r.val, by omega⟩ q) := by
  pointwise [k0_pay38]

theorem last39 (r : Fin 8) (q : Fin 256) : k0_pay39 y (ix2 r q) = y (ix2 ⟨504 + r.val, by omega⟩ q) := by
  pointwise [k0_pay39]

theorem last56 (r : Fin 8) (q : Fin 256) : k0_pay56 y (ix2 r q) = y (ix2 ⟨504 + r.val, by omega⟩ q) := by
  pointwise [k0_pay56]

theorem last57 (r : Fin 8) (q : Fin 256) : k0_pay57 y (ix2 r q) = y (ix2 ⟨504 + r.val, by omega⟩ q) := by
  pointwise [k0_pay57]

theorem last70 (r : Fin 8) (q : Fin 256) : k0_pay70 y (ix4 0 0 r q) = y (ix2 ⟨504 + r.val, by omega⟩ q) := by
  pointwise [k0_pay70]

theorem last71 (r : Fin 8) (q : Fin 256) : k0_pay71 y (ix4 0 0 r q) = y (ix2 ⟨504 + r.val, by omega⟩ q) := by
  pointwise [k0_pay71]

theorem kept2 (x : Vec Ideal S1x1x8x256 .f32) (r : Fin 8) (q : Fin 256) : k0_pay2 x (ix2 r q) = x (ix4 0 0 r q) := by
  pointwise [k0_pay2]

theorem kept3 (x : Vec Ideal S1x1x8x256 .f32) (r : Fin 8) (q : Fin 256) : k0_pay3 x (ix2 r q) = x (ix4 0 0 r q) := by
  pointwise [k0_pay3]

theorem zeros (z : S1x2x8x256.Idx) : (k0_pay1 (F := Ideal) : Vec Ideal S1x2x8x256 .f32) z = 0 := by
  obtain ⟨a, b, r, q, rfl⟩ : ∃ (a : Fin 1) (b : Fin 2) (r : Fin 8) (q : Fin 256), z = ix4 a b r q := ⟨z 0, z 1, z 2, z 3, eq_ix4 z⟩
  pointwise [k0_pay1]

end Cert.Act
-- ==== Proof.ActStores.lean ====
module

public import proofs.«01_k».proof.Proof.ActRun
public import proofs.«01_k».proof.Proof.ActPay
public import proofs.«01_k».proof.Proof.FfnStores

/-!
# The stores of one point, as functions of its blocks

`y0N`, `y1N` are the two halves of the product in tile `N`; `h0`, `h1` the eight rows above the point's first row.
-/

@[expose] public section

set_option maxRecDepth 16384

noncomputable section

namespace Cert.Act

open Cert.Kernel13Ideal Cert.Kernel13Ideal.Gen Idealize.ShloMosaic Idealize.ShloMosaic.TcCoe Idealize.ShloMosaic.Tactic
open Cert.Ffn

variable {F : FTy → Type} [FloatOps F]

section Blocks

variable (x0 : Vec F S2048x1024 .bf16) (x1 x2 : Vec F S256x1024 .bf16) (x3 : Vec F S3x2x1x256 .f32) (x4 : Vec F S2x1x256 .f32)
  (h0 h1 : Vec F S1x1x8x256 .f32)

abbrev wAll (w : Vec F S256x1024 .bf16) : Vec F S256x1024 .bf16 := View.ld w (Rect.unit ![0, 0] ![256, 1024] inb_S256x1024_S256x1024_0_0)
def y00 : FVec F S512x256 .f32 := k0_pay4 (View.ld x0 (Rect.unit ![0, 0] ![512, 1024] inb_S2048x1024_S512x1024_0_0)) (wAll x1)
def y10 : FVec F S512x256 .f32 := k0_pay5 (View.ld x0 (Rect.unit ![0, 0] ![512, 1024] inb_S2048x1024_S512x1024_0_0)) (wAll x2)
def y01 : FVec F S512x256 .f32 := k0_pay6 (View.ld x0 (Rect.unit ![512, 0] ![512, 1024] inb_S2048x1024_S512x1024_512_0)) (wAll x1)
def y11 : FVec F S512x256 .f32 := k0_pay7 (View.ld x0 (Rect.unit ![512, 0] ![512, 1024] inb_S2048x1024_S512x1024_512_0)) (wAll x2)
def y02 : FVec F S512x256 .f32 := k0_pay22 (View.ld x0 (Rect.unit ![1024, 0] ![512, 1024] inb_S2048x1024_S512x1024_1024_0)) (wAll x1)
def y12 : FVec F S512x256 .f32 := k0_pay23 (View.ld x0 (Rect.unit ![1024, 0] ![512, 1024] inb_S2048x1024_S512x1024_1024_0)) (wAll x2)
def y03 : FVec F S512x256 .f32 := k0_pay40 (View.ld x0 (Rect.unit ![1536, 0] ![512, 1024] inb_S2048x1024_S512x1024_1536_0)) (wAll x1)
def y13 : FVec F S512x256 .f32 := k0_pay42 (View.ld x0 (Rect.unit ![1536, 0] ![512, 1024] inb_S2048x1024_S512x1024_1536_0)) (k0_pay41 (wAll x2))
abbrev b0 : Vec F S1x1x256 .f32 := View.ld x4 (Rect.unit ![0, 0, 0] ![1, 1, 256] inb_S2x1x256_S1x1x256_0_0_0)
abbrev t00 : Vec F S1x1x1x256 .f32 := View.ld x3 (Rect.unit ![0, 0, 0, 0] ![1, 1, 1, 256] inb_S3x2x1x256_S1x1x1x256_0_0_0_0)
abbrev t01 : Vec F S1x1x1x256 .f32 := View.ld x3 (Rect.unit ![1, 0, 0, 0] ![1, 1, 1, 256] inb_S3x2x1x256_S1x1x1x256_1_0_0_0)
abbrev t02 : Vec F S1x1x1x256 .f32 := View.ld x3 (Rect.unit ![2, 0, 0, 0] ![1, 1, 1, 256] inb_S3x2x1x256_S1x1x1x256_2_0_0_0)
abbrev b1 : Vec F S1x1x256 .f32 := View.ld x4 (Rect.unit ![1, 0, 0] ![1, 1, 256] inb_S2x1x256_S1x1x256_1_0_0)
abbrev t10 : Vec F S1x1x1x256 .f32 := View.ld x3 (Rect.unit ![0, 1, 0, 0] ![1, 1, 1, 256] inb_S3x2x1x256_S1x1x1x256_0_1_0_0)
abbrev t11 : Vec F S1x1x1x256 .f32 := View.ld x3 (Rect.unit ![1, 1, 0, 0] ![1, 1, 1, 256] inb_S3x2x1x256_S1x1x1x256_1_1_0_0)
abbrev t12 : Vec F S1x1x1x256 .f32 := View.ld x3 (Rect.unit ![2, 1, 0, 0] ![1, 1, 1, 256] inb_S3x2x1x256_S1x1x1x256_2_1_0_0)

/-- The product's stores. -/
def P5 : List (View.Piece (Elt F) S2x2048x256 .bf16) :=
  [⟨Rect.unit ![1, 1536, 0] ![1, 512, 256] inb_S2x2048x256_S1x512x256_1_1536_0, k0_pay62 (y13 x0 x2)⟩,
   ⟨Rect.unit ![0, 1536, 0] ![1, 512, 256] inb_S2x2048x256_S1x512x256_0_1536_0, k0_pay58 (y03 x0 x1)⟩,
   ⟨Rect.unit ![1, 1024, 0] ![1, 512, 256] inb_S2x2048x256_S1x512x256_1_1024_0, k0_pay51 (y12 x0 x2)⟩,
   ⟨Rect.unit ![0, 1024, 0] ![1, 512, 256] inb_S2x2048x256_S1x512x256_0_1024_0, k0_pay43 (y02 x0 x1)⟩,
   ⟨Rect.unit ![1, 512, 0] ![1, 512, 256] inb_S2x2048x256_S1x512x256_1_512_0, k0_pay33 (y11 x0 x2)⟩,
   ⟨Rect.unit ![0, 512, 0] ![1, 512, 256] inb_S2x2048x256_S1x512x256_0_512_0, k0_pay25 (k0_pay24 (y01 x0 x1))⟩,
   ⟨Rect.unit ![1, 0, 0] ![1, 512, 256] inb_S2x2048x256_S1x512x256_1_0_0, k0_pay14 (y10 x0 x2)⟩,
   ⟨Rect.unit ![0, 0, 0] ![1, 512, 256] inb_S2x2048x256_S1x512x256_0_0_0, k0_pay9 (k0_pay8 (View.ld x0 (Rect.unit ![0, 0] ![512, 1024] inb_S2048x1024_S512x1024_0_0)) (wAll x1))⟩]

/-- The convolution's stores. -/
def P6 : List (View.Piece (Elt F) S2x2048x256 .bf16) :=
  [⟨Rect.unit ![1, 1536, 0] ![1, 512, 256] inb_S2x2048x256_S1x512x256_1_1536_0, valOut3 (y13 x0 x2) (k0_pay57 (y12 x0 x2)) (b1 x4) (t12 x3) (t10 x3) (t11 x3)⟩,
   ⟨Rect.unit ![0, 1536, 0] ![1, 512, 256] inb_S2x2048x256_S1x512x256_0_1536_0, gateOut3 (y03 x0 x1) (k0_pay56 (y02 x0 x1)) (b0 x4) (t02 x3) (t00 x3) (t01 x3)⟩,
   ⟨Rect.unit ![1, 1024, 0] ![1, 512, 256] inb_S2x2048x256_S1x512x256_1_1024_0, valOut2 (y12 x0 x2) (k0_pay39 (y11 x0 x2)) (b1 x4) (t12 x3) (t10 x3) (t11 x3)⟩,
   ⟨Rect.unit ![0, 1024, 0] ![1, 512, 256] inb_S2x2048x256_S1x512x256_0_1024_0, gateOut2 (y02 x0 x1) (k0_pay38 (y01 x0 x1)) (b0 x4) (t02 x3) (t00 x3) (t01 x3)⟩,
   ⟨Rect.unit ![1, 512, 0] ![1, 512, 256] inb_S2x2048x256_S1x512x256_1_512_0, valOut1 (y11 x0 x2) (k0_pay21 (y10 x0 x2)) (b1 x4) (t12 x3) (t10 x3) (t11 x3)⟩,
   ⟨Rect.unit ![0, 512, 0] ![1, 512, 256] inb_S2x2048x256_S1x512x256_0_512_0, gateOut1 (y01 x0 x1) (k0_pay20 (y00 x0 x1)) (b0 x4) (t02 x3) (t00 x3) (t01 x3)⟩,
   ⟨Rect.unit ![1, 0, 0] ![1, 512, 256] inb_S2x2048x256_S1x512x256_1_0_0, valOut0 (y10 x0 x2) (k0_pay3 h1) (b1 x4) (t12 x3) (t10 x3) (t11 x3)⟩,
   ⟨Rect.unit ![0, 0, 0] ![1, 512, 256] inb_S2x2048x256_S1x512x256_0_0_0, gateOut0 (y00 x0 x1) (k0_pay2 h0) (b0 x4) (t02 x3) (t00 x3) (t01 x3)⟩]

/-- The activation's stores. -/
def P7 : List (View.Piece (Elt F) S2048x256 .bf16) :=
  [⟨Rect.unit ![1536, 0] ![512, 256] inb_S2048x256_S512x256_1536_0, act3 (y13 x0 x2) (k0_pay57 (y12 x0 x2)) (b1 x4) (t12 x3) (t10 x3) (t11 x3) (gate3 (y03 x0 x1) (k0_pay56 (y02 x0 x1)) (b0 x4) (t02 x3) (t00 x3) (t01 x3))⟩,
   ⟨Rect.unit ![1024, 0] ![512, 256] inb_S2048x256_S512x256_1024_0, act2 (y12 x0 x2) (k0_pay39 (y11 x0 x2)) (b1 x4) (t12 x3) (t10 x3) (t11 x3) (gate2 (y02 x0 x1) (k0_pay38 (y01 x0 x1)) (b0 x4) (t02 x3) (t00 x3) (t01 x3))⟩,
   ⟨Rect.unit ![512, 0] ![512, 256] inb_S2048x256_S512x256_512_0, act1 (y11 x0 x2) (k0_pay21 (y10 x0 x2)) (b1 x4) (t12 x3) (t10 x3) (t11 x3) (gate1 (y01 x0 x1) (k0_pay20 (y00 x0 x1)) (b0 x4) (t02 x3) (t00 x3) (t01 x3))⟩,
   ⟨Rect.unit ![0, 0] ![512, 256] inb_S2048x256_S512x256_0_0, act0 (y10 x0 x2) (k0_pay3 h1) (b1 x4) (t12 x3) (t10 x3) (t11 x3) (gate0 (y00 x0 x1) (k0_pay2 h0) (b0 x4) (t02 x3) (t00 x3) (t01 x3))⟩]

/-- What the point keeps for the next row block. -/
def PS (i : grid0.Coords) : List (View.Piece (Elt F) S11x2x8x256 .f32) :=
  [⟨Rect.unit (k0_off3 i) ![1, 1, 8, 256] (k0_off3_inb i), k0_pay71 (y13 x0 x2)⟩,
   ⟨Rect.unit (k0_off2 i) ![1, 1, 8, 256] (k0_off2_inb i), k0_pay70 (y03 x0 x1)⟩]

theorem cover5 (y : S2x2048x256.Idx) : ∃ pc ∈ P5 x0 x1 x2, y ∈ pc.1.set := View.cover_of_tiledL _ ![1, 512, 256] (by sl_kernel_rfl) y
theorem cover6 (y : S2x2048x256.Idx) : ∃ pc ∈ P6 x0 x1 x2 x3 x4 h0 h1, y ∈ pc.1.set := View.cover_of_tiledL _ ![1, 512, 256] (by sl_kernel_rfl) y
theorem cover7 (y : S2048x256.Idx) : ∃ pc ∈ P7 x0 x1 x2 x3 x4 h0 h1, y ∈ pc.1.set := View.cover_of_tiledL _ ![512, 256] (by sl_kernel_rfl) y

end Blocks

/-- Eight rows of zeros. -/
def zero8 : Vec F S1x1x8x256 .f32 := fun _ => Scalar.ofBits .f32 0x00000000#32

/-- A load of one half of the zeros the point has just stored. -/
theorem load_zeros {sig : RefSig} {κ : Kind} {sp : Space} (v : View sig κ sp S11x2x8x256 .f32) (n a : ℕ) (inb inb') :
    v.readCov [(⟨Rect.unit ![n, 0, 0, 0] ![1, 2, 8, 256] inb, k0_pay1⟩ : View.Piece (Elt F) S11x2x8x256 .f32)]
      (Rect.unit ![n, a, 0, 0] ![1, 1, 8, 256] inb').toLoadRect = zero8 := by
  rw [View.readCov_eq_canon']
  funext j
  have ha := inb' 1
  have hm : (Rect.unit (s := S11x2x8x256) ![n, a, 0, 0] ![1, 1, 8, 256] inb').toLoadRect.idx j ∈ (Rect.unit (s := S11x2x8x256) ![n, 0, 0, 0] ![1, 2, 8, 256] inb).set := by
    refine Rect.mem_set_unit.mpr fun b => ?_
    have hj := (j b).isLt
    show _ ≤ ![n, a, 0, 0] b + 1 * (j b).val ∧ ![n, a, 0, 0] b + 1 * (j b).val < _
    have hj : (j b).val < ![1, 1, 8, 256] b := hj
    fin_cases b <;> simp at hj ha ⊢ <;> omega
  obtain ⟨x, hx⟩ := (Rect.unit (s := S11x2x8x256) ![n, 0, 0, 0] ![1, 2, 8, 256] inb).exists_idx_of_mem hm
  show View.canon _ ((Rect.unit (s := S11x2x8x256) ![n, a, 0, 0] ![1, 1, 8, 256] inb').toLoadRect.idx j) = _
  rw [← hx]
  exact (View.canon_cons_emb _ _ _ x).trans rfl

section Runs

variable (c : Dev nD) (i : grid0.Coords) (arg2 : Memref sig .tc .vmem S2048x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S3x2x1x256 .f32) (harg5 : arg5.IsWhole) (arg6 : Memref sig .tc .vmem S2x1x256 .f32) (harg6 : arg6.IsWhole) (arg7 : Memref sig .tc .vmem S2x2048x256 .bf16) (harg7 : arg7.IsWhole) (arg8 : Memref sig .tc .vmem S2x2048x256 .bf16) (harg8 : arg8.IsWhole) (arg9 : Memref sig .tc .vmem S2048x256 .bf16) (harg9 : arg9.IsWhole) (arg10 : Memref sig .tc .vmem S11x2x8x256 .f32) (harg10 : arg10.IsWhole)
  (x0 : Vec F S2048x1024 .bf16) (x1 x2 : Vec F S256x1024 .bf16) (x3 : Vec F S3x2x1x256 .f32) (x4 : Vec F S2x1x256 .f32)
  (xs : Vec F S11x2x8x256 .f32)

set_option maxHeartbeats 1600000 in
theorem A5 (hc0 : cond i) : (run_A c i arg2 harg2 arg3 harg3 arg4 harg4 arg5 harg5 arg6 harg6 arg7 harg7 arg8 harg8 arg9 harg9 arg10 harg10 hc0 x0 x1 x2 x3 x4 xs).1 = P5 x0 x1 x2 := by
  unfold run_A; dsimp only
  sl_unfold_words
  simp only [View.readAt_eq_ld, harg2.read_unread, harg3.read_unread, harg4.read_unread, harg5.read_unread, harg6.read_unread, harg10.read_unread]
  rfl

set_option maxHeartbeats 1600000 in
theorem A6 (hc0 : cond i) : (run_A c i arg2 harg2 arg3 harg3 arg4 harg4 arg5 harg5 arg6 harg6 arg7 harg7 arg8 harg8 arg9 harg9 arg10 harg10 hc0 x0 x1 x2 x3 x4 xs).2.1 = P6 x0 x1 x2 x3 x4 zero8 zero8 := by
  have e0 : (arg10.view.readCov [(⟨Rect.unit (k0_off1 i) ![1, 2, 8, 256] (k0_off1_inb i hc0), k0_pay1⟩ : View.Piece (Elt F) S11x2x8x256 .f32)] (Rect.unit (s := S11x2x8x256) (k0_off2 i) ![1, 1, 8, 256] (k0_off2_inb i)).toLoadRect) = zero8 := load_zeros arg10.view _ 0 (k0_off1_inb i hc0) (k0_off2_inb i)
  have e1 : (arg10.view.readCov [(⟨Rect.unit (k0_off1 i) ![1, 2, 8, 256] (k0_off1_inb i hc0), k0_pay1⟩ : View.Piece (Elt F) S11x2x8x256 .f32)] (Rect.unit (s := S11x2x8x256) (k0_off3 i) ![1, 1, 8, 256] (k0_off3_inb i)).toLoadRect) = zero8 := load_zeros arg10.view _ 1 (k0_off1_inb i hc0) (k0_off3_inb i)
  refine Eq.trans (b := P6 x0 x1 x2 x3 x4 (arg10.view.readCov [(⟨Rect.unit (k0_off1 i) ![1, 2, 8, 256] (k0_off1_inb i hc0), k0_pay1⟩ : View.Piece (Elt F) S11x2x8x256 .f32)] (Rect.unit (s := S11x2x8x256) (k0_off2 i) ![1, 1, 8, 256] (k0_off2_inb i)).toLoadRect) (arg10.view.readCov [(⟨Rect.unit (k0_off1 i) ![1, 2, 8, 256] (k0_off1_inb i hc0), k0_pay1⟩ : View.Piece (Elt F) S11x2x8x256 .f32)] (Rect.unit (s := S11x2x8x256) (k0_off3 i) ![1, 1, 8, 256] (k0_off3_inb i)).toLoadRect)) ?_ (by rw [e0, e1])
  clear e0 e1
  unfold run_A; dsimp only
  sl_unfold_words
  simp only [View.readAt_eq_ld, harg2.read_unread, harg3.read_unread, harg4.read_unread, harg5.read_unread, harg6.read_unread, harg10.read_unread]
  rfl

set_option maxHeartbeats 1600000 in
theorem A7 (hc0 : cond i) : (run_A c i arg2 harg2 arg3 harg3 arg4 harg4 arg5 harg5 arg6 harg6 arg7 harg7 arg8 harg8 arg9 harg9 arg10 harg10 hc0 x0 x1 x2 x3 x4 xs).2.2.1 = P7 x0 x1 x2 x3 x4 zero8 zero8 := by
  have e0 : (arg10.view.readCov [(⟨Rect.unit (k0_off1 i) ![1, 2, 8, 256] (k0_off1_inb i hc0), k0_pay1⟩ : View.Piece (Elt F) S11x2x8x256 .f32)] (Rect.unit (s := S11x2x8x256) (k0_off2 i) ![1, 1, 8, 256] (k0_off2_inb i)).toLoadRect) = zero8 := load_zeros arg10.view _ 0 (k0_off1_inb i hc0) (k0_off2_inb i)
  have e1 : (arg10.view.readCov [(⟨Rect.unit (k0_off1 i) ![1, 2, 8, 256] (k0_off1_inb i hc0), k0_pay1⟩ : View.Piece (Elt F) S11x2x8x256 .f32)] (Rect.unit (s := S11x2x8x256) (k0_off3 i) ![1, 1, 8, 256] (k0_off3_inb i)).toLoadRect) = zero8 := load_zeros arg10.view _ 1 (k0_off1_inb i hc0) (k0_off3_inb i)
  refine Eq.trans (b := P7 x0 x1 x2 x3 x4 (arg10.view.readCov [(⟨Rect.unit (k0_off1 i) ![1, 2, 8, 256] (k0_off1_inb i hc0), k0_pay1⟩ : View.Piece (Elt F) S11x2x8x256 .f32)] (Rect.unit (s := S11x2x8x256) (k0_off2 i) ![1, 1, 8, 256] (k0_off2_inb i)).toLoadRect) (arg10.view.readCov [(⟨Rect.unit (k0_off1 i) ![1, 2, 8, 256] (k0_off1_inb i hc0), k0_pay1⟩ : View.Piece (Elt F) S11x2x8x256 .f32)] (Rect.unit (s := S11x2x8x256) (k0_off3 i) ![1, 1, 8, 256] (k0_off3_inb i)).toLoadRect)) ?_ (by rw [e0, e1])
  clear e0 e1
  unfold run_A; dsimp only
  sl_unfold_words
  simp only [View.readAt_eq_ld, harg2.read_unread, harg3.read_unread, harg4.read_unread, harg5.read_unread, harg6.read_unread, harg10.read_unread]
  rfl

set_option maxHeartbeats 1600000 in
theorem AS (hc0 : cond i) : (run_A c i arg2 harg2 arg3 harg3 arg4 harg4 arg5 harg5 arg6 harg6 arg7 harg7 arg8 harg8 arg9 harg9 arg10 harg10 hc0 x0 x1 x2 x3 x4 xs).2.2.2.1 = PS x0 x1 x2 i ++ [⟨Rect.unit (k0_off1 i) ![1, 2, 8, 256] (k0_off1_inb i hc0), k0_pay1⟩] := by
  unfold run_A; dsimp only
  sl_unfold_words
  simp only [View.readAt_eq_ld, harg2.read_unread, harg3.read_unread, harg4.read_unread, harg5.read_unread, harg6.read_unread, harg10.read_unread]
  rfl

set_option maxHeartbeats 1600000 in
theorem B5 (hc0 : ¬cond i) : (run_B c i arg2 harg2 arg3 harg3 arg4 harg4 arg5 harg5 arg6 harg6 arg7 harg7 arg8 harg8 arg9 harg9 arg10 harg10 hc0 x0 x1 x2 x3 x4 xs).1 = P5 x0 x1 x2 := by
  unfold run_B; dsimp only
  sl_unfold_words
  simp only [View.readAt_eq_ld, harg2.read_unread, harg3.read_unread, harg4.read_unread, harg5.read_unread, harg6.read_unread, harg10.read_unread]
  rfl

set_option maxHeartbeats 1600000 in
theorem B6 (hc0 : ¬cond i) : (run_B c i arg2 harg2 arg3 harg3 arg4 harg4 arg5 harg5 arg6 harg6 arg7 harg7 arg8 harg8 arg9 harg9 arg10 harg10 hc0 x0 x1 x2 x3 x4 xs).2.1 = P6 x0 x1 x2 x3 x4 (View.ld xs (Rect.unit (k0_off2 i) ![1, 1, 8, 256] (k0_off2_inb i))) (View.ld xs (Rect.unit (k0_off3 i) ![1, 1, 8, 256] (k0_off3_inb i))) := by
  refine Eq.trans (b := P6 x0 x1 x2 x3 x4 (arg10.view.readAt (Elt F) (Rect.unit (s := S11x2x8x256) (k0_off2 i) ![1, 1, 8, 256] (k0_off2_inb i)).toLoadRect (harg10.unread xs)) (arg10.view.readAt (Elt F) (Rect.unit (s := S11x2x8x256) (k0_off3 i) ![1, 1, 8, 256] (k0_off3_inb i)).toLoadRect (harg10.unread xs))) ?_ (by simp only [View.readAt_eq_ld, harg10.read_unread])
  dsimp only [run_B, P6]
  sl_unfold_words
  simp only [View.readAt_eq_ld, harg2.read_unread, harg3.read_unread, harg4.read_unread, harg5.read_unread, harg6.read_unread, harg10.read_unread]
  rfl

set_option maxHeartbeats 1600000 in
theorem B7 (hc0 : ¬cond i) : (run_B c i arg2 harg2 arg3 harg3 arg4 harg4 arg5 harg5 arg6 harg6 arg7 harg7 arg8 harg8 arg9 harg9 arg10 harg10 hc0 x0 x1 x2 x3 x4 xs).2.2.1 = P7 x0 x1 x2 x3 x4 (View.ld xs (Rect.unit (k0_off2 i) ![1, 1, 8, 256] (k0_off2_inb i))) (View.ld xs (Rect.unit (k0_off3 i) ![1, 1, 8, 256] (k0_off3_inb i))) := by
  refine Eq.trans (b := P7 x0 x1 x2 x3 x4 (arg10.view.readAt (Elt F) (Rect.unit (s := S11x2x8x256) (k0_off2 i) ![1, 1, 8, 256] (k0_off2_inb i)).toLoadRect (harg10.unread xs)) (arg10.view.readAt (Elt F) (Rect.unit (s := S11x2x8x256) (k0_off3 i) ![1, 1, 8, 256] (k0_off3_inb i)).toLoadRect (harg10.unread xs))) ?_ (by simp only [View.readAt_eq_ld, harg10.read_unread])
  dsimp only [run_B, P7]
  sl_unfold_words
  simp only [View.readAt_eq_ld, harg2.read_unread, harg3.read_unread, harg4.read_unread, harg5.read_unread, harg6.read_unread, harg10.read_unread]
  rfl

set_option maxHeartbeats 1600000 in
theorem BS (hc0 : ¬cond i) : (run_B c i arg2 harg2 arg3 harg3 arg4 harg4 arg5 harg5 arg6 harg6 arg7 harg7 arg8 harg8 arg9 harg9 arg10 harg10 hc0 x0 x1 x2 x3 x4 xs).2.2.2.1 = PS x0 x1 x2 i := by
  unfold run_B; dsimp only
  sl_unfold_words
  simp only [View.readAt_eq_ld, harg2.read_unread, harg3.read_unread, harg4.read_unread, harg5.read_unread, harg6.read_unread, harg10.read_unread]
  rfl

end Runs

end Cert.Act
-- ==== Proof.ActStep.lean ====
module

public import proofs.«01_k».proof.Proof.ActStores

/-!
# One point's effect

What one point of the forward up projection leaves in its buffers and in the scratch, whatever buffers it is given.
-/

@[expose] public section

set_option maxRecDepth 16384

noncomputable section

namespace Cert.Act

open Cert.Kernel13Ideal Cert.Kernel13Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S2048x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S3x2x1x256 .f32) (harg5 : arg5.IsWhole) (arg6 : Memref sig .tc .vmem S2x1x256 .f32) (harg6 : arg6.IsWhole) (arg7 : Memref sig .tc .vmem S2x2048x256 .bf16) (harg7 : arg7.IsWhole) (arg8 : Memref sig .tc .vmem S2x2048x256 .bf16) (harg8 : arg8.IsWhole) (arg9 : Memref sig .tc .vmem S2048x256 .bf16) (harg9 : arg9.IsWhole) (arg10 : Memref sig .tc .vmem S11x2x8x256 .f32) (harg10 : arg10.IsWhole)
  (x0 : Vec F S2048x1024 .bf16) (x1 : Vec F S256x1024 .bf16) (x2 : Vec F S256x1024 .bf16) (x3 : Vec F S3x2x1x256 .f32) (x4 : Vec F S2x1x256 .f32) (xs : Vec F S11x2x8x256 .f32)

/-- A run of the body with its lists of stores. -/
abbrev Run : Type _ :=
    Σ' (L5 : List (View.Piece (Elt F) S2x2048x256 .bf16)), Σ' (L6 : List (View.Piece (Elt F) S2x2048x256 .bf16)), Σ' (L7 : List (View.Piece (Elt F) S2048x256 .bf16)), { LS : List (View.Piece (Elt F) S11x2x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs) LS)) -∗ K ⟨⟩))
          ⊢ wp frame (wpE (defs₀ (F := F)) Variants.none c none) E (cc0_up_proj i arg2 harg2 arg3 harg3 arg4 harg4 arg5 harg5 arg6 harg6 arg7 harg7 arg8 harg8 arg9 harg9 arg10 harg10) K }

theorem wp_of_run (R : Run c i arg2 harg2 arg3 harg3 arg4 harg4 arg5 harg5 arg6 harg6 arg7 harg7 arg8 harg8 arg9 harg9 arg10 harg10 x0 x1 x2 x3 x4 xs)
    (L5 : List (View.Piece (Elt F) S2x2048x256 .bf16)) (L6 : List (View.Piece (Elt F) S2x2048x256 .bf16)) (L7 : List (View.Piece (Elt F) S2048x256 .bf16)) (LS : List (View.Piece (Elt F) S11x2x8x256 .f32))
    (e5 : R.1 = L5) (e6 : R.2.1 = L6) (e7 : R.2.2.1 = L7) (eS : R.2.2.2.1 = LS)
    (h5 : ∀ j, ∃ p ∈ L5, j ∈ p.1.set) (h6 : ∀ j, ∃ p ∈ L6, j ∈ p.1.set) (h7 : ∀ j, ∃ p ∈ L7, j ∈ p.1.set) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (View.canon L5) ∗ owns (c : Thread nD τ) arg8 fullShare (View.canon L6) ∗ owns (c : Thread nD τ) arg9 fullShare (View.canon L7) ∗ owns (c : Thread nD τ) arg10 fullShare (arg10.view.read (Elt F) (arg10.view.writes (Elt F) (harg10.unread xs) LS))) -∗ K ⟨⟩))
          ⊢ wp frame (wpE (defs₀ (F := F)) Variants.none c none) E (cc0_up_proj i arg2 harg2 arg3 harg3 arg4 harg4 arg5 harg5 arg6 harg6 arg7 harg7 arg8 harg8 arg9 harg9 arg10 harg10) K := by
  obtain ⟨M5, M6, M7, MS, H⟩ := R
  dsimp only at e5 e6 e7 eS
  subst e5 e6 e7 eS
  intro E K
  refine BIBase.Entails.trans ?_ (H E K)
  iintro ⟨H0, H1, H2, H3, H4, H5, H6, H7, HS, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, ⟨%e5, H5⟩, ⟨%e6, H6⟩, ⟨%e7, H7⟩, HS⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_eq_canon _ _ _ h5
  isplitl [H6]
  · unfold owns; iexists _; isplitr
    swap; · iexact H6
    ipureintro; exact View.read_writes_eq_canon _ _ _ h6
  isplitl [H7]
  · unfold owns; iexists _; isplitr
    swap; · iexact H7
    ipureintro; exact View.read_writes_eq_canon _ _ _ h7
  unfold owns; iexists _; isplitr
  swap; · iexact HS
  ipureintro; rfl

theorem wp_A (hc0 : cond i) (h0 h1 : Vec F S1x1x8x256 .f32) (e0 : zero8 = h0) (e1 : zero8 = h1) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (View.canon (P5 x0 x1 x2)) ∗ owns (c : Thread nD τ) arg8 fullShare (View.canon (P6 x0 x1 x2 x3 x4 h0 h1)) ∗ owns (c : Thread nD τ) arg9 fullShare (View.canon (P7 x0 x1 x2 x3 x4 h0 h1)) ∗ owns (c : Thread nD τ) arg10 fullShare (arg10.view.read (Elt F) (arg10.view.writes (Elt F) (harg10.unread xs) (PS x0 x1 x2 i ++ [⟨Rect.unit (k0_off1 i) ![1, 2, 8, 256] (k0_off1_inb i hc0), k0_pay1⟩])))) -∗ K ⟨⟩))
          ⊢ wp frame (wpE (defs₀ (F := F)) Variants.none c none) E (cc0_up_proj i arg2 harg2 arg3 harg3 arg4 harg4 arg5 harg5 arg6 harg6 arg7 harg7 arg8 harg8 arg9 harg9 arg10 harg10) K := by
  subst e0 e1
  exact wp_of_run c i arg2 harg2 arg3 harg3 arg4 harg4 arg5 harg5 arg6 harg6 arg7 harg7 arg8 harg8 arg9 harg9 arg10 harg10 x0 x1 x2 x3 x4 xs (run_A c i arg2 harg2 arg3 harg3 arg4 harg4 arg5 harg5 arg6 harg6 arg7 harg7 arg8 harg8 arg9 harg9 arg10 harg10 hc0 x0 x1 x2 x3 x4 xs) _ _ _ _
    (A5 (hc0 := hc0) ..) (A6 (hc0 := hc0) ..) (A7 (hc0 := hc0) ..) (AS (hc0 := hc0) ..)
    (fun y => cover5 (y := y) ..) (fun y => cover6 (y := y) ..) (fun y => cover7 (y := y) ..)

theorem wp_B (hc0 : ¬cond i) (h0 h1 : Vec F S1x1x8x256 .f32) (e0 : (View.ld xs (Rect.unit (k0_off2 i) ![1, 1, 8, 256] (k0_off2_inb i))) = h0) (e1 : (View.ld xs (Rect.unit (k0_off3 i) ![1, 1, 8, 256] (k0_off3_inb i))) = h1) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (View.canon (P5 x0 x1 x2)) ∗ owns (c : Thread nD τ) arg8 fullShare (View.canon (P6 x0 x1 x2 x3 x4 h0 h1)) ∗ owns (c : Thread nD τ) arg9 fullShare (View.canon (P7 x0 x1 x2 x3 x4 h0 h1)) ∗ owns (c : Thread nD τ) arg10 fullShare (arg10.view.read (Elt F) (arg10.view.writes (Elt F) (harg10.unread xs) (PS x0 x1 x2 i)))) -∗ K ⟨⟩))
          ⊢ wp frame (wpE (defs₀ (F := F)) Variants.none c none) E (cc0_up_proj i arg2 harg2 arg3 harg3 arg4 harg4 arg5 harg5 arg6 harg6 arg7 harg7 arg8 harg8 arg9 harg9 arg10 harg10) K := by
  subst e0 e1
  exact wp_of_run c i arg2 harg2 arg3 harg3 arg4 harg4 arg5 harg5 arg6 harg6 arg7 harg7 arg8 harg8 arg9 harg9 arg10 harg10 x0 x1 x2 x3 x4 xs (run_B c i arg2 harg2 arg3 harg3 arg4 harg4 arg5 harg5 arg6 harg6 arg7 harg7 arg8 harg8 arg9 harg9 arg10 harg10 hc0 x0 x1 x2 x3 x4 xs) _ _ _ _
    (B5 (hc0 := hc0) ..) (B6 (hc0 := hc0) ..) (B7 (hc0 := hc0) ..) (BS (hc0 := hc0) ..)
    (fun y => cover5 (y := y) ..) (fun y => cover6 (y := y) ..) (fun y => cover7 (y := y) ..)

end Cert.Act
-- ==== Proof.ActFrame.lean ====
module

public import proofs.«01_k».proof.Proof.ActStep
public import Idealize.ShloMosaic.Lib.Pipeline.FrameBody
public import Idealize.ShloMosaic.Lib.Pipeline.Frame
public import Idealize.ShloMosaic.Lib.WritesUnit
public import Idealize.ShloMosaic.Lib.WordCmp
public import Idealize.ShloMosaic.Lib.Claim
public import Idealize.ShloMosaic.Lib.Pipeline.ValueKit.Point

/-!
# The run of the forward up projection

Before point `n` the scratch holds, for each of the last eleven points, the last eight rows of that point's product
(`Kept`); what it holds elsewhere isn't known, since the kernel reads a column block's rows for the first time only after
it has stored zeros there. So every point's results are functions of its own blocks and of the blocks eleven points
earlier, the same columns in the row block before.
-/

@[expose] public section

set_option maxRecDepth 16384

noncomputable section

namespace Cert.Act

open Cert.Kernel13Ideal Cert.Kernel13Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

theorem cond_iff : ∀ t : Fin cfg0.N, cond (grid0.coords t) ↔ t.val < 11 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [cond, k0_cond1, e0, e1]
    word_cmp
   : ∀ t : Fin grid0.N, cond (grid0.coords t) ↔ t.val < 11)

theorem offs : ∀ t : Fin cfg0.N, k0_off1 (grid0.coords t) = ![t.val % 11, 0, 0, 0] ∧ k0_off2 (grid0.coords t) = ![t.val % 11, 0, 0, 0]
    ∧ k0_off3 (grid0.coords t) = ![t.val % 11, 1, 0, 0] :=
  (by decide +kernel : ∀ t : Fin grid0.N, _)

abbrev col (t : Fin cfg0.N) : Fin 11 := ⟨t.val % 11, Nat.mod_lt _ (by omega)⟩

/-- The point of the same columns in the row block before. -/
abbrev prev (t : Fin cfg0.N) : Fin cfg0.N := ⟨t.val - 11, Nat.lt_of_le_of_lt (Nat.sub_le _ _) t.isLt⟩

abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x2x1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x2048x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x2048x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x256 .bf16 := win0_7.stage (cfg0.slots t 7)
abbrev hs7 (t : Fin cfg0.N) : (ms7 t).IsWhole := hstage0_7 ((cfg0.slots t 7).cast nbuf0_7)
abbrev scr : Memref sig .tc .vmem S11x2x8x256 .f32 := Memref.whole cc0_scratch0

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

variable (m : (ℓ : Loc nD τ sig) → Buf (Elt F) ℓ) (ρ : Dev nD → PrngReg)

/-! ## What a point leaves -/

section Left

variable (c : Dev nD) (t : Fin cfg0.N)

/-- The last eight rows of the point's product, by half. -/
def tail0 : Vec F S1x1x8x256 .f32 := k0_pay70 (y03 (iblk m c 0 t) (iblk m c 1 t))
def tail1 : Vec F S1x1x8x256 .f32 := k0_pay71 (y13 (iblk m c 0 t) (iblk m c 2 t))

/-- The eight rows above the point's first row, by half. -/
def halo0 : Vec F S1x1x8x256 .f32 := if t.val < 11 then zero8 else tail0 m c (prev t)
def halo1 : Vec F S1x1x8x256 .f32 := if t.val < 11 then zero8 else tail1 m c (prev t)

abbrev Q5 := P5 (iblk m c 0 t) (iblk m c 1 t) (iblk m c 2 t)
abbrev Q6 := P6 (iblk m c 0 t) (iblk m c 1 t) (iblk m c 2 t) (iblk m c 3 t) (iblk m c 4 t) (halo0 m c t) (halo1 m c t)
abbrev Q7 := P7 (iblk m c 0 t) (iblk m c 1 t) (iblk m c 2 t) (iblk m c 3 t) (iblk m c 4 t) (halo0 m c t) (halo1 m c t)

end Left

/-- The scratch's contents before point `n`, as far as they matter. -/
def Kept (c : Dev nD) (n : ℕ) (s : Vec F S11x2x8x256 .f32) : Prop :=
  ∀ t : Fin cfg0.N, t.val < n → n ≤ t.val + 11 → ∀ (r : Fin 8) (q : Fin 256),
    s (ix4 (col t) 0 r q) = tail0 m c t (ix4 0 0 r q) ∧ s (ix4 (col t) 1 r q) = tail1 m c t (ix4 0 0 r q)

theorem kept_ld0 {c : Dev nD} {t : Fin cfg0.N} {s : Vec F S11x2x8x256 .f32} (hk : Kept m c t.val s) (h : ¬t.val < 11) :
    View.ld s (Rect.unit (s := S11x2x8x256) (k0_off2 (grid0.coords t)) ![1, 1, 8, 256] (k0_off2_inb (grid0.coords t))) = halo0 m c t := by
  rw [halo0, if_neg h]
  funext z
  obtain ⟨a, b, r, q, rfl⟩ : ∃ (a : Fin 1) (b : Fin 1) (r : Fin 8) (q : Fin 256), z = ix4 a b r q := ⟨z 0, z 1, z 2, z 3, eq_ix4 z⟩
  obtain rfl : a = 0 := Subsingleton.elim _ _
  obtain rfl : b = 0 := Subsingleton.elim _ _
  refine (View.ld_unit_apply_of s _ _ _ _ (ix4 (col (prev t)) 0 r q) ?_).trans (hk (prev t) (by dsimp only; omega) (by dsimp only; omega) r q).1
  intro a; refine Eq.trans ?_ (congrArg (· + _) (congrFun (offs t).2.1 a).symm); fin_cases a <;> simp <;> omega

theorem kept_ld1 {c : Dev nD} {t : Fin cfg0.N} {s : Vec F S11x2x8x256 .f32} (hk : Kept m c t.val s) (h : ¬t.val < 11) :
    View.ld s (Rect.unit (s := S11x2x8x256) (k0_off3 (grid0.coords t)) ![1, 1, 8, 256] (k0_off3_inb (grid0.coords t))) = halo1 m c t := by
  rw [halo1, if_neg h]
  funext z
  obtain ⟨a, b, r, q, rfl⟩ : ∃ (a : Fin 1) (b : Fin 1) (r : Fin 8) (q : Fin 256), z = ix4 a b r q := ⟨z 0, z 1, z 2, z 3, eq_ix4 z⟩
  obtain rfl : a = 0 := Subsingleton.elim _ _
  obtain rfl : b = 0 := Subsingleton.elim _ _
  refine (View.ld_unit_apply_of s _ _ _ _ (ix4 (col (prev t)) 1 r q) ?_).trans (hk (prev t) (by dsimp only; omega) (by dsimp only; omega) r q).2
  intro a; refine Eq.trans ?_ (congrArg (· + _) (congrFun (offs t).2.2 a).symm); fin_cases a <;> simp <;> omega

theorem halo0_first {c : Dev nD} {t : Fin cfg0.N} (h : t.val < 11) : halo0 m c t = zero8 := if_pos h
theorem halo1_first {c : Dev nD} {t : Fin cfg0.N} (h : t.val < 11) : halo1 m c t = zero8 := if_pos h

/-- The point's stores to the scratch keep the invariant, whatever they are written over, if what they are written over
holds the earlier points' rows outside the point's own column block. -/
theorem kept_step {c : Dev nD} {t : Fin cfg0.N} {sp : Space} (v : View sig .tc sp S11x2x8x256 .f32) (f : v.ty.Contents (Elt F))
    (L : List (View.Piece (Elt F) S11x2x8x256 .f32)) (s : Vec F S11x2x8x256 .f32) (hk : Kept m c t.val s)
    (hL : ∀ (j : Fin 11) (p : Fin 2) (r : Fin 8) (q : Fin 256), j ≠ col t → v.read (Elt F) (v.writes (Elt F) f L) (ix4 j p r q) = s (ix4 j p r q)) :
    Kept m c (t.val + 1) (v.read (Elt F) (v.writes (Elt F) f (PS (iblk m c 0 t) (iblk m c 1 t) (iblk m c 2 t) (grid0.coords t) ++ L))) := by
  intro t' h1 h2 r q
  unfold PS
  by_cases e : t' = t
  · subst e
    constructor
    · refine (View.read_writes_cons_unit_of_not_mem v f _ _ _ _ (offs t').2.2 1 (Or.inl (by decide : (0 : ℕ) < 1))).trans ?_
      exact View.read_writes_cons_unit_of_mem v f _ _ _ _ (ix4 (0 : Fin 1) (0 : Fin 1) r q) (offs t').2.1 (by intro a; fin_cases a <;> simp)
    · exact View.read_writes_cons_unit_of_mem v f _ _ _ _ (ix4 (0 : Fin 1) (0 : Fin 1) r q) (offs t').2.2 (by intro a; fin_cases a <;> simp)
  · have hne : t'.val ≠ t.val := fun h => e (Fin.ext h)
    have hc : col t' ≠ col t := fun h => by have := congrArg Fin.val h; dsimp only [col] at this; omega
    have hv : t'.val % 11 < t.val % 11 ∨ t.val % 11 + 1 ≤ t'.val % 11 := by omega
    have hs := hk t' (by omega) (by omega) r q
    constructor
    · refine ((View.read_writes_cons_unit_of_not_mem v f _ _ _ _ (offs t).2.2 0 hv).trans ?_).trans hs.1
      exact (View.read_writes_cons_unit_of_not_mem v f _ _ _ _ (offs t).2.1 0 hv).trans (hL _ _ _ _ hc)
    · refine ((View.read_writes_cons_unit_of_not_mem v f _ _ _ _ (offs t).2.2 0 hv).trans ?_).trans hs.2
      exact (View.read_writes_cons_unit_of_not_mem v f _ _ _ _ (offs t).2.1 0 hv).trans (hL _ _ _ _ hc)

theorem kept_step_nil {c : Dev nD} {t : Fin cfg0.N} {sp : Space} (v : View sig .tc sp S11x2x8x256 .f32) (f : v.ty.Contents (Elt F))
    (s : Vec F S11x2x8x256 .f32) (hk : Kept m c t.val s)
    (hL : ∀ (j : Fin 11) (p : Fin 2) (r : Fin 8) (q : Fin 256), j ≠ col t → v.read (Elt F) (v.writes (Elt F) f []) (ix4 j p r q) = s (ix4 j p r q)) :
    Kept m c (t.val + 1) (v.read (Elt F) (v.writes (Elt F) f (PS (iblk m c 0 t) (iblk m c 1 t) (iblk m c 2 t) (grid0.coords t)))) := by
  have := kept_step m v f [] s hk hL
  rwa [List.append_nil] at this

theorem over_nil {sp : Space} (v : Memref sig .tc sp S11x2x8x256 .f32) (hv : v.IsWhole) (s : Vec F S11x2x8x256 .f32) (y : S11x2x8x256.Idx) :
    v.view.read (Elt F) (v.view.writes (Elt F) (hv.unread s) []) y = s y :=
  congrFun (hv.read_unread s) y

theorem over_zeros {t : Fin cfg0.N} {sp : Space} (v : Memref sig .tc sp S11x2x8x256 .f32) (hv : v.IsWhole) (s : Vec F S11x2x8x256 .f32)
    (inb) (w : Vec F S1x2x8x256 .f32) (j : Fin 11) (p : Fin 2) (r : Fin 8) (q : Fin 256) (hj : j ≠ col t) :
    v.view.read (Elt F) (v.view.writes (Elt F) (hv.unread s)
      [(⟨Rect.unit (k0_off1 (grid0.coords t)) ![1, 2, 8, 256] inb, w⟩ : View.Piece (Elt F) S11x2x8x256 .f32)]) (ix4 j p r q) = s (ix4 j p r q) := by
  have hne : j.val ≠ t.val % 11 := fun h => hj (Fin.ext h)
  have hv' : j.val < t.val % 11 ∨ t.val % 11 + 1 ≤ j.val := by omega
  exact (View.read_writes_cons_unit_of_not_mem v.view _ _ _ _ _ (offs t).1 0 hv').trans (over_nil v hv s _)

/-- The invariant before point `n`. -/
def Phi (c : Dev nD) (n : ℕ) : sProp 𝕄 :=
  iprop((∃ s, ⌜Kept m c n s⌝ ∗ owns (c : Thread nD τ) scr fullShare s) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (Q5 m c t)
    | ⟨6, _⟩ => View.canon (Q6 m c t)
    | ⟨7, _⟩ => View.canon (Q7 m c t)
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = View.canon (Q5 m c t) := by dsimp only [dats]
theorem after6 (c : Dev nD) (t : Fin cfg0.N) : (dats m 0 c).after 6 t = View.canon (Q6 m c t) := by dsimp only [dats]
theorem after7 (c : Dev nD) (t : Fin cfg0.N) : (dats m 0 c).after 7 t = View.canon (Q7 m c t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0, before1, before2, before3, before4]
  rw [show (dats m 0 c).Φ t.castSucc = Phi m c t.val from rfl]
  unfold Phi
  by_cases h : t.val < 11
  · iintro ⟨⟨⟨%s, %hk, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have H := wp_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scr (Memref.isWhole_whole _) (iblk m c 0 t) (iblk m c 1 t) (iblk m c 2 t) (iblk m c 3 t) (iblk m c 4 t) s ((cond_iff t).mpr h) (halo0 m c t) (halo1 m c t) (halo0_first m h).symm (halo1_first m h).symm Set.univ (fun _ => bodyPost m c t)
    iapply H
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    unfold bodyPost
    rw [after0, after1, after2, after3, after4, after5, after6, after7]
    isplitl [HS Hg]
    · rw [show (dats m 0 c).Φ t.succ = Phi m c (t.val + 1) from rfl]
      unfold Phi
      isplitl [HS]
      · iexists _; isplitr
        swap; · iexact HS
        ipureintro
        exact kept_step m scr.view _ _ s hk fun j p r q hj => over_zeros scr _ s _ _ j p r q hj
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨%s, %hk, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have H := wp_B c (grid0.coords t) (ms0 t) (hs0 t) (ms1 t) (hs1 t) (ms2 t) (hs2 t) (ms3 t) (hs3 t) (ms4 t) (hs4 t) (ms5 t) (hs5 t) (ms6 t) (hs6 t) (ms7 t) (hs7 t) scr (Memref.isWhole_whole _) (iblk m c 0 t) (iblk m c 1 t) (iblk m c 2 t) (iblk m c 3 t) (iblk m c 4 t) s (fun e => h ((cond_iff t).mp e)) (halo0 m c t) (halo1 m c t) (kept_ld0 m hk h) (kept_ld1 m hk h) Set.univ (fun _ => bodyPost m c t)
    iapply H
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    unfold bodyPost
    rw [after0, after1, after2, after3, after4, after5, after6, after7]
    isplitl [HS Hg]
    · rw [show (dats m 0 c).Φ t.succ = Phi m c (t.val + 1) from rfl]
      unfold Phi
      isplitl [HS]
      · iexists _; isplitr
        swap; · iexact HS
        ipureintro
        exact kept_step_nil m scr.view _ s hk fun j p r q hj => over_nil scr _ s _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨%s, HS⟩, Hg⟩
  isplitl [HS]
  · iexists s; isplitr
    · ipureintro; intro t h; exact absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%s, -, HS⟩, Hg⟩
  isplitl [HS]; · iexists _; iexact HS
  iexact Hg

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Act
-- ==== Proof.ActPoint.lean ====
module

public import proofs.«01_k».proof.Proof.ActFrame
public import Idealize.ShloMosaic.Lib.Pipeline.ValueKit

/-!
# What a point of the forward up projection computes

Entries are addressed by natural numbers: the half, the row and the column. A tile's rows are rows of the whole product,
and the eight rows above a tile are the product's rows above it, or zeros above row 0.
-/

@[expose] public section

noncomputable section

namespace Cert.Act

open Cert.Kernel13Ideal Cert.Kernel13Ideal.Gen Idealize.ShloMosaic Idealize.ShloMosaic.TcCoe Idealize.SL.Sem

section Whole

variable (a0 : Vec Ideal S8192x1024 .bf16) (a1 : Vec Ideal S1024x5632 .f32) (a2 : Vec Ideal S3x2x1x2816 .f32) (a3 : Vec Ideal S2x1x2816 .f32)

/-- The product's half `p` at row `n` and column `f`. -/
def up (p n f : ℕ) : EReal := ∑ d : Fin 1024, a0 (ix2 (Fin.ofNat 8192 n) d) * a1 (ix2 d (Fin.ofNat 5632 (2816 * p + f)))

/-- The product's row `k` above. -/
def past (k p n f : ℕ) : EReal := if k ≤ n then up a0 a1 p (n - k) f else 0

def tap (k : Fin 3) (p f : ℕ) : EReal := a2 (ix4 k (Fin.ofNat 2 p) 0 (Fin.ofNat 2816 f))
def bias (p f : ℕ) : EReal := a3 (ix3 (Fin.ofNat 2 p) 0 (Fin.ofNat 2816 f))

/-- The causal convolution. -/
def cv (p n f : ℕ) : EReal :=
  bias a3 p f + tap a2 2 p f * up a0 a1 p n f + tap a2 0 p f * past a0 a1 2 p n f + tap a2 1 p f * past a0 a1 1 p n f

/-- The gated activation. -/
def ff (n f : ℕ) : EReal := cv a0 a1 a2 a3 0 n f * ksig (cv a0 a1 a2 a3 0 n f) * cv a0 a1 a2 a3 1 n f

def outU : Vec Ideal S2x8192x2816 .bf16 := fun y => up a0 a1 (y 0).val (y 1).val (y 2).val
def outC : Vec Ideal S2x8192x2816 .bf16 := fun y => cv a0 a1 a2 a3 (y 0).val (y 1).val (y 2).val
def outF : Vec Ideal S8192x2816 .bf16 := fun y => ff a0 a1 a2 a3 (y 0).val (y 1).val

variable {a0 a1 a2 a3}

/-- A tile of the product from row `s` and column `f0` of half `p`, with the eight rows above it. -/
structure Tile (a0 : Vec Ideal S8192x1024 .bf16) (a1 : Vec Ideal S1024x5632 .f32) (p s f0 : ℕ)
    (y : FVec Ideal S512x256 .f32) (h : FVec Ideal S8x256 .f32) : Prop where
  hs : s = 0 ∨ 8 ≤ s
  hy : ∀ (r : Fin 512) (q : Fin 256), y (ix2 r q) = up a0 a1 p (s + r.val) (f0 + q.val)
  hh : ∀ (r : Fin 8) (q : Fin 256), h (ix2 r q) = if s = 0 then 0 else up a0 a1 p (s - 8 + r.val) (f0 + q.val)

theorem Tile.above {p s f0 : ℕ} {y : FVec Ideal S512x256 .f32} {h : FVec Ideal S8x256 .f32} (T : Tile a0 a1 p s f0 y h)
    (k : ℕ) (hk : k < 8) (r : Fin 512) (q : Fin 256) : Act.above y h k r q = past a0 a1 k p (s + r.val) (f0 + q.val) := by
  have hr := r.isLt
  have hs := T.hs
  unfold Act.above past
  by_cases c : k ≤ r.val
  · rw [dif_pos c, if_pos (by omega), T.hy]
    congr 1; dsimp only; omega
  · rw [dif_neg c, T.hh]
    by_cases z : s = 0
    · rw [if_pos z, if_neg (by omega)]
    · rw [if_neg z, if_pos (by omega)]
      congr 1; dsimp only; omega

theorem Tile.conv {p s f0 : ℕ} {y : FVec Ideal S512x256 .f32} {h : FVec Ideal S8x256 .f32} (T : Tile a0 a1 p s f0 y h)
    {b : Vec Ideal S1x1x256 .f32} {t2 t0 t1 : Vec Ideal S1x1x1x256 .f32}
    (hb : ∀ q : Fin 256, b (ix3 0 0 q) = bias a3 p (f0 + q.val))
    (h2 : ∀ q : Fin 256, t2 (ix4 0 0 0 q) = tap a2 2 p (f0 + q.val)) (h0 : ∀ q : Fin 256, t0 (ix4 0 0 0 q) = tap a2 0 p (f0 + q.val))
    (h1 : ∀ q : Fin 256, t1 (ix4 0 0 0 q) = tap a2 1 p (f0 + q.val)) (r : Fin 512) (q : Fin 256) :
    Act.conv y h b t2 t0 t1 r q = cv a0 a1 a2 a3 p (s + r.val) (f0 + q.val) := by
  unfold Act.conv cv
  rw [T.above 2 (by omega), T.above 1 (by omega), T.hy, hb, h2, h0, h1]

end Whole

/-! ## The blocks -/

theorem idx : ∀ t : Fin cfg0.N,
    win0_0.index t 0 = t.val / 11 ∧ win0_0.index t 1 = 0 ∧ win0_1.index t 0 = t.val % 11 ∧ win0_1.index t 1 = 0
    ∧ win0_2.index t 0 = t.val % 11 + 11 ∧ win0_2.index t 1 = 0
    ∧ win0_3.index t 0 = 0 ∧ win0_3.index t 1 = 0 ∧ win0_3.index t 2 = 0 ∧ win0_3.index t 3 = t.val % 11
    ∧ win0_4.index t 0 = 0 ∧ win0_4.index t 1 = 0 ∧ win0_4.index t 2 = t.val % 11
    ∧ win0_5.index t 0 = 0 ∧ win0_5.index t 1 = t.val / 11 ∧ win0_5.index t 2 = t.val % 11
    ∧ win0_6.index t 0 = 0 ∧ win0_6.index t 1 = t.val / 11 ∧ win0_6.index t 2 = t.val % 11
    ∧ win0_7.index t 0 = t.val / 11 ∧ win0_7.index t 1 = t.val % 11 :=
  (by decide +kernel : ∀ t : Fin grid0.N, _)

theorem ofNat_eq {n k : ℕ} [NeZero n] (h : k < n) : Fin.ofNat n k = ⟨k, h⟩ := Fin.ext (Nat.mod_eq_of_lt h)

section Blocks

variable (m : (ℓ : Loc nD τ sig) → Buf (Elt Ideal) ℓ) (c : Dev nD) (t : Fin cfg0.N)

theorem lt44 : t.val < 44 := Nat.lt_of_lt_of_eq t.isLt N_0

abbrev A0 : Vec Ideal S8192x1024 .bf16 := m ((c : Thread nD τ).loc main_arg0)
abbrev A1 : Vec Ideal S1024x5632 .f32 := m ((c : Thread nD τ).loc main_arg1)
abbrev A2 : Vec Ideal S3x2x1x2816 .f32 := m ((c : Thread nD τ).loc main_arg2)
abbrev A3 : Vec Ideal S2x1x2816 .f32 := m ((c : Thread nD τ).loc main_arg3)

theorem blk0 (r : Fin 2048) (d : Fin 1024) : (iblk m c 0 t : Vec Ideal S2048x1024 .bf16) (ix2 r d)
    = A0 m c (ix2 ⟨2048 * (t.val / 11) + r.val, by have := lt44 t; omega⟩ d) := by
  blk_ext! [iblk, V, idx t]

theorem blk1 (q : Fin 256) (d : Fin 1024) : (iblk m c 1 t : Vec Ideal S256x1024 .bf16) (ix2 q d)
    = A1 m c (ix2 d ⟨256 * (t.val % 11) + q.val, by omega⟩) := by
  blk_simp [iblk, idx t]
  entry_read
  pointwise
  blk_ext [idx t]

theorem blk2 (q : Fin 256) (d : Fin 1024) : (iblk m c 2 t : Vec Ideal S256x1024 .bf16) (ix2 q d)
    = A1 m c (ix2 d ⟨2816 + (256 * (t.val % 11) + q.val), by omega⟩) := by
  blk_simp [iblk, idx t]
  entry_read
  pointwise
  blk_ext [idx t]

theorem blk3 (k : Fin 3) (p : Fin 2) (q : Fin 256) : (iblk m c 3 t : Vec Ideal S3x2x1x256 .f32) (ix4 k p 0 q)
    = A2 m c (ix4 k p 0 ⟨256 * (t.val % 11) + q.val, by omega⟩) := by
  blk_ext! [iblk, V, idx t]

theorem blk4 (p : Fin 2) (q : Fin 256) : (iblk m c 4 t : Vec Ideal S2x1x256 .f32) (ix3 p 0 q)
    = A3 m c (ix3 p 0 ⟨256 * (t.val % 11) + q.val, by omega⟩) := by
  blk_ext! [iblk, V, idx t]

end Blocks

end Cert.Act
-- ==== Proof.ActTile.lean ====
module

public import proofs.«01_k».proof.Proof.ActPoint

/-!
# The results of a point, entry by entry
-/

@[expose] public section

noncomputable section

namespace Cert.Act

open Cert.Kernel13Ideal Cert.Kernel13Ideal.Gen Idealize.ShloMosaic Idealize.ShloMosaic.TcCoe Idealize.SL.Sem

variable (m : (ℓ : Loc nD τ sig) → Buf (Elt Ideal) ℓ) (c : Dev nD) (t : Fin cfg0.N)

/-- The point's first row and first column. -/
abbrev row0 : ℕ := 2048 * (t.val / 11)
abbrev col0 : ℕ := 256 * (t.val % 11)

theorem up0 (x : Vec Ideal S2048x1024 .bf16) (hx : x = iblk m c 0 t) (w : Vec Ideal S256x1024 .bf16) (hw : w = iblk m c 1 t)
    (o : ℕ) (r : Fin 512) (q : Fin 256) (ho : o + r.val < 2048) :
    ∑ d : Fin 1024, x (ix2 ⟨o + r.val, ho⟩ d) * w (ix2 q d) = up (A0 m c) (A1 m c) 0 (row0 t + o + r.val) (col0 t + q.val) := by
  have ht := lt44 t
  unfold up
  refine Finset.sum_congr rfl fun d _ => ?_
  rw [show x _ = _ from (congrFun hx _).trans (blk0 m c t _ d), show w _ = _ from (congrFun hw _).trans (blk1 m c t q d), ofNat_eq (by dsimp only [row0]; omega : row0 t + o + r.val < 8192), ofNat_eq (by dsimp only [col0]; omega : 2816 * 0 + (col0 t + q.val) < 5632)]
  congr 4 <;> (dsimp only [row0, col0]; omega)

theorem up1 (x : Vec Ideal S2048x1024 .bf16) (hx : x = iblk m c 0 t) (w : Vec Ideal S256x1024 .bf16) (hw : w = iblk m c 2 t)
    (o : ℕ) (r : Fin 512) (q : Fin 256) (ho : o + r.val < 2048) :
    ∑ d : Fin 1024, x (ix2 ⟨o + r.val, ho⟩ d) * w (ix2 q d) = up (A0 m c) (A1 m c) 1 (row0 t + o + r.val) (col0 t + q.val) := by
  have ht := lt44 t
  unfold up
  refine Finset.sum_congr rfl fun d _ => ?_
  rw [show x _ = _ from (congrFun hx _).trans (blk0 m c t _ d), show w _ = _ from (congrFun hw _).trans (blk2 m c t q d), ofNat_eq (by dsimp only [row0]; omega : row0 t + o + r.val < 8192), ofNat_eq (by dsimp only [col0]; omega : 2816 * 1 + (col0 t + q.val) < 5632)]
  congr 4 <;> (dsimp only [row0, col0]; omega)

theorem ld_rows (x : Vec Ideal S2048x1024 .bf16) (o : ℕ) (inb) (r : Fin 512) (d : Fin 1024) (ho : o + r.val < 2048) :
    View.ld x (Rect.unit (s := S2048x1024) ![o, 0] ![512, 1024] inb) (ix2 r d) = x (ix2 ⟨o + r.val, ho⟩ d) :=
  View.ld_unit_apply_of _ _ _ _ _ _ (by intro a; fin_cases a <;> simp)

theorem ld_all (x : Vec Ideal S256x1024 .bf16) (q : Fin 256) (d : Fin 1024) : wAll x (ix2 q d) = x (ix2 q d) :=
  View.ld_unit_apply_of _ _ _ _ _ _ (by intro a; fin_cases a <;> simp)

theorem y00_apply (r : Fin 512) (q : Fin 256) : y00 (iblk m c 0 t) (iblk m c 1 t) (ix2 r q)
    = up (A0 m c) (A1 m c) 0 (row0 t + 0 + r.val) (col0 t + q.val) := by
  unfold y00
  rw [prod4, ← up0 m c t _ rfl _ rfl 0 r q (by omega)]
  exact Finset.sum_congr rfl fun d _ => by rw [ld_all, ld_rows _ 0 _ r d (by omega)]

theorem y10_apply (r : Fin 512) (q : Fin 256) : y10 (iblk m c 0 t) (iblk m c 2 t) (ix2 r q)
    = up (A0 m c) (A1 m c) 1 (row0 t + 0 + r.val) (col0 t + q.val) := by
  unfold y10
  rw [prod5, ← up1 m c t _ rfl _ rfl 0 r q (by omega)]
  exact Finset.sum_congr rfl fun d _ => by rw [ld_all, ld_rows _ 0 _ r d (by omega)]

theorem y01_apply (r : Fin 512) (q : Fin 256) : y01 (iblk m c 0 t) (iblk m c 1 t) (ix2 r q)
    = up (A0 m c) (A1 m c) 0 (row0 t + 512 + r.val) (col0 t + q.val) := by
  unfold y01
  rw [prod6, ← up0 m c t _ rfl _ rfl 512 r q (by omega)]
  exact Finset.sum_congr rfl fun d _ => by rw [ld_all, ld_rows _ 512 _ r d (by omega)]

theorem y11_apply (r : Fin 512) (q : Fin 256) : y11 (iblk m c 0 t) (iblk m c 2 t) (ix2 r q)
    = up (A0 m c) (A1 m c) 1 (row0 t + 512 + r.val) (col0 t + q.val) := by
  unfold y11
  rw [prod7, ← up1 m c t _ rfl _ rfl 512 r q (by omega)]
  exact Finset.sum_congr rfl fun d _ => by rw [ld_all, ld_rows _ 512 _ r d (by omega)]

theorem y02_apply (r : Fin 512) (q : Fin 256) : y02 (iblk m c 0 t) (iblk m c 1 t) (ix2 r q)
    = up (A0 m c) (A1 m c) 0 (row0 t + 1024 + r.val) (col0 t + q.val) := by
  unfold y02
  rw [prod22, ← up0 m c t _ rfl _ rfl 1024 r q (by omega)]
  exact Finset.sum_congr rfl fun d _ => by rw [ld_all, ld_rows _ 1024 _ r d (by omega)]

theorem y12_apply (r : Fin 512) (q : Fin 256) : y12 (iblk m c 0 t) (iblk m c 2 t) (ix2 r q)
    = up (A0 m c) (A1 m c) 1 (row0 t + 1024 + r.val) (col0 t + q.val) := by
  unfold y12
  rw [prod23, ← up1 m c t _ rfl _ rfl 1024 r q (by omega)]
  exact Finset.sum_congr rfl fun d _ => by rw [ld_all, ld_rows _ 1024 _ r d (by omega)]

theorem y03_apply (r : Fin 512) (q : Fin 256) : y03 (iblk m c 0 t) (iblk m c 1 t) (ix2 r q)
    = up (A0 m c) (A1 m c) 0 (row0 t + 1536 + r.val) (col0 t + q.val) := by
  unfold y03
  rw [prod40, ← up0 m c t _ rfl _ rfl 1536 r q (by omega)]
  exact Finset.sum_congr rfl fun d _ => by rw [ld_all, ld_rows _ 1536 _ r d (by omega)]

theorem y13_apply (r : Fin 512) (q : Fin 256) : y13 (iblk m c 0 t) (iblk m c 2 t) (ix2 r q)
    = up (A0 m c) (A1 m c) 1 (row0 t + 1536 + r.val) (col0 t + q.val) := by
  unfold y13
  rw [prod42, ← up1 m c t _ rfl _ rfl 1536 r q (by omega)]
  exact Finset.sum_congr rfl fun d _ => by rw [ld_all, ld_rows _ 1536 _ r d (by omega)]

theorem tail0_apply (r : Fin 8) (q : Fin 256) : tail0 m c t (ix4 0 0 r q) = up (A0 m c) (A1 m c) 0 (row0 t + 2040 + r.val) (col0 t + q.val) := by
  unfold tail0
  rw [last70, y03_apply]
  congr 1; dsimp only; omega

theorem tail1_apply (r : Fin 8) (q : Fin 256) : tail1 m c t (ix4 0 0 r q) = up (A0 m c) (A1 m c) 1 (row0 t + 2040 + r.val) (col0 t + q.val) := by
  unfold tail1
  rw [last71, y13_apply]
  congr 1; dsimp only; omega

theorem zero8_apply (z : S1x1x8x256.Idx) : (zero8 : Vec Ideal S1x1x8x256 .f32) z = 0 := zeros (ix4 0 0 0 0)

theorem halo0_apply (r : Fin 8) (q : Fin 256) : halo0 m c t (ix4 0 0 r q)
    = if row0 t = 0 then 0 else up (A0 m c) (A1 m c) 0 (row0 t - 8 + r.val) (col0 t + q.val) := by
  unfold halo0
  by_cases h : t.val < 11
  · rw [if_pos h, if_pos (show 2048 * (t.val / 11) = 0 by omega), zero8_apply]
  · rw [if_neg h, if_neg (show ¬2048 * (t.val / 11) = 0 by omega), tail0_apply]
    congr 1 <;> (dsimp only [row0, col0, prev]; omega)

theorem tile00 : Tile (A0 m c) (A1 m c) 0 (row0 t + 0) (col0 t) (y00 (iblk m c 0 t) (iblk m c 1 t)) (k0_pay2 (halo0 m c t)) where
  hs := by dsimp only [row0]; omega
  hy r q := y00_apply m c t r q
  hh r q := by rw [kept2, halo0_apply]; rfl

theorem halo1_apply (r : Fin 8) (q : Fin 256) : halo1 m c t (ix4 0 0 r q)
    = if row0 t = 0 then 0 else up (A0 m c) (A1 m c) 1 (row0 t - 8 + r.val) (col0 t + q.val) := by
  unfold halo1
  by_cases h : t.val < 11
  · rw [if_pos h, if_pos (show 2048 * (t.val / 11) = 0 by omega), zero8_apply]
  · rw [if_neg h, if_neg (show ¬2048 * (t.val / 11) = 0 by omega), tail1_apply]
    congr 1 <;> (dsimp only [row0, col0, prev]; omega)

theorem tile10 : Tile (A0 m c) (A1 m c) 1 (row0 t + 0) (col0 t) (y10 (iblk m c 0 t) (iblk m c 2 t)) (k0_pay3 (halo1 m c t)) where
  hs := by dsimp only [row0]; omega
  hy r q := y10_apply m c t r q
  hh r q := by rw [kept3, halo1_apply]; rfl

theorem tile01 : Tile (A0 m c) (A1 m c) 0 (row0 t + 512) (col0 t) (y01 (iblk m c 0 t) (iblk m c 1 t)) (k0_pay20 (y00 (iblk m c 0 t) (iblk m c 1 t))) where
  hs := by omega
  hy r q := y01_apply m c t r q
  hh r q := by
    rw [last20, y00_apply, if_neg (by omega)]
    congr 1; dsimp only; omega

theorem tile11 : Tile (A0 m c) (A1 m c) 1 (row0 t + 512) (col0 t) (y11 (iblk m c 0 t) (iblk m c 2 t)) (k0_pay21 (y10 (iblk m c 0 t) (iblk m c 2 t))) where
  hs := by omega
  hy r q := y11_apply m c t r q
  hh r q := by
    rw [last21, y10_apply, if_neg (by omega)]
    congr 1; dsimp only; omega

theorem tile02 : Tile (A0 m c) (A1 m c) 0 (row0 t + 1024) (col0 t) (y02 (iblk m c 0 t) (iblk m c 1 t)) (k0_pay38 (y01 (iblk m c 0 t) (iblk m c 1 t))) where
  hs := by omega
  hy r q := y02_apply m c t r q
  hh r q := by
    rw [last38, y01_apply, if_neg (by omega)]
    congr 1; dsimp only; omega

theorem tile12 : Tile (A0 m c) (A1 m c) 1 (row0 t + 1024) (col0 t) (y12 (iblk m c 0 t) (iblk m c 2 t)) (k0_pay39 (y11 (iblk m c 0 t) (iblk m c 2 t))) where
  hs := by omega
  hy r q := y12_apply m c t r q
  hh r q := by
    rw [last39, y11_apply, if_neg (by omega)]
    congr 1; dsimp only; omega

theorem tile03 : Tile (A0 m c) (A1 m c) 0 (row0 t + 1536) (col0 t) (y03 (iblk m c 0 t) (iblk m c 1 t)) (k0_pay56 (y02 (iblk m c 0 t) (iblk m c 1 t))) where
  hs := by omega
  hy r q := y03_apply m c t r q
  hh r q := by
    rw [last56, y02_apply, if_neg (by omega)]
    congr 1; dsimp only; omega

theorem tile13 : Tile (A0 m c) (A1 m c) 1 (row0 t + 1536) (col0 t) (y13 (iblk m c 0 t) (iblk m c 2 t)) (k0_pay57 (y12 (iblk m c 0 t) (iblk m c 2 t))) where
  hs := by omega
  hy r q := y13_apply m c t r q
  hh r q := by
    rw [last57, y12_apply, if_neg (by omega)]
    congr 1; dsimp only; omega

theorem b0_apply (q : Fin 256) : b0 (iblk m c 4 t : Vec Ideal S2x1x256 .f32) (ix3 0 0 q) = bias (A3 m c) 0 (col0 t + q.val) := by
  have ht := lt44 t
  refine (View.ld_unit_apply_of _ _ _ _ _ (ix3 0 0 q) (by intro a; fin_cases a <;> simp)).trans ((blk4 m c t 0 q).trans ?_)
  unfold bias
  rw [ofNat_eq (by dsimp only [col0]; omega : col0 t + q.val < 2816)]
  rfl

theorem t00_apply (q : Fin 256) : t00 (iblk m c 3 t : Vec Ideal S3x2x1x256 .f32) (ix4 0 0 0 q) = tap (A2 m c) 0 0 (col0 t + q.val) := by
  have ht := lt44 t
  refine (View.ld_unit_apply_of _ _ _ _ _ (ix4 0 0 0 q) (by intro a; fin_cases a <;> simp)).trans ((blk3 m c t 0 0 q).trans ?_)
  unfold tap
  rw [ofNat_eq (by dsimp only [col0]; omega : col0 t + q.val < 2816)]
  rfl

theorem t01_apply (q : Fin 256) : t01 (iblk m c 3 t : Vec Ideal S3x2x1x256 .f32) (ix4 0 0 0 q) = tap (A2 m c) 1 0 (col0 t + q.val) := by
  have ht := lt44 t
  refine (View.ld_unit_apply_of _ _ _ _ _ (ix4 1 0 0 q) (by intro a; fin_cases a <;> simp)).trans ((blk3 m c t 1 0 q).trans ?_)
  unfold tap
  rw [ofNat_eq (by dsimp only [col0]; omega : col0 t + q.val < 2816)]
  rfl

theorem t02_apply (q : Fin 256) : t02 (iblk m c 3 t : Vec Ideal S3x2x1x256 .f32) (ix4 0 0 0 q) = tap (A2 m c) 2 0 (col0 t + q.val) := by
  have ht := lt44 t
  refine (View.ld_unit_apply_of _ _ _ _ _ (ix4 2 0 0 q) (by intro a; fin_cases a <;> simp)).trans ((blk3 m c t 2 0 q).trans ?_)
  unfold tap
  rw [ofNat_eq (by dsimp only [col0]; omega : col0 t + q.val < 2816)]
  rfl

theorem b1_apply (q : Fin 256) : b1 (iblk m c 4 t : Vec Ideal S2x1x256 .f32) (ix3 0 0 q) = bias (A3 m c) 1 (col0 t + q.val) := by
  have ht := lt44 t
  refine (View.ld_unit_apply_of _ _ _ _ _ (ix3 1 0 q) (by intro a; fin_cases a <;> simp)).trans ((blk4 m c t 1 q).trans ?_)
  unfold bias
  rw [ofNat_eq (by dsimp only [col0]; omega : col0 t + q.val < 2816)]
  rfl

theorem t10_apply (q : Fin 256) : t10 (iblk m c 3 t : Vec Ideal S3x2x1x256 .f32) (ix4 0 0 0 q) = tap (A2 m c) 0 1 (col0 t + q.val) := by
  have ht := lt44 t
  refine (View.ld_unit_apply_of _ _ _ _ _ (ix4 0 1 0 q) (by intro a; fin_cases a <;> simp)).trans ((blk3 m c t 0 1 q).trans ?_)
  unfold tap
  rw [ofNat_eq (by dsimp only [col0]; omega : col0 t + q.val < 2816)]
  rfl

theorem t11_apply (q : Fin 256) : t11 (iblk m c 3 t : Vec Ideal S3x2x1x256 .f32) (ix4 0 0 0 q) = tap (A2 m c) 1 1 (col0 t + q.val) := by
  have ht := lt44 t
  refine (View.ld_unit_apply_of _ _ _ _ _ (ix4 1 1 0 q) (by intro a; fin_cases a <;> simp)).trans ((blk3 m c t 1 1 q).trans ?_)
  unfold tap
  rw [ofNat_eq (by dsimp only [col0]; omega : col0 t + q.val < 2816)]
  rfl

theorem t12_apply (q : Fin 256) : t12 (iblk m c 3 t : Vec Ideal S3x2x1x256 .f32) (ix4 0 0 0 q) = tap (A2 m c) 2 1 (col0 t + q.val) := by
  have ht := lt44 t
  refine (View.ld_unit_apply_of _ _ _ _ _ (ix4 2 1 0 q) (by intro a; fin_cases a <;> simp)).trans ((blk3 m c t 2 1 q).trans ?_)
  unfold tap
  rw [ofNat_eq (by dsimp only [col0]; omega : col0 t + q.val < 2816)]
  rfl

theorem cv00 (r : Fin 512) (q : Fin 256) : conv (y00 (iblk m c 0 t) (iblk m c 1 t)) (k0_pay2 (halo0 m c t)) (b0 (iblk m c 4 t)) (t02 (iblk m c 3 t)) (t00 (iblk m c 3 t)) (t01 (iblk m c 3 t)) r q
    = cv (A0 m c) (A1 m c) (A2 m c) (A3 m c) 0 (row0 t + 0 + r.val) (col0 t + q.val) :=
  (tile00 m c t).conv (b0_apply m c t) (t02_apply m c t) (t00_apply m c t) (t01_apply m c t) r q

theorem cv10 (r : Fin 512) (q : Fin 256) : conv (y10 (iblk m c 0 t) (iblk m c 2 t)) (k0_pay3 (halo1 m c t)) (b1 (iblk m c 4 t)) (t12 (iblk m c 3 t)) (t10 (iblk m c 3 t)) (t11 (iblk m c 3 t)) r q
    = cv (A0 m c) (A1 m c) (A2 m c) (A3 m c) 1 (row0 t + 0 + r.val) (col0 t + q.val) :=
  (tile10 m c t).conv (b1_apply m c t) (t12_apply m c t) (t10_apply m c t) (t11_apply m c t) r q

theorem act0_at (r : Fin 512) (q : Fin 256) : act0 (y10 (iblk m c 0 t) (iblk m c 2 t)) (k0_pay3 (halo1 m c t)) (b1 (iblk m c 4 t)) (t12 (iblk m c 3 t)) (t10 (iblk m c 3 t)) (t11 (iblk m c 3 t)) (gate0 (y00 (iblk m c 0 t) (iblk m c 1 t)) (k0_pay2 (halo0 m c t)) (b0 (iblk m c 4 t)) (t02 (iblk m c 3 t)) (t00 (iblk m c 3 t)) (t01 (iblk m c 3 t))) (ix2 r q)
    = ff (A0 m c) (A1 m c) (A2 m c) (A3 m c) (row0 t + 0 + r.val) (col0 t + q.val) := by
  rw [act0_apply, gate0_apply, cv00, cv10]
  rfl

theorem cv01 (r : Fin 512) (q : Fin 256) : conv (y01 (iblk m c 0 t) (iblk m c 1 t)) (k0_pay20 (y00 (iblk m c 0 t) (iblk m c 1 t))) (b0 (iblk m c 4 t)) (t02 (iblk m c 3 t)) (t00 (iblk m c 3 t)) (t01 (iblk m c 3 t)) r q
    = cv (A0 m c) (A1 m c) (A2 m c) (A3 m c) 0 (row0 t + 512 + r.val) (col0 t + q.val) :=
  (tile01 m c t).conv (b0_apply m c t) (t02_apply m c t) (t00_apply m c t) (t01_apply m c t) r q

theorem cv11 (r : Fin 512) (q : Fin 256) : conv (y11 (iblk m c 0 t) (iblk m c 2 t)) (k0_pay21 (y10 (iblk m c 0 t) (iblk m c 2 t))) (b1 (iblk m c 4 t)) (t12 (iblk m c 3 t)) (t10 (iblk m c 3 t)) (t11 (iblk m c 3 t)) r q
    = cv (A0 m c) (A1 m c) (A2 m c) (A3 m c) 1 (row0 t + 512 + r.val) (col0 t + q.val) :=
  (tile11 m c t).conv (b1_apply m c t) (t12_apply m c t) (t10_apply m c t) (t11_apply m c t) r q

theorem act1_at (r : Fin 512) (q : Fin 256) : act1 (y11 (iblk m c 0 t) (iblk m c 2 t)) (k0_pay21 (y10 (iblk m c 0 t) (iblk m c 2 t))) (b1 (iblk m c 4 t)) (t12 (iblk m c 3 t)) (t10 (iblk m c 3 t)) (t11 (iblk m c 3 t)) (gate1 (y01 (iblk m c 0 t) (iblk m c 1 t)) (k0_pay20 (y00 (iblk m c 0 t) (iblk m c 1 t))) (b0 (iblk m c 4 t)) (t02 (iblk m c 3 t)) (t00 (iblk m c 3 t)) (t01 (iblk m c 3 t))) (ix2 r q)
    = ff (A0 m c) (A1 m c) (A2 m c) (A3 m c) (row0 t + 512 + r.val) (col0 t + q.val) := by
  rw [act1_apply, gate1_apply, cv01, cv11]
  rfl

theorem cv02 (r : Fin 512) (q : Fin 256) : conv (y02 (iblk m c 0 t) (iblk m c 1 t)) (k0_pay38 (y01 (iblk m c 0 t) (iblk m c 1 t))) (b0 (iblk m c 4 t)) (t02 (iblk m c 3 t)) (t00 (iblk m c 3 t)) (t01 (iblk m c 3 t)) r q
    = cv (A0 m c) (A1 m c) (A2 m c) (A3 m c) 0 (row0 t + 1024 + r.val) (col0 t + q.val) :=
  (tile02 m c t).conv (b0_apply m c t) (t02_apply m c t) (t00_apply m c t) (t01_apply m c t) r q

theorem cv12 (r : Fin 512) (q : Fin 256) : conv (y12 (iblk m c 0 t) (iblk m c 2 t)) (k0_pay39 (y11 (iblk m c 0 t) (iblk m c 2 t))) (b1 (iblk m c 4 t)) (t12 (iblk m c 3 t)) (t10 (iblk m c 3 t)) (t11 (iblk m c 3 t)) r q
    = cv (A0 m c) (A1 m c) (A2 m c) (A3 m c) 1 (row0 t + 1024 + r.val) (col0 t + q.val) :=
  (tile12 m c t).conv (b1_apply m c t) (t12_apply m c t) (t10_apply m c t) (t11_apply m c t) r q

theorem act2_at (r : Fin 512) (q : Fin 256) : act2 (y12 (iblk m c 0 t) (iblk m c 2 t)) (k0_pay39 (y11 (iblk m c 0 t) (iblk m c 2 t))) (b1 (iblk m c 4 t)) (t12 (iblk m c 3 t)) (t10 (iblk m c 3 t)) (t11 (iblk m c 3 t)) (gate2 (y02 (iblk m c 0 t) (iblk m c 1 t)) (k0_pay38 (y01 (iblk m c 0 t) (iblk m c 1 t))) (b0 (iblk m c 4 t)) (t02 (iblk m c 3 t)) (t00 (iblk m c 3 t)) (t01 (iblk m c 3 t))) (ix2 r q)
    = ff (A0 m c) (A1 m c) (A2 m c) (A3 m c) (row0 t + 1024 + r.val) (col0 t + q.val) := by
  rw [act2_apply, gate2_apply, cv02, cv12]
  rfl

theorem cv03 (r : Fin 512) (q : Fin 256) : conv (y03 (iblk m c 0 t) (iblk m c 1 t)) (k0_pay56 (y02 (iblk m c 0 t) (iblk m c 1 t))) (b0 (iblk m c 4 t)) (t02 (iblk m c 3 t)) (t00 (iblk m c 3 t)) (t01 (iblk m c 3 t)) r q
    = cv (A0 m c) (A1 m c) (A2 m c) (A3 m c) 0 (row0 t + 1536 + r.val) (col0 t + q.val) :=
  (tile03 m c t).conv (b0_apply m c t) (t02_apply m c t) (t00_apply m c t) (t01_apply m c t) r q

theorem cv13 (r : Fin 512) (q : Fin 256) : conv (y13 (iblk m c 0 t) (iblk m c 2 t)) (k0_pay57 (y12 (iblk m c 0 t) (iblk m c 2 t))) (b1 (iblk m c 4 t)) (t12 (iblk m c 3 t)) (t10 (iblk m c 3 t)) (t11 (iblk m c 3 t)) r q
    = cv (A0 m c) (A1 m c) (A2 m c) (A3 m c) 1 (row0 t + 1536 + r.val) (col0 t + q.val) :=
  (tile13 m c t).conv (b1_apply m c t) (t12_apply m c t) (t10_apply m c t) (t11_apply m c t) r q

theorem act3_at (r : Fin 512) (q : Fin 256) : act3 (y13 (iblk m c 0 t) (iblk m c 2 t)) (k0_pay57 (y12 (iblk m c 0 t) (iblk m c 2 t))) (b1 (iblk m c 4 t)) (t12 (iblk m c 3 t)) (t10 (iblk m c 3 t)) (t11 (iblk m c 3 t)) (gate3 (y03 (iblk m c 0 t) (iblk m c 1 t)) (k0_pay56 (y02 (iblk m c 0 t) (iblk m c 1 t))) (b0 (iblk m c 4 t)) (t02 (iblk m c 3 t)) (t00 (iblk m c 3 t)) (t01 (iblk m c 3 t))) (ix2 r q)
    = ff (A0 m c) (A1 m c) (A2 m c) (A3 m c) (row0 t + 1536 + r.val) (col0 t + q.val) := by
  rw [act3_apply, gate3_apply, cv03, cv13]
  rfl

end Cert.Act
-- ==== Proof.ActArrays.lean ====
module

public import proofs.«01_k».proof.Proof.ActTile

/-!
# The kernel's results
-/

@[expose] public section

noncomputable section

namespace Cert.Act

open Cert.Kernel13Ideal Cert.Kernel13Ideal.Gen Idealize.ShloMosaic Idealize.ShloMosaic.TcCoe Idealize.SL.Sem

variable (m : (ℓ : Loc nD τ sig) → Buf (Elt Ideal) ℓ) (c : Dev nD) (t : Fin cfg0.N)

theorem ix3_one (x : (⟨3, ![1, 512, 256]⟩ : Shape).Idx) : x = ix3 0 (x 1) (x 2) :=
  (eq_ix3 x).trans (by congr 1; exact Subsingleton.elim (α := Fin 1) _ _)

theorem u_piece13 (x : (⟨3, ![1, 512, 256]⟩ : Shape).Idx) : (k0_pay62 (y13 (iblk m c 0 t) (iblk m c 2 t)) : Vec Ideal S1x512x256 .bf16) x
    = up (A0 m c) (A1 m c) 1 (row0 t + 1536 + (x 1).val) (col0 t + (x 2).val) := by
  rw [ix3_one x]; exact (out62 _ _ _).trans (y13_apply m c t _ _)

theorem c_piece13 (x : (⟨3, ![1, 512, 256]⟩ : Shape).Idx) : (valOut3 (y13 (iblk m c 0 t) (iblk m c 2 t)) (k0_pay57 (y12 (iblk m c 0 t) (iblk m c 2 t))) (b1 (iblk m c 4 t)) (t12 (iblk m c 3 t)) (t10 (iblk m c 3 t)) (t11 (iblk m c 3 t)) : Vec Ideal S1x512x256 .bf16) x
    = cv (A0 m c) (A1 m c) (A2 m c) (A3 m c) 1 (row0 t + 1536 + (x 1).val) (col0 t + (x 2).val) := by
  rw [ix3_one x]; exact (valOut3_apply _ _ _ _ _ _ _ _).trans (cv13 m c t _ _)

theorem u_piece03 (x : (⟨3, ![1, 512, 256]⟩ : Shape).Idx) : (k0_pay58 (y03 (iblk m c 0 t) (iblk m c 1 t)) : Vec Ideal S1x512x256 .bf16) x
    = up (A0 m c) (A1 m c) 0 (row0 t + 1536 + (x 1).val) (col0 t + (x 2).val) := by
  rw [ix3_one x]; exact (out58 _ _ _).trans (y03_apply m c t _ _)

theorem c_piece03 (x : (⟨3, ![1, 512, 256]⟩ : Shape).Idx) : (gateOut3 (y03 (iblk m c 0 t) (iblk m c 1 t)) (k0_pay56 (y02 (iblk m c 0 t) (iblk m c 1 t))) (b0 (iblk m c 4 t)) (t02 (iblk m c 3 t)) (t00 (iblk m c 3 t)) (t01 (iblk m c 3 t)) : Vec Ideal S1x512x256 .bf16) x
    = cv (A0 m c) (A1 m c) (A2 m c) (A3 m c) 0 (row0 t + 1536 + (x 1).val) (col0 t + (x 2).val) := by
  rw [ix3_one x]; exact (gateOut3_apply _ _ _ _ _ _ _ _).trans (cv03 m c t _ _)

theorem u_piece12 (x : (⟨3, ![1, 512, 256]⟩ : Shape).Idx) : (k0_pay51 (y12 (iblk m c 0 t) (iblk m c 2 t)) : Vec Ideal S1x512x256 .bf16) x
    = up (A0 m c) (A1 m c) 1 (row0 t + 1024 + (x 1).val) (col0 t + (x 2).val) := by
  rw [ix3_one x]; exact (out51 _ _ _).trans (y12_apply m c t _ _)

theorem c_piece12 (x : (⟨3, ![1, 512, 256]⟩ : Shape).Idx) : (valOut2 (y12 (iblk m c 0 t) (iblk m c 2 t)) (k0_pay39 (y11 (iblk m c 0 t) (iblk m c 2 t))) (b1 (iblk m c 4 t)) (t12 (iblk m c 3 t)) (t10 (iblk m c 3 t)) (t11 (iblk m c 3 t)) : Vec Ideal S1x512x256 .bf16) x
    = cv (A0 m c) (A1 m c) (A2 m c) (A3 m c) 1 (row0 t + 1024 + (x 1).val) (col0 t + (x 2).val) := by
  rw [ix3_one x]; exact (valOut2_apply _ _ _ _ _ _ _ _).trans (cv12 m c t _ _)

theorem u_piece02 (x : (⟨3, ![1, 512, 256]⟩ : Shape).Idx) : (k0_pay43 (y02 (iblk m c 0 t) (iblk m c 1 t)) : Vec Ideal S1x512x256 .bf16) x
    = up (A0 m c) (A1 m c) 0 (row0 t + 1024 + (x 1).val) (col0 t + (x 2).val) := by
  rw [ix3_one x]; exact (out43 _ _ _).trans (y02_apply m c t _ _)

theorem c_piece02 (x : (⟨3, ![1, 512, 256]⟩ : Shape).Idx) : (gateOut2 (y02 (iblk m c 0 t) (iblk m c 1 t)) (k0_pay38 (y01 (iblk m c 0 t) (iblk m c 1 t))) (b0 (iblk m c 4 t)) (t02 (iblk m c 3 t)) (t00 (iblk m c 3 t)) (t01 (iblk m c 3 t)) : Vec Ideal S1x512x256 .bf16) x
    = cv (A0 m c) (A1 m c) (A2 m c) (A3 m c) 0 (row0 t + 1024 + (x 1).val) (col0 t + (x 2).val) := by
  rw [ix3_one x]; exact (gateOut2_apply _ _ _ _ _ _ _ _).trans (cv02 m c t _ _)

theorem u_piece11 (x : (⟨3, ![1, 512, 256]⟩ : Shape).Idx) : (k0_pay33 (y11 (iblk m c 0 t) (iblk m c 2 t)) : Vec Ideal S1x512x256 .bf16) x
    = up (A0 m c) (A1 m c) 1 (row0 t + 512 + (x 1).val) (col0 t + (x 2).val) := by
  rw [ix3_one x]; exact (out33 _ _ _).trans (y11_apply m c t _ _)

theorem c_piece11 (x : (⟨3, ![1, 512, 256]⟩ : Shape).Idx) : (valOut1 (y11 (iblk m c 0 t) (iblk m c 2 t)) (k0_pay21 (y10 (iblk m c 0 t) (iblk m c 2 t))) (b1 (iblk m c 4 t)) (t12 (iblk m c 3 t)) (t10 (iblk m c 3 t)) (t11 (iblk m c 3 t)) : Vec Ideal S1x512x256 .bf16) x
    = cv (A0 m c) (A1 m c) (A2 m c) (A3 m c) 1 (row0 t + 512 + (x 1).val) (col0 t + (x 2).val) := by
  rw [ix3_one x]; exact (valOut1_apply _ _ _ _ _ _ _ _).trans (cv11 m c t _ _)

theorem u_piece01 (x : (⟨3, ![1, 512, 256]⟩ : Shape).Idx) : (k0_pay25 (k0_pay24 (y01 (iblk m c 0 t) (iblk m c 1 t))) : Vec Ideal S1x512x256 .bf16) x
    = up (A0 m c) (A1 m c) 0 (row0 t + 512 + (x 1).val) (col0 t + (x 2).val) := by
  rw [ix3_one x]; exact (out25 _ _ _).trans (y01_apply m c t _ _)

theorem c_piece01 (x : (⟨3, ![1, 512, 256]⟩ : Shape).Idx) : (gateOut1 (y01 (iblk m c 0 t) (iblk m c 1 t)) (k0_pay20 (y00 (iblk m c 0 t) (iblk m c 1 t))) (b0 (iblk m c 4 t)) (t02 (iblk m c 3 t)) (t00 (iblk m c 3 t)) (t01 (iblk m c 3 t)) : Vec Ideal S1x512x256 .bf16) x
    = cv (A0 m c) (A1 m c) (A2 m c) (A3 m c) 0 (row0 t + 512 + (x 1).val) (col0 t + (x 2).val) := by
  rw [ix3_one x]; exact (gateOut1_apply _ _ _ _ _ _ _ _).trans (cv01 m c t _ _)

theorem u_piece10 (x : (⟨3, ![1, 512, 256]⟩ : Shape).Idx) : (k0_pay14 (y10 (iblk m c 0 t) (iblk m c 2 t)) : Vec Ideal S1x512x256 .bf16) x
    = up (A0 m c) (A1 m c) 1 (row0 t + 0 + (x 1).val) (col0 t + (x 2).val) := by
  rw [ix3_one x]; exact (out14 _ _ _).trans (y10_apply m c t _ _)

theorem c_piece10 (x : (⟨3, ![1, 512, 256]⟩ : Shape).Idx) : (valOut0 (y10 (iblk m c 0 t) (iblk m c 2 t)) (k0_pay3 (halo1 m c t)) (b1 (iblk m c 4 t)) (t12 (iblk m c 3 t)) (t10 (iblk m c 3 t)) (t11 (iblk m c 3 t)) : Vec Ideal S1x512x256 .bf16) x
    = cv (A0 m c) (A1 m c) (A2 m c) (A3 m c) 1 (row0 t + 0 + (x 1).val) (col0 t + (x 2).val) := by
  rw [ix3_one x]; exact (valOut0_apply _ _ _ _ _ _ _ _).trans (cv10 m c t _ _)

theorem u_piece00 (x : (⟨3, ![1, 512, 256]⟩ : Shape).Idx) : (k0_pay9 (k0_pay8 (View.ld (iblk m c 0 t) (Rect.unit (s := S2048x1024) ![0, 0] ![512, 1024] inb_S2048x1024_S512x1024_0_0)) (wAll (iblk m c 1 t))) : Vec Ideal S1x512x256 .bf16) x
    = up (A0 m c) (A1 m c) 0 (row0 t + 0 + (x 1).val) (col0 t + (x 2).val) := by
  rw [ix3_one x]
  exact (out9 _ _ _ _).trans ((prod4 _ _ _ _).symm.trans (y00_apply m c t _ _))

theorem c_piece00 (x : (⟨3, ![1, 512, 256]⟩ : Shape).Idx) : (gateOut0 (y00 (iblk m c 0 t) (iblk m c 1 t)) (k0_pay2 (halo0 m c t)) (b0 (iblk m c 4 t)) (t02 (iblk m c 3 t)) (t00 (iblk m c 3 t)) (t01 (iblk m c 3 t)) : Vec Ideal S1x512x256 .bf16) x
    = cv (A0 m c) (A1 m c) (A2 m c) (A3 m c) 0 (row0 t + 0 + (x 1).val) (col0 t + (x 2).val) := by
  rw [ix3_one x]; exact (gateOut0_apply _ _ _ _ _ _ _ _).trans (cv00 m c t _ _)

theorem f_piece3 (x : (⟨2, ![512, 256]⟩ : Shape).Idx) : (act3 (y13 (iblk m c 0 t) (iblk m c 2 t)) (k0_pay57 (y12 (iblk m c 0 t) (iblk m c 2 t))) (b1 (iblk m c 4 t)) (t12 (iblk m c 3 t)) (t10 (iblk m c 3 t)) (t11 (iblk m c 3 t)) (gate3 (y03 (iblk m c 0 t) (iblk m c 1 t)) (k0_pay56 (y02 (iblk m c 0 t) (iblk m c 1 t))) (b0 (iblk m c 4 t)) (t02 (iblk m c 3 t)) (t00 (iblk m c 3 t)) (t01 (iblk m c 3 t))) : Vec Ideal S512x256 .bf16) x
    = ff (A0 m c) (A1 m c) (A2 m c) (A3 m c) (row0 t + 1536 + (x 0).val) (col0 t + (x 1).val) := by
  rw [eq_ix2 x]; exact act3_at m c t _ _

theorem f_piece2 (x : (⟨2, ![512, 256]⟩ : Shape).Idx) : (act2 (y12 (iblk m c 0 t) (iblk m c 2 t)) (k0_pay39 (y11 (iblk m c 0 t) (iblk m c 2 t))) (b1 (iblk m c 4 t)) (t12 (iblk m c 3 t)) (t10 (iblk m c 3 t)) (t11 (iblk m c 3 t)) (gate2 (y02 (iblk m c 0 t) (iblk m c 1 t)) (k0_pay38 (y01 (iblk m c 0 t) (iblk m c 1 t))) (b0 (iblk m c 4 t)) (t02 (iblk m c 3 t)) (t00 (iblk m c 3 t)) (t01 (iblk m c 3 t))) : Vec Ideal S512x256 .bf16) x
    = ff (A0 m c) (A1 m c) (A2 m c) (A3 m c) (row0 t + 1024 + (x 0).val) (col0 t + (x 1).val) := by
  rw [eq_ix2 x]; exact act2_at m c t _ _

theorem f_piece1 (x : (⟨2, ![512, 256]⟩ : Shape).Idx) : (act1 (y11 (iblk m c 0 t) (iblk m c 2 t)) (k0_pay21 (y10 (iblk m c 0 t) (iblk m c 2 t))) (b1 (iblk m c 4 t)) (t12 (iblk m c 3 t)) (t10 (iblk m c 3 t)) (t11 (iblk m c 3 t)) (gate1 (y01 (iblk m c 0 t) (iblk m c 1 t)) (k0_pay20 (y00 (iblk m c 0 t) (iblk m c 1 t))) (b0 (iblk m c 4 t)) (t02 (iblk m c 3 t)) (t00 (iblk m c 3 t)) (t01 (iblk m c 3 t))) : Vec Ideal S512x256 .bf16) x
    = ff (A0 m c) (A1 m c) (A2 m c) (A3 m c) (row0 t + 512 + (x 0).val) (col0 t + (x 1).val) := by
  rw [eq_ix2 x]; exact act1_at m c t _ _

theorem f_piece0 (x : (⟨2, ![512, 256]⟩ : Shape).Idx) : (act0 (y10 (iblk m c 0 t) (iblk m c 2 t)) (k0_pay3 (halo1 m c t)) (b1 (iblk m c 4 t)) (t12 (iblk m c 3 t)) (t10 (iblk m c 3 t)) (t11 (iblk m c 3 t)) (gate0 (y00 (iblk m c 0 t) (iblk m c 1 t)) (k0_pay2 (halo0 m c t)) (b0 (iblk m c 4 t)) (t02 (iblk m c 3 t)) (t00 (iblk m c 3 t)) (t01 (iblk m c 3 t))) : Vec Ideal S512x256 .bf16) x
    = ff (A0 m c) (A1 m c) (A2 m c) (A3 m c) (row0 t + 0 + (x 0).val) (col0 t + (x 1).val) := by
  rw [eq_ix2 x]; exact act0_at m c t _ _

theorem left_u (p : Fin 2) (r : Fin 2048) (q : Fin 256) : (View.canon (Q5 m c t) : Vec Ideal S2x2048x256 .bf16) (ix3 p r q)
    = up (A0 m c) (A1 m c) p.val (row0 t + r.val) (col0 t + q.val) := by
  unfold Q5 P5
  canon_tiles x h
  · refine (u_piece13 m c t x).trans ?_
    simp only [ix3_0, ix3_1, ix3_2] at h0 h1 h2
    congr 1 <;> omega
  · refine (u_piece03 m c t x).trans ?_
    simp only [ix3_0, ix3_1, ix3_2] at h0 h1 h2
    congr 1 <;> omega
  · refine (u_piece12 m c t x).trans ?_
    simp only [ix3_0, ix3_1, ix3_2] at h0 h1 h2
    congr 1 <;> omega
  · refine (u_piece02 m c t x).trans ?_
    simp only [ix3_0, ix3_1, ix3_2] at h0 h1 h2
    congr 1 <;> omega
  · refine (u_piece11 m c t x).trans ?_
    simp only [ix3_0, ix3_1, ix3_2] at h0 h1 h2
    congr 1 <;> omega
  · refine (u_piece01 m c t x).trans ?_
    simp only [ix3_0, ix3_1, ix3_2] at h0 h1 h2
    congr 1 <;> omega
  · refine (u_piece10 m c t x).trans ?_
    simp only [ix3_0, ix3_1, ix3_2] at h0 h1 h2
    congr 1 <;> omega
  · refine (u_piece00 m c t x).trans ?_
    simp only [ix3_0, ix3_1, ix3_2] at h0 h1 h2
    congr 1 <;> omega

theorem left_c (p : Fin 2) (r : Fin 2048) (q : Fin 256) : (View.canon (Q6 m c t) : Vec Ideal S2x2048x256 .bf16) (ix3 p r q)
    = cv (A0 m c) (A1 m c) (A2 m c) (A3 m c) p.val (row0 t + r.val) (col0 t + q.val) := by
  unfold Q6 P6
  canon_tiles x h
  · refine (c_piece13 m c t x).trans ?_
    simp only [ix3_0, ix3_1, ix3_2] at h0 h1 h2
    congr 1 <;> omega
  · refine (c_piece03 m c t x).trans ?_
    simp only [ix3_0, ix3_1, ix3_2] at h0 h1 h2
    congr 1 <;> omega
  · refine (c_piece12 m c t x).trans ?_
    simp only [ix3_0, ix3_1, ix3_2] at h0 h1 h2
    congr 1 <;> omega
  · refine (c_piece02 m c t x).trans ?_
    simp only [ix3_0, ix3_1, ix3_2] at h0 h1 h2
    congr 1 <;> omega
  · refine (c_piece11 m c t x).trans ?_
    simp only [ix3_0, ix3_1, ix3_2] at h0 h1 h2
    congr 1 <;> omega
  · refine (c_piece01 m c t x).trans ?_
    simp only [ix3_0, ix3_1, ix3_2] at h0 h1 h2
    congr 1 <;> omega
  · refine (c_piece10 m c t x).trans ?_
    simp only [ix3_0, ix3_1, ix3_2] at h0 h1 h2
    congr 1 <;> omega
  · refine (c_piece00 m c t x).trans ?_
    simp only [ix3_0, ix3_1, ix3_2] at h0 h1 h2
    congr 1 <;> omega

theorem left_f (r : Fin 2048) (q : Fin 256) : (View.canon (Q7 m c t) : Vec Ideal S2048x256 .bf16) (ix2 r q)
    = ff (A0 m c) (A1 m c) (A2 m c) (A3 m c) (row0 t + r.val) (col0 t + q.val) := by
  unfold Q7 P7
  canon_tiles x h
  · refine (f_piece3 m c t x).trans ?_
    simp only [ix2_0, ix2_1] at h0 h1
    congr 1 <;> omega
  · refine (f_piece2 m c t x).trans ?_
    simp only [ix2_0, ix2_1] at h0 h1
    congr 1 <;> omega
  · refine (f_piece1 m c t x).trans ?_
    simp only [ix2_0, ix2_1] at h0 h1
    congr 1 <;> omega
  · refine (f_piece0 m c t x).trans ?_
    simp only [ix2_0, ix2_1] at h0 h1
    congr 1 <;> omega

theorem arr5 : (dats m 0 c).arrAt 5 cfg0.N = outU (A0 m c) (A1 m c) := by
  refine (dats m 0 c).arrAt_eq_of_covers 5 (outU (A0 m c) (A1 m c)) (by decide +kernel) fun t hf y => ?_
  have ht := lt44 t
  blk_simp
  rw [after5]
  obtain ⟨p, r, q, rfl⟩ : ∃ (p : Fin 2) (r : Fin 2048) (q : Fin 256), y = ix3 p r q := ⟨y 0, y 1, y 2, eq_ix3 y⟩
  refine (left_u m c t p r q).trans ?_
  show outU (A0 m c) (A1 m c) (ix3 p ⟨row0 t + r.val, by dsimp only [row0]; omega⟩ ⟨col0 t + q.val, by dsimp only [col0]; omega⟩) = _
  blk_ext [idx t] <;> (dsimp only [row0, col0]; omega)

theorem arr6 : (dats m 0 c).arrAt 6 cfg0.N = outC (A0 m c) (A1 m c) (A2 m c) (A3 m c) := by
  refine (dats m 0 c).arrAt_eq_of_covers 6 (outC (A0 m c) (A1 m c) (A2 m c) (A3 m c)) (by decide +kernel) fun t hf y => ?_
  have ht := lt44 t
  blk_simp
  rw [after6]
  obtain ⟨p, r, q, rfl⟩ : ∃ (p : Fin 2) (r : Fin 2048) (q : Fin 256), y = ix3 p r q := ⟨y 0, y 1, y 2, eq_ix3 y⟩
  refine (left_c m c t p r q).trans ?_
  show outC (A0 m c) (A1 m c) (A2 m c) (A3 m c) (ix3 p ⟨row0 t + r.val, by dsimp only [row0]; omega⟩ ⟨col0 t + q.val, by dsimp only [col0]; omega⟩) = _
  blk_ext [idx t] <;> (dsimp only [row0, col0]; omega)

theorem arr7 : (dats m 0 c).arrAt 7 cfg0.N = outF (A0 m c) (A1 m c) (A2 m c) (A3 m c) := by
  refine (dats m 0 c).arrAt_eq_of_covers 7 (outF (A0 m c) (A1 m c) (A2 m c) (A3 m c)) (by decide +kernel) fun t hf y => ?_
  have ht := lt44 t
  blk_simp
  rw [after7]
  obtain ⟨r, q, rfl⟩ : ∃ (r : Fin 2048) (q : Fin 256), y = ix2 r q := ⟨y 0, y 1, eq_ix2 y⟩
  refine (left_f m c t r q).trans ?_
  show outF (A0 m c) (A1 m c) (A2 m c) (A3 m c) (ix2 ⟨row0 t + r.val, by dsimp only [row0]; omega⟩ ⟨col0 t + q.val, by dsimp only [col0]; omega⟩) = _
  blk_ext [idx t] <;> (dsimp only [row0, col0]; omega)

end Cert.Act
-- ==== Proof.ActRef.lean ====
module

public import proofs.«01_k».proof.Proof.ActPoint
public import proofs.«01_k».proof.Proof.FfnPay
public import proofs.«01_k».proof.Proof.Gen.Reference13Ideal.Read

/-!
# The reference of the forward up projection

It multiplies whole arrays, puts two zero rows in front, and weights three shifted slices. Its `silu` divides, and the
kernel's takes a hyperbolic tangent: over the extended reals the two are one function.
-/

@[expose] public section

noncomputable section

namespace Cert.Act

open Idealize.ShloMosaic

/-- The logistic function by a hyperbolic tangent. -/
theorem ksig_eq (g : EReal) : ksig g = Ideal.logistic g := by
  unfold ksig
  rw [Ffn.half_f32]
  induction g with
  | bot =>
    rw [EReal.coe_mul_bot_of_pos (by norm_num), Ideal.tanh_bot, Ideal.logistic_bot, ← EReal.coe_one, ← EReal.coe_neg, ← EReal.coe_mul, ← EReal.coe_add,
      ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, ← EReal.coe_mul, ← EReal.coe_add, Ffn.half_tanh, Ideal.logistic_coe]
    rfl

section Reference

open Cert.Reference13Ideal Cert.Reference13Ideal.Gen Cert.Reference13Ideal.Read

variable (a0 : Vec Ideal S8192x1024 .bf16) (a1 : Vec Ideal S1024x5632 .f32) (a2 : Vec Ideal S3x2x1x2816 .f32) (a3 : Vec Ideal S2x1x2816 .f32)

theorem ref_half0 (n : Fin 8192) (f : Fin 2816) : val_main_v2 (F := Ideal) a0 a1 (ix2 n f) = up a0 a1 0 n.val f.val := by
  pointwise [val_main_v2, val_main_v1, val_main_v0]
  unfold up
  refine Finset.sum_congr rfl fun d _ => ?_
  rw [ofNat_eq n.isLt, ofNat_eq (show 2816 * 0 + f.val < 5632 by have := f.isLt; omega)]
  congr 2
  blk_ext []

theorem ref_half1 (n : Fin 8192) (f : Fin 2816) : val_main_v3 (F := Ideal) a0 a1 (ix2 n f) = up a0 a1 1 n.val f.val := by
  pointwise [val_main_v3, val_main_v1, val_main_v0]
  unfold up
  refine Finset.sum_congr rfl fun d _ => ?_
  rw [ofNat_eq n.isLt, ofNat_eq (show 2816 * 1 + f.val < 5632 by have := f.isLt; omega)]

theorem ref_up (p : Fin 2) (n : Fin 8192) (f : Fin 2816) : val_main_v6 (F := Ideal) a0 a1 (ix3 p n f) = up a0 a1 p.val n.val f.val := by
  pointwise [val_main_v6, val_main_v5, val_main_v4]
  split
  · rename_i h
    rw [ref_half0]
    congr 1; omega
  · rename_i h
    rw [ref_half1]
    congr 1; omega

/-- The product with two zero rows in front. -/
theorem ref_pad (p : Fin 2) (n : ℕ) (hn : n < 8194) (f : Fin 2816) :
    val_main_v8 (F := Ideal) a0 a1 (ix3 p ⟨n, hn⟩ f) = if 2 ≤ n then up a0 a1 p.val (n - 2) f.val else 0 := by
  pointwise [val_main_v8, val_main_v7, val_main_cst]
  split
  · rw [if_neg (by omega)]
  · exact (ref_up a0 a1 p _ f).trans (if_pos (by omega)).symm

theorem ref_cv (p : Fin 2) (n : Fin 8192) (f : Fin 2816) :
    val_main_v27 (F := Ideal) a0 a1 a2 a3 (ix3 p n f) = cv a0 a1 a2 a3 p.val n.val f.val := by
  pointwise [val_main_v27, val_main_v25, val_main_v26, val_main_v19, val_main_v24, val_main_v13, val_main_v18, val_main_v12, val_main_v17, val_main_v23, val_main_v10, val_main_v15, val_main_v21, val_main_v9, val_main_v14, val_main_v20, val_main_v11, val_main_v16, val_main_v22]
  rw [ref_pad a0 a1 p n.val, ref_pad a0 a1 p (1 + n.val), ref_pad a0 a1 p (2 + n.val)]
  unfold cv past bias tap
  rw [ofNat_eq p.isLt, ofNat_eq f.isLt, if_pos (show 2 ≤ 2 + n.val by omega), show 2 + n.val - 2 = n.val by omega, show 1 + n.val - 2 = n.val - 1 by omega]
  have e : ∀ x : EReal, (if 2 ≤ 1 + n.val then x else 0) = if 1 ≤ n.val then x else 0 := fun x => by
    split <;> split <;> first | rfl | (exfalso; omega)
  simp only [e, Fin.eta]
  exact (show ∀ x y z b : EReal, x + y + z + b = b + z + x + y from fun x y z b => by ac_rfl) _ _ _ _

theorem ref_ff (n : Fin 8192) (f : Fin 2816) :
    val_main_v36 (F := Ideal) a0 a1 a2 a3 (ix2 n f) = ff a0 a1 a2 a3 n.val f.val := by
  pointwise [val_main_v36, val_main_v35, val_main_v34, val_main_call0_v5, val_main_call0_v4, val_main_call0_v3, val_main_call0_v2, val_main_call0_v1, val_main_call0_v0, val_main_call0_cst, val_main_call0_cst_0, val_main_v31, val_main_v30, val_main_v29, val_main_v28]
  unfold ff
  rw [ksig_eq, ref_cv, ref_cv]
  rfl

theorem ref_outU : val_main_v32 (F := Ideal) a0 a1 = outU a0 a1 := by
  funext y
  obtain ⟨p, n, f, rfl⟩ : ∃ (p : Fin 2) (n : Fin 8192) (f : Fin 2816), y = ix3 p n f := ⟨y 0, y 1, y 2, by funext a; fin_cases a <;> rfl⟩
  pointwise [val_main_v32]
  exact ref_up a0 a1 p n f

theorem ref_outC : val_main_v33 (F := Ideal) a0 a1 a2 a3 = outC a0 a1 a2 a3 := by
  funext y
  obtain ⟨p, n, f, rfl⟩ : ∃ (p : Fin 2) (n : Fin 8192) (f : Fin 2816), y = ix3 p n f := ⟨y 0, y 1, y 2, by funext a; fin_cases a <;> rfl⟩
  pointwise [val_main_v33]
  exact ref_cv a0 a1 a2 a3 p n f

theorem ref_outF : val_main_v36 (F := Ideal) a0 a1 a2 a3 = outF a0 a1 a2 a3 := by
  funext y
  obtain ⟨n, f, rfl⟩ : ∃ (n : Fin 8192) (f : Fin 2816), y = ix2 n f := ⟨y 0, y 1, by funext a; fin_cases a <;> rfl⟩
  exact ref_ff a0 a1 a2 a3 n f

end Reference

end Cert.Act
-- ==== Proof.ActClaim.lean ====
module

public import proofs.«01_k».proof.Proof.ActArrays
public import proofs.«01_k».proof.Proof.ActRef
public import proofs.«01_k».proof.Proof.Gen.Reference13Ideal.Run
public import proofs.«01_k».proof.Defs

/-!
# The forward up projection: the kernel and the reference agree

The two agree on all buffers, finite or not.
-/

@[expose] public section

noncomputable section

namespace Cert.Act

open Idealize.ShloMosaic Idealize.ShloMosaic.TcCoe Idealize.SL.Sem

/-- The reference ends, leaves its arguments unchanged, and has no semaphores. -/
theorem ref_frame : Cert.quiescent_Reference13Ideal := fun m g _ =>
  (θ_run (Cert.Reference13Ideal.defs (F := Ideal)) _ _).mono
    (fun r h => And.intro (fun c => (h c).2.2.2) (sem_eq_zero_of_no_sems (by rfl) r.2))
    (Cert.Reference13Ideal.Value.run (F := Ideal) m g)

section Run

open Cert.Kernel13Ideal Cert.Kernel13Ideal.Gen

/-- The three results of the kernel, and the arguments it leaves unchanged. -/
theorem run_values (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2_0) = outU (A0 m c) (A1 m c)
      ∧ r.2.mem ((c.tc : Thread nD τ).loc main_v2_1) = outC (A0 m c) (A1 m c) (A2 m c) (A3 m c)
      ∧ r.2.mem ((c.tc : Thread nD τ).loc main_v2_2) = outF (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c =>
    ⟨((h c).1 5).trans (arr5 m c), ((h c).1 6).trans (arr6 m c), ((h c).1 7).trans (arr7 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩)
    (run_main m g)

end Run

theorem algebraic : Cert.algebraic_Kernel13Ideal_Reference13Ideal := by
  intro m g m' g' hp heq
  refine ⟨fun c => outU (A0 m c) (A1 m c), fun c => outC (A0 m c) (A1 m c) (A2 m c) (A3 m c),
    fun c => outF (A0 m c) (A1 m c) (A2 m c) (A3 m c), run_values m g, ?_⟩
  refine (θ_run _ _ _).mono (fun r h c => ?_) (Cert.Reference13Ideal.Value.run (F := Ideal) m' g')
  obtain ⟨h5, h6, h7, hk⟩ := h c
  obtain ⟨e0, e1, e2, e3⟩ := heq c
  refine ⟨h5.trans ?_, h6.trans ?_, h7.trans ?_, hk⟩
  · rw [Cert.Reference13Ideal.Read.val_main_v32_eq, e0, e1]; exact ref_outU _ _
  · rw [Cert.Reference13Ideal.Read.val_main_v33_eq, e0, e1, e2, e3]; exact ref_outC _ _ _ _
  · rw [Cert.Reference13Ideal.Read.val_main_v36_eq, e0, e1, e2, e3]; exact ref_outF _ _ _ _

end Cert.Act
-- ==== Proof.InFwd.lean ====
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit.Point
public import Idealize.ShloMosaic.Lib.Pipeline.ValueKit.Acc
public import proofs.«01_k».proof.Defs

/-!
# The input projection of the forward pass

Grid point `t` norms 512 rows and multiplies them by the weight, whose last 240 columns are zeros. The two programs
compute the norm by the same operations, so nothing need be finite.
-/

@[expose] public section

noncomputable section

namespace Cert.InFwd

open Cert.Kernel14Ideal Cert.Kernel14Ideal.Gen Idealize.ShloMosaic Idealize.ShloMosaic.TcCoe Idealize.SL.Sem

/-- A row divided by the root of its mean square plus a small number, times a weight. -/
def norm (y g : Fin 1024 → EReal) (d : Fin 1024) : EReal :=
  y d * Ideal.rsqrt (Ideal.div (∑ k, y k * y k) (Ideal.ofBits FTy.f32 0x44800000#32) + Ideal.ofBits FTy.f32 0x358637BD#32) * g d

theorem pay_h (x : Vec Ideal S512x1024 .f32) (g : Vec Ideal S1x1024 .f32) (r : Fin 512) (d : Fin 1024) :
    k0_pay1 (F := Ideal) x g (ix2 r d) = norm (fun k => x (ix2 r k)) (fun k => g (ix2 0 k)) d := by
  pointwise [k0_pay1]
  rfl

theorem pay_p (h : Vec Ideal S512x1024 .bf16) (w : Vec Ideal S3840x1024 .bf16) (r : Fin 512) (j : Fin 3840) :
    k0_pay2 (F := Ideal) h w (ix2 r j) = ∑ k : Fin 1024, h (ix2 r k) * w (ix2 j k) := by
  pointwise [k0_pay2]

theorem idx : ∀ t : Fin cfg0.N,
    win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 0
    ∧ win0_4.index t 0 = t.val ∧ win0_4.index t 1 = 0 :=
  (by decide +kernel : ∀ t : Fin grid0.N, _)

/-- The two results as arrays. -/
def outH (x : Vec Ideal S8192x1024 .f32) (g : Vec Ideal S1x1024 .f32) : Vec Ideal S8192x1024 .bf16 :=
  fun y => norm (fun k => x (ix2 (y 0) k)) (fun k => g (ix2 0 k)) (y 1)
def outP (x : Vec Ideal S8192x1024 .f32) (g : Vec Ideal S1x1024 .f32) (w : Vec Ideal S1024x3600 .f32) :
    Vec Ideal S8192x3840 .f32 :=
  fun y => if h : (y 1).val < 3600 then
    ∑ d : Fin 1024, (norm (fun k => x (ix2 (y 0) k)) (fun k => g (ix2 0 k)) d * w (ix2 d ⟨(y 1).val, h⟩) : EReal) else (0 : EReal)

section Points

variable (m : (ℓ : Loc nD τ sig) → Buf (Elt Ideal) ℓ) (c : Dev nD)

abbrev row (t : Fin cfg0.N) (r : Fin 512) : Fin 8192 := ⟨t.val * 512 + r.val, by have : cfg0.N = 16 := N_0; omega⟩

theorem blk0 (t : Fin cfg0.N) (r : Fin 512) (d : Fin 1024) : (iblk m c 0 t : Vec Ideal S512x1024 .f32) (ix2 r d)
    = m ((c : Thread nD τ).loc main_arg0) (ix2 (row t r) d) := by
  blk_ext! [iblk, V, idx t]

theorem blk1 (t : Fin cfg0.N) (d : Fin 1024) : (iblk m c 1 t : Vec Ideal S1x1024 .f32) (ix2 0 d)
    = m ((c : Thread nD τ).loc main_arg1) (ix2 0 d) := by
  blk_ext! [iblk, V, idx t]

/-- The transposed weight, with zeros appended. -/
theorem weight (r : Fin 3840) (d : Fin 1024) : (V m c main_v3 : Vec Ideal S3840x1024 .bf16) (ix2 r d)
    = if h : r.val < 3600 then m ((c : Thread nD τ).loc main_arg2) (ix2 d ⟨r.val, h⟩) else (0 : EReal) := by
  entry_read
  pointwise

theorem blk2 (t : Fin cfg0.N) (r : Fin 3840) (d : Fin 1024) : (iblk m c 2 t : Vec Ideal S3840x1024 .bf16) (ix2 r d)
    = if h : r.val < 3600 then m ((c : Thread nD τ).loc main_arg2) (ix2 d ⟨r.val, h⟩) else (0 : EReal) := by
  trans (V m c main_v3 : Vec Ideal S3840x1024 .bf16) (ix2 r d)
  · blk_simp [iblk, idx t]
    blk_ext [idx t]
  · exact weight m c r d

theorem point_h (t : Fin cfg0.N) (r : Fin 512) (d : Fin 1024) :
    k0_pay1 (F := Ideal) (iblk m c 0 t) (iblk m c 1 t) (ix2 r d)
      = outH (m ((c : Thread nD τ).loc main_arg0)) (m ((c : Thread nD τ).loc main_arg1)) (ix2 (row t r) d) := by
  rw [pay_h]
  simp only [blk0, blk1]
  rfl

theorem arrH : (dats m 0 c).arrAt 4 cfg0.N
    = outH (m ((c : Thread nD τ).loc main_arg0)) (m ((c : Thread nD τ).loc main_arg1)) := by
  refine (dats m 0 c).arrAt_eq_of_covers 4 (outH (m ((c : Thread nD τ).loc main_arg0)) (m ((c : Thread nD τ).loc main_arg1)))
    (by decide +kernel) fun t hf y => ?_
  blk_simp
  rw [after0_4]
  obtain ⟨r, d, rfl⟩ : ∃ (r : Fin 512) (d : Fin 1024), y = ix2 r d := ⟨y 0, y 1, eq_ix2 y⟩
  trans outH (m ((c : Thread nD τ).loc main_arg0)) (m ((c : Thread nD τ).loc main_arg1)) (ix2 (row t r) d)
  · unfold outsAt0
    frame_out
    exact point_h m c t r d
  · generalize outH (m ((c : Thread nD τ).loc main_arg0)) (m ((c : Thread nD τ).loc main_arg1)) = G
    blk_ext [idx t]

theorem point_p (t : Fin cfg0.N) (r : Fin 512) (j : Fin 3840) :
    k0_pay2 (F := Ideal) (k0_pay1 (iblk m c 0 t) (iblk m c 1 t)) (iblk m c 2 t) (ix2 r j)
      = outP (m ((c : Thread nD τ).loc main_arg0)) (m ((c : Thread nD τ).loc main_arg1)) (m ((c : Thread nD τ).loc main_arg2))
        (ix2 (row t r) j) := by
  rw [pay_p]
  simp only [point_h, blk2]
  show _ = if h : j.val < 3600 then _ else _
  split
  · rfl
  · simp

theorem arrP : (dats m 0 c).arrAt 3 cfg0.N
    = outP (m ((c : Thread nD τ).loc main_arg0)) (m ((c : Thread nD τ).loc main_arg1)) (m ((c : Thread nD τ).loc main_arg2)) := by
  refine (dats m 0 c).arrAt_eq_of_covers 3 (outP (m ((c : Thread nD τ).loc main_arg0)) (m ((c : Thread nD τ).loc main_arg1)) (m ((c : Thread nD τ).loc main_arg2)))
    (by decide +kernel) fun t hf y => ?_
  blk_simp
  rw [after0_3]
  obtain ⟨r, j, rfl⟩ : ∃ (r : Fin 512) (j : Fin 3840), y = ix2 r j := ⟨y 0, y 1, eq_ix2 y⟩
  trans outP (m ((c : Thread nD τ).loc main_arg0)) (m ((c : Thread nD τ).loc main_arg1)) (m ((c : Thread nD τ).loc main_arg2)) (ix2 (row t r) j)
  · unfold outsAt0
    frame_out
    exact point_p m c t r j
  · generalize outP (m ((c : Thread nD τ).loc main_arg0)) (m ((c : Thread nD τ).loc main_arg1)) (m ((c : Thread nD τ).loc main_arg2)) = G
    blk_ext [idx t]

end Points

section Reference

open Cert.Reference14Ideal.Read

theorem ref_norm (x : Vec Ideal S8192x1024 .f32) (g : Vec Ideal S1x1024 .f32) (r : Fin 8192) (d : Fin 1024) :
    val_main_v11 (F := Ideal) x g (ix2 r d) = norm (fun k => x (ix2 r k)) (fun k => g (ix2 0 k)) d := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

theorem ref_h (x : Vec Ideal S8192x1024 .f32) (g : Vec Ideal S1x1024 .f32) :
    val_main_v15 (F := Ideal) x g = outH x g := by
  funext y
  obtain ⟨r, d, rfl⟩ : ∃ (r : Fin 8192) (d : Fin 1024), y = ix2 r d := ⟨y 0, y 1, eq_ix2 y⟩
  exact ref_norm x g r d

theorem ref_p (x : Vec Ideal S8192x1024 .f32) (g : Vec Ideal S1x1024 .f32) (w : Vec Ideal S1024x3600 .f32) :
    val_main_v14 (F := Ideal) x g w = outP x g w := by
  funext y
  obtain ⟨r, j, rfl⟩ : ∃ (r : Fin 8192) (j : Fin 3840), y = ix2 r j := ⟨y 0, y 1, eq_ix2 y⟩
  pointwise [val_main_v14, val_main_v13, val_main_v12, val_main_cst_2, ref_norm]
  rfl

end Reference

/-- The reference ends, leaves its arguments unchanged, and has no semaphores. -/
theorem ref_frame : Cert.quiescent_Reference14Ideal := fun m g _ =>
  (θ_run (Cert.Reference14Ideal.defs (F := Ideal)) _ _).mono
    (fun r h => And.intro (fun c => (h c).2.2) (sem_eq_zero_of_no_sems (by rfl) r.2))
    (Cert.Reference14Ideal.Value.run (F := Ideal) m g)

theorem algebraic : Cert.algebraic_Kernel14Ideal_Reference14Ideal := by
  intro m g m' g' _ heq
  refine ⟨fun c => outP (m ((c : Thread nD τ).loc main_arg0)) (m ((c : Thread nD τ).loc main_arg1)) (m ((c : Thread nD τ).loc main_arg2)),
    fun c => outH (m ((c : Thread nD τ).loc main_arg0)) (m ((c : Thread nD τ).loc main_arg1)), ?_, ?_⟩
  · refine (θ_run _ _ _).mono (fun r h c => ?_) (Cert.Kernel14Ideal.Value.run_blocks (F := Ideal) m g)
    exact ⟨(h c).1.trans (arrP m c), (h c).2.1.trans (arrH m c), (h c).2.2⟩
  · refine (θ_run _ _ _).mono (fun r h c => ?_) (Cert.Reference14Ideal.Value.run (F := Ideal) m' g')
    obtain ⟨e0, e1, e2⟩ := heq c
    refine ⟨(h c).1.trans ?_, (h c).2.1.trans ?_, (h c).2.2⟩
    · rw [Cert.Reference14Ideal.Read.val_main_v14_eq, e0, e1, e2]
      exact ref_p _ _ _
    · rw [Cert.Reference14Ideal.Read.val_main_v15_eq, e0, e1]
      exact ref_h _ _

end Cert.InFwd
-- ==== Proof.OutFwd.lean ====
module

public import proofs.«01_k».proof.Proof.InFwd
public import proofs.«01_k».proof.Proof.Gen.Kernel15Ideal.Value
public import proofs.«01_k».proof.Proof.Gen.Reference15Ideal.Run
public import proofs.«01_k».proof.Proof.Gen.Reference15Ideal.Read

/-!
# The output projection of the forward pass

Grid point `t` multiplies 1024 rows of the attention part and of the recurrent part by their rows of the weight, adds
both to the residual and norms the sum. The reference multiplies the two parts side by side; sums of extended reals
commute, so nothing need be finite.
-/

@[expose] public section

noncomputable section

namespace Cert.OutFwd

open Cert.Kernel15Ideal Cert.Kernel15Ideal.Gen Idealize.ShloMosaic Idealize.ShloMosaic.TcCoe Idealize.SL.Sem
open Cert.InFwd (norm)

theorem pay_x (x : Vec Ideal S1024x1024 .f32) (a : Vec Ideal S1024x512 .f32) (u : Vec Ideal S512x1024 .bf16)
    (b : Vec Ideal S1024x1024 .bf16) (w : Vec Ideal S1024x1024 .bf16) (r : Fin 1024) (d : Fin 1024) :
    k0_pay1 (F := Ideal) x a u b w (ix2 r d)
      = x (ix2 r d) + (∑ j : Fin 512, a (ix2 r j) * u (ix2 j d) + ∑ j : Fin 1024, b (ix2 r j) * w (ix2 j d)) := by
  rw [← add_assoc]
  pointwise [k0_pay1]

theorem pay_h (x : Vec Ideal S1024x1024 .f32) (a : Vec Ideal S1024x512 .f32) (u : Vec Ideal S512x1024 .bf16)
    (b : Vec Ideal S1024x1024 .bf16) (w : Vec Ideal S1024x1024 .bf16) (g : Vec Ideal S1x1024 .f32) (r : Fin 1024) (d : Fin 1024) :
    k0_pay2 (F := Ideal) x a u b w g (ix2 r d)
      = norm (fun k => k0_pay1 (F := Ideal) x a u b w (ix2 r k)) (fun k => g (ix2 0 k)) d := by
  pointwise [k0_pay2]
  rfl

theorem idx : ∀ t : Fin cfg0.N,
    win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 ∧ win0_5.index t 0 = 0 ∧ win0_5.index t 1 = 0
    ∧ win0_6.index t 0 = t.val ∧ win0_6.index t 1 = 0 ∧ win0_7.index t 0 = t.val ∧ win0_7.index t 1 = 0 :=
  (by decide +kernel : ∀ t : Fin grid0.N, _)

/-- The two results as arrays. -/
def outX (a : Vec Ideal S8192x512 .f32) (b : Vec Ideal S8192x1024 .bf16) (w : Vec Ideal S1536x1024 .f32)
    (x : Vec Ideal S8192x1024 .f32) : Vec Ideal S8192x1024 .f32 :=
  fun y => x (ix2 (y 0) (y 1))
    + (∑ j : Fin 512, (a (ix2 (y 0) j) * w (ix2 ⟨j.val, by omega⟩ (y 1)) : EReal)
      + ∑ j : Fin 1024, (b (ix2 (y 0) j) * w (ix2 ⟨512 + j.val, by omega⟩ (y 1)) : EReal))
def outH (a : Vec Ideal S8192x512 .f32) (b : Vec Ideal S8192x1024 .bf16) (w : Vec Ideal S1536x1024 .f32)
    (x : Vec Ideal S8192x1024 .f32) (g : Vec Ideal S1x1024 .f32) : Vec Ideal S8192x1024 .bf16 :=
  fun y => norm (fun k => outX a b w x (ix2 (y 0) k)) (fun k => g (ix2 0 k)) (y 1)

section Points

variable (m : (ℓ : Loc nD τ sig) → Buf (Elt Ideal) ℓ) (c : Dev nD)

abbrev row (t : Fin cfg0.N) (r : Fin 1024) : Fin 8192 := ⟨t.val * 1024 + r.val, by have : cfg0.N = 8 := N_0; omega⟩

abbrev resX : Vec Ideal S8192x1024 .f32 := outX (m ((c : Thread nD τ).loc main_arg0)) (m ((c : Thread nD τ).loc main_arg1))
  (m ((c : Thread nD τ).loc main_arg2)) (m ((c : Thread nD τ).loc main_arg3))
abbrev resH : Vec Ideal S8192x1024 .bf16 := outH (m ((c : Thread nD τ).loc main_arg0)) (m ((c : Thread nD τ).loc main_arg1))
  (m ((c : Thread nD τ).loc main_arg2)) (m ((c : Thread nD τ).loc main_arg3)) (m ((c : Thread nD τ).loc main_arg4))

theorem blk0 (t : Fin cfg0.N) (r : Fin 1024) (j : Fin 512) : (iblk m c 0 t : Vec Ideal S1024x512 .f32) (ix2 r j)
    = m ((c : Thread nD τ).loc main_arg0) (ix2 (row t r) j) := by
  blk_ext! [iblk, V, idx t]

theorem blk1 (t : Fin cfg0.N) (r : Fin 1024) (j : Fin 1024) : (iblk m c 1 t : Vec Ideal S1024x1024 .bf16) (ix2 r j)
    = m ((c : Thread nD τ).loc main_arg1) (ix2 (row t r) j) := by
  blk_ext! [iblk, V, idx t]

theorem blk2 (t : Fin cfg0.N) (j : Fin 512) (d : Fin 1024) : (iblk m c 2 t : Vec Ideal S512x1024 .bf16) (ix2 j d)
    = m ((c : Thread nD τ).loc main_arg2) (ix2 ⟨j.val, by omega⟩ d) := by
  blk_simp [iblk, idx t]
  entry_read
  pointwise
  blk_ext [idx t]

theorem blk3 (t : Fin cfg0.N) (j : Fin 1024) (d : Fin 1024) : (iblk m c 3 t : Vec Ideal S1024x1024 .bf16) (ix2 j d)
    = m ((c : Thread nD τ).loc main_arg2) (ix2 ⟨512 + j.val, by omega⟩ d) := by
  blk_simp [iblk, idx t]
  entry_read
  pointwise
  blk_ext [idx t]

theorem blk4 (t : Fin cfg0.N) (r : Fin 1024) (d : Fin 1024) : (iblk m c 4 t : Vec Ideal S1024x1024 .f32) (ix2 r d)
    = m ((c : Thread nD τ).loc main_arg3) (ix2 (row t r) d) := by
  blk_ext! [iblk, V, idx t]

theorem blk5 (t : Fin cfg0.N) (d : Fin 1024) : (iblk m c 5 t : Vec Ideal S1x1024 .f32) (ix2 0 d)
    = m ((c : Thread nD τ).loc main_arg4) (ix2 0 d) := by
  blk_ext! [iblk, V, idx t]

theorem point_x (t : Fin cfg0.N) (r : Fin 1024) (d : Fin 1024) :
    k0_pay1 (F := Ideal) (iblk m c 4 t) (iblk m c 0 t) (iblk m c 2 t) (iblk m c 1 t) (iblk m c 3 t) (ix2 r d)
      = resX m c (ix2 (row t r) d) := by
  rw [pay_x]
  simp only [blk0, blk1, blk2, blk3, blk4]
  rfl

theorem arrX : (dats m 0 c).arrAt 6 cfg0.N = resX m c := by
  refine (dats m 0 c).arrAt_eq_of_covers 6 (resX m c) (by decide +kernel) fun t hf y => ?_
  blk_simp
  rw [after0_6]
  obtain ⟨r, d, rfl⟩ : ∃ (r : Fin 1024) (d : Fin 1024), y = ix2 r d := ⟨y 0, y 1, eq_ix2 y⟩
  trans resX m c (ix2 (row t r) d)
  · frame_out
    exact point_x m c t r d
  · generalize resX m c = G
    blk_ext [idx t]

theorem arrH : (dats m 0 c).arrAt 7 cfg0.N = resH m c := by
  refine (dats m 0 c).arrAt_eq_of_covers 7 (resH m c) (by decide +kernel) fun t hf y => ?_
  blk_simp
  rw [after0_7]
  obtain ⟨r, d, rfl⟩ : ∃ (r : Fin 1024) (d : Fin 1024), y = ix2 r d := ⟨y 0, y 1, eq_ix2 y⟩
  trans resH m c (ix2 (row t r) d)
  · frame_out
    rw [pay_h]
    simp only [point_x, blk5]
    rfl
  · generalize resH m c = G
    blk_ext [idx t]

end Points

section Reference

open Cert.Reference15Ideal.Read

theorem ref_sum (a : Vec Ideal S8192x512 .f32) (b : Vec Ideal S8192x1024 .bf16) (w : Vec Ideal S1536x1024 .f32)
    (x : Vec Ideal S8192x1024 .f32) (r : Fin 8192) (d : Fin 1024) :
    val_main_v3 (F := Ideal) a b w x (ix2 r d) = outX a b w x (ix2 r d) := by
  pointwise [val_main_v3, val_main_v2, val_main_v1, val_main_v0]
  rfl

theorem ref_x (a : Vec Ideal S8192x512 .f32) (b : Vec Ideal S8192x1024 .bf16) (w : Vec Ideal S1536x1024 .f32)
    (x : Vec Ideal S8192x1024 .f32) : val_main_v3 (F := Ideal) a b w x = outX a b w x := by
  funext y
  obtain ⟨r, d, rfl⟩ : ∃ (r : Fin 8192) (d : Fin 1024), y = ix2 r d := ⟨y 0, y 1, eq_ix2 y⟩
  exact ref_sum a b w x r d

theorem ref_h (a : Vec Ideal S8192x512 .f32) (b : Vec Ideal S8192x1024 .bf16) (w : Vec Ideal S1536x1024 .f32)
    (x : Vec Ideal S8192x1024 .f32) (g : Vec Ideal S1x1024 .f32) : val_main_v16 (F := Ideal) a b w x g = outH a b w x g := by
  funext y
  obtain ⟨r, d, rfl⟩ : ∃ (r : Fin 8192) (d : Fin 1024), y = ix2 r d := ⟨y 0, y 1, eq_ix2 y⟩
  pointwise [val_main_v16, val_main_v15, val_main_v14, val_main_v13, val_main_v12, val_main_v11, val_main_v10, val_main_v9,
    val_main_v8, val_main_v7, val_main_v6, val_main_v5, val_main_v4, val_main_cst, val_main_cst_0, val_main_cst_1, ref_sum]
  rfl

end Reference

/-- The reference ends, leaves its arguments unchanged, and has no semaphores. -/
theorem ref_frame : Cert.quiescent_Reference15Ideal := fun m g _ =>
  (θ_run (Cert.Reference15Ideal.defs (F := Ideal)) _ _).mono
    (fun r h => And.intro (fun c => (h c).2.2) (sem_eq_zero_of_no_sems (by rfl) r.2))
    (Cert.Reference15Ideal.Value.run (F := Ideal) m g)

theorem algebraic : Cert.algebraic_Kernel15Ideal_Reference15Ideal := by
  intro m g m' g' _ heq
  refine ⟨fun c => resX m c, fun c => resH m c, ?_, ?_⟩
  · refine (θ_run _ _ _).mono (fun r h c => ?_) (Cert.Kernel15Ideal.Value.run_blocks (F := Ideal) m g)
    exact ⟨(h c).1.trans (arrX m c), (h c).2.1.trans (arrH m c), (h c).2.2⟩
  · refine (θ_run _ _ _).mono (fun r h c => ?_) (Cert.Reference15Ideal.Value.run (F := Ideal) m' g')
    obtain ⟨e0, e1, e2, e3, e4⟩ := heq c
    refine ⟨(h c).1.trans ?_, (h c).2.1.trans ?_, (h c).2.2⟩
    · rw [Cert.Reference15Ideal.Read.val_main_v3_eq, e0, e1, e2, e3]
      exact ref_x _ _ _ _
    · rw [Cert.Reference15Ideal.Read.val_main_v16_eq, e0, e1, e2, e3, e4]
      exact ref_h _ _ _ _ _

end Cert.OutFwd
-- ==== Proof.UpdOut.lean ====
module

public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit.Point
public import Idealize.ShloMosaic.Lib.Pipeline.ValueKit.Acc
public import proofs.«01_k».proof.Defs

/-!
# The reduced gradient of `w_out` and its update

Grid point `t` takes a range of columns, adds the eight shares and updates the weight and its moments entry by entry.
The results are the reference's values; sums of extended reals may be regrouped, so nothing need be finite.
-/

@[expose] public section

noncomputable section

namespace Cert.UpdOut

open Cert.Kernel16Ideal Cert.Kernel16Ideal.Gen Idealize.ShloMosaic Idealize.ShloMosaic.TcCoe Idealize.SL.Sem
open Cert.Reference16Ideal.Read

theorem idx : ∀ t : Fin cfg0.N,
    win0_0.index t 0 = 0 ∧ win0_0.index t 1 = t.val ∧ win0_1.index t 0 = 0 ∧ win0_1.index t 1 = 0
    ∧ win0_1.index t 2 = t.val ∧ win0_2.index t 0 = 0 ∧ win0_2.index t 1 = t.val ∧ win0_3.index t 0 = 0
    ∧ win0_3.index t 1 = t.val ∧ win0_4.index t 0 = 0 ∧ win0_4.index t 1 = t.val ∧ win0_5.index t 0 = 0
    ∧ win0_5.index t 1 = t.val ∧ win0_6.index t 0 = 0 ∧ win0_6.index t 1 = t.val ∧ win0_7.index t 0 = 0
    ∧ win0_7.index t 1 = t.val ∧ win0_8.index t 0 = 0 ∧ win0_8.index t 1 = t.val :=
  (by decide +kernel : ∀ t : Fin grid0.N, _)

theorem regroup (e a b c d f g h : EReal) : e + a + b + c + d + f + g + h = e + (a + b + c + d + f + g + h) := by
  ac_rfl

section Points

variable (m : (ℓ : Loc nD τ sig) → Buf (Elt Ideal) ℓ) (c : Dev nD)

/-- The column of the whole array. -/
abbrev pos (t : Fin cfg0.N) (q : Fin 256) : Fin 1024 := ⟨t.val * 256 + q.val, by have : cfg0.N = 4 := N_0; omega⟩

abbrev A0 : Vec Ideal S192x1024 .bf16 := m ((c : Thread nD τ).loc main_arg0)
abbrev A1 : Vec Ideal S8x192x1024 .bf16 := m ((c : Thread nD τ).loc main_arg1)
abbrev A2 : Vec Ideal S192x1024 .f32 := m ((c : Thread nD τ).loc main_arg2)
abbrev A3 : Vec Ideal S192x1024 .f32 := m ((c : Thread nD τ).loc main_arg3)
abbrev A4 : Vec Ideal S192x1024 .f32 := m ((c : Thread nD τ).loc main_arg4)

theorem blk0 (t : Fin cfg0.N) (r : Fin 192) (q : Fin 256) :
    (iblk m c 0 t : Vec Ideal S192x256 .bf16) (ix2 r q) = A0 m c (ix2 r (pos t q)) := by
  blk_ext! [iblk, V, idx t]

theorem blk1 (t : Fin cfg0.N) (k : Fin 8) (r : Fin 192) (q : Fin 256) :
    (iblk m c 1 t : Vec Ideal S8x192x256 .bf16) (ix3 k r q) = A1 m c (ix3 k r (pos t q)) := by
  blk_ext! [iblk, V, idx t]

theorem blk2 (t : Fin cfg0.N) (r : Fin 192) (q : Fin 256) :
    (iblk m c 2 t : Vec Ideal S192x256 .f32) (ix2 r q) = A2 m c (ix2 r (pos t q)) := by
  blk_ext! [iblk, V, idx t]

theorem blk3 (t : Fin cfg0.N) (r : Fin 192) (q : Fin 256) :
    (iblk m c 3 t : Vec Ideal S192x256 .f32) (ix2 r q) = A3 m c (ix2 r (pos t q)) := by
  blk_ext! [iblk, V, idx t]

theorem blk4 (t : Fin cfg0.N) (r : Fin 192) (q : Fin 256) :
    (iblk m c 4 t : Vec Ideal S192x256 .f32) (ix2 r q) = A4 m c (ix2 r (pos t q)) := by
  blk_ext! [iblk, V, idx t]

/-- The sum of the shares at one entry. -/
theorem share (t : Fin cfg0.N) (r : Fin 192) (q : Fin 256) :
    k0_pay5 (iblk m c 0 t) (iblk m c 1 t) (iblk m c 2 t) (iblk m c 3 t) (iblk m c 4 t) (ix2 r q) = val_main_v4 (F := Ideal) (A0 m c) (A1 m c) (ix2 r (pos t q)) := by
  pointwise [k0_pay5, k0_pay4, val_main_v4, val_main_v3, val_main_v2, val_main_v1, val_main_v0, val_main_cst]
  rw [Fin.sum_univ_seven, blk0, blk1, blk1, blk1, blk1, blk1, blk1, blk1]
  exact regroup _ _ _ _ _ _ _ _

theorem entry5 (t : Fin cfg0.N) (r : Fin 192) (q : Fin 256) :
    out0_5 (iblk m c 0 t) (iblk m c 1 t) (iblk m c 2 t) (iblk m c 3 t) (iblk m c 4 t) (ix2 r q)
      = val_main_v4 (F := Ideal) (A0 m c) (A1 m c) (ix2 r (pos t q)) := by
  frame_out
  pointwise [k0_pay4, val_main_v4, val_main_v3, val_main_v2, val_main_v1, val_main_v0, val_main_cst]
  rw [Fin.sum_univ_seven, blk0, blk1, blk1, blk1, blk1, blk1, blk1, blk1]
  exact regroup _ _ _ _ _ _ _ _

theorem arr5 : (dats m 0 c).arrAt 5 cfg0.N = val_main_v4 (F := Ideal) (A0 m c) (A1 m c) := by
  refine (dats m 0 c).arrAt_eq_of_covers 5 (val_main_v4 (F := Ideal) (A0 m c) (A1 m c)) (by decide +kernel) fun t hf y => ?_
  blk_simp
  rw [after0_5]
  obtain ⟨r, q, rfl⟩ : ∃ (r : Fin 192) (q : Fin 256), y = ix2 r q := ⟨y 0, y 1, eq_ix2 y⟩
  refine (entry5 m c t r q).trans ?_
  generalize val_main_v4 (F := Ideal) (A0 m c) (A1 m c) = G
  blk_ext [idx t]

theorem entry6 (t : Fin cfg0.N) (r : Fin 192) (q : Fin 256) :
    out0_6 (iblk m c 0 t) (iblk m c 1 t) (iblk m c 2 t) (iblk m c 3 t) (iblk m c 4 t) (ix2 r q)
      = val_main_v28 (F := Ideal) (A0 m c) (A1 m c) (A2 m c) (A3 m c) (A4 m c) (ix2 r (pos t q)) := by
  frame_out
  pointwise [k0_pay3, k0_pay2, k0_pay1, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_0, val_main_cst_1, val_main_cst_2, val_main_cst_3, val_main_cst_4, val_main_cst_5, val_main_cst_6, val_main_cst_7, val_main_cst_8]
  rw [share, blk2, blk3, blk4]

theorem arr6 : (dats m 0 c).arrAt 6 cfg0.N = val_main_v28 (F := Ideal) (A0 m c) (A1 m c) (A2 m c) (A3 m c) (A4 m c) := by
  refine (dats m 0 c).arrAt_eq_of_covers 6 (val_main_v28 (F := Ideal) (A0 m c) (A1 m c) (A2 m c) (A3 m c) (A4 m c)) (by decide +kernel) fun t hf y => ?_
  blk_simp
  rw [after0_6]
  obtain ⟨r, q, rfl⟩ : ∃ (r : Fin 192) (q : Fin 256), y = ix2 r q := ⟨y 0, y 1, eq_ix2 y⟩
  refine (entry6 m c t r q).trans ?_
  generalize val_main_v28 (F := Ideal) (A0 m c) (A1 m c) (A2 m c) (A3 m c) (A4 m c) = G
  blk_ext [idx t]

theorem entry7 (t : Fin cfg0.N) (r : Fin 192) (q : Fin 256) :
    out0_7 (iblk m c 0 t) (iblk m c 1 t) (iblk m c 2 t) (iblk m c 3 t) (iblk m c 4 t) (ix2 r q)
      = val_main_v9 (F := Ideal) (A0 m c) (A1 m c) (A3 m c) (ix2 r (pos t q)) := by
  frame_out
  pointwise [k0_pay3, k0_pay2, k0_pay1, val_main_v9, val_main_v8, val_main_v7, val_main_v6, val_main_v5, val_main_cst_0, val_main_cst_1]
  rw [share, blk3]

theorem arr7 : (dats m 0 c).arrAt 7 cfg0.N = val_main_v9 (F := Ideal) (A0 m c) (A1 m c) (A3 m c) := by
  refine (dats m 0 c).arrAt_eq_of_covers 7 (val_main_v9 (F := Ideal) (A0 m c) (A1 m c) (A3 m c)) (by decide +kernel) fun t hf y => ?_
  blk_simp
  rw [after0_7]
  obtain ⟨r, q, rfl⟩ : ∃ (r : Fin 192) (q : Fin 256), y = ix2 r q := ⟨y 0, y 1, eq_ix2 y⟩
  refine (entry7 m c t r q).trans ?_
  generalize val_main_v9 (F := Ideal) (A0 m c) (A1 m c) (A3 m c) = G
  blk_ext [idx t]

theorem entry8 (t : Fin cfg0.N) (r : Fin 192) (q : Fin 256) :
    out0_8 (iblk m c 0 t) (iblk m c 1 t) (iblk m c 2 t) (iblk m c 3 t) (iblk m c 4 t) (ix2 r q)
      = val_main_v15 (F := Ideal) (A0 m c) (A1 m c) (A4 m c) (ix2 r (pos t q)) := by
  frame_out
  pointwise [k0_pay3, k0_pay2, k0_pay1, val_main_v15, val_main_v14, val_main_v13, val_main_v12, val_main_v11, val_main_v10, val_main_cst_2, val_main_cst_3]
  rw [share, blk4]

theorem arr8 : (dats m 0 c).arrAt 8 cfg0.N = val_main_v15 (F := Ideal) (A0 m c) (A1 m c) (A4 m c) := by
  refine (dats m 0 c).arrAt_eq_of_covers 8 (val_main_v15 (F := Ideal) (A0 m c) (A1 m c) (A4 m c)) (by decide +kernel) fun t hf y => ?_
  blk_simp
  rw [after0_8]
  obtain ⟨r, q, rfl⟩ : ∃ (r : Fin 192) (q : Fin 256), y = ix2 r q := ⟨y 0, y 1, eq_ix2 y⟩
  refine (entry8 m c t r q).trans ?_
  generalize val_main_v15 (F := Ideal) (A0 m c) (A1 m c) (A4 m c) = G
  blk_ext [idx t]

end Points

/-- The reference ends, leaves its arguments unchanged, and has no semaphores. -/
theorem ref_frame : Cert.quiescent_Reference16Ideal := fun m g _ =>
  (θ_run (Cert.Reference16Ideal.defs (F := Ideal)) _ _).mono
    (fun r h => And.intro (fun c => (h c).2.2.2.2) (sem_eq_zero_of_no_sems (by rfl) r.2))
    (Cert.Reference16Ideal.Value.run (F := Ideal) m g)

theorem algebraic : Cert.algebraic_Kernel16Ideal_Reference16Ideal := by
  intro m g m' g' _ heq
  refine ⟨fun c => val_main_v4 (F := Ideal) (A0 m c) (A1 m c), fun c => val_main_v28 (F := Ideal) (A0 m c) (A1 m c) (A2 m c) (A3 m c) (A4 m c), fun c => val_main_v9 (F := Ideal) (A0 m c) (A1 m c) (A3 m c), fun c => val_main_v15 (F := Ideal) (A0 m c) (A1 m c) (A4 m c), ?_, ?_⟩
  · refine (θ_run _ _ _).mono (fun r h c => ?_) (Cert.Kernel16Ideal.Value.run_blocks (F := Ideal) m g)
    exact ⟨(h c).1.trans (arr5 m c), (h c).2.1.trans (arr6 m c), (h c).2.2.1.trans (arr7 m c), (h c).2.2.2.1.trans (arr8 m c), (h c).2.2.2.2⟩
  · refine (θ_run _ _ _).mono (fun r h c => ?_) (Cert.Reference16Ideal.Value.run (F := Ideal) m' g')
    obtain ⟨e0, e1, e2, e3, e4⟩ := heq c
    refine ⟨(h c).1.trans ?_, (h c).2.1.trans ?_, (h c).2.2.1.trans ?_, (h c).2.2.2.1.trans ?_, (h c).2.2.2.2⟩
    · rw [val_main_v4_eq, e0, e1]
    · rw [val_main_v28_eq, e0, e1, e2, e3, e4]
    · rw [val_main_v9_eq, e0, e1, e3]
    · rw [val_main_v15_eq, e0, e1, e4]

end Cert.UpdOut
-- ==== Proof.UpdDown.lean ====
module

public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit.Point
public import Idealize.ShloMosaic.Lib.Pipeline.ValueKit.Acc
public import proofs.«01_k».proof.Defs

/-!
# The reduced gradient of `w_down` and its update

Grid point `t` takes a range of columns, adds the eight shares and updates the weight and its moments entry by entry.
The results are the reference's values; sums of extended reals may be regrouped, so nothing need be finite.
-/

@[expose] public section

noncomputable section

namespace Cert.UpdDown

open Cert.Kernel17Ideal Cert.Kernel17Ideal.Gen Idealize.ShloMosaic Idealize.ShloMosaic.TcCoe Idealize.SL.Sem
open Cert.Reference17Ideal.Read

theorem idx : ∀ t : Fin cfg0.N,
    win0_0.index t 0 = 0 ∧ win0_0.index t 1 = t.val ∧ win0_1.index t 0 = 0 ∧ win0_1.index t 1 = 0
    ∧ win0_1.index t 2 = t.val ∧ win0_2.index t 0 = 0 ∧ win0_2.index t 1 = t.val ∧ win0_3.index t 0 = 0
    ∧ win0_3.index t 1 = t.val ∧ win0_4.index t 0 = 0 ∧ win0_4.index t 1 = t.val ∧ win0_5.index t 0 = 0
    ∧ win0_5.index t 1 = t.val ∧ win0_6.index t 0 = 0 ∧ win0_6.index t 1 = t.val ∧ win0_7.index t 0 = 0
    ∧ win0_7.index t 1 = t.val ∧ win0_8.index t 0 = 0 ∧ win0_8.index t 1 = t.val :=
  (by decide +kernel : ∀ t : Fin grid0.N, _)

theorem regroup (e a b c d f g h : EReal) : e + a + b + c + d + f + g + h = e + (a + b + c + d + f + g + h) := by
  ac_rfl

section Points

variable (m : (ℓ : Loc nD τ sig) → Buf (Elt Ideal) ℓ) (c : Dev nD)

/-- The column of the whole array. -/
abbrev pos (t : Fin cfg0.N) (q : Fin 256) : Fin 1024 := ⟨t.val * 256 + q.val, by have : cfg0.N = 4 := N_0; omega⟩

abbrev A0 : Vec Ideal S352x1024 .bf16 := m ((c : Thread nD τ).loc main_arg0)
abbrev A1 : Vec Ideal S8x352x1024 .bf16 := m ((c : Thread nD τ).loc main_arg1)
abbrev A2 : Vec Ideal S352x1024 .f32 := m ((c : Thread nD τ).loc main_arg2)
abbrev A3 : Vec Ideal S352x1024 .f32 := m ((c : Thread nD τ).loc main_arg3)
abbrev A4 : Vec Ideal S352x1024 .f32 := m ((c : Thread nD τ).loc main_arg4)

theorem blk0 (t : Fin cfg0.N) (r : Fin 352) (q : Fin 256) :
    (iblk m c 0 t : Vec Ideal S352x256 .bf16) (ix2 r q) = A0 m c (ix2 r (pos t q)) := by
  blk_ext! [iblk, V, idx t]

theorem blk1 (t : Fin cfg0.N) (k : Fin 8) (r : Fin 352) (q : Fin 256) :
    (iblk m c 1 t : Vec Ideal S8x352x256 .bf16) (ix3 k r q) = A1 m c (ix3 k r (pos t q)) := by
  blk_ext! [iblk, V, idx t]

theorem blk2 (t : Fin cfg0.N) (r : Fin 352) (q : Fin 256) :
    (iblk m c 2 t : Vec Ideal S352x256 .f32) (ix2 r q) = A2 m c (ix2 r (pos t q)) := by
  blk_ext! [iblk, V, idx t]

theorem blk3 (t : Fin cfg0.N) (r : Fin 352) (q : Fin 256) :
    (iblk m c 3 t : Vec Ideal S352x256 .f32) (ix2 r q) = A3 m c (ix2 r (pos t q)) := by
  blk_ext! [iblk, V, idx t]

theorem blk4 (t : Fin cfg0.N) (r : Fin 352) (q : Fin 256) :
    (iblk m c 4 t : Vec Ideal S352x256 .f32) (ix2 r q) = A4 m c (ix2 r (pos t q)) := by
  blk_ext! [iblk, V, idx t]

/-- The sum of the shares at one entry. -/
theorem share (t : Fin cfg0.N) (r : Fin 352) (q : Fin 256) :
    k0_pay5 (iblk m c 0 t) (iblk m c 1 t) (iblk m c 2 t) (iblk m c 3 t) (iblk m c 4 t) (ix2 r q) = val_main_v4 (F := Ideal) (A0 m c) (A1 m c) (ix2 r (pos t q)) := by
  pointwise [k0_pay5, k0_pay4, val_main_v4, val_main_v3, val_main_v2, val_main_v1, val_main_v0, val_main_cst]
  rw [Fin.sum_univ_seven, blk0, blk1, blk1, blk1, blk1, blk1, blk1, blk1]
  exact regroup _ _ _ _ _ _ _ _

theorem entry5 (t : Fin cfg0.N) (r : Fin 352) (q : Fin 256) :
    out0_5 (iblk m c 0 t) (iblk m c 1 t) (iblk m c 2 t) (iblk m c 3 t) (iblk m c 4 t) (ix2 r q)
      = val_main_v4 (F := Ideal) (A0 m c) (A1 m c) (ix2 r (pos t q)) := by
  frame_out
  pointwise [k0_pay4, val_main_v4, val_main_v3, val_main_v2, val_main_v1, val_main_v0, val_main_cst]
  rw [Fin.sum_univ_seven, blk0, blk1, blk1, blk1, blk1, blk1, blk1, blk1]
  exact regroup _ _ _ _ _ _ _ _

theorem arr5 : (dats m 0 c).arrAt 5 cfg0.N = val_main_v4 (F := Ideal) (A0 m c) (A1 m c) := by
  refine (dats m 0 c).arrAt_eq_of_covers 5 (val_main_v4 (F := Ideal) (A0 m c) (A1 m c)) (by decide +kernel) fun t hf y => ?_
  blk_simp
  rw [after0_5]
  obtain ⟨r, q, rfl⟩ : ∃ (r : Fin 352) (q : Fin 256), y = ix2 r q := ⟨y 0, y 1, eq_ix2 y⟩
  refine (entry5 m c t r q).trans ?_
  generalize val_main_v4 (F := Ideal) (A0 m c) (A1 m c) = G
  blk_ext [idx t]

theorem entry6 (t : Fin cfg0.N) (r : Fin 352) (q : Fin 256) :
    out0_6 (iblk m c 0 t) (iblk m c 1 t) (iblk m c 2 t) (iblk m c 3 t) (iblk m c 4 t) (ix2 r q)
      = val_main_v28 (F := Ideal) (A0 m c) (A1 m c) (A2 m c) (A3 m c) (A4 m c) (ix2 r (pos t q)) := by
  frame_out
  pointwise [k0_pay3, k0_pay2, k0_pay1, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_0, val_main_cst_1, val_main_cst_2, val_main_cst_3, val_main_cst_4, val_main_cst_5, val_main_cst_6, val_main_cst_7, val_main_cst_8]
  rw [share, blk2, blk3, blk4]

theorem arr6 : (dats m 0 c).arrAt 6 cfg0.N = val_main_v28 (F := Ideal) (A0 m c) (A1 m c) (A2 m c) (A3 m c) (A4 m c) := by
  refine (dats m 0 c).arrAt_eq_of_covers 6 (val_main_v28 (F := Ideal) (A0 m c) (A1 m c) (A2 m c) (A3 m c) (A4 m c)) (by decide +kernel) fun t hf y => ?_
  blk_simp
  rw [after0_6]
  obtain ⟨r, q, rfl⟩ : ∃ (r : Fin 352) (q : Fin 256), y = ix2 r q := ⟨y 0, y 1, eq_ix2 y⟩
  refine (entry6 m c t r q).trans ?_
  generalize val_main_v28 (F := Ideal) (A0 m c) (A1 m c) (A2 m c) (A3 m c) (A4 m c) = G
  blk_ext [idx t]

theorem entry7 (t : Fin cfg0.N) (r : Fin 352) (q : Fin 256) :
    out0_7 (iblk m c 0 t) (iblk m c 1 t) (iblk m c 2 t) (iblk m c 3 t) (iblk m c 4 t) (ix2 r q)
      = val_main_v9 (F := Ideal) (A0 m c) (A1 m c) (A3 m c) (ix2 r (pos t q)) := by
  frame_out
  pointwise [k0_pay3, k0_pay2, k0_pay1, val_main_v9, val_main_v8, val_main_v7, val_main_v6, val_main_v5, val_main_cst_0, val_main_cst_1]
  rw [share, blk3]

theorem arr7 : (dats m 0 c).arrAt 7 cfg0.N = val_main_v9 (F := Ideal) (A0 m c) (A1 m c) (A3 m c) := by
  refine (dats m 0 c).arrAt_eq_of_covers 7 (val_main_v9 (F := Ideal) (A0 m c) (A1 m c) (A3 m c)) (by decide +kernel) fun t hf y => ?_
  blk_simp
  rw [after0_7]
  obtain ⟨r, q, rfl⟩ : ∃ (r : Fin 352) (q : Fin 256), y = ix2 r q := ⟨y 0, y 1, eq_ix2 y⟩
  refine (entry7 m c t r q).trans ?_
  generalize val_main_v9 (F := Ideal) (A0 m c) (A1 m c) (A3 m c) = G
  blk_ext [idx t]

theorem entry8 (t : Fin cfg0.N) (r : Fin 352) (q : Fin 256) :
    out0_8 (iblk m c 0 t) (iblk m c 1 t) (iblk m c 2 t) (iblk m c 3 t) (iblk m c 4 t) (ix2 r q)
      = val_main_v15 (F := Ideal) (A0 m c) (A1 m c) (A4 m c) (ix2 r (pos t q)) := by
  frame_out
  pointwise [k0_pay3, k0_pay2, k0_pay1, val_main_v15, val_main_v14, val_main_v13, val_main_v12, val_main_v11, val_main_v10, val_main_cst_2, val_main_cst_3]
  rw [share, blk4]

theorem arr8 : (dats m 0 c).arrAt 8 cfg0.N = val_main_v15 (F := Ideal) (A0 m c) (A1 m c) (A4 m c) := by
  refine (dats m 0 c).arrAt_eq_of_covers 8 (val_main_v15 (F := Ideal) (A0 m c) (A1 m c) (A4 m c)) (by decide +kernel) fun t hf y => ?_
  blk_simp
  rw [after0_8]
  obtain ⟨r, q, rfl⟩ : ∃ (r : Fin 352) (q : Fin 256), y = ix2 r q := ⟨y 0, y 1, eq_ix2 y⟩
  refine (entry8 m c t r q).trans ?_
  generalize val_main_v15 (F := Ideal) (A0 m c) (A1 m c) (A4 m c) = G
  blk_ext [idx t]

end Points

/-- The reference ends, leaves its arguments unchanged, and has no semaphores. -/
theorem ref_frame : Cert.quiescent_Reference17Ideal := fun m g _ =>
  (θ_run (Cert.Reference17Ideal.defs (F := Ideal)) _ _).mono
    (fun r h => And.intro (fun c => (h c).2.2.2.2) (sem_eq_zero_of_no_sems (by rfl) r.2))
    (Cert.Reference17Ideal.Value.run (F := Ideal) m g)

theorem algebraic : Cert.algebraic_Kernel17Ideal_Reference17Ideal := by
  intro m g m' g' _ heq
  refine ⟨fun c => val_main_v4 (F := Ideal) (A0 m c) (A1 m c), fun c => val_main_v28 (F := Ideal) (A0 m c) (A1 m c) (A2 m c) (A3 m c) (A4 m c), fun c => val_main_v9 (F := Ideal) (A0 m c) (A1 m c) (A3 m c), fun c => val_main_v15 (F := Ideal) (A0 m c) (A1 m c) (A4 m c), ?_, ?_⟩
  · refine (θ_run _ _ _).mono (fun r h c => ?_) (Cert.Kernel17Ideal.Value.run_blocks (F := Ideal) m g)
    exact ⟨(h c).1.trans (arr5 m c), (h c).2.1.trans (arr6 m c), (h c).2.2.1.trans (arr7 m c), (h c).2.2.2.1.trans (arr8 m c), (h c).2.2.2.2⟩
  · refine (θ_run _ _ _).mono (fun r h c => ?_) (Cert.Reference17Ideal.Value.run (F := Ideal) m' g')
    obtain ⟨e0, e1, e2, e3, e4⟩ := heq c
    refine ⟨(h c).1.trans ?_, (h c).2.1.trans ?_, (h c).2.2.1.trans ?_, (h c).2.2.2.1.trans ?_, (h c).2.2.2.2⟩
    · rw [val_main_v4_eq, e0, e1]
    · rw [val_main_v28_eq, e0, e1, e2, e3, e4]
    · rw [val_main_v9_eq, e0, e1, e3]
    · rw [val_main_v15_eq, e0, e1, e4]

end Cert.UpdDown
-- ==== Proof.UpdGate.lean ====
module

public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit.Point
public import Idealize.ShloMosaic.Lib.Pipeline.ValueKit.Acc
public import proofs.«01_k».proof.Defs

/-!
# The reduced gradient of `w_ple_gate` and its update

Grid point `t` takes a range of columns, adds the eight shares and updates the weight and its moments entry by entry.
The results are the reference's values; sums of extended reals may be regrouped, so nothing need be finite.
-/

@[expose] public section

noncomputable section

namespace Cert.UpdGate

open Cert.Kernel18Ideal Cert.Kernel18Ideal.Gen Idealize.ShloMosaic Idealize.ShloMosaic.TcCoe Idealize.SL.Sem
open Cert.Reference18Ideal.Read

theorem idx : ∀ t : Fin cfg0.N,
    win0_0.index t 0 = 0 ∧ win0_0.index t 1 = t.val ∧ win0_1.index t 0 = 0 ∧ win0_1.index t 1 = 0
    ∧ win0_1.index t 2 = t.val ∧ win0_2.index t 0 = 0 ∧ win0_2.index t 1 = t.val ∧ win0_3.index t 0 = 0
    ∧ win0_3.index t 1 = t.val ∧ win0_4.index t 0 = 0 ∧ win0_4.index t 1 = t.val ∧ win0_5.index t 0 = 0
    ∧ win0_5.index t 1 = t.val ∧ win0_6.index t 0 = 0 ∧ win0_6.index t 1 = t.val ∧ win0_7.index t 0 = 0
    ∧ win0_7.index t 1 = t.val ∧ win0_8.index t 0 = 0 ∧ win0_8.index t 1 = t.val :=
  (by decide +kernel : ∀ t : Fin grid0.N, _)

theorem regroup (e a b c d f g h : EReal) : e + a + b + c + d + f + g + h = e + (a + b + c + d + f + g + h) := by
  ac_rfl

section Points

variable (m : (ℓ : Loc nD τ sig) → Buf (Elt Ideal) ℓ) (c : Dev nD)

/-- The column of the whole array. -/
abbrev pos (t : Fin cfg0.N) (q : Fin 256) : Fin 1024 := ⟨t.val * 256 + q.val, by have : cfg0.N = 4 := N_0; omega⟩

abbrev A0 : Vec Ideal S128x1024 .bf16 := m ((c : Thread nD τ).loc main_arg0)
abbrev A1 : Vec Ideal S8x128x1024 .bf16 := m ((c : Thread nD τ).loc main_arg1)
abbrev A2 : Vec Ideal S128x1024 .f32 := m ((c : Thread nD τ).loc main_arg2)
abbrev A3 : Vec Ideal S128x1024 .f32 := m ((c : Thread nD τ).loc main_arg3)
abbrev A4 : Vec Ideal S128x1024 .f32 := m ((c : Thread nD τ).loc main_arg4)

theorem blk0 (t : Fin cfg0.N) (r : Fin 128) (q : Fin 256) :
    (iblk m c 0 t : Vec Ideal S128x256 .bf16) (ix2 r q) = A0 m c (ix2 r (pos t q)) := by
  blk_ext! [iblk, V, idx t]

theorem blk1 (t : Fin cfg0.N) (k : Fin 8) (r : Fin 128) (q : Fin 256) :
    (iblk m c 1 t : Vec Ideal S8x128x256 .bf16) (ix3 k r q) = A1 m c (ix3 k r (pos t q)) := by
  blk_ext! [iblk, V, idx t]

theorem blk2 (t : Fin cfg0.N) (r : Fin 128) (q : Fin 256) :
    (iblk m c 2 t : Vec Ideal S128x256 .f32) (ix2 r q) = A2 m c (ix2 r (pos t q)) := by
  blk_ext! [iblk, V, idx t]

theorem blk3 (t : Fin cfg0.N) (r : Fin 128) (q : Fin 256) :
    (iblk m c 3 t : Vec Ideal S128x256 .f32) (ix2 r q) = A3 m c (ix2 r (pos t q)) := by
  blk_ext! [iblk, V, idx t]

theorem blk4 (t : Fin cfg0.N) (r : Fin 128) (q : Fin 256) :
    (iblk m c 4 t : Vec Ideal S128x256 .f32) (ix2 r q) = A4 m c (ix2 r (pos t q)) := by
  blk_ext! [iblk, V, idx t]

/-- The sum of the shares at one entry. -/
theorem share (t : Fin cfg0.N) (r : Fin 128) (q : Fin 256) :
    k0_pay5 (iblk m c 0 t) (iblk m c 1 t) (iblk m c 2 t) (iblk m c 3 t) (iblk m c 4 t) (ix2 r q) = val_main_v4 (F := Ideal) (A0 m c) (A1 m c) (ix2 r (pos t q)) := by
  pointwise [k0_pay5, k0_pay4, val_main_v4, val_main_v3, val_main_v2, val_main_v1, val_main_v0, val_main_cst]
  rw [Fin.sum_univ_seven, blk0, blk1, blk1, blk1, blk1, blk1, blk1, blk1]
  exact regroup _ _ _ _ _ _ _ _

theorem entry5 (t : Fin cfg0.N) (r : Fin 128) (q : Fin 256) :
    out0_5 (iblk m c 0 t) (iblk m c 1 t) (iblk m c 2 t) (iblk m c 3 t) (iblk m c 4 t) (ix2 r q)
      = val_main_v4 (F := Ideal) (A0 m c) (A1 m c) (ix2 r (pos t q)) := by
  frame_out
  pointwise [k0_pay4, val_main_v4, val_main_v3, val_main_v2, val_main_v1, val_main_v0, val_main_cst]
  rw [Fin.sum_univ_seven, blk0, blk1, blk1, blk1, blk1, blk1, blk1, blk1]
  exact regroup _ _ _ _ _ _ _ _

theorem arr5 : (dats m 0 c).arrAt 5 cfg0.N = val_main_v4 (F := Ideal) (A0 m c) (A1 m c) := by
  refine (dats m 0 c).arrAt_eq_of_covers 5 (val_main_v4 (F := Ideal) (A0 m c) (A1 m c)) (by decide +kernel) fun t hf y => ?_
  blk_simp
  rw [after0_5]
  obtain ⟨r, q, rfl⟩ : ∃ (r : Fin 128) (q : Fin 256), y = ix2 r q := ⟨y 0, y 1, eq_ix2 y⟩
  refine (entry5 m c t r q).trans ?_
  generalize val_main_v4 (F := Ideal) (A0 m c) (A1 m c) = G
  blk_ext [idx t]

theorem entry6 (t : Fin cfg0.N) (r : Fin 128) (q : Fin 256) :
    out0_6 (iblk m c 0 t) (iblk m c 1 t) (iblk m c 2 t) (iblk m c 3 t) (iblk m c 4 t) (ix2 r q)
      = val_main_v28 (F := Ideal) (A0 m c) (A1 m c) (A2 m c) (A3 m c) (A4 m c) (ix2 r (pos t q)) := by
  frame_out
  pointwise [k0_pay3, k0_pay2, k0_pay1, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_0, val_main_cst_1, val_main_cst_2, val_main_cst_3, val_main_cst_4, val_main_cst_5, val_main_cst_6, val_main_cst_7, val_main_cst_8]
  rw [share, blk2, blk3, blk4]

theorem arr6 : (dats m 0 c).arrAt 6 cfg0.N = val_main_v28 (F := Ideal) (A0 m c) (A1 m c) (A2 m c) (A3 m c) (A4 m c) := by
  refine (dats m 0 c).arrAt_eq_of_covers 6 (val_main_v28 (F := Ideal) (A0 m c) (A1 m c) (A2 m c) (A3 m c) (A4 m c)) (by decide +kernel) fun t hf y => ?_
  blk_simp
  rw [after0_6]
  obtain ⟨r, q, rfl⟩ : ∃ (r : Fin 128) (q : Fin 256), y = ix2 r q := ⟨y 0, y 1, eq_ix2 y⟩
  refine (entry6 m c t r q).trans ?_
  generalize val_main_v28 (F := Ideal) (A0 m c) (A1 m c) (A2 m c) (A3 m c) (A4 m c) = G
  blk_ext [idx t]

theorem entry7 (t : Fin cfg0.N) (r : Fin 128) (q : Fin 256) :
    out0_7 (iblk m c 0 t) (iblk m c 1 t) (iblk m c 2 t) (iblk m c 3 t) (iblk m c 4 t) (ix2 r q)
      = val_main_v9 (F := Ideal) (A0 m c) (A1 m c) (A3 m c) (ix2 r (pos t q)) := by
  frame_out
  pointwise [k0_pay3, k0_pay2, k0_pay1, val_main_v9, val_main_v8, val_main_v7, val_main_v6, val_main_v5, val_main_cst_0, val_main_cst_1]
  rw [share, blk3]

theorem arr7 : (dats m 0 c).arrAt 7 cfg0.N = val_main_v9 (F := Ideal) (A0 m c) (A1 m c) (A3 m c) := by
  refine (dats m 0 c).arrAt_eq_of_covers 7 (val_main_v9 (F := Ideal) (A0 m c) (A1 m c) (A3 m c)) (by decide +kernel) fun t hf y => ?_
  blk_simp
  rw [after0_7]
  obtain ⟨r, q, rfl⟩ : ∃ (r : Fin 128) (q : Fin 256), y = ix2 r q := ⟨y 0, y 1, eq_ix2 y⟩
  refine (entry7 m c t r q).trans ?_
  generalize val_main_v9 (F := Ideal) (A0 m c) (A1 m c) (A3 m c) = G
  blk_ext [idx t]

theorem entry8 (t : Fin cfg0.N) (r : Fin 128) (q : Fin 256) :
    out0_8 (iblk m c 0 t) (iblk m c 1 t) (iblk m c 2 t) (iblk m c 3 t) (iblk m c 4 t) (ix2 r q)
      = val_main_v15 (F := Ideal) (A0 m c) (A1 m c) (A4 m c) (ix2 r (pos t q)) := by
  frame_out
  pointwise [k0_pay3, k0_pay2, k0_pay1, val_main_v15, val_main_v14, val_main_v13, val_main_v12, val_main_v11, val_main_v10, val_main_cst_2, val_main_cst_3]
  rw [share, blk4]

theorem arr8 : (dats m 0 c).arrAt 8 cfg0.N = val_main_v15 (F := Ideal) (A0 m c) (A1 m c) (A4 m c) := by
  refine (dats m 0 c).arrAt_eq_of_covers 8 (val_main_v15 (F := Ideal) (A0 m c) (A1 m c) (A4 m c)) (by decide +kernel) fun t hf y => ?_
  blk_simp
  rw [after0_8]
  obtain ⟨r, q, rfl⟩ : ∃ (r : Fin 128) (q : Fin 256), y = ix2 r q := ⟨y 0, y 1, eq_ix2 y⟩
  refine (entry8 m c t r q).trans ?_
  generalize val_main_v15 (F := Ideal) (A0 m c) (A1 m c) (A4 m c) = G
  blk_ext [idx t]

end Points

/-- The reference ends, leaves its arguments unchanged, and has no semaphores. -/
theorem ref_frame : Cert.quiescent_Reference18Ideal := fun m g _ =>
  (θ_run (Cert.Reference18Ideal.defs (F := Ideal)) _ _).mono
    (fun r h => And.intro (fun c => (h c).2.2.2.2) (sem_eq_zero_of_no_sems (by rfl) r.2))
    (Cert.Reference18Ideal.Value.run (F := Ideal) m g)

theorem algebraic : Cert.algebraic_Kernel18Ideal_Reference18Ideal := by
  intro m g m' g' _ heq
  refine ⟨fun c => val_main_v4 (F := Ideal) (A0 m c) (A1 m c), fun c => val_main_v28 (F := Ideal) (A0 m c) (A1 m c) (A2 m c) (A3 m c) (A4 m c), fun c => val_main_v9 (F := Ideal) (A0 m c) (A1 m c) (A3 m c), fun c => val_main_v15 (F := Ideal) (A0 m c) (A1 m c) (A4 m c), ?_, ?_⟩
  · refine (θ_run _ _ _).mono (fun r h c => ?_) (Cert.Kernel18Ideal.Value.run_blocks (F := Ideal) m g)
    exact ⟨(h c).1.trans (arr5 m c), (h c).2.1.trans (arr6 m c), (h c).2.2.1.trans (arr7 m c), (h c).2.2.2.1.trans (arr8 m c), (h c).2.2.2.2⟩
  · refine (θ_run _ _ _).mono (fun r h c => ?_) (Cert.Reference18Ideal.Value.run (F := Ideal) m' g')
    obtain ⟨e0, e1, e2, e3, e4⟩ := heq c
    refine ⟨(h c).1.trans ?_, (h c).2.1.trans ?_, (h c).2.2.1.trans ?_, (h c).2.2.2.1.trans ?_, (h c).2.2.2.2⟩
    · rw [val_main_v4_eq, e0, e1]
    · rw [val_main_v28_eq, e0, e1, e2, e3, e4]
    · rw [val_main_v9_eq, e0, e1, e3]
    · rw [val_main_v15_eq, e0, e1, e4]

end Cert.UpdGate
-- ==== Proof.SumIn.lean ====
module

public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit.Point
public import Idealize.ShloMosaic.Lib.Pipeline.ValueKit.Acc
public import proofs.«01_k».proof.Defs

/-!
# The reduced gradient of `w_in`

Grid point `t` takes a range of columns and adds the eight shares. Sums of extended reals may be regrouped, so nothing
need be finite.
-/

@[expose] public section

noncomputable section

namespace Cert.SumIn

open Cert.Kernel19Ideal Cert.Kernel19Ideal.Gen Idealize.ShloMosaic Idealize.ShloMosaic.TcCoe Idealize.SL.Sem
open Cert.Reference19Ideal.Read

theorem idx : ∀ t : Fin cfg0.N,
    win0_0.index t 0 = 0 ∧ win0_0.index t 1 = t.val ∧ win0_1.index t 0 = 0 ∧ win0_1.index t 1 = 0
    ∧ win0_1.index t 2 = t.val ∧ win0_2.index t 0 = 0 ∧ win0_2.index t 1 = t.val :=
  (by decide +kernel : ∀ t : Fin grid0.N, _)

theorem regroup (e a b c d f g h : EReal) : e + a + b + c + d + f + g + h = e + (a + b + c + d + f + g + h) := by
  ac_rfl

section Points

variable (m : (ℓ : Loc nD τ sig) → Buf (Elt Ideal) ℓ) (c : Dev nD)

/-- The column of the whole array. -/
abbrev pos (t : Fin cfg0.N) (q : Fin 256) : Fin 1024 := ⟨t.val * 256 + q.val, by have : cfg0.N = 4 := N_0; omega⟩

abbrev A0 : Vec Ideal S450x1024 .bf16 := m ((c : Thread nD τ).loc main_arg0)
abbrev A1 : Vec Ideal S8x450x1024 .bf16 := m ((c : Thread nD τ).loc main_arg1)

theorem blk0 (t : Fin cfg0.N) (r : Fin 450) (q : Fin 256) :
    (iblk m c 0 t : Vec Ideal S450x256 .bf16) (ix2 r q) = A0 m c (ix2 r (pos t q)) := by
  blk_ext! [iblk, V, idx t]

theorem blk1 (t : Fin cfg0.N) (k : Fin 8) (r : Fin 450) (q : Fin 256) :
    (iblk m c 1 t : Vec Ideal S8x450x256 .bf16) (ix3 k r q) = A1 m c (ix3 k r (pos t q)) := by
  blk_ext! [iblk, V, idx t]

theorem entry2 (t : Fin cfg0.N) (r : Fin 450) (q : Fin 256) :
    out0_2 (iblk m c 0 t) (iblk m c 1 t) (ix2 r q)
      = val_main_v4 (F := Ideal) (A0 m c) (A1 m c) (ix2 r (pos t q)) := by
  frame_out
  pointwise [k0_pay1, val_main_v4, val_main_v3, val_main_v2, val_main_v1, val_main_v0, val_main_cst]
  rw [Fin.sum_univ_seven, blk0, blk1, blk1, blk1, blk1, blk1, blk1, blk1]
  exact regroup _ _ _ _ _ _ _ _

theorem arr2 : (dats m 0 c).arrAt 2 cfg0.N = val_main_v4 (F := Ideal) (A0 m c) (A1 m c) := by
  refine (dats m 0 c).arrAt_eq_of_covers 2 (val_main_v4 (F := Ideal) (A0 m c) (A1 m c)) (by decide +kernel) fun t hf y => ?_
  blk_simp
  rw [after0_2]
  obtain ⟨r, q, rfl⟩ : ∃ (r : Fin 450) (q : Fin 256), y = ix2 r q := ⟨y 0, y 1, eq_ix2 y⟩
  refine (entry2 m c t r q).trans ?_
  generalize val_main_v4 (F := Ideal) (A0 m c) (A1 m c) = G
  blk_ext [idx t]

end Points

/-- The reference ends, leaves its arguments unchanged, and has no semaphores. -/
theorem ref_frame : Cert.quiescent_Reference19Ideal := fun m g _ =>
  (θ_run (Cert.Reference19Ideal.defs (F := Ideal)) _ _).mono
    (fun r h => And.intro (fun c => (h c).2) (sem_eq_zero_of_no_sems (by rfl) r.2))
    (Cert.Reference19Ideal.Value.run (F := Ideal) m g)

theorem algebraic : Cert.algebraic_Kernel19Ideal_Reference19Ideal := by
  intro m g m' g' _ heq
  refine ⟨fun c => val_main_v4 (F := Ideal) (A0 m c) (A1 m c), ?_, ?_⟩
  · refine (θ_run _ _ _).mono (fun r h c => ?_) (Cert.Kernel19Ideal.Value.run_blocks (F := Ideal) m g)
    exact ⟨(h c).1.trans (arr2 m c), (h c).2⟩
  · refine (θ_run _ _ _).mono (fun r h c => ?_) (Cert.Reference19Ideal.Value.run (F := Ideal) m' g')
    obtain ⟨e0, e1⟩ := heq c
    refine ⟨(h c).1.trans ?_, (h c).2⟩
    · rw [val_main_v4_eq, e0, e1]

end Cert.SumIn
-- ==== Proof.SumUp.lean ====
module

public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit.Point
public import Idealize.ShloMosaic.Lib.Pipeline.ValueKit.Acc
public import proofs.«01_k».proof.Defs

/-!
# The reduced gradient of `w_up`

Grid point `t` takes a range of columns and adds the eight shares. Sums of extended reals may be regrouped, so nothing
need be finite.
-/

@[expose] public section

noncomputable section

namespace Cert.SumUp

open Cert.Kernel20Ideal Cert.Kernel20Ideal.Gen Idealize.ShloMosaic Idealize.ShloMosaic.TcCoe Idealize.SL.Sem
open Cert.Reference20Ideal.Read

theorem idx : ∀ t : Fin cfg0.N,
    win0_0.index t 0 = 0 ∧ win0_0.index t 1 = t.val ∧ win0_1.index t 0 = 0 ∧ win0_1.index t 1 = 0
    ∧ win0_1.index t 2 = t.val ∧ win0_2.index t 0 = 0 ∧ win0_2.index t 1 = t.val :=
  (by decide +kernel : ∀ t : Fin grid0.N, _)

theorem regroup (e a b c d f g h : EReal) : e + a + b + c + d + f + g + h = e + (a + b + c + d + f + g + h) := by
  ac_rfl

section Points

variable (m : (ℓ : Loc nD τ sig) → Buf (Elt Ideal) ℓ) (c : Dev nD)

/-- The column of the whole array. -/
abbrev pos (t : Fin cfg0.N) (q : Fin 256) : Fin 1024 := ⟨t.val * 256 + q.val, by have : cfg0.N = 4 := N_0; omega⟩

abbrev A0 : Vec Ideal S704x1024 .bf16 := m ((c : Thread nD τ).loc main_arg0)
abbrev A1 : Vec Ideal S8x704x1024 .bf16 := m ((c : Thread nD τ).loc main_arg1)

theorem blk0 (t : Fin cfg0.N) (r : Fin 704) (q : Fin 256) :
    (iblk m c 0 t : Vec Ideal S704x256 .bf16) (ix2 r q) = A0 m c (ix2 r (pos t q)) := by
  blk_ext! [iblk, V, idx t]

theorem blk1 (t : Fin cfg0.N) (k : Fin 8) (r : Fin 704) (q : Fin 256) :
    (iblk m c 1 t : Vec Ideal S8x704x256 .bf16) (ix3 k r q) = A1 m c (ix3 k r (pos t q)) := by
  blk_ext! [iblk, V, idx t]

theorem entry2 (t : Fin cfg0.N) (r : Fin 704) (q : Fin 256) :
    out0_2 (iblk m c 0 t) (iblk m c 1 t) (ix2 r q)
      = val_main_v4 (F := Ideal) (A0 m c) (A1 m c) (ix2 r (pos t q)) := by
  frame_out
  pointwise [k0_pay1, val_main_v4, val_main_v3, val_main_v2, val_main_v1, val_main_v0, val_main_cst]
  rw [Fin.sum_univ_seven, blk0, blk1, blk1, blk1, blk1, blk1, blk1, blk1]
  exact regroup _ _ _ _ _ _ _ _

theorem arr2 : (dats m 0 c).arrAt 2 cfg0.N = val_main_v4 (F := Ideal) (A0 m c) (A1 m c) := by
  refine (dats m 0 c).arrAt_eq_of_covers 2 (val_main_v4 (F := Ideal) (A0 m c) (A1 m c)) (by decide +kernel) fun t hf y => ?_
  blk_simp
  rw [after0_2]
  obtain ⟨r, q, rfl⟩ : ∃ (r : Fin 704) (q : Fin 256), y = ix2 r q := ⟨y 0, y 1, eq_ix2 y⟩
  refine (entry2 m c t r q).trans ?_
  generalize val_main_v4 (F := Ideal) (A0 m c) (A1 m c) = G
  blk_ext [idx t]

end Points

/-- The reference ends, leaves its arguments unchanged, and has no semaphores. -/
theorem ref_frame : Cert.quiescent_Reference20Ideal := fun m g _ =>
  (θ_run (Cert.Reference20Ideal.defs (F := Ideal)) _ _).mono
    (fun r h => And.intro (fun c => (h c).2) (sem_eq_zero_of_no_sems (by rfl) r.2))
    (Cert.Reference20Ideal.Value.run (F := Ideal) m g)

theorem algebraic : Cert.algebraic_Kernel20Ideal_Reference20Ideal := by
  intro m g m' g' _ heq
  refine ⟨fun c => val_main_v4 (F := Ideal) (A0 m c) (A1 m c), ?_, ?_⟩
  · refine (θ_run _ _ _).mono (fun r h c => ?_) (Cert.Kernel20Ideal.Value.run_blocks (F := Ideal) m g)
    exact ⟨(h c).1.trans (arr2 m c), (h c).2⟩
  · refine (θ_run _ _ _).mono (fun r h c => ?_) (Cert.Reference20Ideal.Value.run (F := Ideal) m' g')
    obtain ⟨e0, e1⟩ := heq c
    refine ⟨(h c).1.trans ?_, (h c).2⟩
    · rw [val_main_v4_eq, e0, e1]

end Cert.SumUp
-- ==== Proof.SumProj.lean ====
module

public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit.Point
public import Idealize.ShloMosaic.Lib.Pipeline.ValueKit.Acc
public import proofs.«01_k».proof.Defs

/-!
# The reduced gradient of `w_ple_proj`

Grid point `t` takes a range of columns and adds the eight shares. Sums of extended reals may be regrouped, so nothing
need be finite.
-/

@[expose] public section

noncomputable section

namespace Cert.SumProj

open Cert.Kernel21Ideal Cert.Kernel21Ideal.Gen Idealize.ShloMosaic Idealize.ShloMosaic.TcCoe Idealize.SL.Sem
open Cert.Reference21Ideal.Read

theorem idx : ∀ t : Fin cfg0.N,
    win0_0.index t 0 = 0 ∧ win0_0.index t 1 = t.val ∧ win0_1.index t 0 = 0 ∧ win0_1.index t 1 = 0
    ∧ win0_1.index t 2 = t.val ∧ win0_2.index t 0 = 0 ∧ win0_2.index t 1 = t.val :=
  (by decide +kernel : ∀ t : Fin grid0.N, _)

theorem regroup (e a b c d f g h : EReal) : e + a + b + c + d + f + g + h = e + (a + b + c + d + f + g + h) := by
  ac_rfl

section Points

variable (m : (ℓ : Loc nD τ sig) → Buf (Elt Ideal) ℓ) (c : Dev nD)

/-- The column of the whole array. -/
abbrev pos (t : Fin cfg0.N) (q : Fin 256) : Fin 256 := ⟨t.val * 256 + q.val, by have : cfg0.N = 1 := N_0; omega⟩

theorem pos_eq (t : Fin cfg0.N) (q : Fin 256) : pos t q = q := by
  have : cfg0.N = 1 := N_0
  exact Fin.ext (by have := t.isLt; dsimp only [pos]; omega)

abbrev A0 : Vec Ideal S128x256 .bf16 := m ((c : Thread nD τ).loc main_arg0)
abbrev A1 : Vec Ideal S8x128x256 .bf16 := m ((c : Thread nD τ).loc main_arg1)

theorem blk0 (t : Fin cfg0.N) (r : Fin 128) (q : Fin 256) :
    (iblk m c 0 t : Vec Ideal S128x256 .bf16) (ix2 r q) = A0 m c (ix2 r (pos t q)) := by
  blk_ext! [iblk, V, idx t]

theorem blk1 (t : Fin cfg0.N) (k : Fin 8) (r : Fin 128) (q : Fin 256) :
    (iblk m c 1 t : Vec Ideal S8x128x256 .bf16) (ix3 k r q) = A1 m c (ix3 k r (pos t q)) := by
  blk_ext! [iblk, V, idx t]

theorem entry2 (t : Fin cfg0.N) (r : Fin 128) (q : Fin 256) :
    out0_2 (iblk m c 0 t) (iblk m c 1 t) (ix2 r q)
      = val_main_v4 (F := Ideal) (A0 m c) (A1 m c) (ix2 r (pos t q)) := by
  frame_out
  pointwise [k0_pay1, val_main_v4, val_main_v3, val_main_v2, val_main_v1, val_main_v0, val_main_cst]
  rw [Fin.sum_univ_seven, blk0, blk1, blk1, blk1, blk1, blk1, blk1, blk1]
  simp only [pos_eq]
  exact regroup _ _ _ _ _ _ _ _

theorem arr2 : (dats m 0 c).arrAt 2 cfg0.N = val_main_v4 (F := Ideal) (A0 m c) (A1 m c) := by
  refine (dats m 0 c).arrAt_eq_of_covers 2 (val_main_v4 (F := Ideal) (A0 m c) (A1 m c)) (by decide +kernel) fun t hf y => ?_
  blk_simp
  rw [after0_2]
  obtain ⟨r, q, rfl⟩ : ∃ (r : Fin 128) (q : Fin 256), y = ix2 r q := ⟨y 0, y 1, eq_ix2 y⟩
  refine (entry2 m c t r q).trans ?_
  generalize val_main_v4 (F := Ideal) (A0 m c) (A1 m c) = G
  blk_ext [idx t]

end Points

/-- The reference ends, leaves its arguments unchanged, and has no semaphores. -/
theorem ref_frame : Cert.quiescent_Reference21Ideal := fun m g _ =>
  (θ_run (Cert.Reference21Ideal.defs (F := Ideal)) _ _).mono
    (fun r h => And.intro (fun c => (h c).2) (sem_eq_zero_of_no_sems (by rfl) r.2))
    (Cert.Reference21Ideal.Value.run (F := Ideal) m g)

theorem algebraic : Cert.algebraic_Kernel21Ideal_Reference21Ideal := by
  intro m g m' g' _ heq
  refine ⟨fun c => val_main_v4 (F := Ideal) (A0 m c) (A1 m c), ?_, ?_⟩
  · refine (θ_run _ _ _).mono (fun r h c => ?_) (Cert.Kernel21Ideal.Value.run_blocks (F := Ideal) m g)
    exact ⟨(h c).1.trans (arr2 m c), (h c).2⟩
  · refine (θ_run _ _ _).mono (fun r h c => ?_) (Cert.Reference21Ideal.Value.run (F := Ideal) m' g')
    obtain ⟨e0, e1⟩ := heq c
    refine ⟨(h c).1.trans ?_, (h c).2⟩
    · rw [val_main_v4_eq, e0, e1]

end Cert.SumProj
-- ==== Proof.AdamIn.lean ====
module

public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit.Point
public import Idealize.ShloMosaic.Lib.Pipeline.ValueKit.Acc
public import proofs.«01_k».proof.Defs

/-!
# The update of `w_in`

Grid point `t` takes a range of rows; each entry of the results is the reference's.
-/

@[expose] public section

noncomputable section

namespace Cert.AdamIn

open Cert.Kernel22Ideal Cert.Kernel22Ideal.Gen Idealize.ShloMosaic Idealize.ShloMosaic.TcCoe Idealize.SL.Sem
open Cert.Reference22Ideal.Read

theorem idx : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 :=
  (by decide +kernel : ∀ t : Fin grid0.N, _)

section Points

variable (m : (ℓ : Loc nD τ sig) → Buf (Elt Ideal) ℓ) (c : Dev nD)

/-- The row of the whole array. -/
abbrev pos (t : Fin cfg0.N) (r : Fin 256) : Fin 1024 := ⟨t.val * 256 + r.val, by have : cfg0.N = 4 := N_0; omega⟩

abbrev A0 : Vec Ideal S1024x450 .f32 := m ((c : Thread nD τ).loc main_arg0)
abbrev A1 : Vec Ideal S1024x450 .f32 := m ((c : Thread nD τ).loc main_arg1)
abbrev A2 : Vec Ideal S1024x450 .f32 := m ((c : Thread nD τ).loc main_arg2)
abbrev A3 : Vec Ideal S1024x450 .f32 := m ((c : Thread nD τ).loc main_arg3)

theorem blk0 (t : Fin cfg0.N) (r : Fin 256) (q : Fin 450) :
    (iblk m c 0 t : Vec Ideal S256x450 .f32) (ix2 r q) = A0 m c (ix2 (pos t r) q) := by
  blk_ext! [iblk, V, idx t]

theorem blk1 (t : Fin cfg0.N) (r : Fin 256) (q : Fin 450) :
    (iblk m c 1 t : Vec Ideal S256x450 .f32) (ix2 r q) = A1 m c (ix2 (pos t r) q) := by
  blk_ext! [iblk, V, idx t]

theorem blk2 (t : Fin cfg0.N) (r : Fin 256) (q : Fin 450) :
    (iblk m c 2 t : Vec Ideal S256x450 .f32) (ix2 r q) = A2 m c (ix2 (pos t r) q) := by
  blk_ext! [iblk, V, idx t]

theorem blk3 (t : Fin cfg0.N) (r : Fin 256) (q : Fin 450) :
    (iblk m c 3 t : Vec Ideal S256x450 .f32) (ix2 r q) = A3 m c (ix2 (pos t r) q) := by
  blk_ext! [iblk, V, idx t]

theorem entry4 (t : Fin cfg0.N) (r : Fin 256) (q : Fin 450) :
    out0_4 (iblk m c 0 t) (iblk m c 1 t) (iblk m c 2 t) (iblk m c 3 t) (ix2 r q)
      = val_main_v23 (F := Ideal) (A0 m c) (A1 m c) (A2 m c) (A3 m c) (ix2 (pos t r) q) := by
  frame_out
  pointwise [k0_pay3, k0_pay2, k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [blk0, blk1, blk2, blk3]

theorem arr4 : (dats m 0 c).arrAt 4 cfg0.N = val_main_v23 (F := Ideal) (A0 m c) (A1 m c) (A2 m c) (A3 m c) := by
  refine (dats m 0 c).arrAt_eq_of_covers 4 (val_main_v23 (F := Ideal) (A0 m c) (A1 m c) (A2 m c) (A3 m c)) (by decide +kernel) fun t hf y => ?_
  blk_simp
  rw [after0_4]
  obtain ⟨r, q, rfl⟩ : ∃ (r : Fin 256) (q : Fin 450), y = ix2 r q := ⟨y 0, y 1, eq_ix2 y⟩
  refine (entry4 m c t r q).trans ?_
  generalize val_main_v23 (F := Ideal) (A0 m c) (A1 m c) (A2 m c) (A3 m c) = G
  blk_ext [idx t]

theorem entry5 (t : Fin cfg0.N) (r : Fin 256) (q : Fin 450) :
    out0_5 (iblk m c 0 t) (iblk m c 1 t) (iblk m c 2 t) (iblk m c 3 t) (ix2 r q)
      = val_main_v4 (F := Ideal) (A1 m c) (A2 m c) (ix2 (pos t r) q) := by
  frame_out
  pointwise [k0_pay3, k0_pay2, k0_pay1, val_main_v4, val_main_v3, val_main_v2, val_main_v1, val_main_v0, val_main_cst, val_main_cst_0]
  rw [blk1, blk2]

theorem arr5 : (dats m 0 c).arrAt 5 cfg0.N = val_main_v4 (F := Ideal) (A1 m c) (A2 m c) := by
  refine (dats m 0 c).arrAt_eq_of_covers 5 (val_main_v4 (F := Ideal) (A1 m c) (A2 m c)) (by decide +kernel) fun t hf y => ?_
  blk_simp
  rw [after0_5]
  obtain ⟨r, q, rfl⟩ : ∃ (r : Fin 256) (q : Fin 450), y = ix2 r q := ⟨y 0, y 1, eq_ix2 y⟩
  refine (entry5 m c t r q).trans ?_
  generalize val_main_v4 (F := Ideal) (A1 m c) (A2 m c) = G
  blk_ext [idx t]

theorem entry6 (t : Fin cfg0.N) (r : Fin 256) (q : Fin 450) :
    out0_6 (iblk m c 0 t) (iblk m c 1 t) (iblk m c 2 t) (iblk m c 3 t) (ix2 r q)
      = val_main_v10 (F := Ideal) (A1 m c) (A3 m c) (ix2 (pos t r) q) := by
  frame_out
  pointwise [k0_pay3, k0_pay2, k0_pay1, val_main_v10, val_main_v9, val_main_v8, val_main_v7, val_main_v6, val_main_v5, val_main_cst_1, val_main_cst_2]
  rw [blk1, blk3]

theorem arr6 : (dats m 0 c).arrAt 6 cfg0.N = val_main_v10 (F := Ideal) (A1 m c) (A3 m c) := by
  refine (dats m 0 c).arrAt_eq_of_covers 6 (val_main_v10 (F := Ideal) (A1 m c) (A3 m c)) (by decide +kernel) fun t hf y => ?_
  blk_simp
  rw [after0_6]
  obtain ⟨r, q, rfl⟩ : ∃ (r : Fin 256) (q : Fin 450), y = ix2 r q := ⟨y 0, y 1, eq_ix2 y⟩
  refine (entry6 m c t r q).trans ?_
  generalize val_main_v10 (F := Ideal) (A1 m c) (A3 m c) = G
  blk_ext [idx t]

end Points

/-- The reference ends, leaves its arguments unchanged, and has no semaphores. -/
theorem ref_frame : Cert.quiescent_Reference22Ideal := fun m g _ =>
  (θ_run (Cert.Reference22Ideal.defs (F := Ideal)) _ _).mono
    (fun r h => And.intro (fun c => (h c).2.2.2) (sem_eq_zero_of_no_sems (by rfl) r.2))
    (Cert.Reference22Ideal.Value.run (F := Ideal) m g)

theorem algebraic : Cert.algebraic_Kernel22Ideal_Reference22Ideal := by
  intro m g m' g' _ heq
  refine ⟨fun c => val_main_v23 (F := Ideal) (A0 m c) (A1 m c) (A2 m c) (A3 m c), fun c => val_main_v4 (F := Ideal) (A1 m c) (A2 m c), fun c => val_main_v10 (F := Ideal) (A1 m c) (A3 m c), ?_, ?_⟩
  · refine (θ_run _ _ _).mono (fun r h c => ?_) (Cert.Kernel22Ideal.Value.run_blocks (F := Ideal) m g)
    exact ⟨(h c).1.trans (arr4 m c), (h c).2.1.trans (arr5 m c), (h c).2.2.1.trans (arr6 m c), (h c).2.2.2⟩
  · refine (θ_run _ _ _).mono (fun r h c => ?_) (Cert.Reference22Ideal.Value.run (F := Ideal) m' g')
    obtain ⟨e0, e1, e2, e3⟩ := heq c
    refine ⟨(h c).1.trans ?_, (h c).2.1.trans ?_, (h c).2.2.1.trans ?_, (h c).2.2.2⟩
    · rw [val_main_v23_eq, e0, e1, e2, e3]
    · rw [val_main_v4_eq, e1, e2]
    · rw [val_main_v10_eq, e1, e3]

end Cert.AdamIn
-- ==== Proof.AdamUp.lean ====
module

public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit.Point
public import Idealize.ShloMosaic.Lib.Pipeline.ValueKit.Acc
public import proofs.«01_k».proof.Defs

/-!
# The update of `w_up`

Grid point `t` takes a range of rows; each entry of the results is the reference's.
-/

@[expose] public section

noncomputable section

namespace Cert.AdamUp

open Cert.Kernel23Ideal Cert.Kernel23Ideal.Gen Idealize.ShloMosaic Idealize.ShloMosaic.TcCoe Idealize.SL.Sem
open Cert.Reference23Ideal.Read

theorem idx : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 :=
  (by decide +kernel : ∀ t : Fin grid0.N, _)

section Points

variable (m : (ℓ : Loc nD τ sig) → Buf (Elt Ideal) ℓ) (c : Dev nD)

/-- The row of the whole array. -/
abbrev pos (t : Fin cfg0.N) (r : Fin 256) : Fin 1024 := ⟨t.val * 256 + r.val, by have : cfg0.N = 4 := N_0; omega⟩

abbrev A0 : Vec Ideal S1024x704 .f32 := m ((c : Thread nD τ).loc main_arg0)
abbrev A1 : Vec Ideal S1024x704 .f32 := m ((c : Thread nD τ).loc main_arg1)
abbrev A2 : Vec Ideal S1024x704 .f32 := m ((c : Thread nD τ).loc main_arg2)
abbrev A3 : Vec Ideal S1024x704 .f32 := m ((c : Thread nD τ).loc main_arg3)

theorem blk0 (t : Fin cfg0.N) (r : Fin 256) (q : Fin 704) :
    (iblk m c 0 t : Vec Ideal S256x704 .f32) (ix2 r q) = A0 m c (ix2 (pos t r) q) := by
  blk_ext! [iblk, V, idx t]

theorem blk1 (t : Fin cfg0.N) (r : Fin 256) (q : Fin 704) :
    (iblk m c 1 t : Vec Ideal S256x704 .f32) (ix2 r q) = A1 m c (ix2 (pos t r) q) := by
  blk_ext! [iblk, V, idx t]

theorem blk2 (t : Fin cfg0.N) (r : Fin 256) (q : Fin 704) :
    (iblk m c 2 t : Vec Ideal S256x704 .f32) (ix2 r q) = A2 m c (ix2 (pos t r) q) := by
  blk_ext! [iblk, V, idx t]

theorem blk3 (t : Fin cfg0.N) (r : Fin 256) (q : Fin 704) :
    (iblk m c 3 t : Vec Ideal S256x704 .f32) (ix2 r q) = A3 m c (ix2 (pos t r) q) := by
  blk_ext! [iblk, V, idx t]

theorem entry4 (t : Fin cfg0.N) (r : Fin 256) (q : Fin 704) :
    out0_4 (iblk m c 0 t) (iblk m c 1 t) (iblk m c 2 t) (iblk m c 3 t) (ix2 r q)
      = val_main_v23 (F := Ideal) (A0 m c) (A1 m c) (A2 m c) (A3 m c) (ix2 (pos t r) q) := by
  frame_out
  pointwise [k0_pay3, k0_pay2, k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [blk0, blk1, blk2, blk3]

theorem arr4 : (dats m 0 c).arrAt 4 cfg0.N = val_main_v23 (F := Ideal) (A0 m c) (A1 m c) (A2 m c) (A3 m c) := by
  refine (dats m 0 c).arrAt_eq_of_covers 4 (val_main_v23 (F := Ideal) (A0 m c) (A1 m c) (A2 m c) (A3 m c)) (by decide +kernel) fun t hf y => ?_
  blk_simp
  rw [after0_4]
  obtain ⟨r, q, rfl⟩ : ∃ (r : Fin 256) (q : Fin 704), y = ix2 r q := ⟨y 0, y 1, eq_ix2 y⟩
  refine (entry4 m c t r q).trans ?_
  generalize val_main_v23 (F := Ideal) (A0 m c) (A1 m c) (A2 m c) (A3 m c) = G
  blk_ext [idx t]

theorem entry5 (t : Fin cfg0.N) (r : Fin 256) (q : Fin 704) :
    out0_5 (iblk m c 0 t) (iblk m c 1 t) (iblk m c 2 t) (iblk m c 3 t) (ix2 r q)
      = val_main_v4 (F := Ideal) (A1 m c) (A2 m c) (ix2 (pos t r) q) := by
  frame_out
  pointwise [k0_pay3, k0_pay2, k0_pay1, val_main_v4, val_main_v3, val_main_v2, val_main_v1, val_main_v0, val_main_cst, val_main_cst_0]
  rw [blk1, blk2]

theorem arr5 : (dats m 0 c).arrAt 5 cfg0.N = val_main_v4 (F := Ideal) (A1 m c) (A2 m c) := by
  refine (dats m 0 c).arrAt_eq_of_covers 5 (val_main_v4 (F := Ideal) (A1 m c) (A2 m c)) (by decide +kernel) fun t hf y => ?_
  blk_simp
  rw [after0_5]
  obtain ⟨r, q, rfl⟩ : ∃ (r : Fin 256) (q : Fin 704), y = ix2 r q := ⟨y 0, y 1, eq_ix2 y⟩
  refine (entry5 m c t r q).trans ?_
  generalize val_main_v4 (F := Ideal) (A1 m c) (A2 m c) = G
  blk_ext [idx t]

theorem entry6 (t : Fin cfg0.N) (r : Fin 256) (q : Fin 704) :
    out0_6 (iblk m c 0 t) (iblk m c 1 t) (iblk m c 2 t) (iblk m c 3 t) (ix2 r q)
      = val_main_v10 (F := Ideal) (A1 m c) (A3 m c) (ix2 (pos t r) q) := by
  frame_out
  pointwise [k0_pay3, k0_pay2, k0_pay1, val_main_v10, val_main_v9, val_main_v8, val_main_v7, val_main_v6, val_main_v5, val_main_cst_1, val_main_cst_2]
  rw [blk1, blk3]

theorem arr6 : (dats m 0 c).arrAt 6 cfg0.N = val_main_v10 (F := Ideal) (A1 m c) (A3 m c) := by
  refine (dats m 0 c).arrAt_eq_of_covers 6 (val_main_v10 (F := Ideal) (A1 m c) (A3 m c)) (by decide +kernel) fun t hf y => ?_
  blk_simp
  rw [after0_6]
  obtain ⟨r, q, rfl⟩ : ∃ (r : Fin 256) (q : Fin 704), y = ix2 r q := ⟨y 0, y 1, eq_ix2 y⟩
  refine (entry6 m c t r q).trans ?_
  generalize val_main_v10 (F := Ideal) (A1 m c) (A3 m c) = G
  blk_ext [idx t]

end Points

/-- The reference ends, leaves its arguments unchanged, and has no semaphores. -/
theorem ref_frame : Cert.quiescent_Reference23Ideal := fun m g _ =>
  (θ_run (Cert.Reference23Ideal.defs (F := Ideal)) _ _).mono
    (fun r h => And.intro (fun c => (h c).2.2.2) (sem_eq_zero_of_no_sems (by rfl) r.2))
    (Cert.Reference23Ideal.Value.run (F := Ideal) m g)

theorem algebraic : Cert.algebraic_Kernel23Ideal_Reference23Ideal := by
  intro m g m' g' _ heq
  refine ⟨fun c => val_main_v23 (F := Ideal) (A0 m c) (A1 m c) (A2 m c) (A3 m c), fun c => val_main_v4 (F := Ideal) (A1 m c) (A2 m c), fun c => val_main_v10 (F := Ideal) (A1 m c) (A3 m c), ?_, ?_⟩
  · refine (θ_run _ _ _).mono (fun r h c => ?_) (Cert.Kernel23Ideal.Value.run_blocks (F := Ideal) m g)
    exact ⟨(h c).1.trans (arr4 m c), (h c).2.1.trans (arr5 m c), (h c).2.2.1.trans (arr6 m c), (h c).2.2.2⟩
  · refine (θ_run _ _ _).mono (fun r h c => ?_) (Cert.Reference23Ideal.Value.run (F := Ideal) m' g')
    obtain ⟨e0, e1, e2, e3⟩ := heq c
    refine ⟨(h c).1.trans ?_, (h c).2.1.trans ?_, (h c).2.2.1.trans ?_, (h c).2.2.2⟩
    · rw [val_main_v23_eq, e0, e1, e2, e3]
    · rw [val_main_v4_eq, e1, e2]
    · rw [val_main_v10_eq, e1, e3]

end Cert.AdamUp
-- ==== Proof.AdamProj.lean ====
module

public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit.Point
public import Idealize.ShloMosaic.Lib.Pipeline.ValueKit.Acc
public import proofs.«01_k».proof.Defs

/-!
# The update of `w_ple_proj`

Grid point `t` takes a range of rows; each entry of the results is the reference's.
-/

@[expose] public section

noncomputable section

namespace Cert.AdamProj

open Cert.Kernel24Ideal Cert.Kernel24Ideal.Gen Idealize.ShloMosaic Idealize.ShloMosaic.TcCoe Idealize.SL.Sem
open Cert.Reference24Ideal.Read

theorem idx : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 :=
  (by decide +kernel : ∀ t : Fin grid0.N, _)

section Points

variable (m : (ℓ : Loc nD τ sig) → Buf (Elt Ideal) ℓ) (c : Dev nD)

/-- The row of the whole array. -/
abbrev pos (t : Fin cfg0.N) (r : Fin 256) : Fin 256 := ⟨t.val * 256 + r.val, by have : cfg0.N = 1 := N_0; omega⟩

abbrev A0 : Vec Ideal S256x128 .f32 := m ((c : Thread nD τ).loc main_arg0)
abbrev A1 : Vec Ideal S256x128 .f32 := m ((c : Thread nD τ).loc main_arg1)
abbrev A2 : Vec Ideal S256x128 .f32 := m ((c : Thread nD τ).loc main_arg2)
abbrev A3 : Vec Ideal S256x128 .f32 := m ((c : Thread nD τ).loc main_arg3)

theorem blk0 (t : Fin cfg0.N) (r : Fin 256) (q : Fin 128) :
    (iblk m c 0 t : Vec Ideal S256x128 .f32) (ix2 r q) = A0 m c (ix2 (pos t r) q) := by
  blk_ext! [iblk, V, idx t]

theorem blk1 (t : Fin cfg0.N) (r : Fin 256) (q : Fin 128) :
    (iblk m c 1 t : Vec Ideal S256x128 .f32) (ix2 r q) = A1 m c (ix2 (pos t r) q) := by
  blk_ext! [iblk, V, idx t]

theorem blk2 (t : Fin cfg0.N) (r : Fin 256) (q : Fin 128) :
    (iblk m c 2 t : Vec Ideal S256x128 .f32) (ix2 r q) = A2 m c (ix2 (pos t r) q) := by
  blk_ext! [iblk, V, idx t]

theorem blk3 (t : Fin cfg0.N) (r : Fin 256) (q : Fin 128) :
    (iblk m c 3 t : Vec Ideal S256x128 .f32) (ix2 r q) = A3 m c (ix2 (pos t r) q) := by
  blk_ext! [iblk, V, idx t]

theorem entry4 (t : Fin cfg0.N) (r : Fin 256) (q : Fin 128) :
    out0_4 (iblk m c 0 t) (iblk m c 1 t) (iblk m c 2 t) (iblk m c 3 t) (ix2 r q)
      = val_main_v23 (F := Ideal) (A0 m c) (A1 m c) (A2 m c) (A3 m c) (ix2 (pos t r) q) := by
  frame_out
  pointwise [k0_pay3, k0_pay2, k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [blk0, blk1, blk2, blk3]

theorem arr4 : (dats m 0 c).arrAt 4 cfg0.N = val_main_v23 (F := Ideal) (A0 m c) (A1 m c) (A2 m c) (A3 m c) := by
  refine (dats m 0 c).arrAt_eq_of_covers 4 (val_main_v23 (F := Ideal) (A0 m c) (A1 m c) (A2 m c) (A3 m c)) (by decide +kernel) fun t hf y => ?_
  blk_simp
  rw [after0_4]
  obtain ⟨r, q, rfl⟩ : ∃ (r : Fin 256) (q : Fin 128), y = ix2 r q := ⟨y 0, y 1, eq_ix2 y⟩
  refine (entry4 m c t r q).trans ?_
  generalize val_main_v23 (F := Ideal) (A0 m c) (A1 m c) (A2 m c) (A3 m c) = G
  blk_ext [idx t]

theorem entry5 (t : Fin cfg0.N) (r : Fin 256) (q : Fin 128) :
    out0_5 (iblk m c 0 t) (iblk m c 1 t) (iblk m c 2 t) (iblk m c 3 t) (ix2 r q)
      = val_main_v4 (F := Ideal) (A1 m c) (A2 m c) (ix2 (pos t r) q) := by
  frame_out
  pointwise [k0_pay3, k0_pay2, k0_pay1, val_main_v4, val_main_v3, val_main_v2, val_main_v1, val_main_v0, val_main_cst, val_main_cst_0]
  rw [blk1, blk2]

theorem arr5 : (dats m 0 c).arrAt 5 cfg0.N = val_main_v4 (F := Ideal) (A1 m c) (A2 m c) := by
  refine (dats m 0 c).arrAt_eq_of_covers 5 (val_main_v4 (F := Ideal) (A1 m c) (A2 m c)) (by decide +kernel) fun t hf y => ?_
  blk_simp
  rw [after0_5]
  obtain ⟨r, q, rfl⟩ : ∃ (r : Fin 256) (q : Fin 128), y = ix2 r q := ⟨y 0, y 1, eq_ix2 y⟩
  refine (entry5 m c t r q).trans ?_
  generalize val_main_v4 (F := Ideal) (A1 m c) (A2 m c) = G
  blk_ext [idx t]

theorem entry6 (t : Fin cfg0.N) (r : Fin 256) (q : Fin 128) :
    out0_6 (iblk m c 0 t) (iblk m c 1 t) (iblk m c 2 t) (iblk m c 3 t) (ix2 r q)
      = val_main_v10 (F := Ideal) (A1 m c) (A3 m c) (ix2 (pos t r) q) := by
  frame_out
  pointwise [k0_pay3, k0_pay2, k0_pay1, val_main_v10, val_main_v9, val_main_v8, val_main_v7, val_main_v6, val_main_v5, val_main_cst_1, val_main_cst_2]
  rw [blk1, blk3]

theorem arr6 : (dats m 0 c).arrAt 6 cfg0.N = val_main_v10 (F := Ideal) (A1 m c) (A3 m c) := by
  refine (dats m 0 c).arrAt_eq_of_covers 6 (val_main_v10 (F := Ideal) (A1 m c) (A3 m c)) (by decide +kernel) fun t hf y => ?_
  blk_simp
  rw [after0_6]
  obtain ⟨r, q, rfl⟩ : ∃ (r : Fin 256) (q : Fin 128), y = ix2 r q := ⟨y 0, y 1, eq_ix2 y⟩
  refine (entry6 m c t r q).trans ?_
  generalize val_main_v10 (F := Ideal) (A1 m c) (A3 m c) = G
  blk_ext [idx t]

end Points

/-- The reference ends, leaves its arguments unchanged, and has no semaphores. -/
theorem ref_frame : Cert.quiescent_Reference24Ideal := fun m g _ =>
  (θ_run (Cert.Reference24Ideal.defs (F := Ideal)) _ _).mono
    (fun r h => And.intro (fun c => (h c).2.2.2) (sem_eq_zero_of_no_sems (by rfl) r.2))
    (Cert.Reference24Ideal.Value.run (F := Ideal) m g)

theorem algebraic : Cert.algebraic_Kernel24Ideal_Reference24Ideal := by
  intro m g m' g' _ heq
  refine ⟨fun c => val_main_v23 (F := Ideal) (A0 m c) (A1 m c) (A2 m c) (A3 m c), fun c => val_main_v4 (F := Ideal) (A1 m c) (A2 m c), fun c => val_main_v10 (F := Ideal) (A1 m c) (A3 m c), ?_, ?_⟩
  · refine (θ_run _ _ _).mono (fun r h c => ?_) (Cert.Kernel24Ideal.Value.run_blocks (F := Ideal) m g)
    exact ⟨(h c).1.trans (arr4 m c), (h c).2.1.trans (arr5 m c), (h c).2.2.1.trans (arr6 m c), (h c).2.2.2⟩
  · refine (θ_run _ _ _).mono (fun r h c => ?_) (Cert.Reference24Ideal.Value.run (F := Ideal) m' g')
    obtain ⟨e0, e1, e2, e3⟩ := heq c
    refine ⟨(h c).1.trans ?_, (h c).2.1.trans ?_, (h c).2.2.1.trans ?_, (h c).2.2.2⟩
    · rw [val_main_v23_eq, e0, e1, e2, e3]
    · rw [val_main_v4_eq, e1, e2]
    · rw [val_main_v10_eq, e1, e3]

end Cert.AdamProj
-- ==== Proof.SumSmall.lean ====
module

public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit.Point
public import Idealize.ShloMosaic.Lib.Pipeline.ValueKit.Acc
public import proofs.«01_k».proof.Defs

/-!
# The reduced small gradients and the loss

The only grid point adds the eight devices' packed arrays.
-/

@[expose] public section

noncomputable section

namespace Cert.SumSmall

open Cert.Kernel25Ideal Cert.Kernel25Ideal.Gen Idealize.ShloMosaic Idealize.ShloMosaic.TcCoe Idealize.SL.Sem
open Cert.Reference25Ideal.Read

theorem idx : ∀ t : Fin cfg0.N,
    win0_0.index t 0 = 0 ∧ win0_0.index t 1 = t.val ∧ win0_0.index t 2 = 0 ∧ win0_1.index t 0 = t.val
    ∧ win0_1.index t 1 = 0 :=
  (by decide +kernel : ∀ t : Fin grid0.N, _)

section Points

variable (m : (ℓ : Loc nD τ sig) → Buf (Elt Ideal) ℓ) (c : Dev nD)

/-- The row of the whole array. -/
abbrev pos (t : Fin cfg0.N) (r : Fin 32) : Fin 32 := ⟨t.val * 32 + r.val, by have : cfg0.N = 1 := N_0; omega⟩

theorem pos_eq (t : Fin cfg0.N) (r : Fin 32) : pos t r = r := by
  have : cfg0.N = 1 := N_0
  exact Fin.ext (by have := t.isLt; dsimp only [pos]; omega)

abbrev A0 : Vec Ideal S8x32x1536 .f32 := m ((c : Thread nD τ).loc main_arg0)

theorem blk0 (t : Fin cfg0.N) (k : Fin 8) (r : Fin 32) (q : Fin 1536) :
    (iblk m c 0 t : Vec Ideal S8x32x1536 .f32) (ix3 k r q) = A0 m c (ix3 k (pos t r) q) := by
  blk_ext! [iblk, V, idx t]

theorem entry1 (t : Fin cfg0.N) (r : Fin 32) (q : Fin 1536) :
    out0_1 (iblk m c 0 t) (ix2 r q)
      = val_main_v0 (F := Ideal) (A0 m c) (ix2 (pos t r) q) := by
  frame_out
  pointwise [k0_pay1, val_main_v0, val_main_cst]
  rw [Fin.sum_univ_eight, blk0, blk0, blk0, blk0, blk0, blk0, blk0, blk0]
  simp only [pos_eq]

theorem arr1 : (dats m 0 c).arrAt 1 cfg0.N = val_main_v0 (F := Ideal) (A0 m c) := by
  refine (dats m 0 c).arrAt_eq_of_covers 1 (val_main_v0 (F := Ideal) (A0 m c)) (by decide +kernel) fun t hf y => ?_
  blk_simp
  rw [after0_1]
  obtain ⟨r, q, rfl⟩ : ∃ (r : Fin 32) (q : Fin 1536), y = ix2 r q := ⟨y 0, y 1, eq_ix2 y⟩
  refine (entry1 m c t r q).trans ?_
  generalize val_main_v0 (F := Ideal) (A0 m c) = G
  blk_ext [idx t]

end Points

/-- The reference ends, leaves its arguments unchanged, and has no semaphores. -/
theorem ref_frame : Cert.quiescent_Reference25Ideal := fun m g _ =>
  (θ_run (Cert.Reference25Ideal.defs (F := Ideal)) _ _).mono
    (fun r h => And.intro (fun c => (h c).2) (sem_eq_zero_of_no_sems (by rfl) r.2))
    (Cert.Reference25Ideal.Value.run (F := Ideal) m g)

theorem algebraic : Cert.algebraic_Kernel25Ideal_Reference25Ideal := by
  intro m g m' g' _ heq
  refine ⟨fun c => val_main_v0 (F := Ideal) (A0 m c), ?_, ?_⟩
  · refine (θ_run _ _ _).mono (fun r h c => ?_) (Cert.Kernel25Ideal.Value.run_blocks (F := Ideal) m g)
    exact ⟨(h c).1.trans (arr1 m c), (h c).2⟩
  · refine (θ_run _ _ _).mono (fun r h c => ?_) (Cert.Reference25Ideal.Value.run (F := Ideal) m' g')
    have e0 := heq c
    refine ⟨(h c).1.trans ?_, (h c).2⟩
    · rw [val_main_v0_eq, e0]

end Cert.SumSmall
-- ==== Proof.ActBits.lean ====
module

public import proofs.«01_k».proof.Proof.Gen.Kernel13.Skeleton
public import proofs.«01_k».proof.Proof.Gen.Kernel13.Frame
public import Idealize.ShloMosaic.Lib.Pipeline.FrameBody
public import Idealize.ShloMosaic.Lib.Pipeline.Frame
public import Idealize.ShloMosaic.Lib.WordCmp
public import Idealize.ShloMosaic.Lib.Claim

/-!
# The frame of the forward up projection, at any floats

Nothing is said of what the points leave in the results' buffers and in the scratch.
-/

@[expose] public section

set_option maxRecDepth 16384

noncomputable section

namespace Cert.ActBits

open Cert.Kernel13 Cert.Kernel13.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- One point, whatever buffers it is given. -/
theorem wp_point (c : Dev nD) (i : grid0.Coords) (arg2 : Memref sig .tc .vmem S2048x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S3x2x1x256 .f32) (harg5 : arg5.IsWhole) (arg6 : Memref sig .tc .vmem S2x1x256 .f32) (harg6 : arg6.IsWhole) (arg7 : Memref sig .tc .vmem S2x2048x256 .bf16) (harg7 : arg7.IsWhole) (arg8 : Memref sig .tc .vmem S2x2048x256 .bf16) (harg8 : arg8.IsWhole) (arg9 : Memref sig .tc .vmem S2048x256 .bf16) (harg9 : arg9.IsWhole) (arg10 : Memref sig .tc .vmem S11x2x8x256 .f32) (harg10 : arg10.IsWhole) (x0 : Vec F S2048x1024 .bf16) (x1 : Vec F S256x1024 .bf16) (x2 : Vec F S256x1024 .bf16) (x3 : Vec F S3x2x1x256 .f32) (x4 : Vec F S2x1x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_up_proj i arg2 harg2 arg3 harg3 arg4 harg4 arg5 harg5 arg6 harg6 arg7 harg7 arg8 harg8 arg9 harg9 arg10 harg10) K := by
  simp only [cc0_up_proj_eq_skeleton]; unfold cc0_up_proj_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  by_cases hc0 : k0_cond1 i = 1#1
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexists _; isplitr
      swap; · iexact H5
      ipureintro; rfl
    isplitl [H6]
    · iexists _; iexists _; isplitr
      swap; · iexact H6
      ipureintro; rfl
    isplitl [H7]
    · iexists _; iexists _; isplitr
      swap; · iexact H7
      ipureintro; rfl
    iexists _; iexists _; isplitr
    swap; · iexact HS
    ipureintro; rfl
  · sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexists _; isplitr
      swap; · iexact H5
      ipureintro; rfl
    isplitl [H6]
    · iexists _; iexists _; isplitr
      swap; · iexact H6
      ipureintro; rfl
    isplitl [H7]
    · iexists _; iexists _; isplitr
      swap; · iexact H7
      ipureintro; rfl
    iexists _; iexists _; isplitr
    swap; · iexact HS
    ipureintro; rfl

abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x2x1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x2048x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x2048x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x256 .bf16 := win0_7.stage (cfg0.slots t 7)
abbrev hs7 (t : Fin cfg0.N) : (ms7 t).IsWhole := hstage0_7 ((cfg0.slots t 7).cast nbuf0_7)
abbrev scr : Memref sig .tc .vmem S11x2x8x256 .f32 := Memref.whole cc0_scratch0

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The results' windows. -/
def results : Fin 8 → Bool := fun w => w.val == 5 || w.val == 6 || w.val == 7

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare d)
    ∗ (∃ d, owns (c : Thread nD τ) (ms6 t) fullShare d)
    ∗ (∃ d, owns (c : Thread nD τ) (ms7 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ d, owns (c : Thread nD τ) (ms5 t) fullShare d)
    ∗ (∃ d, owns (c : Thread nD τ) (ms6 t) fullShare d)
    ∗ (∃ d, owns (c : Thread nD τ) (ms7 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0, before1, before2, before3, before4]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, H5, H6, H7⟩
  have H := wp_point c (grid0.coords t) (ms0 t) (hs0 t) (ms1 t) (hs1 t) (ms2 t) (hs2 t) (ms3 t) (hs3 t) (ms4 t) (hs4 t) (ms5 t) (hs5 t) (ms6 t) (hs6 t) (ms7 t) (hs7 t) scr (Memref.isWhole_whole _)
    (iblk m c 0 t) (iblk m c 1 t) (iblk m c 2 t) (iblk m c 3 t) (iblk m c 4 t) Set.univ (fun _ => bodyPost m c t)
  iapply H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  unfold bodyPost
  rw [after0, after1, after2, after3, after4, show (dats m 0 c).Φ t.succ = Pipeline.ΦA spec0 c from rfl, PhiA_eq]
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ results := fun t => by
  rw [bigSep_W0, bigSep_W0, defs_row]
  exact triple_restated (sound_body m c t) rfl .rfl fun _ => .rfl

set_option backward.isDefEq.respectTransparency.types false in
theorem run_quiescent : θ_run defs (onTc (τ := τ) (main (F := F))) (s₀ m ρ)
    (fun r => (Pipeline.RDat.FramePost (cfgs 0) (fun c => (dats m 0 c).toRForget results) (V m)) r ∧ r.2.sem = fun _ => 0) :=
  Pipeline.θ_run_frame_forget_shared (Q' := _) cfgs (dats m) (0 : Fin 1) launch₀0 defs₀ Variants.none results m ρ main
    (hbody := fun c => (body_obligation m c).loose) (hq := fun _ _ _ => rfl)
    (howed := fun _ _ => rfl) (V := V m) (hmain := hmain m Variants.none) (hA := A_eq m) (hΦ := fun _ _ => rfl)

/-- The kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hr => And.intro (fun c => by
    obtain ⟨h, -⟩ := hr
    exact ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 3 rfl).trans ((A_eq m c 3).trans (V_main_arg2 m c)),
      (Pipeline.RDat.FramePost.arr_in h c 4 rfl).trans ((A_eq m c 4).trans (V_main_arg3 m c))⟩) hr.2) (run_quiescent m ρ)

end Cert.ActBits
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.FfnClaim
public import proofs.«01_k».proof.Proof.UpClaim
public import proofs.«01_k».proof.Proof.UpGrad
public import proofs.«01_k».proof.Proof.DownGrad
public import proofs.«01_k».proof.Proof.PleClaim
public import proofs.«01_k».proof.Proof.InClaim
public import proofs.«01_k».proof.Proof.Out
public import proofs.«01_k».proof.Proof.OutGrad
public import proofs.«01_k».proof.Proof.QkvzGrad
public import proofs.«01_k».proof.Proof.XbcdtGrad
public import proofs.«01_k».proof.Proof.GateGrad
public import proofs.«01_k».proof.Proof.ProjGrad
public import proofs.«01_k».proof.Proof.ActClaim
public import proofs.«01_k».proof.Proof.InFwd
public import proofs.«01_k».proof.Proof.OutFwd
public import proofs.«01_k».proof.Proof.UpdOut
public import proofs.«01_k».proof.Proof.UpdDown
public import proofs.«01_k».proof.Proof.UpdGate
public import proofs.«01_k».proof.Proof.SumIn
public import proofs.«01_k».proof.Proof.SumUp
public import proofs.«01_k».proof.Proof.SumProj
public import proofs.«01_k».proof.Proof.AdamIn
public import proofs.«01_k».proof.Proof.AdamUp
public import proofs.«01_k».proof.Proof.AdamProj
public import proofs.«01_k».proof.Proof.SumSmall
public import proofs.«01_k».proof.Proof.ActBits
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ffn_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_up_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_ple_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_in_finite
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Pre_ffn_finite.Gen.facts,
  Cert.Pre_up_finite.Gen.facts,
  Cert.Pre_ple_finite.Gen.facts,
  Cert.Pre_in_finite.Gen.facts,
  fun m ρ _ => Cert.Kernel.Gen.frame m ρ,
  fun m ρ _ => Cert.KernelIdeal.Gen.frame m ρ,
  fun m ρ _ => Cert.KernelIdeal.Gen.frame m ρ,
  Cert.Ffn.ref_frame,
  fun m ρ _ => Cert.Ffn.ref_frame m ρ trivial,
  fun m ρ _ => Cert.Kernel2.Gen.frame m ρ,
  fun m ρ _ => Cert.Kernel2Ideal.Gen.frame m ρ,
  fun m ρ _ => Cert.Kernel2Ideal.Gen.frame m ρ,
  Cert.Up.ref_frame,
  fun m ρ _ => Cert.Up.ref_frame m ρ trivial,
  fun m ρ _ => Cert.Kernel3.Gen.frame m ρ,
  fun m ρ _ => Cert.Kernel3Ideal.Gen.frame m ρ,
  Cert.UpGrad.ref_frame,
  fun m ρ _ => Cert.Kernel4.Gen.frame m ρ,
  fun m ρ _ => Cert.Kernel4Ideal.Gen.frame m ρ,
  Cert.DownGrad.ref_frame,
  fun m ρ _ => Cert.Kernel5.Gen.frame m ρ,
  fun m ρ _ => Cert.Kernel5Ideal.Gen.frame m ρ,
  fun m ρ _ => Cert.Kernel5Ideal.Gen.frame m ρ,
  Cert.Ple.ref_frame,
  fun m ρ _ => Cert.Ple.ref_frame m ρ trivial,
  fun m ρ _ => Cert.Kernel6.Gen.frame m ρ,
  fun m ρ _ => Cert.Kernel6Ideal.Gen.frame m ρ,
  fun m ρ _ => Cert.Kernel6Ideal.Gen.frame m ρ,
  Cert.In.ref_frame,
  fun m ρ _ => Cert.In.ref_frame m ρ trivial,
  fun m ρ _ => Cert.Kernel7.Gen.frame m ρ,
  fun m ρ _ => Cert.Kernel7Ideal.Gen.frame m ρ,
  Cert.Out.ref_frame,
  fun m ρ _ => Cert.Kernel8.Gen.frame m ρ,
  fun m ρ _ => Cert.Kernel8Ideal.Gen.frame m ρ,
  Cert.OutGrad.ref_frame,
  fun m ρ _ => Cert.Kernel9.Gen.frame m ρ,
  fun m ρ _ => Cert.Kernel9Ideal.Gen.frame m ρ,
  Cert.QkvzGrad.ref_frame,
  fun m ρ _ => Cert.Kernel10.Gen.frame m ρ,
  fun m ρ _ => Cert.Kernel10Ideal.Gen.frame m ρ,
  Cert.XbcdtGrad.ref_frame,
  fun m ρ _ => Cert.Kernel11.Gen.frame m ρ,
  fun m ρ _ => Cert.Kernel11Ideal.Gen.frame m ρ,
  Cert.GateGrad.ref_frame,
  fun m ρ _ => Cert.Kernel12.Gen.frame m ρ,
  fun m ρ _ => Cert.Kernel12Ideal.Gen.frame m ρ,
  Cert.ProjGrad.ref_frame,
  fun m ρ _ => Cert.ActBits.frame m ρ,
  fun m ρ _ => Cert.Act.frame m ρ,
  Cert.Act.ref_frame,
  fun m ρ _ => Cert.Kernel14.Gen.frame m ρ,
  fun m ρ _ => Cert.Kernel14Ideal.Gen.frame m ρ,
  Cert.InFwd.ref_frame,
  fun m ρ _ => Cert.Kernel15.Gen.frame m ρ,
  fun m ρ _ => Cert.Kernel15Ideal.Gen.frame m ρ,
  Cert.OutFwd.ref_frame,
  fun m ρ _ => Cert.Kernel16.Gen.frame m ρ,
  fun m ρ _ => Cert.Kernel16Ideal.Gen.frame m ρ,
  Cert.UpdOut.ref_frame,
  fun m ρ _ => Cert.Kernel17.Gen.frame m ρ,
  fun m ρ _ => Cert.Kernel17Ideal.Gen.frame m ρ,
  Cert.UpdDown.ref_frame,
  fun m ρ _ => Cert.Kernel18.Gen.frame m ρ,
  fun m ρ _ => Cert.Kernel18Ideal.Gen.frame m ρ,
  Cert.UpdGate.ref_frame,
  fun m ρ _ => Cert.Kernel19.Gen.frame m ρ,
  fun m ρ _ => Cert.Kernel19Ideal.Gen.frame m ρ,
  Cert.SumIn.ref_frame,
  fun m ρ _ => Cert.Kernel20.Gen.frame m ρ,
  fun m ρ _ => Cert.Kernel20Ideal.Gen.frame m ρ,
  Cert.SumUp.ref_frame,
  fun m ρ _ => Cert.Kernel21.Gen.frame m ρ,
  fun m ρ _ => Cert.Kernel21Ideal.Gen.frame m ρ,
  Cert.SumProj.ref_frame,
  fun m ρ _ => Cert.Kernel22.Gen.frame m ρ,
  fun m ρ _ => Cert.Kernel22Ideal.Gen.frame m ρ,
  Cert.AdamIn.ref_frame,
  fun m ρ _ => Cert.Kernel23.Gen.frame m ρ,
  fun m ρ _ => Cert.Kernel23Ideal.Gen.frame m ρ,
  Cert.AdamUp.ref_frame,
  fun m ρ _ => Cert.Kernel24.Gen.frame m ρ,
  fun m ρ _ => Cert.Kernel24Ideal.Gen.frame m ρ,
  Cert.AdamProj.ref_frame,
  fun m ρ _ => Cert.Kernel25.Gen.frame m ρ,
  fun m ρ _ => Cert.Kernel25Ideal.Gen.frame m ρ,
  Cert.SumSmall.ref_frame,
  trivial,
  Cert.Ffn.algebraic,
  trivial,
  Cert.Up.algebraic,
  trivial,
  Cert.UpGrad.algebraic,
  trivial,
  Cert.DownGrad.algebraic,
  trivial,
  Cert.Ple.algebraic,
  trivial,
  Cert.In.algebraic,
  trivial,
  Cert.Out.algebraic,
  trivial,
  Cert.OutGrad.algebraic,
  trivial,
  Cert.QkvzGrad.algebraic,
  trivial,
  Cert.XbcdtGrad.algebraic,
  trivial,
  Cert.GateGrad.algebraic,
  trivial,
  Cert.ProjGrad.algebraic,
  trivial,
  Cert.Act.algebraic,
  trivial,
  Cert.InFwd.algebraic,
  trivial,
  Cert.OutFwd.algebraic,
  trivial,
  Cert.UpdOut.algebraic,
  trivial,
  Cert.UpdDown.algebraic,
  trivial,
  Cert.UpdGate.algebraic,
  trivial,
  Cert.SumIn.algebraic,
  trivial,
  Cert.SumUp.algebraic,
  trivial,
  Cert.SumProj.algebraic,
  trivial,
  Cert.AdamIn.algebraic,
  trivial,
  Cert.AdamUp.algebraic,
  trivial,
  Cert.AdamProj.algebraic,
  trivial,
  Cert.SumSmall.algebraic⟩

end Cert.Proof

end
